-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S65536x256 : Shape := ⟨2, ![65536, 256]⟩
abbrev S65536x4x64 : Shape := ⟨3, ![65536, 4, 64]⟩
abbrev S65536x4x128 : Shape := ⟨3, ![65536, 4, 128]⟩
abbrev S65536x512 : Shape := ⟨2, ![65536, 512]⟩
abbrev S4x8x128 : Shape := ⟨3, ![4, 8, 128]⟩
abbrev S1x8x128 : Shape := ⟨3, ![1, 8, 128]⟩
abbrev S65536x128 : Shape := ⟨2, ![65536, 128]⟩
abbrev S_ : Shape := ⟨0, ![]⟩
abbrev S128x1 : Shape := ⟨2, ![128, 1]⟩
abbrev S128x128 : Shape := ⟨2, ![128, 128]⟩
abbrev S127x128 : Shape := ⟨2, ![127, 128]⟩
abbrev S1x128 : Shape := ⟨2, ![1, 128]⟩
abbrev S126x128 : Shape := ⟨2, ![126, 128]⟩
abbrev S2x128 : Shape := ⟨2, ![2, 128]⟩
abbrev S124x128 : Shape := ⟨2, ![124, 128]⟩
abbrev S4x128 : Shape := ⟨2, ![4, 128]⟩
abbrev S8x2x8x128 : Shape := ⟨4, ![8, 2, 8, 128]⟩
abbrev S8x1x8x128 : Shape := ⟨4, ![8, 1, 8, 128]⟩
abbrev S8x8x128 : Shape := ⟨3, ![8, 8, 128]⟩
abbrev S4x2x16x128 : Shape := ⟨4, ![4, 2, 16, 128]⟩
abbrev S4x1x16x128 : Shape := ⟨4, ![4, 1, 16, 128]⟩
abbrev S4x16x128 : Shape := ⟨3, ![4, 16, 128]⟩
abbrev S2x2x32x128 : Shape := ⟨4, ![2, 2, 32, 128]⟩
abbrev S2x1x32x128 : Shape := ⟨4, ![2, 1, 32, 128]⟩
abbrev S2x32x128 : Shape := ⟨3, ![2, 32, 128]⟩
abbrev S1x2x64x128 : Shape := ⟨4, ![1, 2, 64, 128]⟩
abbrev S1x1x64x128 : Shape := ⟨4, ![1, 1, 64, 128]⟩
abbrev S1x64x128 : Shape := ⟨3, ![1, 64, 128]⟩
abbrev S64x128 : Shape := ⟨2, ![64, 128]⟩
abbrev S2048x128 : Shape := ⟨2, ![2048, 128]⟩
abbrev S2048x64 : Shape := ⟨2, ![2048, 64]⟩
abbrev S1x2048x64 : Shape := ⟨3, ![1, 2048, 64]⟩
abbrev S1 : Shape := ⟨1, ![1]⟩
abbrev S1x1x1 : Shape := ⟨3, ![1, 1, 1]⟩
abbrev S4x1x1 : Shape := ⟨3, ![4, 1, 1]⟩
abbrev S4 : Shape := ⟨1, ![4]⟩

abbrev nBuf : Space → Nat
  | .hbm => 13
  | .vmem => 3
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x4x64, .f32⟩
  | .hbm, ⟨3, _⟩ => ⟨S65536x4x64, .f32⟩
  | .hbm, ⟨4, _⟩ => ⟨S65536x4x128, .f32⟩
  | .hbm, ⟨5, _⟩ => ⟨S65536x512, .f32⟩
  | .hbm, ⟨6, _⟩ => ⟨S4x8x128, .f32⟩
  | .hbm, ⟨7, _⟩ => ⟨S4x1x1, .f32⟩
  | .hbm, ⟨8, _⟩ => ⟨S4, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1x8x128, .f32⟩
  | .local _ .vmem, ⟨1, _⟩ => ⟨S1x8x128, .f32⟩
  | .local _ .vmem, ⟨2, _⟩ => ⟨S65536x128, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let c0_i32 : BitVec 32 := 0#32
  let arg0 : BitVec 32 := BitVec.ofNat 32 (i 0).val
  let c128_i32 : BitVec 32 := 128#32
  let v0 : BitVec 32 := Scalar.muli arg0 c128_i32
  ![0, v0.toNat]
@[reducible] def k0_t1_loop : Scf.Loop 32 :=
  let c0_i32_23 : BitVec 32 := 0#32
  let c512_i32 : BitVec 32 := 512#32
  let v58 : BitVec 32 := Scalar.addi c0_i32_23 c512_i32
  let c1_i32_24 : BitVec 32 := 1#32
  ⟨c0_i32_23, v58, c1_i32_24⟩
def k0_off2 (k0_t1 : Fin k0_t1_loop.trips) : Fin 2 → Nat :=
  let c0_i32_23 : BitVec 32 := 0#32
  let c1_i32_24 : BitVec 32 := 1#32
  let arg5 : BitVec 32 := Scf.iv c0_i32_23 c1_i32_24 k0_t1
  let c128_i32_308 : BitVec 32 := 128#32
  let v132 : BitVec 32 := Scalar.muli arg5 c128_i32_308
  let v133 : Index := Scalar.indexCast v132
  let c0_309 : Index := 0#32
  ![v133.toNat, 0]
@[reducible] def k0_t2_loop : Scf.Loop 32 :=
  let c0_i32_26 : BitVec 32 := 0#32
  let c512_i32_27 : BitVec 32 := 512#32
  let v59 : BitVec 32 := Scalar.addi c0_i32_26 c512_i32_27
  let c1_i32_28 : BitVec 32 := 1#32
  ⟨c0_i32_26, v59, c1_i32_28⟩
def k0_off3 (k0_t2 : Fin k0_t2_loop.trips) : Fin 2 → Nat :=
  let c0_i32_26 : BitVec 32 := 0#32
  let c1_i32_28 : BitVec 32 := 1#32
  let arg5 : BitVec 32 := Scf.iv c0_i32_26 c1_i32_28 k0_t2
  let c128_i32_308 : BitVec 32 := 128#32
  let v132 : BitVec 32 := Scalar.muli arg5 c128_i32_308
  let v133 : Index := Scalar.indexCast v132
  let c0_309 : Index := 0#32
  ![v133.toNat, 0]
@[reducible] def k0_t3_loop : Scf.Loop 32 :=
  let c0_i32_30 : BitVec 32 := 0#32
  let c512_i32_31 : BitVec 32 := 512#32
  let v60 : BitVec 32 := Scalar.addi c0_i32_30 c512_i32_31
  let c1_i32_32 : BitVec 32 := 1#32
  ⟨c0_i32_30, v60, c1_i32_32⟩
def k0_off4 (k0_t3 : Fin k0_t3_loop.trips) : Fin 2 → Nat :=
  let c0_i32_30 : BitVec 32 := 0#32
  let c1_i32_32 : BitVec 32 := 1#32
  let arg5 : BitVec 32 := Scf.iv c0_i32_30 c1_i32_32 k0_t3
  let c128_i32_308 : BitVec 32 := 128#32
  let v132 : BitVec 32 := Scalar.muli arg5 c128_i32_308
  let v133 : Index := Scalar.indexCast v132
  let c0_309 : Index := 0#32
  ![v133.toNat, 0]
@[reducible] def k0_t4_loop : Scf.Loop 32 :=
  let c0_i32_34 : BitVec 32 := 0#32
  let c512_i32_35 : BitVec 32 := 512#32
  let v61 : BitVec 32 := Scalar.addi c0_i32_34 c512_i32_35
  let c1_i32_36 : BitVec 32 := 1#32
  ⟨c0_i32_34, v61, c1_i32_36⟩
def k0_off5 (k0_t4 : Fin k0_t4_loop.trips) : Fin 2 → Nat :=
  let c0_i32_34 : BitVec 32 := 0#32
  let c1_i32_36 : BitVec 32 := 1#32
  let arg5 : BitVec 32 := Scf.iv c0_i32_34 c1_i32_36 k0_t4
  let c128_i32_308 : BitVec 32 := 128#32
  let v132 : BitVec 32 := Scalar.muli arg5 c128_i32_308
  let v133 : Index := Scalar.indexCast v132
  let c0_309 : Index := 0#32
  ![v133.toNat, 0]
@[reducible] def k0_t5_loop : Scf.Loop 32 :=
  let c0_i32_38 : BitVec 32 := 0#32
  let c512_i32_39 : BitVec 32 := 512#32
  let v62 : BitVec 32 := Scalar.addi c0_i32_38 c512_i32_39
  let c1_i32_40 : BitVec 32 := 1#32
  ⟨c0_i32_38, v62, c1_i32_40⟩
def k0_off6 (k0_t5 : Fin k0_t5_loop.trips) : Fin 2 → Nat :=
  let c0_i32_38 : BitVec 32 := 0#32
  let c1_i32_40 : BitVec 32 := 1#32
  let arg5 : BitVec 32 := Scf.iv c0_i32_38 c1_i32_40 k0_t5
  let c128_i32_308 : BitVec 32 := 128#32
  let v132 : BitVec 32 := Scalar.muli arg5 c128_i32_308
  let v133 : Index := Scalar.indexCast v132
  let c0_309 : Index := 0#32
  ![v133.toNat, 0]
@[reducible] def k0_t6_loop : Scf.Loop 32 :=
  let c0_i32_42 : BitVec 32 := 0#32
  let c512_i32_43 : BitVec 32 := 512#32
  let v63 : BitVec 32 := Scalar.addi c0_i32_42 c512_i32_43
  let c1_i32_44 : BitVec 32 := 1#32
  ⟨c0_i32_42, v63, c1_i32_44⟩
def k0_off7 (k0_t6 : Fin k0_t6_loop.trips) : Fin 2 → Nat :=
  let c0_i32_42 : BitVec 32 := 0#32
  let c1_i32_44 : BitVec 32 := 1#32
  let arg5 : BitVec 32 := Scf.iv c0_i32_42 c1_i32_44 k0_t6
  let c128_i32_308 : BitVec 32 := 128#32
  let v132 : BitVec 32 := Scalar.muli arg5 c128_i32_308
  let v133 : Index := Scalar.indexCast v132
  let c0_309 : Index := 0#32
  ![v133.toNat, 0]
@[reducible] def k0_t7_loop : Scf.Loop 32 :=
  let c0_i32_46 : BitVec 32 := 0#32
  let c256_i32 : BitVec 32 := 256#32
  let v64 : BitVec 32 := Scalar.addi c0_i32_46 c256_i32
  let c1_i32_47 : BitVec 32 := 1#32
  ⟨c0_i32_46, v64, c1_i32_47⟩
def k0_off8 (k0_t7 : Fin k0_t7_loop.trips) : Fin 2 → Nat :=
  let c0_i32_46 : BitVec 32 := 0#32
  let c1_i32_47 : BitVec 32 := 1#32
  let arg5 : BitVec 32 := Scf.iv c0_i32_46 c1_i32_47 k0_t7
  let c0_i32_308 : BitVec 32 := 0#32
  let v132 : BitVec 32 := Scalar.shrsi arg5 c0_i32_308
  let c1_i32_309 : BitVec 32 := 1#32
  let v133 : BitVec 32 := Scalar.shli v132 c1_i32_309
  let c0_i32_310 : BitVec 32 := 0#32
  let v134 : BitVec 32 := Scalar.andi arg5 c0_i32_310
  let v135 : BitVec 32 := Scalar.ori v133 v134
  let c128_i32_311 : BitVec 32 := 128#32
  let v136 : BitVec 32 := Scalar.muli v135 c128_i32_311
  let v137 : Index := Scalar.indexCast v136
  let c0_312 : Index := 0#32
  ![v137.toNat, 0]
@[reducible] def k0_t8_loop : Scf.Loop 32 :=
  let c0_i32_49 : BitVec 32 := 0#32
  let c256_i32_50 : BitVec 32 := 256#32
  let v65 : BitVec 32 := Scalar.addi c0_i32_49 c256_i32_50
  let c1_i32_51 : BitVec 32 := 1#32
  ⟨c0_i32_49, v65, c1_i32_51⟩
def k0_off9 (k0_t8 : Fin k0_t8_loop.trips) : Fin 2 → Nat :=
  let c0_i32_49 : BitVec 32 := 0#32
  let c1_i32_51 : BitVec 32 := 1#32
  let arg5 : BitVec 32 := Scf.iv c0_i32_49 c1_i32_51 k0_t8
  let c0_i32_308 : BitVec 32 := 0#32
  let v132 : BitVec 32 := Scalar.shrsi arg5 c0_i32_308
  let c1_i32_309 : BitVec 32 := 1#32
  let v133 : BitVec 32 := Scalar.shli v132 c1_i32_309
  let c0_i32_310 : BitVec 32 := 0#32
  let v134 : BitVec 32 := Scalar.andi arg5 c0_i32_310
  let v135 : BitVec 32 := Scalar.ori v133 v134
  let c1_i32_311 : BitVec 32 := 1#32
  let v136 : BitVec 32 := Scalar.ori v135 c1_i32_311
  let c128_i32_312 : BitVec 32 := 128#32
  let v137 : BitVec 32 := Scalar.muli v136 c128_i32_312
  let v138 : Index := Scalar.indexCast v137
  let c0_313 : Index := 0#32
  ![v138.toNat, 0]
@[reducible] def k0_t9_loop : Scf.Loop 32 :=
  let c0_i32_53 : BitVec 32 := 0#32
  let c256_i32_54 : BitVec 32 := 256#32
  let v66 : BitVec 32 := Scalar.addi c0_i32_53 c256_i32_54
  let c1_i32_55 : BitVec 32 := 1#32
  ⟨c0_i32_53, v66, c1_i32_55⟩
def k0_off10 (k0_t9 : Fin k0_t9_loop.trips) : Fin 2 → Nat :=
  let c0_i32_53 : BitVec 32 := 0#32
  let c1_i32_55 : BitVec 32 := 1#32
  let arg5 : BitVec 32 := Scf.iv c0_i32_53 c1_i32_55 k0_t9
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c64_i32_313 : BitVec 32 := 64#32
  let v140 : BitVec 32 := Scalar.muli v139 c64_i32_313
  let v141 : Index := Scalar.indexCast v140
  let c0_314 : Index := 0#32
  ![v141.toNat, 0]
def k0_off11 (k0_t9 : Fin k0_t9_loop.trips) : Fin 2 → Nat :=
  let c0_i32_53 : BitVec 32 := 0#32
  let c1_i32_55 : BitVec 32 := 1#32
  let arg5 : BitVec 32 := Scf.iv c0_i32_53 c1_i32_55 k0_t9
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c64_i32_313 : BitVec 32 := 64#32
  let v140 : BitVec 32 := Scalar.muli v139 c64_i32_313
  let c128_i32_315 : BitVec 32 := 128#32
  let v143 : BitVec 32 := Scalar.addi v140 c128_i32_315
  let v144 : Index := Scalar.indexCast v143
  let c0_316 : Index := 0#32
  ![v144.toNat, 0]
@[reducible] def k0_t10_loop : Scf.Loop 32 :=
  let c0_i32_57 : BitVec 32 := 0#32
  let c256_i32_58 : BitVec 32 := 256#32
  let v67 : BitVec 32 := Scalar.addi c0_i32_57 c256_i32_58
  let c1_i32_59 : BitVec 32 := 1#32
  ⟨c0_i32_57, v67, c1_i32_59⟩
def k0_off12 (k0_t10 : Fin k0_t10_loop.trips) : Fin 2 → Nat :=
  let c0_i32_57 : BitVec 32 := 0#32
  let c1_i32_59 : BitVec 32 := 1#32
  let arg5 : BitVec 32 := Scf.iv c0_i32_57 c1_i32_59 k0_t10
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c4_i32_313 : BitVec 32 := 4#32
  let v140 : BitVec 32 := Scalar.ori v139 c4_i32_313
  let c64_i32_314 : BitVec 32 := 64#32
  let v141 : BitVec 32 := Scalar.muli v140 c64_i32_314
  let v142 : Index := Scalar.indexCast v141
  let c0_315 : Index := 0#32
  ![v142.toNat, 0]
def k0_off13 (k0_t10 : Fin k0_t10_loop.trips) : Fin 2 → Nat :=
  let c0_i32_57 : BitVec 32 := 0#32
  let c1_i32_59 : BitVec 32 := 1#32
  let arg5 : BitVec 32 := Scf.iv c0_i32_57 c1_i32_59 k0_t10
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c4_i32_313 : BitVec 32 := 4#32
  let v140 : BitVec 32 := Scalar.ori v139 c4_i32_313
  let c64_i32_314 : BitVec 32 := 64#32
  let v141 : BitVec 32 := Scalar.muli v140 c64_i32_314
  let c128_i32_316 : BitVec 32 := 128#32
  let v144 : BitVec 32 := Scalar.addi v141 c128_i32_316
  let v145 : Index := Scalar.indexCast v144
  let c0_317 : Index := 0#32
  ![v145.toNat, 0]
@[reducible] def k0_t11_loop : Scf.Loop 32 :=
  let c0_i32_61 : BitVec 32 := 0#32
  let c256_i32_62 : BitVec 32 := 256#32
  let v68 : BitVec 32 := Scalar.addi c0_i32_61 c256_i32_62
  let c1_i32_63 : BitVec 32 := 1#32
  ⟨c0_i32_61, v68, c1_i32_63⟩
def k0_off14 (k0_t11 : Fin k0_t11_loop.trips) : Fin 2 → Nat :=
  let c0_i32_61 : BitVec 32 := 0#32
  let c1_i32_63 : BitVec 32 := 1#32
  let arg5 : BitVec 32 := Scf.iv c0_i32_61 c1_i32_63 k0_t11
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c128_i32_311 : BitVec 32 := 128#32
  let v136 : BitVec 32 := Scalar.muli v135 c128_i32_311
  let v137 : Index := Scalar.indexCast v136
  let c0_312 : Index := 0#32
  ![v137.toNat, 0]
@[reducible] def k0_t12_loop : Scf.Loop 32 :=
  let c0_i32_65 : BitVec 32 := 0#32
  let c256_i32_66 : BitVec 32 := 256#32
  let v69 : BitVec 32 := Scalar.addi c0_i32_65 c256_i32_66
  let c1_i32_67 : BitVec 32 := 1#32
  ⟨c0_i32_65, v69, c1_i32_67⟩
def k0_off15 (k0_t12 : Fin k0_t12_loop.trips) : Fin 2 → Nat :=
  let c0_i32_65 : BitVec 32 := 0#32
  let c1_i32_67 : BitVec 32 := 1#32
  let arg5 : BitVec 32 := Scf.iv c0_i32_65 c1_i32_67 k0_t12
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.ori v135 c2_i32_311
  let c128_i32_312 : BitVec 32 := 128#32
  let v137 : BitVec 32 := Scalar.muli v136 c128_i32_312
  let v138 : Index := Scalar.indexCast v137
  let c0_313 : Index := 0#32
  ![v138.toNat, 0]
@[reducible] def k0_t13_loop : Scf.Loop 32 :=
  let c0_i32_69 : BitVec 32 := 0#32
  let c128_i32_70 : BitVec 32 := 128#32
  let v70 : BitVec 32 := Scalar.addi c0_i32_69 c128_i32_70
  let c1_i32_71 : BitVec 32 := 1#32
  ⟨c0_i32_69, v70, c1_i32_71⟩
def k0_off16 (k0_t13 : Fin k0_t13_loop.trips) : Fin 2 → Nat :=
  let c0_i32_69 : BitVec 32 := 0#32
  let c1_i32_71 : BitVec 32 := 1#32
  let arg5 : BitVec 32 := Scf.iv c0_i32_69 c1_i32_71 k0_t13
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c3_i32_313 : BitVec 32 := 3#32
  let v140 : BitVec 32 := Scalar.shrsi v139 c3_i32_313
  let c4_i32_314 : BitVec 32 := 4#32
  let v141 : BitVec 32 := Scalar.shli v140 c4_i32_314
  let c7_i32 : BitVec 32 := 7#32
  let v142 : BitVec 32 := Scalar.andi v139 c7_i32
  let v143 : BitVec 32 := Scalar.ori v141 v142
  let c64_i32_315 : BitVec 32 := 64#32
  let v144 : BitVec 32 := Scalar.muli v143 c64_i32_315
  let v145 : Index := Scalar.indexCast v144
  let c0_316 : Index := 0#32
  ![v145.toNat, 0]
def k0_off17 (k0_t13 : Fin k0_t13_loop.trips) (c128_i32_317 : BitVec 32) : Fin 2 → Nat :=
  let c0_i32_69 : BitVec 32 := 0#32
  let c1_i32_71 : BitVec 32 := 1#32
  let arg5 : BitVec 32 := Scf.iv c0_i32_69 c1_i32_71 k0_t13
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c3_i32_313 : BitVec 32 := 3#32
  let v140 : BitVec 32 := Scalar.shrsi v139 c3_i32_313
  let c4_i32_314 : BitVec 32 := 4#32
  let v141 : BitVec 32 := Scalar.shli v140 c4_i32_314
  let c7_i32 : BitVec 32 := 7#32
  let v142 : BitVec 32 := Scalar.andi v139 c7_i32
  let v143 : BitVec 32 := Scalar.ori v141 v142
  let c64_i32_315 : BitVec 32 := 64#32
  let v144 : BitVec 32 := Scalar.muli v143 c64_i32_315
  let v147 : BitVec 32 := Scalar.addi v144 c128_i32_317
  let v148 : Index := Scalar.indexCast v147
  let c0_318 : Index := 0#32
  ![v148.toNat, 0]
def k0_off18 (k0_t13 : Fin k0_t13_loop.trips) : Fin 2 → Nat :=
  let c0_i32_69 : BitVec 32 := 0#32
  let c1_i32_71 : BitVec 32 := 1#32
  let arg5 : BitVec 32 := Scf.iv c0_i32_69 c1_i32_71 k0_t13
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c3_i32_313 : BitVec 32 := 3#32
  let v140 : BitVec 32 := Scalar.shrsi v139 c3_i32_313
  let c4_i32_314 : BitVec 32 := 4#32
  let v141 : BitVec 32 := Scalar.shli v140 c4_i32_314
  let c7_i32 : BitVec 32 := 7#32
  let v142 : BitVec 32 := Scalar.andi v139 c7_i32
  let v143 : BitVec 32 := Scalar.ori v141 v142
  let c64_i32_315 : BitVec 32 := 64#32
  let v144 : BitVec 32 := Scalar.muli v143 c64_i32_315
  let c256_i32_321 : BitVec 32 := 256#32
  let v153 : BitVec 32 := Scalar.addi v144 c256_i32_321
  let c128_i32_322 : BitVec 32 := 128#32
  let v154 : BitVec 32 := Scalar.addi v153 c128_i32_322
  let v155 : Index := Scalar.indexCast v154
  let c0_323 : Index := 0#32
  ![v155.toNat, 0]
@[reducible] def k0_t14_loop : Scf.Loop 32 :=
  let c0_i32_73 : BitVec 32 := 0#32
  let c128_i32_74 : BitVec 32 := 128#32
  let v71 : BitVec 32 := Scalar.addi c0_i32_73 c128_i32_74
  let c1_i32_75 : BitVec 32 := 1#32
  ⟨c0_i32_73, v71, c1_i32_75⟩
def k0_off19 (k0_t14 : Fin k0_t14_loop.trips) : Fin 2 → Nat :=
  let c0_i32_73 : BitVec 32 := 0#32
  let c1_i32_75 : BitVec 32 := 1#32
  let arg5 : BitVec 32 := Scf.iv c0_i32_73 c1_i32_75 k0_t14
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c3_i32_313 : BitVec 32 := 3#32
  let v140 : BitVec 32 := Scalar.shrsi v139 c3_i32_313
  let c4_i32_314 : BitVec 32 := 4#32
  let v141 : BitVec 32 := Scalar.shli v140 c4_i32_314
  let c7_i32 : BitVec 32 := 7#32
  let v142 : BitVec 32 := Scalar.andi v139 c7_i32
  let v143 : BitVec 32 := Scalar.ori v141 v142
  let c8_i32_315 : BitVec 32 := 8#32
  let v144 : BitVec 32 := Scalar.ori v143 c8_i32_315
  let c64_i32_316 : BitVec 32 := 64#32
  let v145 : BitVec 32 := Scalar.muli v144 c64_i32_316
  let v146 : Index := Scalar.indexCast v145
  let c0_317 : Index := 0#32
  ![v146.toNat, 0]
def k0_off20 (k0_t14 : Fin k0_t14_loop.trips) (c128_i32_318 : BitVec 32) : Fin 2 → Nat :=
  let c0_i32_73 : BitVec 32 := 0#32
  let c1_i32_75 : BitVec 32 := 1#32
  let arg5 : BitVec 32 := Scf.iv c0_i32_73 c1_i32_75 k0_t14
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c3_i32_313 : BitVec 32 := 3#32
  let v140 : BitVec 32 := Scalar.shrsi v139 c3_i32_313
  let c4_i32_314 : BitVec 32 := 4#32
  let v141 : BitVec 32 := Scalar.shli v140 c4_i32_314
  let c7_i32 : BitVec 32 := 7#32
  let v142 : BitVec 32 := Scalar.andi v139 c7_i32
  let v143 : BitVec 32 := Scalar.ori v141 v142
  let c8_i32_315 : BitVec 32 := 8#32
  let v144 : BitVec 32 := Scalar.ori v143 c8_i32_315
  let c64_i32_316 : BitVec 32 := 64#32
  let v145 : BitVec 32 := Scalar.muli v144 c64_i32_316
  let v148 : BitVec 32 := Scalar.addi v145 c128_i32_318
  let v149 : Index := Scalar.indexCast v148
  let c0_319 : Index := 0#32
  ![v149.toNat, 0]
def k0_off21 (k0_t14 : Fin k0_t14_loop.trips) : Fin 2 → Nat :=
  let c0_i32_73 : BitVec 32 := 0#32
  let c1_i32_75 : BitVec 32 := 1#32
  let arg5 : BitVec 32 := Scf.iv c0_i32_73 c1_i32_75 k0_t14
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c3_i32_313 : BitVec 32 := 3#32
  let v140 : BitVec 32 := Scalar.shrsi v139 c3_i32_313
  let c4_i32_314 : BitVec 32 := 4#32
  let v141 : BitVec 32 := Scalar.shli v140 c4_i32_314
  let c7_i32 : BitVec 32 := 7#32
  let v142 : BitVec 32 := Scalar.andi v139 c7_i32
  let v143 : BitVec 32 := Scalar.ori v141 v142
  let c8_i32_315 : BitVec 32 := 8#32
  let v144 : BitVec 32 := Scalar.ori v143 c8_i32_315
  let c64_i32_316 : BitVec 32 := 64#32
  let v145 : BitVec 32 := Scalar.muli v144 c64_i32_316
  let c256_i32_322 : BitVec 32 := 256#32
  let v154 : BitVec 32 := Scalar.addi v145 c256_i32_322
  let c128_i32_323 : BitVec 32 := 128#32
  let v155 : BitVec 32 := Scalar.addi v154 c128_i32_323
  let v156 : Index := Scalar.indexCast v155
  let c0_324 : Index := 0#32
  ![v156.toNat, 0]
@[reducible] def k0_t15_loop : Scf.Loop 32 :=
  let c0_i32_77 : BitVec 32 := 0#32
  let c256_i32_78 : BitVec 32 := 256#32
  let v72 : BitVec 32 := Scalar.addi c0_i32_77 c256_i32_78
  let c1_i32_79 : BitVec 32 := 1#32
  ⟨c0_i32_77, v72, c1_i32_79⟩
def k0_off22 (k0_t15 : Fin k0_t15_loop.trips) : Fin 2 → Nat :=
  let c0_i32_77 : BitVec 32 := 0#32
  let c1_i32_79 : BitVec 32 := 1#32
  let arg5 : BitVec 32 := Scf.iv c0_i32_77 c1_i32_79 k0_t15
  let c2_i32_308 : BitVec 32 := 2#32
  let v132 : BitVec 32 := Scalar.shrsi arg5 c2_i32_308
  let c3_i32 : BitVec 32 := 3#32
  let v133 : BitVec 32 := Scalar.shli v132 c3_i32
  let c3_i32_309 : BitVec 32 := 3#32
  let v134 : BitVec 32 := Scalar.andi arg5 c3_i32_309
  let v135 : BitVec 32 := Scalar.ori v133 v134
  let c128_i32_310 : BitVec 32 := 128#32
  let v136 : BitVec 32 := Scalar.muli v135 c128_i32_310
  let v137 : Index := Scalar.indexCast v136
  let c0_311 : Index := 0#32
  ![v137.toNat, 0]
@[reducible] def k0_t16_loop : Scf.Loop 32 :=
  let c0_i32_81 : BitVec 32 := 0#32
  let c256_i32_82 : BitVec 32 := 256#32
  let v73 : BitVec 32 := Scalar.addi c0_i32_81 c256_i32_82
  let c1_i32_83 : BitVec 32 := 1#32
  ⟨c0_i32_81, v73, c1_i32_83⟩
def k0_off23 (k0_t16 : Fin k0_t16_loop.trips) : Fin 2 → Nat :=
  let c0_i32_81 : BitVec 32 := 0#32
  let c1_i32_83 : BitVec 32 := 1#32
  let arg5 : BitVec 32 := Scf.iv c0_i32_81 c1_i32_83 k0_t16
  let c2_i32_308 : BitVec 32 := 2#32
  let v132 : BitVec 32 := Scalar.shrsi arg5 c2_i32_308
  let c3_i32 : BitVec 32 := 3#32
  let v133 : BitVec 32 := Scalar.shli v132 c3_i32
  let c3_i32_309 : BitVec 32 := 3#32
  let v134 : BitVec 32 := Scalar.andi arg5 c3_i32_309
  let v135 : BitVec 32 := Scalar.ori v133 v134
  let c4_i32_310 : BitVec 32 := 4#32
  let v136 : BitVec 32 := Scalar.ori v135 c4_i32_310
  let c128_i32_311 : BitVec 32 := 128#32
  let v137 : BitVec 32 := Scalar.muli v136 c128_i32_311
  let v138 : Index := Scalar.indexCast v137
  let c0_312 : Index := 0#32
  ![v138.toNat, 0]
@[reducible] def k0_t17_loop : Scf.Loop 32 :=
  let c0_i32_85 : BitVec 32 := 0#32
  let c128_i32_86 : BitVec 32 := 128#32
  let v74 : BitVec 32 := Scalar.addi c0_i32_85 c128_i32_86
  let c1_i32_87 : BitVec 32 := 1#32
  ⟨c0_i32_85, v74, c1_i32_87⟩
def k0_off24 (k0_t17 : Fin k0_t17_loop.trips) : Fin 2 → Nat :=
  let c0_i32_85 : BitVec 32 := 0#32
  let c1_i32_87 : BitVec 32 := 1#32
  let arg5 : BitVec 32 := Scf.iv c0_i32_85 c1_i32_87 k0_t17
  let c2_i32_308 : BitVec 32 := 2#32
  let v132 : BitVec 32 := Scalar.shrsi arg5 c2_i32_308
  let c3_i32 : BitVec 32 := 3#32
  let v133 : BitVec 32 := Scalar.shli v132 c3_i32
  let c3_i32_309 : BitVec 32 := 3#32
  let v134 : BitVec 32 := Scalar.andi arg5 c3_i32_309
  let v135 : BitVec 32 := Scalar.ori v133 v134
  let c3_i32_310 : BitVec 32 := 3#32
  let v136 : BitVec 32 := Scalar.shrsi v135 c3_i32_310
  let c4_i32_311 : BitVec 32 := 4#32
  let v137 : BitVec 32 := Scalar.shli v136 c4_i32_311
  let c7_i32 : BitVec 32 := 7#32
  let v138 : BitVec 32 := Scalar.andi v135 c7_i32
  let v139 : BitVec 32 := Scalar.ori v137 v138
  let c4_i32_312 : BitVec 32 := 4#32
  let v140 : BitVec 32 := Scalar.shrsi v139 c4_i32_312
  let c5_i32 : BitVec 32 := 5#32
  let v141 : BitVec 32 := Scalar.shli v140 c5_i32
  let c15_i32 : BitVec 32 := 15#32
  let v142 : BitVec 32 := Scalar.andi v139 c15_i32
  let v143 : BitVec 32 := Scalar.ori v141 v142
  let c64_i32_313 : BitVec 32 := 64#32
  let v144 : BitVec 32 := Scalar.muli v143 c64_i32_313
  let v145 : Index := Scalar.indexCast v144
  let c0_314 : Index := 0#32
  ![v145.toNat, 0]
def k0_off25 (k0_t17 : Fin k0_t17_loop.trips) (c256_i32_315 : BitVec 32) : Fin 2 → Nat :=
  let c0_i32_85 : BitVec 32 := 0#32
  let c1_i32_87 : BitVec 32 := 1#32
  let arg5 : BitVec 32 := Scf.iv c0_i32_85 c1_i32_87 k0_t17
  let c2_i32_308 : BitVec 32 := 2#32
  let v132 : BitVec 32 := Scalar.shrsi arg5 c2_i32_308
  let c3_i32 : BitVec 32 := 3#32
  let v133 : BitVec 32 := Scalar.shli v132 c3_i32
  let c3_i32_309 : BitVec 32 := 3#32
  let v134 : BitVec 32 := Scalar.andi arg5 c3_i32_309
  let v135 : BitVec 32 := Scalar.ori v133 v134
  let c3_i32_310 : BitVec 32 := 3#32
  let v136 : BitVec 32 := Scalar.shrsi v135 c3_i32_310
  let c4_i32_311 : BitVec 32 := 4#32
  let v137 : BitVec 32 := Scalar.shli v136 c4_i32_311
  let c7_i32 : BitVec 32 := 7#32
  let v138 : BitVec 32 := Scalar.andi v135 c7_i32
  let v139 : BitVec 32 := Scalar.ori v137 v138
  let c4_i32_312 : BitVec 32 := 4#32
  let v140 : BitVec 32 := Scalar.shrsi v139 c4_i32_312
  let c5_i32 : BitVec 32 := 5#32
  let v141 : BitVec 32 := Scalar.shli v140 c5_i32
  let c15_i32 : BitVec 32 := 15#32
  let v142 : BitVec 32 := Scalar.andi v139 c15_i32
  let v143 : BitVec 32 := Scalar.ori v141 v142
  let c64_i32_313 : BitVec 32 := 64#32
  let v144 : BitVec 32 := Scalar.muli v143 c64_i32_313
  let v147 : BitVec 32 := Scalar.addi v144 c256_i32_315
  let v148 : Index := Scalar.indexCast v147
  let c0_316 : Index := 0#32
  ![v148.toNat, 0]
def k0_off26 (k0_t17 : Fin k0_t17_loop.trips) : Fin 2 → Nat :=
  let c0_i32_85 : BitVec 32 := 0#32
  let c1_i32_87 : BitVec 32 := 1#32
  let arg5 : BitVec 32 := Scf.iv c0_i32_85 c1_i32_87 k0_t17
  let c2_i32_308 : BitVec 32 := 2#32
  let v132 : BitVec 32 := Scalar.shrsi arg5 c2_i32_308
  let c3_i32 : BitVec 32 := 3#32
  let v133 : BitVec 32 := Scalar.shli v132 c3_i32
  let c3_i32_309 : BitVec 32 := 3#32
  let v134 : BitVec 32 := Scalar.andi arg5 c3_i32_309
  let v135 : BitVec 32 := Scalar.ori v133 v134
  let c3_i32_310 : BitVec 32 := 3#32
  let v136 : BitVec 32 := Scalar.shrsi v135 c3_i32_310
  let c4_i32_311 : BitVec 32 := 4#32
  let v137 : BitVec 32 := Scalar.shli v136 c4_i32_311
  let c7_i32 : BitVec 32 := 7#32
  let v138 : BitVec 32 := Scalar.andi v135 c7_i32
  let v139 : BitVec 32 := Scalar.ori v137 v138
  let c4_i32_312 : BitVec 32 := 4#32
  let v140 : BitVec 32 := Scalar.shrsi v139 c4_i32_312
  let c5_i32 : BitVec 32 := 5#32
  let v141 : BitVec 32 := Scalar.shli v140 c5_i32
  let c15_i32 : BitVec 32 := 15#32
  let v142 : BitVec 32 := Scalar.andi v139 c15_i32
  let v143 : BitVec 32 := Scalar.ori v141 v142
  let c64_i32_313 : BitVec 32 := 64#32
  let v144 : BitVec 32 := Scalar.muli v143 c64_i32_313
  let c512_i32_319 : BitVec 32 := 512#32
  let v153 : BitVec 32 := Scalar.addi v144 c512_i32_319
  let c256_i32_320 : BitVec 32 := 256#32
  let v154 : BitVec 32 := Scalar.addi v153 c256_i32_320
  let v155 : Index := Scalar.indexCast v154
  let c0_321 : Index := 0#32
  ![v155.toNat, 0]
@[reducible] def k0_t18_loop : Scf.Loop 32 :=
  let c0_i32_89 : BitVec 32 := 0#32
  let c128_i32_90 : BitVec 32 := 128#32
  let v75 : BitVec 32 := Scalar.addi c0_i32_89 c128_i32_90
  let c1_i32_91 : BitVec 32 := 1#32
  ⟨c0_i32_89, v75, c1_i32_91⟩
def k0_off27 (k0_t18 : Fin k0_t18_loop.trips) : Fin 2 → Nat :=
  let c0_i32_89 : BitVec 32 := 0#32
  let c1_i32_91 : BitVec 32 := 1#32
  let arg5 : BitVec 32 := Scf.iv c0_i32_89 c1_i32_91 k0_t18
  let c2_i32_308 : BitVec 32 := 2#32
  let v132 : BitVec 32 := Scalar.shrsi arg5 c2_i32_308
  let c3_i32 : BitVec 32 := 3#32
  let v133 : BitVec 32 := Scalar.shli v132 c3_i32
  let c3_i32_309 : BitVec 32 := 3#32
  let v134 : BitVec 32 := Scalar.andi arg5 c3_i32_309
  let v135 : BitVec 32 := Scalar.ori v133 v134
  let c3_i32_310 : BitVec 32 := 3#32
  let v136 : BitVec 32 := Scalar.shrsi v135 c3_i32_310
  let c4_i32_311 : BitVec 32 := 4#32
  let v137 : BitVec 32 := Scalar.shli v136 c4_i32_311
  let c7_i32 : BitVec 32 := 7#32
  let v138 : BitVec 32 := Scalar.andi v135 c7_i32
  let v139 : BitVec 32 := Scalar.ori v137 v138
  let c4_i32_312 : BitVec 32 := 4#32
  let v140 : BitVec 32 := Scalar.shrsi v139 c4_i32_312
  let c5_i32 : BitVec 32 := 5#32
  let v141 : BitVec 32 := Scalar.shli v140 c5_i32
  let c15_i32 : BitVec 32 := 15#32
  let v142 : BitVec 32 := Scalar.andi v139 c15_i32
  let v143 : BitVec 32 := Scalar.ori v141 v142
  let c16_i32_313 : BitVec 32 := 16#32
  let v144 : BitVec 32 := Scalar.ori v143 c16_i32_313
  let c64_i32_314 : BitVec 32 := 64#32
  let v145 : BitVec 32 := Scalar.muli v144 c64_i32_314
  let v146 : Index := Scalar.indexCast v145
  let c0_315 : Index := 0#32
  ![v146.toNat, 0]
def k0_off28 (k0_t18 : Fin k0_t18_loop.trips) (c256_i32_316 : BitVec 32) : Fin 2 → Nat :=
  let c0_i32_89 : BitVec 32 := 0#32
  let c1_i32_91 : BitVec 32 := 1#32
  let arg5 : BitVec 32 := Scf.iv c0_i32_89 c1_i32_91 k0_t18
  let c2_i32_308 : BitVec 32 := 2#32
  let v132 : BitVec 32 := Scalar.shrsi arg5 c2_i32_308
  let c3_i32 : BitVec 32 := 3#32
  let v133 : BitVec 32 := Scalar.shli v132 c3_i32
  let c3_i32_309 : BitVec 32 := 3#32
  let v134 : BitVec 32 := Scalar.andi arg5 c3_i32_309
  let v135 : BitVec 32 := Scalar.ori v133 v134
  let c3_i32_310 : BitVec 32 := 3#32
  let v136 : BitVec 32 := Scalar.shrsi v135 c3_i32_310
  let c4_i32_311 : BitVec 32 := 4#32
  let v137 : BitVec 32 := Scalar.shli v136 c4_i32_311
  let c7_i32 : BitVec 32 := 7#32
  let v138 : BitVec 32 := Scalar.andi v135 c7_i32
  let v139 : BitVec 32 := Scalar.ori v137 v138
  let c4_i32_312 : BitVec 32 := 4#32
  let v140 : BitVec 32 := Scalar.shrsi v139 c4_i32_312
  let c5_i32 : BitVec 32 := 5#32
  let v141 : BitVec 32 := Scalar.shli v140 c5_i32
  let c15_i32 : BitVec 32 := 15#32
  let v142 : BitVec 32 := Scalar.andi v139 c15_i32
  let v143 : BitVec 32 := Scalar.ori v141 v142
  let c16_i32_313 : BitVec 32 := 16#32
  let v144 : BitVec 32 := Scalar.ori v143 c16_i32_313
  let c64_i32_314 : BitVec 32 := 64#32
  let v145 : BitVec 32 := Scalar.muli v144 c64_i32_314
  let v148 : BitVec 32 := Scalar.addi v145 c256_i32_316
  let v149 : Index := Scalar.indexCast v148
  let c0_317 : Index := 0#32
  ![v149.toNat, 0]
def k0_off29 (k0_t18 : Fin k0_t18_loop.trips) : Fin 2 → Nat :=
  let c0_i32_89 : BitVec 32 := 0#32
  let c1_i32_91 : BitVec 32 := 1#32
  let arg5 : BitVec 32 := Scf.iv c0_i32_89 c1_i32_91 k0_t18
  let c2_i32_308 : BitVec 32 := 2#32
  let v132 : BitVec 32 := Scalar.shrsi arg5 c2_i32_308
  let c3_i32 : BitVec 32 := 3#32
  let v133 : BitVec 32 := Scalar.shli v132 c3_i32
  let c3_i32_309 : BitVec 32 := 3#32
  let v134 : BitVec 32 := Scalar.andi arg5 c3_i32_309
  let v135 : BitVec 32 := Scalar.ori v133 v134
  let c3_i32_310 : BitVec 32 := 3#32
  let v136 : BitVec 32 := Scalar.shrsi v135 c3_i32_310
  let c4_i32_311 : BitVec 32 := 4#32
  let v137 : BitVec 32 := Scalar.shli v136 c4_i32_311
  let c7_i32 : BitVec 32 := 7#32
  let v138 : BitVec 32 := Scalar.andi v135 c7_i32
  let v139 : BitVec 32 := Scalar.ori v137 v138
  let c4_i32_312 : BitVec 32 := 4#32
  let v140 : BitVec 32 := Scalar.shrsi v139 c4_i32_312
  let c5_i32 : BitVec 32 := 5#32
  let v141 : BitVec 32 := Scalar.shli v140 c5_i32
  let c15_i32 : BitVec 32 := 15#32
  let v142 : BitVec 32 := Scalar.andi v139 c15_i32
  let v143 : BitVec 32 := Scalar.ori v141 v142
  let c16_i32_313 : BitVec 32 := 16#32
  let v144 : BitVec 32 := Scalar.ori v143 c16_i32_313
  let c64_i32_314 : BitVec 32 := 64#32
  let v145 : BitVec 32 := Scalar.muli v144 c64_i32_314
  let c512_i32_320 : BitVec 32 := 512#32
  let v154 : BitVec 32 := Scalar.addi v145 c512_i32_320
  let c256_i32_321 : BitVec 32 := 256#32
  let v155 : BitVec 32 := Scalar.addi v154 c256_i32_321
  let v156 : Index := Scalar.indexCast v155
  let c0_322 : Index := 0#32
  ![v156.toNat, 0]
@[reducible] def k0_t19_loop : Scf.Loop 32 :=
  let c0_i32_93 : BitVec 32 := 0#32
  let c256_i32_94 : BitVec 32 := 256#32
  let v76 : BitVec 32 := Scalar.addi c0_i32_93 c256_i32_94
  let c1_i32_95 : BitVec 32 := 1#32
  ⟨c0_i32_93, v76, c1_i32_95⟩
def k0_off30 (k0_t19 : Fin k0_t19_loop.trips) : Fin 2 → Nat :=
  let c0_i32_93 : BitVec 32 := 0#32
  let c1_i32_95 : BitVec 32 := 1#32
  let arg5 : BitVec 32 := Scf.iv c0_i32_93 c1_i32_95 k0_t19
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c4_i32_311 : BitVec 32 := 4#32
  let v136 : BitVec 32 := Scalar.shrsi v135 c4_i32_311
  let c5_i32 : BitVec 32 := 5#32
  let v137 : BitVec 32 := Scalar.shli v136 c5_i32
  let c15_i32 : BitVec 32 := 15#32
  let v138 : BitVec 32 := Scalar.andi v135 c15_i32
  let v139 : BitVec 32 := Scalar.ori v137 v138
  let c64_i32_312 : BitVec 32 := 64#32
  let v140 : BitVec 32 := Scalar.muli v139 c64_i32_312
  let v141 : Index := Scalar.indexCast v140
  let c0_313 : Index := 0#32
  ![v141.toNat, 0]
def k0_off31 (k0_t19 : Fin k0_t19_loop.trips) : Fin 2 → Nat :=
  let c0_i32_93 : BitVec 32 := 0#32
  let c1_i32_95 : BitVec 32 := 1#32
  let arg5 : BitVec 32 := Scf.iv c0_i32_93 c1_i32_95 k0_t19
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c4_i32_311 : BitVec 32 := 4#32
  let v136 : BitVec 32 := Scalar.shrsi v135 c4_i32_311
  let c5_i32 : BitVec 32 := 5#32
  let v137 : BitVec 32 := Scalar.shli v136 c5_i32
  let c15_i32 : BitVec 32 := 15#32
  let v138 : BitVec 32 := Scalar.andi v135 c15_i32
  let v139 : BitVec 32 := Scalar.ori v137 v138
  let c64_i32_312 : BitVec 32 := 64#32
  let v140 : BitVec 32 := Scalar.muli v139 c64_i32_312
  let c128_i32_314 : BitVec 32 := 128#32
  let v143 : BitVec 32 := Scalar.addi v140 c128_i32_314
  let v144 : Index := Scalar.indexCast v143
  let c0_315 : Index := 0#32
  ![v144.toNat, 0]
@[reducible] def k0_t20_loop : Scf.Loop 32 :=
  let c0_i32_97 : BitVec 32 := 0#32
  let c256_i32_98 : BitVec 32 := 256#32
  let v77 : BitVec 32 := Scalar.addi c0_i32_97 c256_i32_98
  let c1_i32_99 : BitVec 32 := 1#32
  ⟨c0_i32_97, v77, c1_i32_99⟩
def k0_off32 (k0_t20 : Fin k0_t20_loop.trips) : Fin 2 → Nat :=
  let c0_i32_97 : BitVec 32 := 0#32
  let c1_i32_99 : BitVec 32 := 1#32
  let arg5 : BitVec 32 := Scf.iv c0_i32_97 c1_i32_99 k0_t20
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c4_i32_311 : BitVec 32 := 4#32
  let v136 : BitVec 32 := Scalar.shrsi v135 c4_i32_311
  let c5_i32 : BitVec 32 := 5#32
  let v137 : BitVec 32 := Scalar.shli v136 c5_i32
  let c15_i32 : BitVec 32 := 15#32
  let v138 : BitVec 32 := Scalar.andi v135 c15_i32
  let v139 : BitVec 32 := Scalar.ori v137 v138
  let c16_i32_312 : BitVec 32 := 16#32
  let v140 : BitVec 32 := Scalar.ori v139 c16_i32_312
  let c64_i32_313 : BitVec 32 := 64#32
  let v141 : BitVec 32 := Scalar.muli v140 c64_i32_313
  let v142 : Index := Scalar.indexCast v141
  let c0_314 : Index := 0#32
  ![v142.toNat, 0]
def k0_off33 (k0_t20 : Fin k0_t20_loop.trips) : Fin 2 → Nat :=
  let c0_i32_97 : BitVec 32 := 0#32
  let c1_i32_99 : BitVec 32 := 1#32
  let arg5 : BitVec 32 := Scf.iv c0_i32_97 c1_i32_99 k0_t20
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c4_i32_311 : BitVec 32 := 4#32
  let v136 : BitVec 32 := Scalar.shrsi v135 c4_i32_311
  let c5_i32 : BitVec 32 := 5#32
  let v137 : BitVec 32 := Scalar.shli v136 c5_i32
  let c15_i32 : BitVec 32 := 15#32
  let v138 : BitVec 32 := Scalar.andi v135 c15_i32
  let v139 : BitVec 32 := Scalar.ori v137 v138
  let c16_i32_312 : BitVec 32 := 16#32
  let v140 : BitVec 32 := Scalar.ori v139 c16_i32_312
  let c64_i32_313 : BitVec 32 := 64#32
  let v141 : BitVec 32 := Scalar.muli v140 c64_i32_313
  let c128_i32_315 : BitVec 32 := 128#32
  let v144 : BitVec 32 := Scalar.addi v141 c128_i32_315
  let v145 : Index := Scalar.indexCast v144
  let c0_316 : Index := 0#32
  ![v145.toNat, 0]
@[reducible] def k0_t21_loop : Scf.Loop 32 :=
  let c0_i32_101 : BitVec 32 := 0#32
  let c256_i32_102 : BitVec 32 := 256#32
  let v78 : BitVec 32 := Scalar.addi c0_i32_101 c256_i32_102
  let c1_i32_103 : BitVec 32 := 1#32
  ⟨c0_i32_101, v78, c1_i32_103⟩
def k0_off34 (k0_t21 : Fin k0_t21_loop.trips) : Fin 2 → Nat :=
  let c0_i32_101 : BitVec 32 := 0#32
  let c1_i32_103 : BitVec 32 := 1#32
  let arg5 : BitVec 32 := Scf.iv c0_i32_101 c1_i32_103 k0_t21
  let c3_i32 : BitVec 32 := 3#32
  let v132 : BitVec 32 := Scalar.shrsi arg5 c3_i32
  let c4_i32_308 : BitVec 32 := 4#32
  let v133 : BitVec 32 := Scalar.shli v132 c4_i32_308
  let c7_i32 : BitVec 32 := 7#32
  let v134 : BitVec 32 := Scalar.andi arg5 c7_i32
  let v135 : BitVec 32 := Scalar.ori v133 v134
  let c128_i32_309 : BitVec 32 := 128#32
  let v136 : BitVec 32 := Scalar.muli v135 c128_i32_309
  let v137 : Index := Scalar.indexCast v136
  let c0_310 : Index := 0#32
  ![v137.toNat, 0]
@[reducible] def k0_t22_loop : Scf.Loop 32 :=
  let c0_i32_105 : BitVec 32 := 0#32
  let c256_i32_106 : BitVec 32 := 256#32
  let v79 : BitVec 32 := Scalar.addi c0_i32_105 c256_i32_106
  let c1_i32_107 : BitVec 32 := 1#32
  ⟨c0_i32_105, v79, c1_i32_107⟩
def k0_off35 (k0_t22 : Fin k0_t22_loop.trips) : Fin 2 → Nat :=
  let c0_i32_105 : BitVec 32 := 0#32
  let c1_i32_107 : BitVec 32 := 1#32
  let arg5 : BitVec 32 := Scf.iv c0_i32_105 c1_i32_107 k0_t22
  let c3_i32 : BitVec 32 := 3#32
  let v132 : BitVec 32 := Scalar.shrsi arg5 c3_i32
  let c4_i32_308 : BitVec 32 := 4#32
  let v133 : BitVec 32 := Scalar.shli v132 c4_i32_308
  let c7_i32 : BitVec 32 := 7#32
  let v134 : BitVec 32 := Scalar.andi arg5 c7_i32
  let v135 : BitVec 32 := Scalar.ori v133 v134
  let c8_i32_309 : BitVec 32 := 8#32
  let v136 : BitVec 32 := Scalar.ori v135 c8_i32_309
  let c128_i32_310 : BitVec 32 := 128#32
  let v137 : BitVec 32 := Scalar.muli v136 c128_i32_310
  let v138 : Index := Scalar.indexCast v137
  let c0_311 : Index := 0#32
  ![v138.toNat, 0]
@[reducible] def k0_t23_loop : Scf.Loop 32 :=
  let c0_i32_109 : BitVec 32 := 0#32
  let c128_i32_110 : BitVec 32 := 128#32
  let v80 : BitVec 32 := Scalar.addi c0_i32_109 c128_i32_110
  let c1_i32_111 : BitVec 32 := 1#32
  ⟨c0_i32_109, v80, c1_i32_111⟩
def k0_off36 (k0_t23 : Fin k0_t23_loop.trips) : Fin 2 → Nat :=
  let c0_i32_109 : BitVec 32 := 0#32
  let c1_i32_111 : BitVec 32 := 1#32
  let arg5 : BitVec 32 := Scf.iv c0_i32_109 c1_i32_111 k0_t23
  let c3_i32 : BitVec 32 := 3#32
  let v132 : BitVec 32 := Scalar.shrsi arg5 c3_i32
  let c4_i32_308 : BitVec 32 := 4#32
  let v133 : BitVec 32 := Scalar.shli v132 c4_i32_308
  let c7_i32 : BitVec 32 := 7#32
  let v134 : BitVec 32 := Scalar.andi arg5 c7_i32
  let v135 : BitVec 32 := Scalar.ori v133 v134
  let c4_i32_309 : BitVec 32 := 4#32
  let v136 : BitVec 32 := Scalar.shrsi v135 c4_i32_309
  let c5_i32 : BitVec 32 := 5#32
  let v137 : BitVec 32 := Scalar.shli v136 c5_i32
  let c15_i32 : BitVec 32 := 15#32
  let v138 : BitVec 32 := Scalar.andi v135 c15_i32
  let v139 : BitVec 32 := Scalar.ori v137 v138
  let c5_i32_310 : BitVec 32 := 5#32
  let v140 : BitVec 32 := Scalar.shrsi v139 c5_i32_310
  let c6_i32 : BitVec 32 := 6#32
  let v141 : BitVec 32 := Scalar.shli v140 c6_i32
  let c31_i32 : BitVec 32 := 31#32
  let v142 : BitVec 32 := Scalar.andi v139 c31_i32
  let v143 : BitVec 32 := Scalar.ori v141 v142
  let c64_i32_311 : BitVec 32 := 64#32
  let v144 : BitVec 32 := Scalar.muli v143 c64_i32_311
  let v145 : Index := Scalar.indexCast v144
  let c0_312 : Index := 0#32
  ![v145.toNat, 0]
def k0_off37 (k0_t23 : Fin k0_t23_loop.trips) (c512_i32_313 : BitVec 32) : Fin 2 → Nat :=
  let c0_i32_109 : BitVec 32 := 0#32
  let c1_i32_111 : BitVec 32 := 1#32
  let arg5 : BitVec 32 := Scf.iv c0_i32_109 c1_i32_111 k0_t23
  let c3_i32 : BitVec 32 := 3#32
  let v132 : BitVec 32 := Scalar.shrsi arg5 c3_i32
  let c4_i32_308 : BitVec 32 := 4#32
  let v133 : BitVec 32 := Scalar.shli v132 c4_i32_308
  let c7_i32 : BitVec 32 := 7#32
  let v134 : BitVec 32 := Scalar.andi arg5 c7_i32
  let v135 : BitVec 32 := Scalar.ori v133 v134
  let c4_i32_309 : BitVec 32 := 4#32
  let v136 : BitVec 32 := Scalar.shrsi v135 c4_i32_309
  let c5_i32 : BitVec 32 := 5#32
  let v137 : BitVec 32 := Scalar.shli v136 c5_i32
  let c15_i32 : BitVec 32 := 15#32
  let v138 : BitVec 32 := Scalar.andi v135 c15_i32
  let v139 : BitVec 32 := Scalar.ori v137 v138
  let c5_i32_310 : BitVec 32 := 5#32
  let v140 : BitVec 32 := Scalar.shrsi v139 c5_i32_310
  let c6_i32 : BitVec 32 := 6#32
  let v141 : BitVec 32 := Scalar.shli v140 c6_i32
  let c31_i32 : BitVec 32 := 31#32
  let v142 : BitVec 32 := Scalar.andi v139 c31_i32
  let v143 : BitVec 32 := Scalar.ori v141 v142
  let c64_i32_311 : BitVec 32 := 64#32
  let v144 : BitVec 32 := Scalar.muli v143 c64_i32_311
  let v147 : BitVec 32 := Scalar.addi v144 c512_i32_313
  let v148 : Index := Scalar.indexCast v147
  let c0_314 : Index := 0#32
  ![v148.toNat, 0]
def k0_off38 (k0_t23 : Fin k0_t23_loop.trips) : Fin 2 → Nat :=
  let c0_i32_109 : BitVec 32 := 0#32
  let c1_i32_111 : BitVec 32 := 1#32
  let arg5 : BitVec 32 := Scf.iv c0_i32_109 c1_i32_111 k0_t23
  let c3_i32 : BitVec 32 := 3#32
  let v132 : BitVec 32 := Scalar.shrsi arg5 c3_i32
  let c4_i32_308 : BitVec 32 := 4#32
  let v133 : BitVec 32 := Scalar.shli v132 c4_i32_308
  let c7_i32 : BitVec 32 := 7#32
  let v134 : BitVec 32 := Scalar.andi arg5 c7_i32
  let v135 : BitVec 32 := Scalar.ori v133 v134
  let c4_i32_309 : BitVec 32 := 4#32
  let v136 : BitVec 32 := Scalar.shrsi v135 c4_i32_309
  let c5_i32 : BitVec 32 := 5#32
  let v137 : BitVec 32 := Scalar.shli v136 c5_i32
  let c15_i32 : BitVec 32 := 15#32
  let v138 : BitVec 32 := Scalar.andi v135 c15_i32
  let v139 : BitVec 32 := Scalar.ori v137 v138
  let c5_i32_310 : BitVec 32 := 5#32
  let v140 : BitVec 32 := Scalar.shrsi v139 c5_i32_310
  let c6_i32 : BitVec 32 := 6#32
  let v141 : BitVec 32 := Scalar.shli v140 c6_i32
  let c31_i32 : BitVec 32 := 31#32
  let v142 : BitVec 32 := Scalar.andi v139 c31_i32
  let v143 : BitVec 32 := Scalar.ori v141 v142
  let c64_i32_311 : BitVec 32 := 64#32
  let v144 : BitVec 32 := Scalar.muli v143 c64_i32_311
  let c1024_i32_316 : BitVec 32 := 1024#32
  let v153 : BitVec 32 := Scalar.addi v144 c1024_i32_316
  let c512_i32_317 : BitVec 32 := 512#32
  let v154 : BitVec 32 := Scalar.addi v153 c512_i32_317
  let v155 : Index := Scalar.indexCast v154
  let c0_318 : Index := 0#32
  ![v155.toNat, 0]
@[reducible] def k0_t24_loop : Scf.Loop 32 :=
  let c0_i32_113 : BitVec 32 := 0#32
  let c128_i32_114 : BitVec 32 := 128#32
  let v81 : BitVec 32 := Scalar.addi c0_i32_113 c128_i32_114
  let c1_i32_115 : BitVec 32 := 1#32
  ⟨c0_i32_113, v81, c1_i32_115⟩
def k0_off39 (k0_t24 : Fin k0_t24_loop.trips) : Fin 2 → Nat :=
  let c0_i32_113 : BitVec 32 := 0#32
  let c1_i32_115 : BitVec 32 := 1#32
  let arg5 : BitVec 32 := Scf.iv c0_i32_113 c1_i32_115 k0_t24
  let c3_i32 : BitVec 32 := 3#32
  let v132 : BitVec 32 := Scalar.shrsi arg5 c3_i32
  let c4_i32_308 : BitVec 32 := 4#32
  let v133 : BitVec 32 := Scalar.shli v132 c4_i32_308
  let c7_i32 : BitVec 32 := 7#32
  let v134 : BitVec 32 := Scalar.andi arg5 c7_i32
  let v135 : BitVec 32 := Scalar.ori v133 v134
  let c4_i32_309 : BitVec 32 := 4#32
  let v136 : BitVec 32 := Scalar.shrsi v135 c4_i32_309
  let c5_i32 : BitVec 32 := 5#32
  let v137 : BitVec 32 := Scalar.shli v136 c5_i32
  let c15_i32 : BitVec 32 := 15#32
  let v138 : BitVec 32 := Scalar.andi v135 c15_i32
  let v139 : BitVec 32 := Scalar.ori v137 v138
  let c5_i32_310 : BitVec 32 := 5#32
  let v140 : BitVec 32 := Scalar.shrsi v139 c5_i32_310
  let c6_i32 : BitVec 32 := 6#32
  let v141 : BitVec 32 := Scalar.shli v140 c6_i32
  let c31_i32 : BitVec 32 := 31#32
  let v142 : BitVec 32 := Scalar.andi v139 c31_i32
  let v143 : BitVec 32 := Scalar.ori v141 v142
  let c32_i32_311 : BitVec 32 := 32#32
  let v144 : BitVec 32 := Scalar.ori v143 c32_i32_311
  let c64_i32_312 : BitVec 32 := 64#32
  let v145 : BitVec 32 := Scalar.muli v144 c64_i32_312
  let v146 : Index := Scalar.indexCast v145
  let c0_313 : Index := 0#32
  ![v146.toNat, 0]
def k0_off40 (k0_t24 : Fin k0_t24_loop.trips) (c512_i32_314 : BitVec 32) : Fin 2 → Nat :=
  let c0_i32_113 : BitVec 32 := 0#32
  let c1_i32_115 : BitVec 32 := 1#32
  let arg5 : BitVec 32 := Scf.iv c0_i32_113 c1_i32_115 k0_t24
  let c3_i32 : BitVec 32 := 3#32
  let v132 : BitVec 32 := Scalar.shrsi arg5 c3_i32
  let c4_i32_308 : BitVec 32 := 4#32
  let v133 : BitVec 32 := Scalar.shli v132 c4_i32_308
  let c7_i32 : BitVec 32 := 7#32
  let v134 : BitVec 32 := Scalar.andi arg5 c7_i32
  let v135 : BitVec 32 := Scalar.ori v133 v134
  let c4_i32_309 : BitVec 32 := 4#32
  let v136 : BitVec 32 := Scalar.shrsi v135 c4_i32_309
  let c5_i32 : BitVec 32 := 5#32
  let v137 : BitVec 32 := Scalar.shli v136 c5_i32
  let c15_i32 : BitVec 32 := 15#32
  let v138 : BitVec 32 := Scalar.andi v135 c15_i32
  let v139 : BitVec 32 := Scalar.ori v137 v138
  let c5_i32_310 : BitVec 32 := 5#32
  let v140 : BitVec 32 := Scalar.shrsi v139 c5_i32_310
  let c6_i32 : BitVec 32 := 6#32
  let v141 : BitVec 32 := Scalar.shli v140 c6_i32
  let c31_i32 : BitVec 32 := 31#32
  let v142 : BitVec 32 := Scalar.andi v139 c31_i32
  let v143 : BitVec 32 := Scalar.ori v141 v142
  let c32_i32_311 : BitVec 32 := 32#32
  let v144 : BitVec 32 := Scalar.ori v143 c32_i32_311
  let c64_i32_312 : BitVec 32 := 64#32
  let v145 : BitVec 32 := Scalar.muli v144 c64_i32_312
  let v148 : BitVec 32 := Scalar.addi v145 c512_i32_314
  let v149 : Index := Scalar.indexCast v148
  let c0_315 : Index := 0#32
  ![v149.toNat, 0]
def k0_off41 (k0_t24 : Fin k0_t24_loop.trips) : Fin 2 → Nat :=
  let c0_i32_113 : BitVec 32 := 0#32
  let c1_i32_115 : BitVec 32 := 1#32
  let arg5 : BitVec 32 := Scf.iv c0_i32_113 c1_i32_115 k0_t24
  let c3_i32 : BitVec 32 := 3#32
  let v132 : BitVec 32 := Scalar.shrsi arg5 c3_i32
  let c4_i32_308 : BitVec 32 := 4#32
  let v133 : BitVec 32 := Scalar.shli v132 c4_i32_308
  let c7_i32 : BitVec 32 := 7#32
  let v134 : BitVec 32 := Scalar.andi arg5 c7_i32
  let v135 : BitVec 32 := Scalar.ori v133 v134
  let c4_i32_309 : BitVec 32 := 4#32
  let v136 : BitVec 32 := Scalar.shrsi v135 c4_i32_309
  let c5_i32 : BitVec 32 := 5#32
  let v137 : BitVec 32 := Scalar.shli v136 c5_i32
  let c15_i32 : BitVec 32 := 15#32
  let v138 : BitVec 32 := Scalar.andi v135 c15_i32
  let v139 : BitVec 32 := Scalar.ori v137 v138
  let c5_i32_310 : BitVec 32 := 5#32
  let v140 : BitVec 32 := Scalar.shrsi v139 c5_i32_310
  let c6_i32 : BitVec 32 := 6#32
  let v141 : BitVec 32 := Scalar.shli v140 c6_i32
  let c31_i32 : BitVec 32 := 31#32
  let v142 : BitVec 32 := Scalar.andi v139 c31_i32
  let v143 : BitVec 32 := Scalar.ori v141 v142
  let c32_i32_311 : BitVec 32 := 32#32
  let v144 : BitVec 32 := Scalar.ori v143 c32_i32_311
  let c64_i32_312 : BitVec 32 := 64#32
  let v145 : BitVec 32 := Scalar.muli v144 c64_i32_312
  let c1024_i32_317 : BitVec 32 := 1024#32
  let v154 : BitVec 32 := Scalar.addi v145 c1024_i32_317
  let c512_i32_318 : BitVec 32 := 512#32
  let v155 : BitVec 32 := Scalar.addi v154 c512_i32_318
  let v156 : Index := Scalar.indexCast v155
  let c0_319 : Index := 0#32
  ![v156.toNat, 0]
@[reducible] def k0_t25_loop : Scf.Loop 32 :=
  let c0_i32_117 : BitVec 32 := 0#32
  let c128_i32_118 : BitVec 32 := 128#32
  let v82 : BitVec 32 := Scalar.addi c0_i32_117 c128_i32_118
  let c1_i32_119 : BitVec 32 := 1#32
  ⟨c0_i32_117, v82, c1_i32_119⟩
def k0_off42 (k0_t25 : Fin k0_t25_loop.trips) : Fin 2 → Nat :=
  let c0_i32_117 : BitVec 32 := 0#32
  let c1_i32_119 : BitVec 32 := 1#32
  let arg5 : BitVec 32 := Scf.iv c0_i32_117 c1_i32_119 k0_t25
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c5_i32 : BitVec 32 := 5#32
  let v140 : BitVec 32 := Scalar.shrsi v139 c5_i32
  let c6_i32 : BitVec 32 := 6#32
  let v141 : BitVec 32 := Scalar.shli v140 c6_i32
  let c31_i32 : BitVec 32 := 31#32
  let v142 : BitVec 32 := Scalar.andi v139 c31_i32
  let v143 : BitVec 32 := Scalar.ori v141 v142
  let c64_i32_313 : BitVec 32 := 64#32
  let v144 : BitVec 32 := Scalar.muli v143 c64_i32_313
  let v145 : Index := Scalar.indexCast v144
  let c0_314 : Index := 0#32
  ![v145.toNat, 0]
def k0_off43 (k0_t25 : Fin k0_t25_loop.trips) (c128_i32_315 : BitVec 32) : Fin 2 → Nat :=
  let c0_i32_117 : BitVec 32 := 0#32
  let c1_i32_119 : BitVec 32 := 1#32
  let arg5 : BitVec 32 := Scf.iv c0_i32_117 c1_i32_119 k0_t25
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c5_i32 : BitVec 32 := 5#32
  let v140 : BitVec 32 := Scalar.shrsi v139 c5_i32
  let c6_i32 : BitVec 32 := 6#32
  let v141 : BitVec 32 := Scalar.shli v140 c6_i32
  let c31_i32 : BitVec 32 := 31#32
  let v142 : BitVec 32 := Scalar.andi v139 c31_i32
  let v143 : BitVec 32 := Scalar.ori v141 v142
  let c64_i32_313 : BitVec 32 := 64#32
  let v144 : BitVec 32 := Scalar.muli v143 c64_i32_313
  let v147 : BitVec 32 := Scalar.addi v144 c128_i32_315
  let v148 : Index := Scalar.indexCast v147
  let c0_316 : Index := 0#32
  ![v148.toNat, 0]
def k0_off44 (k0_t25 : Fin k0_t25_loop.trips) : Fin 2 → Nat :=
  let c0_i32_117 : BitVec 32 := 0#32
  let c1_i32_119 : BitVec 32 := 1#32
  let arg5 : BitVec 32 := Scf.iv c0_i32_117 c1_i32_119 k0_t25
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c5_i32 : BitVec 32 := 5#32
  let v140 : BitVec 32 := Scalar.shrsi v139 c5_i32
  let c6_i32 : BitVec 32 := 6#32
  let v141 : BitVec 32 := Scalar.shli v140 c6_i32
  let c31_i32 : BitVec 32 := 31#32
  let v142 : BitVec 32 := Scalar.andi v139 c31_i32
  let v143 : BitVec 32 := Scalar.ori v141 v142
  let c64_i32_313 : BitVec 32 := 64#32
  let v144 : BitVec 32 := Scalar.muli v143 c64_i32_313
  let c256_i32_319 : BitVec 32 := 256#32
  let v153 : BitVec 32 := Scalar.addi v144 c256_i32_319
  let c128_i32_320 : BitVec 32 := 128#32
  let v154 : BitVec 32 := Scalar.addi v153 c128_i32_320
  let v155 : Index := Scalar.indexCast v154
  let c0_321 : Index := 0#32
  ![v155.toNat, 0]
@[reducible] def k0_t26_loop : Scf.Loop 32 :=
  let c0_i32_121 : BitVec 32 := 0#32
  let c128_i32_122 : BitVec 32 := 128#32
  let v83 : BitVec 32 := Scalar.addi c0_i32_121 c128_i32_122
  let c1_i32_123 : BitVec 32 := 1#32
  ⟨c0_i32_121, v83, c1_i32_123⟩
def k0_off45 (k0_t26 : Fin k0_t26_loop.trips) : Fin 2 → Nat :=
  let c0_i32_121 : BitVec 32 := 0#32
  let c1_i32_123 : BitVec 32 := 1#32
  let arg5 : BitVec 32 := Scf.iv c0_i32_121 c1_i32_123 k0_t26
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c5_i32 : BitVec 32 := 5#32
  let v140 : BitVec 32 := Scalar.shrsi v139 c5_i32
  let c6_i32 : BitVec 32 := 6#32
  let v141 : BitVec 32 := Scalar.shli v140 c6_i32
  let c31_i32 : BitVec 32 := 31#32
  let v142 : BitVec 32 := Scalar.andi v139 c31_i32
  let v143 : BitVec 32 := Scalar.ori v141 v142
  let c32_i32_313 : BitVec 32 := 32#32
  let v144 : BitVec 32 := Scalar.ori v143 c32_i32_313
  let c64_i32_314 : BitVec 32 := 64#32
  let v145 : BitVec 32 := Scalar.muli v144 c64_i32_314
  let v146 : Index := Scalar.indexCast v145
  let c0_315 : Index := 0#32
  ![v146.toNat, 0]
def k0_off46 (k0_t26 : Fin k0_t26_loop.trips) (c128_i32_316 : BitVec 32) : Fin 2 → Nat :=
  let c0_i32_121 : BitVec 32 := 0#32
  let c1_i32_123 : BitVec 32 := 1#32
  let arg5 : BitVec 32 := Scf.iv c0_i32_121 c1_i32_123 k0_t26
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c5_i32 : BitVec 32 := 5#32
  let v140 : BitVec 32 := Scalar.shrsi v139 c5_i32
  let c6_i32 : BitVec 32 := 6#32
  let v141 : BitVec 32 := Scalar.shli v140 c6_i32
  let c31_i32 : BitVec 32 := 31#32
  let v142 : BitVec 32 := Scalar.andi v139 c31_i32
  let v143 : BitVec 32 := Scalar.ori v141 v142
  let c32_i32_313 : BitVec 32 := 32#32
  let v144 : BitVec 32 := Scalar.ori v143 c32_i32_313
  let c64_i32_314 : BitVec 32 := 64#32
  let v145 : BitVec 32 := Scalar.muli v144 c64_i32_314
  let v148 : BitVec 32 := Scalar.addi v145 c128_i32_316
  let v149 : Index := Scalar.indexCast v148
  let c0_317 : Index := 0#32
  ![v149.toNat, 0]
def k0_off47 (k0_t26 : Fin k0_t26_loop.trips) : Fin 2 → Nat :=
  let c0_i32_121 : BitVec 32 := 0#32
  let c1_i32_123 : BitVec 32 := 1#32
  let arg5 : BitVec 32 := Scf.iv c0_i32_121 c1_i32_123 k0_t26
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c5_i32 : BitVec 32 := 5#32
  let v140 : BitVec 32 := Scalar.shrsi v139 c5_i32
  let c6_i32 : BitVec 32 := 6#32
  let v141 : BitVec 32 := Scalar.shli v140 c6_i32
  let c31_i32 : BitVec 32 := 31#32
  let v142 : BitVec 32 := Scalar.andi v139 c31_i32
  let v143 : BitVec 32 := Scalar.ori v141 v142
  let c32_i32_313 : BitVec 32 := 32#32
  let v144 : BitVec 32 := Scalar.ori v143 c32_i32_313
  let c64_i32_314 : BitVec 32 := 64#32
  let v145 : BitVec 32 := Scalar.muli v144 c64_i32_314
  let c256_i32_320 : BitVec 32 := 256#32
  let v154 : BitVec 32 := Scalar.addi v145 c256_i32_320
  let c128_i32_321 : BitVec 32 := 128#32
  let v155 : BitVec 32 := Scalar.addi v154 c128_i32_321
  let v156 : Index := Scalar.indexCast v155
  let c0_322 : Index := 0#32
  ![v156.toNat, 0]
@[reducible] def k0_t27_loop : Scf.Loop 32 :=
  let c0_i32_125 : BitVec 32 := 0#32
  let c256_i32_126 : BitVec 32 := 256#32
  let v84 : BitVec 32 := Scalar.addi c0_i32_125 c256_i32_126
  let c1_i32_127 : BitVec 32 := 1#32
  ⟨c0_i32_125, v84, c1_i32_127⟩
def k0_off48 (k0_t27 : Fin k0_t27_loop.trips) : Fin 2 → Nat :=
  let c0_i32_125 : BitVec 32 := 0#32
  let c1_i32_127 : BitVec 32 := 1#32
  let arg5 : BitVec 32 := Scf.iv c0_i32_125 c1_i32_127 k0_t27
  let c4_i32_308 : BitVec 32 := 4#32
  let v132 : BitVec 32 := Scalar.shrsi arg5 c4_i32_308
  let c5_i32 : BitVec 32 := 5#32
  let v133 : BitVec 32 := Scalar.shli v132 c5_i32
  let c15_i32 : BitVec 32 := 15#32
  let v134 : BitVec 32 := Scalar.andi arg5 c15_i32
  let v135 : BitVec 32 := Scalar.ori v133 v134
  let c128_i32_309 : BitVec 32 := 128#32
  let v136 : BitVec 32 := Scalar.muli v135 c128_i32_309
  let v137 : Index := Scalar.indexCast v136
  let c0_310 : Index := 0#32
  ![v137.toNat, 0]
@[reducible] def k0_t28_loop : Scf.Loop 32 :=
  let c0_i32_129 : BitVec 32 := 0#32
  let c256_i32_130 : BitVec 32 := 256#32
  let v85 : BitVec 32 := Scalar.addi c0_i32_129 c256_i32_130
  let c1_i32_131 : BitVec 32 := 1#32
  ⟨c0_i32_129, v85, c1_i32_131⟩
def k0_off49 (k0_t28 : Fin k0_t28_loop.trips) : Fin 2 → Nat :=
  let c0_i32_129 : BitVec 32 := 0#32
  let c1_i32_131 : BitVec 32 := 1#32
  let arg5 : BitVec 32 := Scf.iv c0_i32_129 c1_i32_131 k0_t28
  let c4_i32_308 : BitVec 32 := 4#32
  let v132 : BitVec 32 := Scalar.shrsi arg5 c4_i32_308
  let c5_i32 : BitVec 32 := 5#32
  let v133 : BitVec 32 := Scalar.shli v132 c5_i32
  let c15_i32 : BitVec 32 := 15#32
  let v134 : BitVec 32 := Scalar.andi arg5 c15_i32
  let v135 : BitVec 32 := Scalar.ori v133 v134
  let c16_i32_309 : BitVec 32 := 16#32
  let v136 : BitVec 32 := Scalar.ori v135 c16_i32_309
  let c128_i32_310 : BitVec 32 := 128#32
  let v137 : BitVec 32 := Scalar.muli v136 c128_i32_310
  let v138 : Index := Scalar.indexCast v137
  let c0_311 : Index := 0#32
  ![v138.toNat, 0]
@[reducible] def k0_t29_loop : Scf.Loop 32 :=
  let c0_i32_133 : BitVec 32 := 0#32
  let c128_i32_134 : BitVec 32 := 128#32
  let v86 : BitVec 32 := Scalar.addi c0_i32_133 c128_i32_134
  let c1_i32_135 : BitVec 32 := 1#32
  ⟨c0_i32_133, v86, c1_i32_135⟩
def k0_off50 (k0_t29 : Fin k0_t29_loop.trips) : Fin 2 → Nat :=
  let c0_i32_133 : BitVec 32 := 0#32
  let c1_i32_135 : BitVec 32 := 1#32
  let arg5 : BitVec 32 := Scf.iv c0_i32_133 c1_i32_135 k0_t29
  let c4_i32_308 : BitVec 32 := 4#32
  let v132 : BitVec 32 := Scalar.shrsi arg5 c4_i32_308
  let c5_i32 : BitVec 32 := 5#32
  let v133 : BitVec 32 := Scalar.shli v132 c5_i32
  let c15_i32 : BitVec 32 := 15#32
  let v134 : BitVec 32 := Scalar.andi arg5 c15_i32
  let v135 : BitVec 32 := Scalar.ori v133 v134
  let c5_i32_309 : BitVec 32 := 5#32
  let v136 : BitVec 32 := Scalar.shrsi v135 c5_i32_309
  let c6_i32 : BitVec 32 := 6#32
  let v137 : BitVec 32 := Scalar.shli v136 c6_i32
  let c31_i32 : BitVec 32 := 31#32
  let v138 : BitVec 32 := Scalar.andi v135 c31_i32
  let v139 : BitVec 32 := Scalar.ori v137 v138
  let c6_i32_310 : BitVec 32 := 6#32
  let v140 : BitVec 32 := Scalar.shrsi v139 c6_i32_310
  let c7_i32 : BitVec 32 := 7#32
  let v141 : BitVec 32 := Scalar.shli v140 c7_i32
  let c63_i32 : BitVec 32 := 63#32
  let v142 : BitVec 32 := Scalar.andi v139 c63_i32
  let v143 : BitVec 32 := Scalar.ori v141 v142
  let c64_i32_311 : BitVec 32 := 64#32
  let v144 : BitVec 32 := Scalar.muli v143 c64_i32_311
  let v145 : Index := Scalar.indexCast v144
  let c0_312 : Index := 0#32
  ![v145.toNat, 0]
def k0_off51 (k0_t29 : Fin k0_t29_loop.trips) (c1024_i32 : BitVec 32) : Fin 2 → Nat :=
  let c0_i32_133 : BitVec 32 := 0#32
  let c1_i32_135 : BitVec 32 := 1#32
  let arg5 : BitVec 32 := Scf.iv c0_i32_133 c1_i32_135 k0_t29
  let c4_i32_308 : BitVec 32 := 4#32
  let v132 : BitVec 32 := Scalar.shrsi arg5 c4_i32_308
  let c5_i32 : BitVec 32 := 5#32
  let v133 : BitVec 32 := Scalar.shli v132 c5_i32
  let c15_i32 : BitVec 32 := 15#32
  let v134 : BitVec 32 := Scalar.andi arg5 c15_i32
  let v135 : BitVec 32 := Scalar.ori v133 v134
  let c5_i32_309 : BitVec 32 := 5#32
  let v136 : BitVec 32 := Scalar.shrsi v135 c5_i32_309
  let c6_i32 : BitVec 32 := 6#32
  let v137 : BitVec 32 := Scalar.shli v136 c6_i32
  let c31_i32 : BitVec 32 := 31#32
  let v138 : BitVec 32 := Scalar.andi v135 c31_i32
  let v139 : BitVec 32 := Scalar.ori v137 v138
  let c6_i32_310 : BitVec 32 := 6#32
  let v140 : BitVec 32 := Scalar.shrsi v139 c6_i32_310
  let c7_i32 : BitVec 32 := 7#32
  let v141 : BitVec 32 := Scalar.shli v140 c7_i32
  let c63_i32 : BitVec 32 := 63#32
  let v142 : BitVec 32 := Scalar.andi v139 c63_i32
  let v143 : BitVec 32 := Scalar.ori v141 v142
  let c64_i32_311 : BitVec 32 := 64#32
  let v144 : BitVec 32 := Scalar.muli v143 c64_i32_311
  let v147 : BitVec 32 := Scalar.addi v144 c1024_i32
  let v148 : Index := Scalar.indexCast v147
  let c0_313 : Index := 0#32
  ![v148.toNat, 0]
def k0_off52 (k0_t29 : Fin k0_t29_loop.trips) : Fin 2 → Nat :=
  let c0_i32_133 : BitVec 32 := 0#32
  let c1_i32_135 : BitVec 32 := 1#32
  let arg5 : BitVec 32 := Scf.iv c0_i32_133 c1_i32_135 k0_t29
  let c4_i32_308 : BitVec 32 := 4#32
  let v132 : BitVec 32 := Scalar.shrsi arg5 c4_i32_308
  let c5_i32 : BitVec 32 := 5#32
  let v133 : BitVec 32 := Scalar.shli v132 c5_i32
  let c15_i32 : BitVec 32 := 15#32
  let v134 : BitVec 32 := Scalar.andi arg5 c15_i32
  let v135 : BitVec 32 := Scalar.ori v133 v134
  let c5_i32_309 : BitVec 32 := 5#32
  let v136 : BitVec 32 := Scalar.shrsi v135 c5_i32_309
  let c6_i32 : BitVec 32 := 6#32
  let v137 : BitVec 32 := Scalar.shli v136 c6_i32
  let c31_i32 : BitVec 32 := 31#32
  let v138 : BitVec 32 := Scalar.andi v135 c31_i32
  let v139 : BitVec 32 := Scalar.ori v137 v138
  let c6_i32_310 : BitVec 32 := 6#32
  let v140 : BitVec 32 := Scalar.shrsi v139 c6_i32_310
  let c7_i32 : BitVec 32 := 7#32
  let v141 : BitVec 32 := Scalar.shli v140 c7_i32
  let c63_i32 : BitVec 32 := 63#32
  let v142 : BitVec 32 := Scalar.andi v139 c63_i32
  let v143 : BitVec 32 := Scalar.ori v141 v142
  let c64_i32_311 : BitVec 32 := 64#32
  let v144 : BitVec 32 := Scalar.muli v143 c64_i32_311
  let c2048_i32_315 : BitVec 32 := 2048#32
  let v153 : BitVec 32 := Scalar.addi v144 c2048_i32_315
  let c1024_i32_316 : BitVec 32 := 1024#32
  let v154 : BitVec 32 := Scalar.addi v153 c1024_i32_316
  let v155 : Index := Scalar.indexCast v154
  let c0_317 : Index := 0#32
  ![v155.toNat, 0]
@[reducible] def k0_t30_loop : Scf.Loop 32 :=
  let c0_i32_137 : BitVec 32 := 0#32
  let c128_i32_138 : BitVec 32 := 128#32
  let v87 : BitVec 32 := Scalar.addi c0_i32_137 c128_i32_138
  let c1_i32_139 : BitVec 32 := 1#32
  ⟨c0_i32_137, v87, c1_i32_139⟩
def k0_off53 (k0_t30 : Fin k0_t30_loop.trips) : Fin 2 → Nat :=
  let c0_i32_137 : BitVec 32 := 0#32
  let c1_i32_139 : BitVec 32 := 1#32
  let arg5 : BitVec 32 := Scf.iv c0_i32_137 c1_i32_139 k0_t30
  let c4_i32_308 : BitVec 32 := 4#32
  let v132 : BitVec 32 := Scalar.shrsi arg5 c4_i32_308
  let c5_i32 : BitVec 32 := 5#32
  let v133 : BitVec 32 := Scalar.shli v132 c5_i32
  let c15_i32 : BitVec 32 := 15#32
  let v134 : BitVec 32 := Scalar.andi arg5 c15_i32
  let v135 : BitVec 32 := Scalar.ori v133 v134
  let c5_i32_309 : BitVec 32 := 5#32
  let v136 : BitVec 32 := Scalar.shrsi v135 c5_i32_309
  let c6_i32 : BitVec 32 := 6#32
  let v137 : BitVec 32 := Scalar.shli v136 c6_i32
  let c31_i32 : BitVec 32 := 31#32
  let v138 : BitVec 32 := Scalar.andi v135 c31_i32
  let v139 : BitVec 32 := Scalar.ori v137 v138
  let c6_i32_310 : BitVec 32 := 6#32
  let v140 : BitVec 32 := Scalar.shrsi v139 c6_i32_310
  let c7_i32 : BitVec 32 := 7#32
  let v141 : BitVec 32 := Scalar.shli v140 c7_i32
  let c63_i32 : BitVec 32 := 63#32
  let v142 : BitVec 32 := Scalar.andi v139 c63_i32
  let v143 : BitVec 32 := Scalar.ori v141 v142
  let c64_i32_311 : BitVec 32 := 64#32
  let v144 : BitVec 32 := Scalar.ori v143 c64_i32_311
  let c64_i32_312 : BitVec 32 := 64#32
  let v145 : BitVec 32 := Scalar.muli v144 c64_i32_312
  let v146 : Index := Scalar.indexCast v145
  let c0_313 : Index := 0#32
  ![v146.toNat, 0]
def k0_off54 (k0_t30 : Fin k0_t30_loop.trips) (c1024_i32 : BitVec 32) : Fin 2 → Nat :=
  let c0_i32_137 : BitVec 32 := 0#32
  let c1_i32_139 : BitVec 32 := 1#32
  let arg5 : BitVec 32 := Scf.iv c0_i32_137 c1_i32_139 k0_t30
  let c4_i32_308 : BitVec 32 := 4#32
  let v132 : BitVec 32 := Scalar.shrsi arg5 c4_i32_308
  let c5_i32 : BitVec 32 := 5#32
  let v133 : BitVec 32 := Scalar.shli v132 c5_i32
  let c15_i32 : BitVec 32 := 15#32
  let v134 : BitVec 32 := Scalar.andi arg5 c15_i32
  let v135 : BitVec 32 := Scalar.ori v133 v134
  let c5_i32_309 : BitVec 32 := 5#32
  let v136 : BitVec 32 := Scalar.shrsi v135 c5_i32_309
  let c6_i32 : BitVec 32 := 6#32
  let v137 : BitVec 32 := Scalar.shli v136 c6_i32
  let c31_i32 : BitVec 32 := 31#32
  let v138 : BitVec 32 := Scalar.andi v135 c31_i32
  let v139 : BitVec 32 := Scalar.ori v137 v138
  let c6_i32_310 : BitVec 32 := 6#32
  let v140 : BitVec 32 := Scalar.shrsi v139 c6_i32_310
  let c7_i32 : BitVec 32 := 7#32
  let v141 : BitVec 32 := Scalar.shli v140 c7_i32
  let c63_i32 : BitVec 32 := 63#32
  let v142 : BitVec 32 := Scalar.andi v139 c63_i32
  let v143 : BitVec 32 := Scalar.ori v141 v142
  let c64_i32_311 : BitVec 32 := 64#32
  let v144 : BitVec 32 := Scalar.ori v143 c64_i32_311
  let c64_i32_312 : BitVec 32 := 64#32
  let v145 : BitVec 32 := Scalar.muli v144 c64_i32_312
  let v148 : BitVec 32 := Scalar.addi v145 c1024_i32
  let v149 : Index := Scalar.indexCast v148
  let c0_314 : Index := 0#32
  ![v149.toNat, 0]
def k0_off55 (k0_t30 : Fin k0_t30_loop.trips) : Fin 2 → Nat :=
  let c0_i32_137 : BitVec 32 := 0#32
  let c1_i32_139 : BitVec 32 := 1#32
  let arg5 : BitVec 32 := Scf.iv c0_i32_137 c1_i32_139 k0_t30
  let c4_i32_308 : BitVec 32 := 4#32
  let v132 : BitVec 32 := Scalar.shrsi arg5 c4_i32_308
  let c5_i32 : BitVec 32 := 5#32
  let v133 : BitVec 32 := Scalar.shli v132 c5_i32
  let c15_i32 : BitVec 32 := 15#32
  let v134 : BitVec 32 := Scalar.andi arg5 c15_i32
  let v135 : BitVec 32 := Scalar.ori v133 v134
  let c5_i32_309 : BitVec 32 := 5#32
  let v136 : BitVec 32 := Scalar.shrsi v135 c5_i32_309
  let c6_i32 : BitVec 32 := 6#32
  let v137 : BitVec 32 := Scalar.shli v136 c6_i32
  let c31_i32 : BitVec 32 := 31#32
  let v138 : BitVec 32 := Scalar.andi v135 c31_i32
  let v139 : BitVec 32 := Scalar.ori v137 v138
  let c6_i32_310 : BitVec 32 := 6#32
  let v140 : BitVec 32 := Scalar.shrsi v139 c6_i32_310
  let c7_i32 : BitVec 32 := 7#32
  let v141 : BitVec 32 := Scalar.shli v140 c7_i32
  let c63_i32 : BitVec 32 := 63#32
  let v142 : BitVec 32 := Scalar.andi v139 c63_i32
  let v143 : BitVec 32 := Scalar.ori v141 v142
  let c64_i32_311 : BitVec 32 := 64#32
  let v144 : BitVec 32 := Scalar.ori v143 c64_i32_311
  let c64_i32_312 : BitVec 32 := 64#32
  let v145 : BitVec 32 := Scalar.muli v144 c64_i32_312
  let c2048_i32_316 : BitVec 32 := 2048#32
  let v154 : BitVec 32 := Scalar.addi v145 c2048_i32_316
  let c1024_i32_317 : BitVec 32 := 1024#32
  let v155 : BitVec 32 := Scalar.addi v154 c1024_i32_317
  let v156 : Index := Scalar.indexCast v155
  let c0_318 : Index := 0#32
  ![v156.toNat, 0]
@[reducible] def k0_t31_loop : Scf.Loop 32 :=
  let c0_i32_141 : BitVec 32 := 0#32
  let c128_i32_142 : BitVec 32 := 128#32
  let v88 : BitVec 32 := Scalar.addi c0_i32_141 c128_i32_142
  let c1_i32_143 : BitVec 32 := 1#32
  ⟨c0_i32_141, v88, c1_i32_143⟩
def k0_off56 (k0_t31 : Fin k0_t31_loop.trips) : Fin 2 → Nat :=
  let c0_i32_141 : BitVec 32 := 0#32
  let c1_i32_143 : BitVec 32 := 1#32
  let arg5 : BitVec 32 := Scf.iv c0_i32_141 c1_i32_143 k0_t31
  let c2_i32_308 : BitVec 32 := 2#32
  let v132 : BitVec 32 := Scalar.shrsi arg5 c2_i32_308
  let c3_i32 : BitVec 32 := 3#32
  let v133 : BitVec 32 := Scalar.shli v132 c3_i32
  let c3_i32_309 : BitVec 32 := 3#32
  let v134 : BitVec 32 := Scalar.andi arg5 c3_i32_309
  let v135 : BitVec 32 := Scalar.ori v133 v134
  let c3_i32_310 : BitVec 32 := 3#32
  let v136 : BitVec 32 := Scalar.shrsi v135 c3_i32_310
  let c4_i32_311 : BitVec 32 := 4#32
  let v137 : BitVec 32 := Scalar.shli v136 c4_i32_311
  let c7_i32 : BitVec 32 := 7#32
  let v138 : BitVec 32 := Scalar.andi v135 c7_i32
  let v139 : BitVec 32 := Scalar.ori v137 v138
  let c6_i32 : BitVec 32 := 6#32
  let v140 : BitVec 32 := Scalar.shrsi v139 c6_i32
  let c7_i32_312 : BitVec 32 := 7#32
  let v141 : BitVec 32 := Scalar.shli v140 c7_i32_312
  let c63_i32 : BitVec 32 := 63#32
  let v142 : BitVec 32 := Scalar.andi v139 c63_i32
  let v143 : BitVec 32 := Scalar.ori v141 v142
  let c64_i32_313 : BitVec 32 := 64#32
  let v144 : BitVec 32 := Scalar.muli v143 c64_i32_313
  let v145 : Index := Scalar.indexCast v144
  let c0_314 : Index := 0#32
  ![v145.toNat, 0]
def k0_off57 (k0_t31 : Fin k0_t31_loop.trips) (c256_i32_315 : BitVec 32) : Fin 2 → Nat :=
  let c0_i32_141 : BitVec 32 := 0#32
  let c1_i32_143 : BitVec 32 := 1#32
  let arg5 : BitVec 32 := Scf.iv c0_i32_141 c1_i32_143 k0_t31
  let c2_i32_308 : BitVec 32 := 2#32
  let v132 : BitVec 32 := Scalar.shrsi arg5 c2_i32_308
  let c3_i32 : BitVec 32 := 3#32
  let v133 : BitVec 32 := Scalar.shli v132 c3_i32
  let c3_i32_309 : BitVec 32 := 3#32
  let v134 : BitVec 32 := Scalar.andi arg5 c3_i32_309
  let v135 : BitVec 32 := Scalar.ori v133 v134
  let c3_i32_310 : BitVec 32 := 3#32
  let v136 : BitVec 32 := Scalar.shrsi v135 c3_i32_310
  let c4_i32_311 : BitVec 32 := 4#32
  let v137 : BitVec 32 := Scalar.shli v136 c4_i32_311
  let c7_i32 : BitVec 32 := 7#32
  let v138 : BitVec 32 := Scalar.andi v135 c7_i32
  let v139 : BitVec 32 := Scalar.ori v137 v138
  let c6_i32 : BitVec 32 := 6#32
  let v140 : BitVec 32 := Scalar.shrsi v139 c6_i32
  let c7_i32_312 : BitVec 32 := 7#32
  let v141 : BitVec 32 := Scalar.shli v140 c7_i32_312
  let c63_i32 : BitVec 32 := 63#32
  let v142 : BitVec 32 := Scalar.andi v139 c63_i32
  let v143 : BitVec 32 := Scalar.ori v141 v142
  let c64_i32_313 : BitVec 32 := 64#32
  let v144 : BitVec 32 := Scalar.muli v143 c64_i32_313
  let v147 : BitVec 32 := Scalar.addi v144 c256_i32_315
  let v148 : Index := Scalar.indexCast v147
  let c0_316 : Index := 0#32
  ![v148.toNat, 0]
def k0_off58 (k0_t31 : Fin k0_t31_loop.trips) : Fin 2 → Nat :=
  let c0_i32_141 : BitVec 32 := 0#32
  let c1_i32_143 : BitVec 32 := 1#32
  let arg5 : BitVec 32 := Scf.iv c0_i32_141 c1_i32_143 k0_t31
  let c2_i32_308 : BitVec 32 := 2#32
  let v132 : BitVec 32 := Scalar.shrsi arg5 c2_i32_308
  let c3_i32 : BitVec 32 := 3#32
  let v133 : BitVec 32 := Scalar.shli v132 c3_i32
  let c3_i32_309 : BitVec 32 := 3#32
  let v134 : BitVec 32 := Scalar.andi arg5 c3_i32_309
  let v135 : BitVec 32 := Scalar.ori v133 v134
  let c3_i32_310 : BitVec 32 := 3#32
  let v136 : BitVec 32 := Scalar.shrsi v135 c3_i32_310
  let c4_i32_311 : BitVec 32 := 4#32
  let v137 : BitVec 32 := Scalar.shli v136 c4_i32_311
  let c7_i32 : BitVec 32 := 7#32
  let v138 : BitVec 32 := Scalar.andi v135 c7_i32
  let v139 : BitVec 32 := Scalar.ori v137 v138
  let c6_i32 : BitVec 32 := 6#32
  let v140 : BitVec 32 := Scalar.shrsi v139 c6_i32
  let c7_i32_312 : BitVec 32 := 7#32
  let v141 : BitVec 32 := Scalar.shli v140 c7_i32_312
  let c63_i32 : BitVec 32 := 63#32
  let v142 : BitVec 32 := Scalar.andi v139 c63_i32
  let v143 : BitVec 32 := Scalar.ori v141 v142
  let c64_i32_313 : BitVec 32 := 64#32
  let v144 : BitVec 32 := Scalar.muli v143 c64_i32_313
  let c512_i32_319 : BitVec 32 := 512#32
  let v153 : BitVec 32 := Scalar.addi v144 c512_i32_319
  let c256_i32_320 : BitVec 32 := 256#32
  let v154 : BitVec 32 := Scalar.addi v153 c256_i32_320
  let v155 : Index := Scalar.indexCast v154
  let c0_321 : Index := 0#32
  ![v155.toNat, 0]
@[reducible] def k0_t32_loop : Scf.Loop 32 :=
  let c0_i32_145 : BitVec 32 := 0#32
  let c128_i32_146 : BitVec 32 := 128#32
  let v89 : BitVec 32 := Scalar.addi c0_i32_145 c128_i32_146
  let c1_i32_147 : BitVec 32 := 1#32
  ⟨c0_i32_145, v89, c1_i32_147⟩
def k0_off59 (k0_t32 : Fin k0_t32_loop.trips) : Fin 2 → Nat :=
  let c0_i32_145 : BitVec 32 := 0#32
  let c1_i32_147 : BitVec 32 := 1#32
  let arg5 : BitVec 32 := Scf.iv c0_i32_145 c1_i32_147 k0_t32
  let c2_i32_308 : BitVec 32 := 2#32
  let v132 : BitVec 32 := Scalar.shrsi arg5 c2_i32_308
  let c3_i32 : BitVec 32 := 3#32
  let v133 : BitVec 32 := Scalar.shli v132 c3_i32
  let c3_i32_309 : BitVec 32 := 3#32
  let v134 : BitVec 32 := Scalar.andi arg5 c3_i32_309
  let v135 : BitVec 32 := Scalar.ori v133 v134
  let c3_i32_310 : BitVec 32 := 3#32
  let v136 : BitVec 32 := Scalar.shrsi v135 c3_i32_310
  let c4_i32_311 : BitVec 32 := 4#32
  let v137 : BitVec 32 := Scalar.shli v136 c4_i32_311
  let c7_i32 : BitVec 32 := 7#32
  let v138 : BitVec 32 := Scalar.andi v135 c7_i32
  let v139 : BitVec 32 := Scalar.ori v137 v138
  let c6_i32 : BitVec 32 := 6#32
  let v140 : BitVec 32 := Scalar.shrsi v139 c6_i32
  let c7_i32_312 : BitVec 32 := 7#32
  let v141 : BitVec 32 := Scalar.shli v140 c7_i32_312
  let c63_i32 : BitVec 32 := 63#32
  let v142 : BitVec 32 := Scalar.andi v139 c63_i32
  let v143 : BitVec 32 := Scalar.ori v141 v142
  let c64_i32_313 : BitVec 32 := 64#32
  let v144 : BitVec 32 := Scalar.ori v143 c64_i32_313
  let c64_i32_314 : BitVec 32 := 64#32
  let v145 : BitVec 32 := Scalar.muli v144 c64_i32_314
  let v146 : Index := Scalar.indexCast v145
  let c0_315 : Index := 0#32
  ![v146.toNat, 0]
def k0_off60 (k0_t32 : Fin k0_t32_loop.trips) (c256_i32_316 : BitVec 32) : Fin 2 → Nat :=
  let c0_i32_145 : BitVec 32 := 0#32
  let c1_i32_147 : BitVec 32 := 1#32
  let arg5 : BitVec 32 := Scf.iv c0_i32_145 c1_i32_147 k0_t32
  let c2_i32_308 : BitVec 32 := 2#32
  let v132 : BitVec 32 := Scalar.shrsi arg5 c2_i32_308
  let c3_i32 : BitVec 32 := 3#32
  let v133 : BitVec 32 := Scalar.shli v132 c3_i32
  let c3_i32_309 : BitVec 32 := 3#32
  let v134 : BitVec 32 := Scalar.andi arg5 c3_i32_309
  let v135 : BitVec 32 := Scalar.ori v133 v134
  let c3_i32_310 : BitVec 32 := 3#32
  let v136 : BitVec 32 := Scalar.shrsi v135 c3_i32_310
  let c4_i32_311 : BitVec 32 := 4#32
  let v137 : BitVec 32 := Scalar.shli v136 c4_i32_311
  let c7_i32 : BitVec 32 := 7#32
  let v138 : BitVec 32 := Scalar.andi v135 c7_i32
  let v139 : BitVec 32 := Scalar.ori v137 v138
  let c6_i32 : BitVec 32 := 6#32
  let v140 : BitVec 32 := Scalar.shrsi v139 c6_i32
  let c7_i32_312 : BitVec 32 := 7#32
  let v141 : BitVec 32 := Scalar.shli v140 c7_i32_312
  let c63_i32 : BitVec 32 := 63#32
  let v142 : BitVec 32 := Scalar.andi v139 c63_i32
  let v143 : BitVec 32 := Scalar.ori v141 v142
  let c64_i32_313 : BitVec 32 := 64#32
  let v144 : BitVec 32 := Scalar.ori v143 c64_i32_313
  let c64_i32_314 : BitVec 32 := 64#32
  let v145 : BitVec 32 := Scalar.muli v144 c64_i32_314
  let v148 : BitVec 32 := Scalar.addi v145 c256_i32_316
  let v149 : Index := Scalar.indexCast v148
  let c0_317 : Index := 0#32
  ![v149.toNat, 0]
def k0_off61 (k0_t32 : Fin k0_t32_loop.trips) : Fin 2 → Nat :=
  let c0_i32_145 : BitVec 32 := 0#32
  let c1_i32_147 : BitVec 32 := 1#32
  let arg5 : BitVec 32 := Scf.iv c0_i32_145 c1_i32_147 k0_t32
  let c2_i32_308 : BitVec 32 := 2#32
  let v132 : BitVec 32 := Scalar.shrsi arg5 c2_i32_308
  let c3_i32 : BitVec 32 := 3#32
  let v133 : BitVec 32 := Scalar.shli v132 c3_i32
  let c3_i32_309 : BitVec 32 := 3#32
  let v134 : BitVec 32 := Scalar.andi arg5 c3_i32_309
  let v135 : BitVec 32 := Scalar.ori v133 v134
  let c3_i32_310 : BitVec 32 := 3#32
  let v136 : BitVec 32 := Scalar.shrsi v135 c3_i32_310
  let c4_i32_311 : BitVec 32 := 4#32
  let v137 : BitVec 32 := Scalar.shli v136 c4_i32_311
  let c7_i32 : BitVec 32 := 7#32
  let v138 : BitVec 32 := Scalar.andi v135 c7_i32
  let v139 : BitVec 32 := Scalar.ori v137 v138
  let c6_i32 : BitVec 32 := 6#32
  let v140 : BitVec 32 := Scalar.shrsi v139 c6_i32
  let c7_i32_312 : BitVec 32 := 7#32
  let v141 : BitVec 32 := Scalar.shli v140 c7_i32_312
  let c63_i32 : BitVec 32 := 63#32
  let v142 : BitVec 32 := Scalar.andi v139 c63_i32
  let v143 : BitVec 32 := Scalar.ori v141 v142
  let c64_i32_313 : BitVec 32 := 64#32
  let v144 : BitVec 32 := Scalar.ori v143 c64_i32_313
  let c64_i32_314 : BitVec 32 := 64#32
  let v145 : BitVec 32 := Scalar.muli v144 c64_i32_314
  let c512_i32_320 : BitVec 32 := 512#32
  let v154 : BitVec 32 := Scalar.addi v145 c512_i32_320
  let c256_i32_321 : BitVec 32 := 256#32
  let v155 : BitVec 32 := Scalar.addi v154 c256_i32_321
  let v156 : Index := Scalar.indexCast v155
  let c0_322 : Index := 0#32
  ![v156.toNat, 0]
@[reducible] def k0_t33_loop : Scf.Loop 32 :=
  let c0_i32_149 : BitVec 32 := 0#32
  let c256_i32_150 : BitVec 32 := 256#32
  let v90 : BitVec 32 := Scalar.addi c0_i32_149 c256_i32_150
  let c1_i32_151 : BitVec 32 := 1#32
  ⟨c0_i32_149, v90, c1_i32_151⟩
def k0_off62 (k0_t33 : Fin k0_t33_loop.trips) : Fin 2 → Nat :=
  let c0_i32_149 : BitVec 32 := 0#32
  let c1_i32_151 : BitVec 32 := 1#32
  let arg5 : BitVec 32 := Scf.iv c0_i32_149 c1_i32_151 k0_t33
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c6_i32 : BitVec 32 := 6#32
  let v136 : BitVec 32 := Scalar.shrsi v135 c6_i32
  let c7_i32 : BitVec 32 := 7#32
  let v137 : BitVec 32 := Scalar.shli v136 c7_i32
  let c63_i32 : BitVec 32 := 63#32
  let v138 : BitVec 32 := Scalar.andi v135 c63_i32
  let v139 : BitVec 32 := Scalar.ori v137 v138
  let c64_i32_311 : BitVec 32 := 64#32
  let v140 : BitVec 32 := Scalar.muli v139 c64_i32_311
  let v141 : Index := Scalar.indexCast v140
  let c0_312 : Index := 0#32
  ![v141.toNat, 0]
def k0_off63 (k0_t33 : Fin k0_t33_loop.trips) : Fin 2 → Nat :=
  let c0_i32_149 : BitVec 32 := 0#32
  let c1_i32_151 : BitVec 32 := 1#32
  let arg5 : BitVec 32 := Scf.iv c0_i32_149 c1_i32_151 k0_t33
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c6_i32 : BitVec 32 := 6#32
  let v136 : BitVec 32 := Scalar.shrsi v135 c6_i32
  let c7_i32 : BitVec 32 := 7#32
  let v137 : BitVec 32 := Scalar.shli v136 c7_i32
  let c63_i32 : BitVec 32 := 63#32
  let v138 : BitVec 32 := Scalar.andi v135 c63_i32
  let v139 : BitVec 32 := Scalar.ori v137 v138
  let c64_i32_311 : BitVec 32 := 64#32
  let v140 : BitVec 32 := Scalar.muli v139 c64_i32_311
  let c128_i32_313 : BitVec 32 := 128#32
  let v143 : BitVec 32 := Scalar.addi v140 c128_i32_313
  let v144 : Index := Scalar.indexCast v143
  let c0_314 : Index := 0#32
  ![v144.toNat, 0]
@[reducible] def k0_t34_loop : Scf.Loop 32 :=
  let c0_i32_153 : BitVec 32 := 0#32
  let c256_i32_154 : BitVec 32 := 256#32
  let v91 : BitVec 32 := Scalar.addi c0_i32_153 c256_i32_154
  let c1_i32_155 : BitVec 32 := 1#32
  ⟨c0_i32_153, v91, c1_i32_155⟩
def k0_off64 (k0_t34 : Fin k0_t34_loop.trips) : Fin 2 → Nat :=
  let c0_i32_153 : BitVec 32 := 0#32
  let c1_i32_155 : BitVec 32 := 1#32
  let arg5 : BitVec 32 := Scf.iv c0_i32_153 c1_i32_155 k0_t34
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c6_i32 : BitVec 32 := 6#32
  let v136 : BitVec 32 := Scalar.shrsi v135 c6_i32
  let c7_i32 : BitVec 32 := 7#32
  let v137 : BitVec 32 := Scalar.shli v136 c7_i32
  let c63_i32 : BitVec 32 := 63#32
  let v138 : BitVec 32 := Scalar.andi v135 c63_i32
  let v139 : BitVec 32 := Scalar.ori v137 v138
  let c64_i32_311 : BitVec 32 := 64#32
  let v140 : BitVec 32 := Scalar.ori v139 c64_i32_311
  let c64_i32_312 : BitVec 32 := 64#32
  let v141 : BitVec 32 := Scalar.muli v140 c64_i32_312
  let v142 : Index := Scalar.indexCast v141
  let c0_313 : Index := 0#32
  ![v142.toNat, 0]
def k0_off65 (k0_t34 : Fin k0_t34_loop.trips) : Fin 2 → Nat :=
  let c0_i32_153 : BitVec 32 := 0#32
  let c1_i32_155 : BitVec 32 := 1#32
  let arg5 : BitVec 32 := Scf.iv c0_i32_153 c1_i32_155 k0_t34
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c6_i32 : BitVec 32 := 6#32
  let v136 : BitVec 32 := Scalar.shrsi v135 c6_i32
  let c7_i32 : BitVec 32 := 7#32
  let v137 : BitVec 32 := Scalar.shli v136 c7_i32
  let c63_i32 : BitVec 32 := 63#32
  let v138 : BitVec 32 := Scalar.andi v135 c63_i32
  let v139 : BitVec 32 := Scalar.ori v137 v138
  let c64_i32_311 : BitVec 32 := 64#32
  let v140 : BitVec 32 := Scalar.ori v139 c64_i32_311
  let c64_i32_312 : BitVec 32 := 64#32
  let v141 : BitVec 32 := Scalar.muli v140 c64_i32_312
  let c128_i32_314 : BitVec 32 := 128#32
  let v144 : BitVec 32 := Scalar.addi v141 c128_i32_314
  let v145 : Index := Scalar.indexCast v144
  let c0_315 : Index := 0#32
  ![v145.toNat, 0]
@[reducible] def k0_t35_loop : Scf.Loop 32 :=
  let c0_i32_157 : BitVec 32 := 0#32
  let c256_i32_158 : BitVec 32 := 256#32
  let v92 : BitVec 32 := Scalar.addi c0_i32_157 c256_i32_158
  let c1_i32_159 : BitVec 32 := 1#32
  ⟨c0_i32_157, v92, c1_i32_159⟩
def k0_off66 (k0_t35 : Fin k0_t35_loop.trips) : Fin 2 → Nat :=
  let c0_i32_157 : BitVec 32 := 0#32
  let c1_i32_159 : BitVec 32 := 1#32
  let arg5 : BitVec 32 := Scf.iv c0_i32_157 c1_i32_159 k0_t35
  let c5_i32 : BitVec 32 := 5#32
  let v132 : BitVec 32 := Scalar.shrsi arg5 c5_i32
  let c6_i32 : BitVec 32 := 6#32
  let v133 : BitVec 32 := Scalar.shli v132 c6_i32
  let c31_i32 : BitVec 32 := 31#32
  let v134 : BitVec 32 := Scalar.andi arg5 c31_i32
  let v135 : BitVec 32 := Scalar.ori v133 v134
  let c128_i32_308 : BitVec 32 := 128#32
  let v136 : BitVec 32 := Scalar.muli v135 c128_i32_308
  let v137 : Index := Scalar.indexCast v136
  let c0_309 : Index := 0#32
  ![v137.toNat, 0]
@[reducible] def k0_t36_loop : Scf.Loop 32 :=
  let c0_i32_161 : BitVec 32 := 0#32
  let c256_i32_162 : BitVec 32 := 256#32
  let v93 : BitVec 32 := Scalar.addi c0_i32_161 c256_i32_162
  let c1_i32_163 : BitVec 32 := 1#32
  ⟨c0_i32_161, v93, c1_i32_163⟩
def k0_off67 (k0_t36 : Fin k0_t36_loop.trips) : Fin 2 → Nat :=
  let c0_i32_161 : BitVec 32 := 0#32
  let c1_i32_163 : BitVec 32 := 1#32
  let arg5 : BitVec 32 := Scf.iv c0_i32_161 c1_i32_163 k0_t36
  let c5_i32 : BitVec 32 := 5#32
  let v132 : BitVec 32 := Scalar.shrsi arg5 c5_i32
  let c6_i32 : BitVec 32 := 6#32
  let v133 : BitVec 32 := Scalar.shli v132 c6_i32
  let c31_i32 : BitVec 32 := 31#32
  let v134 : BitVec 32 := Scalar.andi arg5 c31_i32
  let v135 : BitVec 32 := Scalar.ori v133 v134
  let c32_i32_308 : BitVec 32 := 32#32
  let v136 : BitVec 32 := Scalar.ori v135 c32_i32_308
  let c128_i32_309 : BitVec 32 := 128#32
  let v137 : BitVec 32 := Scalar.muli v136 c128_i32_309
  let v138 : Index := Scalar.indexCast v137
  let c0_310 : Index := 0#32
  ![v138.toNat, 0]
@[reducible] def k0_t37_loop : Scf.Loop 32 :=
  let c0_i32_165 : BitVec 32 := 0#32
  let c128_i32_166 : BitVec 32 := 128#32
  let v94 : BitVec 32 := Scalar.addi c0_i32_165 c128_i32_166
  let c1_i32_167 : BitVec 32 := 1#32
  ⟨c0_i32_165, v94, c1_i32_167⟩
def k0_off68 (k0_t37 : Fin k0_t37_loop.trips) : Fin 2 → Nat :=
  let c0_i32_165 : BitVec 32 := 0#32
  let c1_i32_167 : BitVec 32 := 1#32
  let arg5 : BitVec 32 := Scf.iv c0_i32_165 c1_i32_167 k0_t37
  let c5_i32 : BitVec 32 := 5#32
  let v132 : BitVec 32 := Scalar.shrsi arg5 c5_i32
  let c6_i32 : BitVec 32 := 6#32
  let v133 : BitVec 32 := Scalar.shli v132 c6_i32
  let c31_i32 : BitVec 32 := 31#32
  let v134 : BitVec 32 := Scalar.andi arg5 c31_i32
  let v135 : BitVec 32 := Scalar.ori v133 v134
  let c6_i32_308 : BitVec 32 := 6#32
  let v136 : BitVec 32 := Scalar.shrsi v135 c6_i32_308
  let c7_i32 : BitVec 32 := 7#32
  let v137 : BitVec 32 := Scalar.shli v136 c7_i32
  let c63_i32 : BitVec 32 := 63#32
  let v138 : BitVec 32 := Scalar.andi v135 c63_i32
  let v139 : BitVec 32 := Scalar.ori v137 v138
  let c7_i32_309 : BitVec 32 := 7#32
  let v140 : BitVec 32 := Scalar.shrsi v139 c7_i32_309
  let c8_i32_310 : BitVec 32 := 8#32
  let v141 : BitVec 32 := Scalar.shli v140 c8_i32_310
  let c127_i32 : BitVec 32 := 127#32
  let v142 : BitVec 32 := Scalar.andi v139 c127_i32
  let v143 : BitVec 32 := Scalar.ori v141 v142
  let c64_i32_311 : BitVec 32 := 64#32
  let v144 : BitVec 32 := Scalar.muli v143 c64_i32_311
  let v145 : Index := Scalar.indexCast v144
  let c0_312 : Index := 0#32
  ![v145.toNat, 0]
def k0_off69 (k0_t37 : Fin k0_t37_loop.trips) (c2048_i32 : BitVec 32) : Fin 2 → Nat :=
  let c0_i32_165 : BitVec 32 := 0#32
  let c1_i32_167 : BitVec 32 := 1#32
  let arg5 : BitVec 32 := Scf.iv c0_i32_165 c1_i32_167 k0_t37
  let c5_i32 : BitVec 32 := 5#32
  let v132 : BitVec 32 := Scalar.shrsi arg5 c5_i32
  let c6_i32 : BitVec 32 := 6#32
  let v133 : BitVec 32 := Scalar.shli v132 c6_i32
  let c31_i32 : BitVec 32 := 31#32
  let v134 : BitVec 32 := Scalar.andi arg5 c31_i32
  let v135 : BitVec 32 := Scalar.ori v133 v134
  let c6_i32_308 : BitVec 32 := 6#32
  let v136 : BitVec 32 := Scalar.shrsi v135 c6_i32_308
  let c7_i32 : BitVec 32 := 7#32
  let v137 : BitVec 32 := Scalar.shli v136 c7_i32
  let c63_i32 : BitVec 32 := 63#32
  let v138 : BitVec 32 := Scalar.andi v135 c63_i32
  let v139 : BitVec 32 := Scalar.ori v137 v138
  let c7_i32_309 : BitVec 32 := 7#32
  let v140 : BitVec 32 := Scalar.shrsi v139 c7_i32_309
  let c8_i32_310 : BitVec 32 := 8#32
  let v141 : BitVec 32 := Scalar.shli v140 c8_i32_310
  let c127_i32 : BitVec 32 := 127#32
  let v142 : BitVec 32 := Scalar.andi v139 c127_i32
  let v143 : BitVec 32 := Scalar.ori v141 v142
  let c64_i32_311 : BitVec 32 := 64#32
  let v144 : BitVec 32 := Scalar.muli v143 c64_i32_311
  let v147 : BitVec 32 := Scalar.addi v144 c2048_i32
  let v148 : Index := Scalar.indexCast v147
  let c0_313 : Index := 0#32
  ![v148.toNat, 0]
def k0_off70 (k0_t37 : Fin k0_t37_loop.trips) : Fin 2 → Nat :=
  let c0_i32_165 : BitVec 32 := 0#32
  let c1_i32_167 : BitVec 32 := 1#32
  let arg5 : BitVec 32 := Scf.iv c0_i32_165 c1_i32_167 k0_t37
  let c5_i32 : BitVec 32 := 5#32
  let v132 : BitVec 32 := Scalar.shrsi arg5 c5_i32
  let c6_i32 : BitVec 32 := 6#32
  let v133 : BitVec 32 := Scalar.shli v132 c6_i32
  let c31_i32 : BitVec 32 := 31#32
  let v134 : BitVec 32 := Scalar.andi arg5 c31_i32
  let v135 : BitVec 32 := Scalar.ori v133 v134
  let c6_i32_308 : BitVec 32 := 6#32
  let v136 : BitVec 32 := Scalar.shrsi v135 c6_i32_308
  let c7_i32 : BitVec 32 := 7#32
  let v137 : BitVec 32 := Scalar.shli v136 c7_i32
  let c63_i32 : BitVec 32 := 63#32
  let v138 : BitVec 32 := Scalar.andi v135 c63_i32
  let v139 : BitVec 32 := Scalar.ori v137 v138
  let c7_i32_309 : BitVec 32 := 7#32
  let v140 : BitVec 32 := Scalar.shrsi v139 c7_i32_309
  let c8_i32_310 : BitVec 32 := 8#32
  let v141 : BitVec 32 := Scalar.shli v140 c8_i32_310
  let c127_i32 : BitVec 32 := 127#32
  let v142 : BitVec 32 := Scalar.andi v139 c127_i32
  let v143 : BitVec 32 := Scalar.ori v141 v142
  let c64_i32_311 : BitVec 32 := 64#32
  let v144 : BitVec 32 := Scalar.muli v143 c64_i32_311
  let c4096_i32_315 : BitVec 32 := 4096#32
  let v153 : BitVec 32 := Scalar.addi v144 c4096_i32_315
  let c2048_i32_316 : BitVec 32 := 2048#32
  let v154 : BitVec 32 := Scalar.addi v153 c2048_i32_316
  let v155 : Index := Scalar.indexCast v154
  let c0_317 : Index := 0#32
  ![v155.toNat, 0]
@[reducible] def k0_t38_loop : Scf.Loop 32 :=
  let c0_i32_169 : BitVec 32 := 0#32
  let c128_i32_170 : BitVec 32 := 128#32
  let v95 : BitVec 32 := Scalar.addi c0_i32_169 c128_i32_170
  let c1_i32_171 : BitVec 32 := 1#32
  ⟨c0_i32_169, v95, c1_i32_171⟩
def k0_off71 (k0_t38 : Fin k0_t38_loop.trips) : Fin 2 → Nat :=
  let c0_i32_169 : BitVec 32 := 0#32
  let c1_i32_171 : BitVec 32 := 1#32
  let arg5 : BitVec 32 := Scf.iv c0_i32_169 c1_i32_171 k0_t38
  let c5_i32 : BitVec 32 := 5#32
  let v132 : BitVec 32 := Scalar.shrsi arg5 c5_i32
  let c6_i32 : BitVec 32 := 6#32
  let v133 : BitVec 32 := Scalar.shli v132 c6_i32
  let c31_i32 : BitVec 32 := 31#32
  let v134 : BitVec 32 := Scalar.andi arg5 c31_i32
  let v135 : BitVec 32 := Scalar.ori v133 v134
  let c6_i32_308 : BitVec 32 := 6#32
  let v136 : BitVec 32 := Scalar.shrsi v135 c6_i32_308
  let c7_i32 : BitVec 32 := 7#32
  let v137 : BitVec 32 := Scalar.shli v136 c7_i32
  let c63_i32 : BitVec 32 := 63#32
  let v138 : BitVec 32 := Scalar.andi v135 c63_i32
  let v139 : BitVec 32 := Scalar.ori v137 v138
  let c7_i32_309 : BitVec 32 := 7#32
  let v140 : BitVec 32 := Scalar.shrsi v139 c7_i32_309
  let c8_i32_310 : BitVec 32 := 8#32
  let v141 : BitVec 32 := Scalar.shli v140 c8_i32_310
  let c127_i32 : BitVec 32 := 127#32
  let v142 : BitVec 32 := Scalar.andi v139 c127_i32
  let v143 : BitVec 32 := Scalar.ori v141 v142
  let c128_i32_311 : BitVec 32 := 128#32
  let v144 : BitVec 32 := Scalar.ori v143 c128_i32_311
  let c64_i32_312 : BitVec 32 := 64#32
  let v145 : BitVec 32 := Scalar.muli v144 c64_i32_312
  let v146 : Index := Scalar.indexCast v145
  let c0_313 : Index := 0#32
  ![v146.toNat, 0]
def k0_off72 (k0_t38 : Fin k0_t38_loop.trips) (c2048_i32 : BitVec 32) : Fin 2 → Nat :=
  let c0_i32_169 : BitVec 32 := 0#32
  let c1_i32_171 : BitVec 32 := 1#32
  let arg5 : BitVec 32 := Scf.iv c0_i32_169 c1_i32_171 k0_t38
  let c5_i32 : BitVec 32 := 5#32
  let v132 : BitVec 32 := Scalar.shrsi arg5 c5_i32
  let c6_i32 : BitVec 32 := 6#32
  let v133 : BitVec 32 := Scalar.shli v132 c6_i32
  let c31_i32 : BitVec 32 := 31#32
  let v134 : BitVec 32 := Scalar.andi arg5 c31_i32
  let v135 : BitVec 32 := Scalar.ori v133 v134
  let c6_i32_308 : BitVec 32 := 6#32
  let v136 : BitVec 32 := Scalar.shrsi v135 c6_i32_308
  let c7_i32 : BitVec 32 := 7#32
  let v137 : BitVec 32 := Scalar.shli v136 c7_i32
  let c63_i32 : BitVec 32 := 63#32
  let v138 : BitVec 32 := Scalar.andi v135 c63_i32
  let v139 : BitVec 32 := Scalar.ori v137 v138
  let c7_i32_309 : BitVec 32 := 7#32
  let v140 : BitVec 32 := Scalar.shrsi v139 c7_i32_309
  let c8_i32_310 : BitVec 32 := 8#32
  let v141 : BitVec 32 := Scalar.shli v140 c8_i32_310
  let c127_i32 : BitVec 32 := 127#32
  let v142 : BitVec 32 := Scalar.andi v139 c127_i32
  let v143 : BitVec 32 := Scalar.ori v141 v142
  let c128_i32_311 : BitVec 32 := 128#32
  let v144 : BitVec 32 := Scalar.ori v143 c128_i32_311
  let c64_i32_312 : BitVec 32 := 64#32
  let v145 : BitVec 32 := Scalar.muli v144 c64_i32_312
  let v148 : BitVec 32 := Scalar.addi v145 c2048_i32
  let v149 : Index := Scalar.indexCast v148
  let c0_314 : Index := 0#32
  ![v149.toNat, 0]
def k0_off73 (k0_t38 : Fin k0_t38_loop.trips) : Fin 2 → Nat :=
  let c0_i32_169 : BitVec 32 := 0#32
  let c1_i32_171 : BitVec 32 := 1#32
  let arg5 : BitVec 32 := Scf.iv c0_i32_169 c1_i32_171 k0_t38
  let c5_i32 : BitVec 32 := 5#32
  let v132 : BitVec 32 := Scalar.shrsi arg5 c5_i32
  let c6_i32 : BitVec 32 := 6#32
  let v133 : BitVec 32 := Scalar.shli v132 c6_i32
  let c31_i32 : BitVec 32 := 31#32
  let v134 : BitVec 32 := Scalar.andi arg5 c31_i32
  let v135 : BitVec 32 := Scalar.ori v133 v134
  let c6_i32_308 : BitVec 32 := 6#32
  let v136 : BitVec 32 := Scalar.shrsi v135 c6_i32_308
  let c7_i32 : BitVec 32 := 7#32
  let v137 : BitVec 32 := Scalar.shli v136 c7_i32
  let c63_i32 : BitVec 32 := 63#32
  let v138 : BitVec 32 := Scalar.andi v135 c63_i32
  let v139 : BitVec 32 := Scalar.ori v137 v138
  let c7_i32_309 : BitVec 32 := 7#32
  let v140 : BitVec 32 := Scalar.shrsi v139 c7_i32_309
  let c8_i32_310 : BitVec 32 := 8#32
  let v141 : BitVec 32 := Scalar.shli v140 c8_i32_310
  let c127_i32 : BitVec 32 := 127#32
  let v142 : BitVec 32 := Scalar.andi v139 c127_i32
  let v143 : BitVec 32 := Scalar.ori v141 v142
  let c128_i32_311 : BitVec 32 := 128#32
  let v144 : BitVec 32 := Scalar.ori v143 c128_i32_311
  let c64_i32_312 : BitVec 32 := 64#32
  let v145 : BitVec 32 := Scalar.muli v144 c64_i32_312
  let c4096_i32_316 : BitVec 32 := 4096#32
  let v154 : BitVec 32 := Scalar.addi v145 c4096_i32_316
  let c2048_i32_317 : BitVec 32 := 2048#32
  let v155 : BitVec 32 := Scalar.addi v154 c2048_i32_317
  let v156 : Index := Scalar.indexCast v155
  let c0_318 : Index := 0#32
  ![v156.toNat, 0]
@[reducible] def k0_t39_loop : Scf.Loop 32 :=
  let c0_i32_173 : BitVec 32 := 0#32
  let c128_i32_174 : BitVec 32 := 128#32
  let v96 : BitVec 32 := Scalar.addi c0_i32_173 c128_i32_174
  let c1_i32_175 : BitVec 32 := 1#32
  ⟨c0_i32_173, v96, c1_i32_175⟩
def k0_off74 (k0_t39 : Fin k0_t39_loop.trips) : Fin 2 → Nat :=
  let c0_i32_173 : BitVec 32 := 0#32
  let c1_i32_175 : BitVec 32 := 1#32
  let arg5 : BitVec 32 := Scf.iv c0_i32_173 c1_i32_175 k0_t39
  let c3_i32 : BitVec 32 := 3#32
  let v132 : BitVec 32 := Scalar.shrsi arg5 c3_i32
  let c4_i32_308 : BitVec 32 := 4#32
  let v133 : BitVec 32 := Scalar.shli v132 c4_i32_308
  let c7_i32 : BitVec 32 := 7#32
  let v134 : BitVec 32 := Scalar.andi arg5 c7_i32
  let v135 : BitVec 32 := Scalar.ori v133 v134
  let c4_i32_309 : BitVec 32 := 4#32
  let v136 : BitVec 32 := Scalar.shrsi v135 c4_i32_309
  let c5_i32 : BitVec 32 := 5#32
  let v137 : BitVec 32 := Scalar.shli v136 c5_i32
  let c15_i32 : BitVec 32 := 15#32
  let v138 : BitVec 32 := Scalar.andi v135 c15_i32
  let v139 : BitVec 32 := Scalar.ori v137 v138
  let c7_i32_310 : BitVec 32 := 7#32
  let v140 : BitVec 32 := Scalar.shrsi v139 c7_i32_310
  let c8_i32_311 : BitVec 32 := 8#32
  let v141 : BitVec 32 := Scalar.shli v140 c8_i32_311
  let c127_i32 : BitVec 32 := 127#32
  let v142 : BitVec 32 := Scalar.andi v139 c127_i32
  let v143 : BitVec 32 := Scalar.ori v141 v142
  let c64_i32_312 : BitVec 32 := 64#32
  let v144 : BitVec 32 := Scalar.muli v143 c64_i32_312
  let v145 : Index := Scalar.indexCast v144
  let c0_313 : Index := 0#32
  ![v145.toNat, 0]
def k0_off75 (k0_t39 : Fin k0_t39_loop.trips) (c512_i32_314 : BitVec 32) : Fin 2 → Nat :=
  let c0_i32_173 : BitVec 32 := 0#32
  let c1_i32_175 : BitVec 32 := 1#32
  let arg5 : BitVec 32 := Scf.iv c0_i32_173 c1_i32_175 k0_t39
  let c3_i32 : BitVec 32 := 3#32
  let v132 : BitVec 32 := Scalar.shrsi arg5 c3_i32
  let c4_i32_308 : BitVec 32 := 4#32
  let v133 : BitVec 32 := Scalar.shli v132 c4_i32_308
  let c7_i32 : BitVec 32 := 7#32
  let v134 : BitVec 32 := Scalar.andi arg5 c7_i32
  let v135 : BitVec 32 := Scalar.ori v133 v134
  let c4_i32_309 : BitVec 32 := 4#32
  let v136 : BitVec 32 := Scalar.shrsi v135 c4_i32_309
  let c5_i32 : BitVec 32 := 5#32
  let v137 : BitVec 32 := Scalar.shli v136 c5_i32
  let c15_i32 : BitVec 32 := 15#32
  let v138 : BitVec 32 := Scalar.andi v135 c15_i32
  let v139 : BitVec 32 := Scalar.ori v137 v138
  let c7_i32_310 : BitVec 32 := 7#32
  let v140 : BitVec 32 := Scalar.shrsi v139 c7_i32_310
  let c8_i32_311 : BitVec 32 := 8#32
  let v141 : BitVec 32 := Scalar.shli v140 c8_i32_311
  let c127_i32 : BitVec 32 := 127#32
  let v142 : BitVec 32 := Scalar.andi v139 c127_i32
  let v143 : BitVec 32 := Scalar.ori v141 v142
  let c64_i32_312 : BitVec 32 := 64#32
  let v144 : BitVec 32 := Scalar.muli v143 c64_i32_312
  let v147 : BitVec 32 := Scalar.addi v144 c512_i32_314
  let v148 : Index := Scalar.indexCast v147
  let c0_315 : Index := 0#32
  ![v148.toNat, 0]
def k0_off76 (k0_t39 : Fin k0_t39_loop.trips) : Fin 2 → Nat :=
  let c0_i32_173 : BitVec 32 := 0#32
  let c1_i32_175 : BitVec 32 := 1#32
  let arg5 : BitVec 32 := Scf.iv c0_i32_173 c1_i32_175 k0_t39
  let c3_i32 : BitVec 32 := 3#32
  let v132 : BitVec 32 := Scalar.shrsi arg5 c3_i32
  let c4_i32_308 : BitVec 32 := 4#32
  let v133 : BitVec 32 := Scalar.shli v132 c4_i32_308
  let c7_i32 : BitVec 32 := 7#32
  let v134 : BitVec 32 := Scalar.andi arg5 c7_i32
  let v135 : BitVec 32 := Scalar.ori v133 v134
  let c4_i32_309 : BitVec 32 := 4#32
  let v136 : BitVec 32 := Scalar.shrsi v135 c4_i32_309
  let c5_i32 : BitVec 32 := 5#32
  let v137 : BitVec 32 := Scalar.shli v136 c5_i32
  let c15_i32 : BitVec 32 := 15#32
  let v138 : BitVec 32 := Scalar.andi v135 c15_i32
  let v139 : BitVec 32 := Scalar.ori v137 v138
  let c7_i32_310 : BitVec 32 := 7#32
  let v140 : BitVec 32 := Scalar.shrsi v139 c7_i32_310
  let c8_i32_311 : BitVec 32 := 8#32
  let v141 : BitVec 32 := Scalar.shli v140 c8_i32_311
  let c127_i32 : BitVec 32 := 127#32
  let v142 : BitVec 32 := Scalar.andi v139 c127_i32
  let v143 : BitVec 32 := Scalar.ori v141 v142
  let c64_i32_312 : BitVec 32 := 64#32
  let v144 : BitVec 32 := Scalar.muli v143 c64_i32_312
  let c1024_i32_317 : BitVec 32 := 1024#32
  let v153 : BitVec 32 := Scalar.addi v144 c1024_i32_317
  let c512_i32_318 : BitVec 32 := 512#32
  let v154 : BitVec 32 := Scalar.addi v153 c512_i32_318
  let v155 : Index := Scalar.indexCast v154
  let c0_319 : Index := 0#32
  ![v155.toNat, 0]
@[reducible] def k0_t40_loop : Scf.Loop 32 :=
  let c0_i32_177 : BitVec 32 := 0#32
  let c128_i32_178 : BitVec 32 := 128#32
  let v97 : BitVec 32 := Scalar.addi c0_i32_177 c128_i32_178
  let c1_i32_179 : BitVec 32 := 1#32
  ⟨c0_i32_177, v97, c1_i32_179⟩
def k0_off77 (k0_t40 : Fin k0_t40_loop.trips) : Fin 2 → Nat :=
  let c0_i32_177 : BitVec 32 := 0#32
  let c1_i32_179 : BitVec 32 := 1#32
  let arg5 : BitVec 32 := Scf.iv c0_i32_177 c1_i32_179 k0_t40
  let c3_i32 : BitVec 32 := 3#32
  let v132 : BitVec 32 := Scalar.shrsi arg5 c3_i32
  let c4_i32_308 : BitVec 32 := 4#32
  let v133 : BitVec 32 := Scalar.shli v132 c4_i32_308
  let c7_i32 : BitVec 32 := 7#32
  let v134 : BitVec 32 := Scalar.andi arg5 c7_i32
  let v135 : BitVec 32 := Scalar.ori v133 v134
  let c4_i32_309 : BitVec 32 := 4#32
  let v136 : BitVec 32 := Scalar.shrsi v135 c4_i32_309
  let c5_i32 : BitVec 32 := 5#32
  let v137 : BitVec 32 := Scalar.shli v136 c5_i32
  let c15_i32 : BitVec 32 := 15#32
  let v138 : BitVec 32 := Scalar.andi v135 c15_i32
  let v139 : BitVec 32 := Scalar.ori v137 v138
  let c7_i32_310 : BitVec 32 := 7#32
  let v140 : BitVec 32 := Scalar.shrsi v139 c7_i32_310
  let c8_i32_311 : BitVec 32 := 8#32
  let v141 : BitVec 32 := Scalar.shli v140 c8_i32_311
  let c127_i32 : BitVec 32 := 127#32
  let v142 : BitVec 32 := Scalar.andi v139 c127_i32
  let v143 : BitVec 32 := Scalar.ori v141 v142
  let c128_i32_312 : BitVec 32 := 128#32
  let v144 : BitVec 32 := Scalar.ori v143 c128_i32_312
  let c64_i32_313 : BitVec 32 := 64#32
  let v145 : BitVec 32 := Scalar.muli v144 c64_i32_313
  let v146 : Index := Scalar.indexCast v145
  let c0_314 : Index := 0#32
  ![v146.toNat, 0]
def k0_off78 (k0_t40 : Fin k0_t40_loop.trips) (c512_i32_315 : BitVec 32) : Fin 2 → Nat :=
  let c0_i32_177 : BitVec 32 := 0#32
  let c1_i32_179 : BitVec 32 := 1#32
  let arg5 : BitVec 32 := Scf.iv c0_i32_177 c1_i32_179 k0_t40
  let c3_i32 : BitVec 32 := 3#32
  let v132 : BitVec 32 := Scalar.shrsi arg5 c3_i32
  let c4_i32_308 : BitVec 32 := 4#32
  let v133 : BitVec 32 := Scalar.shli v132 c4_i32_308
  let c7_i32 : BitVec 32 := 7#32
  let v134 : BitVec 32 := Scalar.andi arg5 c7_i32
  let v135 : BitVec 32 := Scalar.ori v133 v134
  let c4_i32_309 : BitVec 32 := 4#32
  let v136 : BitVec 32 := Scalar.shrsi v135 c4_i32_309
  let c5_i32 : BitVec 32 := 5#32
  let v137 : BitVec 32 := Scalar.shli v136 c5_i32
  let c15_i32 : BitVec 32 := 15#32
  let v138 : BitVec 32 := Scalar.andi v135 c15_i32
  let v139 : BitVec 32 := Scalar.ori v137 v138
  let c7_i32_310 : BitVec 32 := 7#32
  let v140 : BitVec 32 := Scalar.shrsi v139 c7_i32_310
  let c8_i32_311 : BitVec 32 := 8#32
  let v141 : BitVec 32 := Scalar.shli v140 c8_i32_311
  let c127_i32 : BitVec 32 := 127#32
  let v142 : BitVec 32 := Scalar.andi v139 c127_i32
  let v143 : BitVec 32 := Scalar.ori v141 v142
  let c128_i32_312 : BitVec 32 := 128#32
  let v144 : BitVec 32 := Scalar.ori v143 c128_i32_312
  let c64_i32_313 : BitVec 32 := 64#32
  let v145 : BitVec 32 := Scalar.muli v144 c64_i32_313
  let v148 : BitVec 32 := Scalar.addi v145 c512_i32_315
  let v149 : Index := Scalar.indexCast v148
  let c0_316 : Index := 0#32
  ![v149.toNat, 0]
def k0_off79 (k0_t40 : Fin k0_t40_loop.trips) : Fin 2 → Nat :=
  let c0_i32_177 : BitVec 32 := 0#32
  let c1_i32_179 : BitVec 32 := 1#32
  let arg5 : BitVec 32 := Scf.iv c0_i32_177 c1_i32_179 k0_t40
  let c3_i32 : BitVec 32 := 3#32
  let v132 : BitVec 32 := Scalar.shrsi arg5 c3_i32
  let c4_i32_308 : BitVec 32 := 4#32
  let v133 : BitVec 32 := Scalar.shli v132 c4_i32_308
  let c7_i32 : BitVec 32 := 7#32
  let v134 : BitVec 32 := Scalar.andi arg5 c7_i32
  let v135 : BitVec 32 := Scalar.ori v133 v134
  let c4_i32_309 : BitVec 32 := 4#32
  let v136 : BitVec 32 := Scalar.shrsi v135 c4_i32_309
  let c5_i32 : BitVec 32 := 5#32
  let v137 : BitVec 32 := Scalar.shli v136 c5_i32
  let c15_i32 : BitVec 32 := 15#32
  let v138 : BitVec 32 := Scalar.andi v135 c15_i32
  let v139 : BitVec 32 := Scalar.ori v137 v138
  let c7_i32_310 : BitVec 32 := 7#32
  let v140 : BitVec 32 := Scalar.shrsi v139 c7_i32_310
  let c8_i32_311 : BitVec 32 := 8#32
  let v141 : BitVec 32 := Scalar.shli v140 c8_i32_311
  let c127_i32 : BitVec 32 := 127#32
  let v142 : BitVec 32 := Scalar.andi v139 c127_i32
  let v143 : BitVec 32 := Scalar.ori v141 v142
  let c128_i32_312 : BitVec 32 := 128#32
  let v144 : BitVec 32 := Scalar.ori v143 c128_i32_312
  let c64_i32_313 : BitVec 32 := 64#32
  let v145 : BitVec 32 := Scalar.muli v144 c64_i32_313
  let c1024_i32_318 : BitVec 32 := 1024#32
  let v154 : BitVec 32 := Scalar.addi v145 c1024_i32_318
  let c512_i32_319 : BitVec 32 := 512#32
  let v155 : BitVec 32 := Scalar.addi v154 c512_i32_319
  let v156 : Index := Scalar.indexCast v155
  let c0_320 : Index := 0#32
  ![v156.toNat, 0]
@[reducible] def k0_t41_loop : Scf.Loop 32 :=
  let c0_i32_181 : BitVec 32 := 0#32
  let c128_i32_182 : BitVec 32 := 128#32
  let v98 : BitVec 32 := Scalar.addi c0_i32_181 c128_i32_182
  let c1_i32_183 : BitVec 32 := 1#32
  ⟨c0_i32_181, v98, c1_i32_183⟩
def k0_off80 (k0_t41 : Fin k0_t41_loop.trips) : Fin 2 → Nat :=
  let c0_i32_181 : BitVec 32 := 0#32
  let c1_i32_183 : BitVec 32 := 1#32
  let arg5 : BitVec 32 := Scf.iv c0_i32_181 c1_i32_183 k0_t41
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c7_i32 : BitVec 32 := 7#32
  let v140 : BitVec 32 := Scalar.shrsi v139 c7_i32
  let c8_i32_313 : BitVec 32 := 8#32
  let v141 : BitVec 32 := Scalar.shli v140 c8_i32_313
  let c127_i32 : BitVec 32 := 127#32
  let v142 : BitVec 32 := Scalar.andi v139 c127_i32
  let v143 : BitVec 32 := Scalar.ori v141 v142
  let c64_i32_314 : BitVec 32 := 64#32
  let v144 : BitVec 32 := Scalar.muli v143 c64_i32_314
  let v145 : Index := Scalar.indexCast v144
  let c0_315 : Index := 0#32
  ![v145.toNat, 0]
def k0_off81 (k0_t41 : Fin k0_t41_loop.trips) (c128_i32_316 : BitVec 32) : Fin 2 → Nat :=
  let c0_i32_181 : BitVec 32 := 0#32
  let c1_i32_183 : BitVec 32 := 1#32
  let arg5 : BitVec 32 := Scf.iv c0_i32_181 c1_i32_183 k0_t41
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c7_i32 : BitVec 32 := 7#32
  let v140 : BitVec 32 := Scalar.shrsi v139 c7_i32
  let c8_i32_313 : BitVec 32 := 8#32
  let v141 : BitVec 32 := Scalar.shli v140 c8_i32_313
  let c127_i32 : BitVec 32 := 127#32
  let v142 : BitVec 32 := Scalar.andi v139 c127_i32
  let v143 : BitVec 32 := Scalar.ori v141 v142
  let c64_i32_314 : BitVec 32 := 64#32
  let v144 : BitVec 32 := Scalar.muli v143 c64_i32_314
  let v147 : BitVec 32 := Scalar.addi v144 c128_i32_316
  let v148 : Index := Scalar.indexCast v147
  let c0_317 : Index := 0#32
  ![v148.toNat, 0]
def k0_off82 (k0_t41 : Fin k0_t41_loop.trips) : Fin 2 → Nat :=
  let c0_i32_181 : BitVec 32 := 0#32
  let c1_i32_183 : BitVec 32 := 1#32
  let arg5 : BitVec 32 := Scf.iv c0_i32_181 c1_i32_183 k0_t41
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c7_i32 : BitVec 32 := 7#32
  let v140 : BitVec 32 := Scalar.shrsi v139 c7_i32
  let c8_i32_313 : BitVec 32 := 8#32
  let v141 : BitVec 32 := Scalar.shli v140 c8_i32_313
  let c127_i32 : BitVec 32 := 127#32
  let v142 : BitVec 32 := Scalar.andi v139 c127_i32
  let v143 : BitVec 32 := Scalar.ori v141 v142
  let c64_i32_314 : BitVec 32 := 64#32
  let v144 : BitVec 32 := Scalar.muli v143 c64_i32_314
  let c256_i32_320 : BitVec 32 := 256#32
  let v153 : BitVec 32 := Scalar.addi v144 c256_i32_320
  let c128_i32_321 : BitVec 32 := 128#32
  let v154 : BitVec 32 := Scalar.addi v153 c128_i32_321
  let v155 : Index := Scalar.indexCast v154
  let c0_322 : Index := 0#32
  ![v155.toNat, 0]
@[reducible] def k0_t42_loop : Scf.Loop 32 :=
  let c0_i32_185 : BitVec 32 := 0#32
  let c128_i32_186 : BitVec 32 := 128#32
  let v99 : BitVec 32 := Scalar.addi c0_i32_185 c128_i32_186
  let c1_i32_187 : BitVec 32 := 1#32
  ⟨c0_i32_185, v99, c1_i32_187⟩
def k0_off83 (k0_t42 : Fin k0_t42_loop.trips) : Fin 2 → Nat :=
  let c0_i32_185 : BitVec 32 := 0#32
  let c1_i32_187 : BitVec 32 := 1#32
  let arg5 : BitVec 32 := Scf.iv c0_i32_185 c1_i32_187 k0_t42
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c7_i32 : BitVec 32 := 7#32
  let v140 : BitVec 32 := Scalar.shrsi v139 c7_i32
  let c8_i32_313 : BitVec 32 := 8#32
  let v141 : BitVec 32 := Scalar.shli v140 c8_i32_313
  let c127_i32 : BitVec 32 := 127#32
  let v142 : BitVec 32 := Scalar.andi v139 c127_i32
  let v143 : BitVec 32 := Scalar.ori v141 v142
  let c128_i32_314 : BitVec 32 := 128#32
  let v144 : BitVec 32 := Scalar.ori v143 c128_i32_314
  let c64_i32_315 : BitVec 32 := 64#32
  let v145 : BitVec 32 := Scalar.muli v144 c64_i32_315
  let v146 : Index := Scalar.indexCast v145
  let c0_316 : Index := 0#32
  ![v146.toNat, 0]
def k0_off84 (k0_t42 : Fin k0_t42_loop.trips) (c128_i32_317 : BitVec 32) : Fin 2 → Nat :=
  let c0_i32_185 : BitVec 32 := 0#32
  let c1_i32_187 : BitVec 32 := 1#32
  let arg5 : BitVec 32 := Scf.iv c0_i32_185 c1_i32_187 k0_t42
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c7_i32 : BitVec 32 := 7#32
  let v140 : BitVec 32 := Scalar.shrsi v139 c7_i32
  let c8_i32_313 : BitVec 32 := 8#32
  let v141 : BitVec 32 := Scalar.shli v140 c8_i32_313
  let c127_i32 : BitVec 32 := 127#32
  let v142 : BitVec 32 := Scalar.andi v139 c127_i32
  let v143 : BitVec 32 := Scalar.ori v141 v142
  let c128_i32_314 : BitVec 32 := 128#32
  let v144 : BitVec 32 := Scalar.ori v143 c128_i32_314
  let c64_i32_315 : BitVec 32 := 64#32
  let v145 : BitVec 32 := Scalar.muli v144 c64_i32_315
  let v148 : BitVec 32 := Scalar.addi v145 c128_i32_317
  let v149 : Index := Scalar.indexCast v148
  let c0_318 : Index := 0#32
  ![v149.toNat, 0]
def k0_off85 (k0_t42 : Fin k0_t42_loop.trips) : Fin 2 → Nat :=
  let c0_i32_185 : BitVec 32 := 0#32
  let c1_i32_187 : BitVec 32 := 1#32
  let arg5 : BitVec 32 := Scf.iv c0_i32_185 c1_i32_187 k0_t42
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c7_i32 : BitVec 32 := 7#32
  let v140 : BitVec 32 := Scalar.shrsi v139 c7_i32
  let c8_i32_313 : BitVec 32 := 8#32
  let v141 : BitVec 32 := Scalar.shli v140 c8_i32_313
  let c127_i32 : BitVec 32 := 127#32
  let v142 : BitVec 32 := Scalar.andi v139 c127_i32
  let v143 : BitVec 32 := Scalar.ori v141 v142
  let c128_i32_314 : BitVec 32 := 128#32
  let v144 : BitVec 32 := Scalar.ori v143 c128_i32_314
  let c64_i32_315 : BitVec 32 := 64#32
  let v145 : BitVec 32 := Scalar.muli v144 c64_i32_315
  let c256_i32_321 : BitVec 32 := 256#32
  let v154 : BitVec 32 := Scalar.addi v145 c256_i32_321
  let c128_i32_322 : BitVec 32 := 128#32
  let v155 : BitVec 32 := Scalar.addi v154 c128_i32_322
  let v156 : Index := Scalar.indexCast v155
  let c0_323 : Index := 0#32
  ![v156.toNat, 0]
@[reducible] def k0_t43_loop : Scf.Loop 32 :=
  let c0_i32_189 : BitVec 32 := 0#32
  let c256_i32_190 : BitVec 32 := 256#32
  let v100 : BitVec 32 := Scalar.addi c0_i32_189 c256_i32_190
  let c1_i32_191 : BitVec 32 := 1#32
  ⟨c0_i32_189, v100, c1_i32_191⟩
def k0_off86 (k0_t43 : Fin k0_t43_loop.trips) : Fin 2 → Nat :=
  let c0_i32_189 : BitVec 32 := 0#32
  let c1_i32_191 : BitVec 32 := 1#32
  let arg5 : BitVec 32 := Scf.iv c0_i32_189 c1_i32_191 k0_t43
  let c6_i32 : BitVec 32 := 6#32
  let v132 : BitVec 32 := Scalar.shrsi arg5 c6_i32
  let c7_i32 : BitVec 32 := 7#32
  let v133 : BitVec 32 := Scalar.shli v132 c7_i32
  let c63_i32 : BitVec 32 := 63#32
  let v134 : BitVec 32 := Scalar.andi arg5 c63_i32
  let v135 : BitVec 32 := Scalar.ori v133 v134
  let c128_i32_308 : BitVec 32 := 128#32
  let v136 : BitVec 32 := Scalar.muli v135 c128_i32_308
  let v137 : Index := Scalar.indexCast v136
  let c0_309 : Index := 0#32
  ![v137.toNat, 0]
@[reducible] def k0_t44_loop : Scf.Loop 32 :=
  let c0_i32_193 : BitVec 32 := 0#32
  let c256_i32_194 : BitVec 32 := 256#32
  let v101 : BitVec 32 := Scalar.addi c0_i32_193 c256_i32_194
  let c1_i32_195 : BitVec 32 := 1#32
  ⟨c0_i32_193, v101, c1_i32_195⟩
def k0_off87 (k0_t44 : Fin k0_t44_loop.trips) : Fin 2 → Nat :=
  let c0_i32_193 : BitVec 32 := 0#32
  let c1_i32_195 : BitVec 32 := 1#32
  let arg5 : BitVec 32 := Scf.iv c0_i32_193 c1_i32_195 k0_t44
  let c6_i32 : BitVec 32 := 6#32
  let v132 : BitVec 32 := Scalar.shrsi arg5 c6_i32
  let c7_i32 : BitVec 32 := 7#32
  let v133 : BitVec 32 := Scalar.shli v132 c7_i32
  let c63_i32 : BitVec 32 := 63#32
  let v134 : BitVec 32 := Scalar.andi arg5 c63_i32
  let v135 : BitVec 32 := Scalar.ori v133 v134
  let c64_i32_308 : BitVec 32 := 64#32
  let v136 : BitVec 32 := Scalar.ori v135 c64_i32_308
  let c128_i32_309 : BitVec 32 := 128#32
  let v137 : BitVec 32 := Scalar.muli v136 c128_i32_309
  let v138 : Index := Scalar.indexCast v137
  let c0_310 : Index := 0#32
  ![v138.toNat, 0]
@[reducible] def k0_t45_loop : Scf.Loop 32 :=
  let c0_i32_197 : BitVec 32 := 0#32
  let c128_i32_198 : BitVec 32 := 128#32
  let v102 : BitVec 32 := Scalar.addi c0_i32_197 c128_i32_198
  let c1_i32_199 : BitVec 32 := 1#32
  ⟨c0_i32_197, v102, c1_i32_199⟩
def k0_off88 (k0_t45 : Fin k0_t45_loop.trips) : Fin 2 → Nat :=
  let c0_i32_197 : BitVec 32 := 0#32
  let c1_i32_199 : BitVec 32 := 1#32
  let arg5 : BitVec 32 := Scf.iv c0_i32_197 c1_i32_199 k0_t45
  let c6_i32 : BitVec 32 := 6#32
  let v132 : BitVec 32 := Scalar.shrsi arg5 c6_i32
  let c7_i32 : BitVec 32 := 7#32
  let v133 : BitVec 32 := Scalar.shli v132 c7_i32
  let c63_i32 : BitVec 32 := 63#32
  let v134 : BitVec 32 := Scalar.andi arg5 c63_i32
  let v135 : BitVec 32 := Scalar.ori v133 v134
  let c7_i32_308 : BitVec 32 := 7#32
  let v136 : BitVec 32 := Scalar.shrsi v135 c7_i32_308
  let c8_i32_309 : BitVec 32 := 8#32
  let v137 : BitVec 32 := Scalar.shli v136 c8_i32_309
  let c127_i32 : BitVec 32 := 127#32
  let v138 : BitVec 32 := Scalar.andi v135 c127_i32
  let v139 : BitVec 32 := Scalar.ori v137 v138
  let c8_i32_310 : BitVec 32 := 8#32
  let v140 : BitVec 32 := Scalar.shrsi v139 c8_i32_310
  let c9_i32 : BitVec 32 := 9#32
  let v141 : BitVec 32 := Scalar.shli v140 c9_i32
  let c255_i32 : BitVec 32 := 255#32
  let v142 : BitVec 32 := Scalar.andi v139 c255_i32
  let v143 : BitVec 32 := Scalar.ori v141 v142
  let c64_i32_311 : BitVec 32 := 64#32
  let v144 : BitVec 32 := Scalar.muli v143 c64_i32_311
  let v145 : Index := Scalar.indexCast v144
  let c0_312 : Index := 0#32
  ![v145.toNat, 0]
def k0_off89 (k0_t45 : Fin k0_t45_loop.trips) (c4096_i32 : BitVec 32) : Fin 2 → Nat :=
  let c0_i32_197 : BitVec 32 := 0#32
  let c1_i32_199 : BitVec 32 := 1#32
  let arg5 : BitVec 32 := Scf.iv c0_i32_197 c1_i32_199 k0_t45
  let c6_i32 : BitVec 32 := 6#32
  let v132 : BitVec 32 := Scalar.shrsi arg5 c6_i32
  let c7_i32 : BitVec 32 := 7#32
  let v133 : BitVec 32 := Scalar.shli v132 c7_i32
  let c63_i32 : BitVec 32 := 63#32
  let v134 : BitVec 32 := Scalar.andi arg5 c63_i32
  let v135 : BitVec 32 := Scalar.ori v133 v134
  let c7_i32_308 : BitVec 32 := 7#32
  let v136 : BitVec 32 := Scalar.shrsi v135 c7_i32_308
  let c8_i32_309 : BitVec 32 := 8#32
  let v137 : BitVec 32 := Scalar.shli v136 c8_i32_309
  let c127_i32 : BitVec 32 := 127#32
  let v138 : BitVec 32 := Scalar.andi v135 c127_i32
  let v139 : BitVec 32 := Scalar.ori v137 v138
  let c8_i32_310 : BitVec 32 := 8#32
  let v140 : BitVec 32 := Scalar.shrsi v139 c8_i32_310
  let c9_i32 : BitVec 32 := 9#32
  let v141 : BitVec 32 := Scalar.shli v140 c9_i32
  let c255_i32 : BitVec 32 := 255#32
  let v142 : BitVec 32 := Scalar.andi v139 c255_i32
  let v143 : BitVec 32 := Scalar.ori v141 v142
  let c64_i32_311 : BitVec 32 := 64#32
  let v144 : BitVec 32 := Scalar.muli v143 c64_i32_311
  let v147 : BitVec 32 := Scalar.addi v144 c4096_i32
  let v148 : Index := Scalar.indexCast v147
  let c0_313 : Index := 0#32
  ![v148.toNat, 0]
def k0_off90 (k0_t45 : Fin k0_t45_loop.trips) : Fin 2 → Nat :=
  let c0_i32_197 : BitVec 32 := 0#32
  let c1_i32_199 : BitVec 32 := 1#32
  let arg5 : BitVec 32 := Scf.iv c0_i32_197 c1_i32_199 k0_t45
  let c6_i32 : BitVec 32 := 6#32
  let v132 : BitVec 32 := Scalar.shrsi arg5 c6_i32
  let c7_i32 : BitVec 32 := 7#32
  let v133 : BitVec 32 := Scalar.shli v132 c7_i32
  let c63_i32 : BitVec 32 := 63#32
  let v134 : BitVec 32 := Scalar.andi arg5 c63_i32
  let v135 : BitVec 32 := Scalar.ori v133 v134
  let c7_i32_308 : BitVec 32 := 7#32
  let v136 : BitVec 32 := Scalar.shrsi v135 c7_i32_308
  let c8_i32_309 : BitVec 32 := 8#32
  let v137 : BitVec 32 := Scalar.shli v136 c8_i32_309
  let c127_i32 : BitVec 32 := 127#32
  let v138 : BitVec 32 := Scalar.andi v135 c127_i32
  let v139 : BitVec 32 := Scalar.ori v137 v138
  let c8_i32_310 : BitVec 32 := 8#32
  let v140 : BitVec 32 := Scalar.shrsi v139 c8_i32_310
  let c9_i32 : BitVec 32 := 9#32
  let v141 : BitVec 32 := Scalar.shli v140 c9_i32
  let c255_i32 : BitVec 32 := 255#32
  let v142 : BitVec 32 := Scalar.andi v139 c255_i32
  let v143 : BitVec 32 := Scalar.ori v141 v142
  let c64_i32_311 : BitVec 32 := 64#32
  let v144 : BitVec 32 := Scalar.muli v143 c64_i32_311
  let c8192_i32_315 : BitVec 32 := 8192#32
  let v153 : BitVec 32 := Scalar.addi v144 c8192_i32_315
  let c4096_i32_316 : BitVec 32 := 4096#32
  let v154 : BitVec 32 := Scalar.addi v153 c4096_i32_316
  let v155 : Index := Scalar.indexCast v154
  let c0_317 : Index := 0#32
  ![v155.toNat, 0]
@[reducible] def k0_t46_loop : Scf.Loop 32 :=
  let c0_i32_201 : BitVec 32 := 0#32
  let c128_i32_202 : BitVec 32 := 128#32
  let v103 : BitVec 32 := Scalar.addi c0_i32_201 c128_i32_202
  let c1_i32_203 : BitVec 32 := 1#32
  ⟨c0_i32_201, v103, c1_i32_203⟩
def k0_off91 (k0_t46 : Fin k0_t46_loop.trips) : Fin 2 → Nat :=
  let c0_i32_201 : BitVec 32 := 0#32
  let c1_i32_203 : BitVec 32 := 1#32
  let arg5 : BitVec 32 := Scf.iv c0_i32_201 c1_i32_203 k0_t46
  let c6_i32 : BitVec 32 := 6#32
  let v132 : BitVec 32 := Scalar.shrsi arg5 c6_i32
  let c7_i32 : BitVec 32 := 7#32
  let v133 : BitVec 32 := Scalar.shli v132 c7_i32
  let c63_i32 : BitVec 32 := 63#32
  let v134 : BitVec 32 := Scalar.andi arg5 c63_i32
  let v135 : BitVec 32 := Scalar.ori v133 v134
  let c7_i32_308 : BitVec 32 := 7#32
  let v136 : BitVec 32 := Scalar.shrsi v135 c7_i32_308
  let c8_i32_309 : BitVec 32 := 8#32
  let v137 : BitVec 32 := Scalar.shli v136 c8_i32_309
  let c127_i32 : BitVec 32 := 127#32
  let v138 : BitVec 32 := Scalar.andi v135 c127_i32
  let v139 : BitVec 32 := Scalar.ori v137 v138
  let c8_i32_310 : BitVec 32 := 8#32
  let v140 : BitVec 32 := Scalar.shrsi v139 c8_i32_310
  let c9_i32 : BitVec 32 := 9#32
  let v141 : BitVec 32 := Scalar.shli v140 c9_i32
  let c255_i32 : BitVec 32 := 255#32
  let v142 : BitVec 32 := Scalar.andi v139 c255_i32
  let v143 : BitVec 32 := Scalar.ori v141 v142
  let c256_i32_311 : BitVec 32 := 256#32
  let v144 : BitVec 32 := Scalar.ori v143 c256_i32_311
  let c64_i32_312 : BitVec 32 := 64#32
  let v145 : BitVec 32 := Scalar.muli v144 c64_i32_312
  let v146 : Index := Scalar.indexCast v145
  let c0_313 : Index := 0#32
  ![v146.toNat, 0]
def k0_off92 (k0_t46 : Fin k0_t46_loop.trips) (c4096_i32 : BitVec 32) : Fin 2 → Nat :=
  let c0_i32_201 : BitVec 32 := 0#32
  let c1_i32_203 : BitVec 32 := 1#32
  let arg5 : BitVec 32 := Scf.iv c0_i32_201 c1_i32_203 k0_t46
  let c6_i32 : BitVec 32 := 6#32
  let v132 : BitVec 32 := Scalar.shrsi arg5 c6_i32
  let c7_i32 : BitVec 32 := 7#32
  let v133 : BitVec 32 := Scalar.shli v132 c7_i32
  let c63_i32 : BitVec 32 := 63#32
  let v134 : BitVec 32 := Scalar.andi arg5 c63_i32
  let v135 : BitVec 32 := Scalar.ori v133 v134
  let c7_i32_308 : BitVec 32 := 7#32
  let v136 : BitVec 32 := Scalar.shrsi v135 c7_i32_308
  let c8_i32_309 : BitVec 32 := 8#32
  let v137 : BitVec 32 := Scalar.shli v136 c8_i32_309
  let c127_i32 : BitVec 32 := 127#32
  let v138 : BitVec 32 := Scalar.andi v135 c127_i32
  let v139 : BitVec 32 := Scalar.ori v137 v138
  let c8_i32_310 : BitVec 32 := 8#32
  let v140 : BitVec 32 := Scalar.shrsi v139 c8_i32_310
  let c9_i32 : BitVec 32 := 9#32
  let v141 : BitVec 32 := Scalar.shli v140 c9_i32
  let c255_i32 : BitVec 32 := 255#32
  let v142 : BitVec 32 := Scalar.andi v139 c255_i32
  let v143 : BitVec 32 := Scalar.ori v141 v142
  let c256_i32_311 : BitVec 32 := 256#32
  let v144 : BitVec 32 := Scalar.ori v143 c256_i32_311
  let c64_i32_312 : BitVec 32 := 64#32
  let v145 : BitVec 32 := Scalar.muli v144 c64_i32_312
  let v148 : BitVec 32 := Scalar.addi v145 c4096_i32
  let v149 : Index := Scalar.indexCast v148
  let c0_314 : Index := 0#32
  ![v149.toNat, 0]
def k0_off93 (k0_t46 : Fin k0_t46_loop.trips) : Fin 2 → Nat :=
  let c0_i32_201 : BitVec 32 := 0#32
  let c1_i32_203 : BitVec 32 := 1#32
  let arg5 : BitVec 32 := Scf.iv c0_i32_201 c1_i32_203 k0_t46
  let c6_i32 : BitVec 32 := 6#32
  let v132 : BitVec 32 := Scalar.shrsi arg5 c6_i32
  let c7_i32 : BitVec 32 := 7#32
  let v133 : BitVec 32 := Scalar.shli v132 c7_i32
  let c63_i32 : BitVec 32 := 63#32
  let v134 : BitVec 32 := Scalar.andi arg5 c63_i32
  let v135 : BitVec 32 := Scalar.ori v133 v134
  let c7_i32_308 : BitVec 32 := 7#32
  let v136 : BitVec 32 := Scalar.shrsi v135 c7_i32_308
  let c8_i32_309 : BitVec 32 := 8#32
  let v137 : BitVec 32 := Scalar.shli v136 c8_i32_309
  let c127_i32 : BitVec 32 := 127#32
  let v138 : BitVec 32 := Scalar.andi v135 c127_i32
  let v139 : BitVec 32 := Scalar.ori v137 v138
  let c8_i32_310 : BitVec 32 := 8#32
  let v140 : BitVec 32 := Scalar.shrsi v139 c8_i32_310
  let c9_i32 : BitVec 32 := 9#32
  let v141 : BitVec 32 := Scalar.shli v140 c9_i32
  let c255_i32 : BitVec 32 := 255#32
  let v142 : BitVec 32 := Scalar.andi v139 c255_i32
  let v143 : BitVec 32 := Scalar.ori v141 v142
  let c256_i32_311 : BitVec 32 := 256#32
  let v144 : BitVec 32 := Scalar.ori v143 c256_i32_311
  let c64_i32_312 : BitVec 32 := 64#32
  let v145 : BitVec 32 := Scalar.muli v144 c64_i32_312
  let c8192_i32_316 : BitVec 32 := 8192#32
  let v154 : BitVec 32 := Scalar.addi v145 c8192_i32_316
  let c4096_i32_317 : BitVec 32 := 4096#32
  let v155 : BitVec 32 := Scalar.addi v154 c4096_i32_317
  let v156 : Index := Scalar.indexCast v155
  let c0_318 : Index := 0#32
  ![v156.toNat, 0]
@[reducible] def k0_t47_loop : Scf.Loop 32 :=
  let c0_i32_205 : BitVec 32 := 0#32
  let c128_i32_206 : BitVec 32 := 128#32
  let v104 : BitVec 32 := Scalar.addi c0_i32_205 c128_i32_206
  let c1_i32_207 : BitVec 32 := 1#32
  ⟨c0_i32_205, v104, c1_i32_207⟩
def k0_off94 (k0_t47 : Fin k0_t47_loop.trips) : Fin 2 → Nat :=
  let c0_i32_205 : BitVec 32 := 0#32
  let c1_i32_207 : BitVec 32 := 1#32
  let arg5 : BitVec 32 := Scf.iv c0_i32_205 c1_i32_207 k0_t47
  let c4_i32_308 : BitVec 32 := 4#32
  let v132 : BitVec 32 := Scalar.shrsi arg5 c4_i32_308
  let c5_i32 : BitVec 32 := 5#32
  let v133 : BitVec 32 := Scalar.shli v132 c5_i32
  let c15_i32 : BitVec 32 := 15#32
  let v134 : BitVec 32 := Scalar.andi arg5 c15_i32
  let v135 : BitVec 32 := Scalar.ori v133 v134
  let c5_i32_309 : BitVec 32 := 5#32
  let v136 : BitVec 32 := Scalar.shrsi v135 c5_i32_309
  let c6_i32 : BitVec 32 := 6#32
  let v137 : BitVec 32 := Scalar.shli v136 c6_i32
  let c31_i32 : BitVec 32 := 31#32
  let v138 : BitVec 32 := Scalar.andi v135 c31_i32
  let v139 : BitVec 32 := Scalar.ori v137 v138
  let c8_i32_310 : BitVec 32 := 8#32
  let v140 : BitVec 32 := Scalar.shrsi v139 c8_i32_310
  let c9_i32 : BitVec 32 := 9#32
  let v141 : BitVec 32 := Scalar.shli v140 c9_i32
  let c255_i32 : BitVec 32 := 255#32
  let v142 : BitVec 32 := Scalar.andi v139 c255_i32
  let v143 : BitVec 32 := Scalar.ori v141 v142
  let c64_i32_311 : BitVec 32 := 64#32
  let v144 : BitVec 32 := Scalar.muli v143 c64_i32_311
  let v145 : Index := Scalar.indexCast v144
  let c0_312 : Index := 0#32
  ![v145.toNat, 0]
def k0_off95 (k0_t47 : Fin k0_t47_loop.trips) (c1024_i32 : BitVec 32) : Fin 2 → Nat :=
  let c0_i32_205 : BitVec 32 := 0#32
  let c1_i32_207 : BitVec 32 := 1#32
  let arg5 : BitVec 32 := Scf.iv c0_i32_205 c1_i32_207 k0_t47
  let c4_i32_308 : BitVec 32 := 4#32
  let v132 : BitVec 32 := Scalar.shrsi arg5 c4_i32_308
  let c5_i32 : BitVec 32 := 5#32
  let v133 : BitVec 32 := Scalar.shli v132 c5_i32
  let c15_i32 : BitVec 32 := 15#32
  let v134 : BitVec 32 := Scalar.andi arg5 c15_i32
  let v135 : BitVec 32 := Scalar.ori v133 v134
  let c5_i32_309 : BitVec 32 := 5#32
  let v136 : BitVec 32 := Scalar.shrsi v135 c5_i32_309
  let c6_i32 : BitVec 32 := 6#32
  let v137 : BitVec 32 := Scalar.shli v136 c6_i32
  let c31_i32 : BitVec 32 := 31#32
  let v138 : BitVec 32 := Scalar.andi v135 c31_i32
  let v139 : BitVec 32 := Scalar.ori v137 v138
  let c8_i32_310 : BitVec 32 := 8#32
  let v140 : BitVec 32 := Scalar.shrsi v139 c8_i32_310
  let c9_i32 : BitVec 32 := 9#32
  let v141 : BitVec 32 := Scalar.shli v140 c9_i32
  let c255_i32 : BitVec 32 := 255#32
  let v142 : BitVec 32 := Scalar.andi v139 c255_i32
  let v143 : BitVec 32 := Scalar.ori v141 v142
  let c64_i32_311 : BitVec 32 := 64#32
  let v144 : BitVec 32 := Scalar.muli v143 c64_i32_311
  let v147 : BitVec 32 := Scalar.addi v144 c1024_i32
  let v148 : Index := Scalar.indexCast v147
  let c0_313 : Index := 0#32
  ![v148.toNat, 0]
def k0_off96 (k0_t47 : Fin k0_t47_loop.trips) : Fin 2 → Nat :=
  let c0_i32_205 : BitVec 32 := 0#32
  let c1_i32_207 : BitVec 32 := 1#32
  let arg5 : BitVec 32 := Scf.iv c0_i32_205 c1_i32_207 k0_t47
  let c4_i32_308 : BitVec 32 := 4#32
  let v132 : BitVec 32 := Scalar.shrsi arg5 c4_i32_308
  let c5_i32 : BitVec 32 := 5#32
  let v133 : BitVec 32 := Scalar.shli v132 c5_i32
  let c15_i32 : BitVec 32 := 15#32
  let v134 : BitVec 32 := Scalar.andi arg5 c15_i32
  let v135 : BitVec 32 := Scalar.ori v133 v134
  let c5_i32_309 : BitVec 32 := 5#32
  let v136 : BitVec 32 := Scalar.shrsi v135 c5_i32_309
  let c6_i32 : BitVec 32 := 6#32
  let v137 : BitVec 32 := Scalar.shli v136 c6_i32
  let c31_i32 : BitVec 32 := 31#32
  let v138 : BitVec 32 := Scalar.andi v135 c31_i32
  let v139 : BitVec 32 := Scalar.ori v137 v138
  let c8_i32_310 : BitVec 32 := 8#32
  let v140 : BitVec 32 := Scalar.shrsi v139 c8_i32_310
  let c9_i32 : BitVec 32 := 9#32
  let v141 : BitVec 32 := Scalar.shli v140 c9_i32
  let c255_i32 : BitVec 32 := 255#32
  let v142 : BitVec 32 := Scalar.andi v139 c255_i32
  let v143 : BitVec 32 := Scalar.ori v141 v142
  let c64_i32_311 : BitVec 32 := 64#32
  let v144 : BitVec 32 := Scalar.muli v143 c64_i32_311
  let c2048_i32_315 : BitVec 32 := 2048#32
  let v153 : BitVec 32 := Scalar.addi v144 c2048_i32_315
  let c1024_i32_316 : BitVec 32 := 1024#32
  let v154 : BitVec 32 := Scalar.addi v153 c1024_i32_316
  let v155 : Index := Scalar.indexCast v154
  let c0_317 : Index := 0#32
  ![v155.toNat, 0]
@[reducible] def k0_t48_loop : Scf.Loop 32 :=
  let c0_i32_209 : BitVec 32 := 0#32
  let c128_i32_210 : BitVec 32 := 128#32
  let v105 : BitVec 32 := Scalar.addi c0_i32_209 c128_i32_210
  let c1_i32_211 : BitVec 32 := 1#32
  ⟨c0_i32_209, v105, c1_i32_211⟩
def k0_off97 (k0_t48 : Fin k0_t48_loop.trips) : Fin 2 → Nat :=
  let c0_i32_209 : BitVec 32 := 0#32
  let c1_i32_211 : BitVec 32 := 1#32
  let arg5 : BitVec 32 := Scf.iv c0_i32_209 c1_i32_211 k0_t48
  let c4_i32_308 : BitVec 32 := 4#32
  let v132 : BitVec 32 := Scalar.shrsi arg5 c4_i32_308
  let c5_i32 : BitVec 32 := 5#32
  let v133 : BitVec 32 := Scalar.shli v132 c5_i32
  let c15_i32 : BitVec 32 := 15#32
  let v134 : BitVec 32 := Scalar.andi arg5 c15_i32
  let v135 : BitVec 32 := Scalar.ori v133 v134
  let c5_i32_309 : BitVec 32 := 5#32
  let v136 : BitVec 32 := Scalar.shrsi v135 c5_i32_309
  let c6_i32 : BitVec 32 := 6#32
  let v137 : BitVec 32 := Scalar.shli v136 c6_i32
  let c31_i32 : BitVec 32 := 31#32
  let v138 : BitVec 32 := Scalar.andi v135 c31_i32
  let v139 : BitVec 32 := Scalar.ori v137 v138
  let c8_i32_310 : BitVec 32 := 8#32
  let v140 : BitVec 32 := Scalar.shrsi v139 c8_i32_310
  let c9_i32 : BitVec 32 := 9#32
  let v141 : BitVec 32 := Scalar.shli v140 c9_i32
  let c255_i32 : BitVec 32 := 255#32
  let v142 : BitVec 32 := Scalar.andi v139 c255_i32
  let v143 : BitVec 32 := Scalar.ori v141 v142
  let c256_i32_311 : BitVec 32 := 256#32
  let v144 : BitVec 32 := Scalar.ori v143 c256_i32_311
  let c64_i32_312 : BitVec 32 := 64#32
  let v145 : BitVec 32 := Scalar.muli v144 c64_i32_312
  let v146 : Index := Scalar.indexCast v145
  let c0_313 : Index := 0#32
  ![v146.toNat, 0]
def k0_off98 (k0_t48 : Fin k0_t48_loop.trips) (c1024_i32 : BitVec 32) : Fin 2 → Nat :=
  let c0_i32_209 : BitVec 32 := 0#32
  let c1_i32_211 : BitVec 32 := 1#32
  let arg5 : BitVec 32 := Scf.iv c0_i32_209 c1_i32_211 k0_t48
  let c4_i32_308 : BitVec 32 := 4#32
  let v132 : BitVec 32 := Scalar.shrsi arg5 c4_i32_308
  let c5_i32 : BitVec 32 := 5#32
  let v133 : BitVec 32 := Scalar.shli v132 c5_i32
  let c15_i32 : BitVec 32 := 15#32
  let v134 : BitVec 32 := Scalar.andi arg5 c15_i32
  let v135 : BitVec 32 := Scalar.ori v133 v134
  let c5_i32_309 : BitVec 32 := 5#32
  let v136 : BitVec 32 := Scalar.shrsi v135 c5_i32_309
  let c6_i32 : BitVec 32 := 6#32
  let v137 : BitVec 32 := Scalar.shli v136 c6_i32
  let c31_i32 : BitVec 32 := 31#32
  let v138 : BitVec 32 := Scalar.andi v135 c31_i32
  let v139 : BitVec 32 := Scalar.ori v137 v138
  let c8_i32_310 : BitVec 32 := 8#32
  let v140 : BitVec 32 := Scalar.shrsi v139 c8_i32_310
  let c9_i32 : BitVec 32 := 9#32
  let v141 : BitVec 32 := Scalar.shli v140 c9_i32
  let c255_i32 : BitVec 32 := 255#32
  let v142 : BitVec 32 := Scalar.andi v139 c255_i32
  let v143 : BitVec 32 := Scalar.ori v141 v142
  let c256_i32_311 : BitVec 32 := 256#32
  let v144 : BitVec 32 := Scalar.ori v143 c256_i32_311
  let c64_i32_312 : BitVec 32 := 64#32
  let v145 : BitVec 32 := Scalar.muli v144 c64_i32_312
  let v148 : BitVec 32 := Scalar.addi v145 c1024_i32
  let v149 : Index := Scalar.indexCast v148
  let c0_314 : Index := 0#32
  ![v149.toNat, 0]
def k0_off99 (k0_t48 : Fin k0_t48_loop.trips) : Fin 2 → Nat :=
  let c0_i32_209 : BitVec 32 := 0#32
  let c1_i32_211 : BitVec 32 := 1#32
  let arg5 : BitVec 32 := Scf.iv c0_i32_209 c1_i32_211 k0_t48
  let c4_i32_308 : BitVec 32 := 4#32
  let v132 : BitVec 32 := Scalar.shrsi arg5 c4_i32_308
  let c5_i32 : BitVec 32 := 5#32
  let v133 : BitVec 32 := Scalar.shli v132 c5_i32
  let c15_i32 : BitVec 32 := 15#32
  let v134 : BitVec 32 := Scalar.andi arg5 c15_i32
  let v135 : BitVec 32 := Scalar.ori v133 v134
  let c5_i32_309 : BitVec 32 := 5#32
  let v136 : BitVec 32 := Scalar.shrsi v135 c5_i32_309
  let c6_i32 : BitVec 32 := 6#32
  let v137 : BitVec 32 := Scalar.shli v136 c6_i32
  let c31_i32 : BitVec 32 := 31#32
  let v138 : BitVec 32 := Scalar.andi v135 c31_i32
  let v139 : BitVec 32 := Scalar.ori v137 v138
  let c8_i32_310 : BitVec 32 := 8#32
  let v140 : BitVec 32 := Scalar.shrsi v139 c8_i32_310
  let c9_i32 : BitVec 32 := 9#32
  let v141 : BitVec 32 := Scalar.shli v140 c9_i32
  let c255_i32 : BitVec 32 := 255#32
  let v142 : BitVec 32 := Scalar.andi v139 c255_i32
  let v143 : BitVec 32 := Scalar.ori v141 v142
  let c256_i32_311 : BitVec 32 := 256#32
  let v144 : BitVec 32 := Scalar.ori v143 c256_i32_311
  let c64_i32_312 : BitVec 32 := 64#32
  let v145 : BitVec 32 := Scalar.muli v144 c64_i32_312
  let c2048_i32_316 : BitVec 32 := 2048#32
  let v154 : BitVec 32 := Scalar.addi v145 c2048_i32_316
  let c1024_i32_317 : BitVec 32 := 1024#32
  let v155 : BitVec 32 := Scalar.addi v154 c1024_i32_317
  let v156 : Index := Scalar.indexCast v155
  let c0_318 : Index := 0#32
  ![v156.toNat, 0]
@[reducible] def k0_t49_loop : Scf.Loop 32 :=
  let c0_i32_213 : BitVec 32 := 0#32
  let c128_i32_214 : BitVec 32 := 128#32
  let v106 : BitVec 32 := Scalar.addi c0_i32_213 c128_i32_214
  let c1_i32_215 : BitVec 32 := 1#32
  ⟨c0_i32_213, v106, c1_i32_215⟩
def k0_off100 (k0_t49 : Fin k0_t49_loop.trips) : Fin 2 → Nat :=
  let c0_i32_213 : BitVec 32 := 0#32
  let c1_i32_215 : BitVec 32 := 1#32
  let arg5 : BitVec 32 := Scf.iv c0_i32_213 c1_i32_215 k0_t49
  let c2_i32_308 : BitVec 32 := 2#32
  let v132 : BitVec 32 := Scalar.shrsi arg5 c2_i32_308
  let c3_i32 : BitVec 32 := 3#32
  let v133 : BitVec 32 := Scalar.shli v132 c3_i32
  let c3_i32_309 : BitVec 32 := 3#32
  let v134 : BitVec 32 := Scalar.andi arg5 c3_i32_309
  let v135 : BitVec 32 := Scalar.ori v133 v134
  let c3_i32_310 : BitVec 32 := 3#32
  let v136 : BitVec 32 := Scalar.shrsi v135 c3_i32_310
  let c4_i32_311 : BitVec 32 := 4#32
  let v137 : BitVec 32 := Scalar.shli v136 c4_i32_311
  let c7_i32 : BitVec 32 := 7#32
  let v138 : BitVec 32 := Scalar.andi v135 c7_i32
  let v139 : BitVec 32 := Scalar.ori v137 v138
  let c8_i32_312 : BitVec 32 := 8#32
  let v140 : BitVec 32 := Scalar.shrsi v139 c8_i32_312
  let c9_i32 : BitVec 32 := 9#32
  let v141 : BitVec 32 := Scalar.shli v140 c9_i32
  let c255_i32 : BitVec 32 := 255#32
  let v142 : BitVec 32 := Scalar.andi v139 c255_i32
  let v143 : BitVec 32 := Scalar.ori v141 v142
  let c64_i32_313 : BitVec 32 := 64#32
  let v144 : BitVec 32 := Scalar.muli v143 c64_i32_313
  let v145 : Index := Scalar.indexCast v144
  let c0_314 : Index := 0#32
  ![v145.toNat, 0]
def k0_off101 (k0_t49 : Fin k0_t49_loop.trips) (c256_i32_315 : BitVec 32) : Fin 2 → Nat :=
  let c0_i32_213 : BitVec 32 := 0#32
  let c1_i32_215 : BitVec 32 := 1#32
  let arg5 : BitVec 32 := Scf.iv c0_i32_213 c1_i32_215 k0_t49
  let c2_i32_308 : BitVec 32 := 2#32
  let v132 : BitVec 32 := Scalar.shrsi arg5 c2_i32_308
  let c3_i32 : BitVec 32 := 3#32
  let v133 : BitVec 32 := Scalar.shli v132 c3_i32
  let c3_i32_309 : BitVec 32 := 3#32
  let v134 : BitVec 32 := Scalar.andi arg5 c3_i32_309
  let v135 : BitVec 32 := Scalar.ori v133 v134
  let c3_i32_310 : BitVec 32 := 3#32
  let v136 : BitVec 32 := Scalar.shrsi v135 c3_i32_310
  let c4_i32_311 : BitVec 32 := 4#32
  let v137 : BitVec 32 := Scalar.shli v136 c4_i32_311
  let c7_i32 : BitVec 32 := 7#32
  let v138 : BitVec 32 := Scalar.andi v135 c7_i32
  let v139 : BitVec 32 := Scalar.ori v137 v138
  let c8_i32_312 : BitVec 32 := 8#32
  let v140 : BitVec 32 := Scalar.shrsi v139 c8_i32_312
  let c9_i32 : BitVec 32 := 9#32
  let v141 : BitVec 32 := Scalar.shli v140 c9_i32
  let c255_i32 : BitVec 32 := 255#32
  let v142 : BitVec 32 := Scalar.andi v139 c255_i32
  let v143 : BitVec 32 := Scalar.ori v141 v142
  let c64_i32_313 : BitVec 32 := 64#32
  let v144 : BitVec 32 := Scalar.muli v143 c64_i32_313
  let v147 : BitVec 32 := Scalar.addi v144 c256_i32_315
  let v148 : Index := Scalar.indexCast v147
  let c0_316 : Index := 0#32
  ![v148.toNat, 0]
def k0_off102 (k0_t49 : Fin k0_t49_loop.trips) : Fin 2 → Nat :=
  let c0_i32_213 : BitVec 32 := 0#32
  let c1_i32_215 : BitVec 32 := 1#32
  let arg5 : BitVec 32 := Scf.iv c0_i32_213 c1_i32_215 k0_t49
  let c2_i32_308 : BitVec 32 := 2#32
  let v132 : BitVec 32 := Scalar.shrsi arg5 c2_i32_308
  let c3_i32 : BitVec 32 := 3#32
  let v133 : BitVec 32 := Scalar.shli v132 c3_i32
  let c3_i32_309 : BitVec 32 := 3#32
  let v134 : BitVec 32 := Scalar.andi arg5 c3_i32_309
  let v135 : BitVec 32 := Scalar.ori v133 v134
  let c3_i32_310 : BitVec 32 := 3#32
  let v136 : BitVec 32 := Scalar.shrsi v135 c3_i32_310
  let c4_i32_311 : BitVec 32 := 4#32
  let v137 : BitVec 32 := Scalar.shli v136 c4_i32_311
  let c7_i32 : BitVec 32 := 7#32
  let v138 : BitVec 32 := Scalar.andi v135 c7_i32
  let v139 : BitVec 32 := Scalar.ori v137 v138
  let c8_i32_312 : BitVec 32 := 8#32
  let v140 : BitVec 32 := Scalar.shrsi v139 c8_i32_312
  let c9_i32 : BitVec 32 := 9#32
  let v141 : BitVec 32 := Scalar.shli v140 c9_i32
  let c255_i32 : BitVec 32 := 255#32
  let v142 : BitVec 32 := Scalar.andi v139 c255_i32
  let v143 : BitVec 32 := Scalar.ori v141 v142
  let c64_i32_313 : BitVec 32 := 64#32
  let v144 : BitVec 32 := Scalar.muli v143 c64_i32_313
  let c512_i32_319 : BitVec 32 := 512#32
  let v153 : BitVec 32 := Scalar.addi v144 c512_i32_319
  let c256_i32_320 : BitVec 32 := 256#32
  let v154 : BitVec 32 := Scalar.addi v153 c256_i32_320
  let v155 : Index := Scalar.indexCast v154
  let c0_321 : Index := 0#32
  ![v155.toNat, 0]
@[reducible] def k0_t50_loop : Scf.Loop 32 :=
  let c0_i32_217 : BitVec 32 := 0#32
  let c128_i32_218 : BitVec 32 := 128#32
  let v107 : BitVec 32 := Scalar.addi c0_i32_217 c128_i32_218
  let c1_i32_219 : BitVec 32 := 1#32
  ⟨c0_i32_217, v107, c1_i32_219⟩
def k0_off103 (k0_t50 : Fin k0_t50_loop.trips) : Fin 2 → Nat :=
  let c0_i32_217 : BitVec 32 := 0#32
  let c1_i32_219 : BitVec 32 := 1#32
  let arg5 : BitVec 32 := Scf.iv c0_i32_217 c1_i32_219 k0_t50
  let c2_i32_308 : BitVec 32 := 2#32
  let v132 : BitVec 32 := Scalar.shrsi arg5 c2_i32_308
  let c3_i32 : BitVec 32 := 3#32
  let v133 : BitVec 32 := Scalar.shli v132 c3_i32
  let c3_i32_309 : BitVec 32 := 3#32
  let v134 : BitVec 32 := Scalar.andi arg5 c3_i32_309
  let v135 : BitVec 32 := Scalar.ori v133 v134
  let c3_i32_310 : BitVec 32 := 3#32
  let v136 : BitVec 32 := Scalar.shrsi v135 c3_i32_310
  let c4_i32_311 : BitVec 32 := 4#32
  let v137 : BitVec 32 := Scalar.shli v136 c4_i32_311
  let c7_i32 : BitVec 32 := 7#32
  let v138 : BitVec 32 := Scalar.andi v135 c7_i32
  let v139 : BitVec 32 := Scalar.ori v137 v138
  let c8_i32_312 : BitVec 32 := 8#32
  let v140 : BitVec 32 := Scalar.shrsi v139 c8_i32_312
  let c9_i32 : BitVec 32 := 9#32
  let v141 : BitVec 32 := Scalar.shli v140 c9_i32
  let c255_i32 : BitVec 32 := 255#32
  let v142 : BitVec 32 := Scalar.andi v139 c255_i32
  let v143 : BitVec 32 := Scalar.ori v141 v142
  let c256_i32_313 : BitVec 32 := 256#32
  let v144 : BitVec 32 := Scalar.ori v143 c256_i32_313
  let c64_i32_314 : BitVec 32 := 64#32
  let v145 : BitVec 32 := Scalar.muli v144 c64_i32_314
  let v146 : Index := Scalar.indexCast v145
  let c0_315 : Index := 0#32
  ![v146.toNat, 0]
def k0_off104 (k0_t50 : Fin k0_t50_loop.trips) (c256_i32_316 : BitVec 32) : Fin 2 → Nat :=
  let c0_i32_217 : BitVec 32 := 0#32
  let c1_i32_219 : BitVec 32 := 1#32
  let arg5 : BitVec 32 := Scf.iv c0_i32_217 c1_i32_219 k0_t50
  let c2_i32_308 : BitVec 32 := 2#32
  let v132 : BitVec 32 := Scalar.shrsi arg5 c2_i32_308
  let c3_i32 : BitVec 32 := 3#32
  let v133 : BitVec 32 := Scalar.shli v132 c3_i32
  let c3_i32_309 : BitVec 32 := 3#32
  let v134 : BitVec 32 := Scalar.andi arg5 c3_i32_309
  let v135 : BitVec 32 := Scalar.ori v133 v134
  let c3_i32_310 : BitVec 32 := 3#32
  let v136 : BitVec 32 := Scalar.shrsi v135 c3_i32_310
  let c4_i32_311 : BitVec 32 := 4#32
  let v137 : BitVec 32 := Scalar.shli v136 c4_i32_311
  let c7_i32 : BitVec 32 := 7#32
  let v138 : BitVec 32 := Scalar.andi v135 c7_i32
  let v139 : BitVec 32 := Scalar.ori v137 v138
  let c8_i32_312 : BitVec 32 := 8#32
  let v140 : BitVec 32 := Scalar.shrsi v139 c8_i32_312
  let c9_i32 : BitVec 32 := 9#32
  let v141 : BitVec 32 := Scalar.shli v140 c9_i32
  let c255_i32 : BitVec 32 := 255#32
  let v142 : BitVec 32 := Scalar.andi v139 c255_i32
  let v143 : BitVec 32 := Scalar.ori v141 v142
  let c256_i32_313 : BitVec 32 := 256#32
  let v144 : BitVec 32 := Scalar.ori v143 c256_i32_313
  let c64_i32_314 : BitVec 32 := 64#32
  let v145 : BitVec 32 := Scalar.muli v144 c64_i32_314
  let v148 : BitVec 32 := Scalar.addi v145 c256_i32_316
  let v149 : Index := Scalar.indexCast v148
  let c0_317 : Index := 0#32
  ![v149.toNat, 0]
def k0_off105 (k0_t50 : Fin k0_t50_loop.trips) : Fin 2 → Nat :=
  let c0_i32_217 : BitVec 32 := 0#32
  let c1_i32_219 : BitVec 32 := 1#32
  let arg5 : BitVec 32 := Scf.iv c0_i32_217 c1_i32_219 k0_t50
  let c2_i32_308 : BitVec 32 := 2#32
  let v132 : BitVec 32 := Scalar.shrsi arg5 c2_i32_308
  let c3_i32 : BitVec 32 := 3#32
  let v133 : BitVec 32 := Scalar.shli v132 c3_i32
  let c3_i32_309 : BitVec 32 := 3#32
  let v134 : BitVec 32 := Scalar.andi arg5 c3_i32_309
  let v135 : BitVec 32 := Scalar.ori v133 v134
  let c3_i32_310 : BitVec 32 := 3#32
  let v136 : BitVec 32 := Scalar.shrsi v135 c3_i32_310
  let c4_i32_311 : BitVec 32 := 4#32
  let v137 : BitVec 32 := Scalar.shli v136 c4_i32_311
  let c7_i32 : BitVec 32 := 7#32
  let v138 : BitVec 32 := Scalar.andi v135 c7_i32
  let v139 : BitVec 32 := Scalar.ori v137 v138
  let c8_i32_312 : BitVec 32 := 8#32
  let v140 : BitVec 32 := Scalar.shrsi v139 c8_i32_312
  let c9_i32 : BitVec 32 := 9#32
  let v141 : BitVec 32 := Scalar.shli v140 c9_i32
  let c255_i32 : BitVec 32 := 255#32
  let v142 : BitVec 32 := Scalar.andi v139 c255_i32
  let v143 : BitVec 32 := Scalar.ori v141 v142
  let c256_i32_313 : BitVec 32 := 256#32
  let v144 : BitVec 32 := Scalar.ori v143 c256_i32_313
  let c64_i32_314 : BitVec 32 := 64#32
  let v145 : BitVec 32 := Scalar.muli v144 c64_i32_314
  let c512_i32_320 : BitVec 32 := 512#32
  let v154 : BitVec 32 := Scalar.addi v145 c512_i32_320
  let c256_i32_321 : BitVec 32 := 256#32
  let v155 : BitVec 32 := Scalar.addi v154 c256_i32_321
  let v156 : Index := Scalar.indexCast v155
  let c0_322 : Index := 0#32
  ![v156.toNat, 0]
@[reducible] def k0_t51_loop : Scf.Loop 32 :=
  let c0_i32_221 : BitVec 32 := 0#32
  let c256_i32_222 : BitVec 32 := 256#32
  let v108 : BitVec 32 := Scalar.addi c0_i32_221 c256_i32_222
  let c1_i32_223 : BitVec 32 := 1#32
  ⟨c0_i32_221, v108, c1_i32_223⟩
def k0_off106 (k0_t51 : Fin k0_t51_loop.trips) : Fin 2 → Nat :=
  let c0_i32_221 : BitVec 32 := 0#32
  let c1_i32_223 : BitVec 32 := 1#32
  let arg5 : BitVec 32 := Scf.iv c0_i32_221 c1_i32_223 k0_t51
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c8_i32_311 : BitVec 32 := 8#32
  let v136 : BitVec 32 := Scalar.shrsi v135 c8_i32_311
  let c9_i32 : BitVec 32 := 9#32
  let v137 : BitVec 32 := Scalar.shli v136 c9_i32
  let c255_i32 : BitVec 32 := 255#32
  let v138 : BitVec 32 := Scalar.andi v135 c255_i32
  let v139 : BitVec 32 := Scalar.ori v137 v138
  let c64_i32_312 : BitVec 32 := 64#32
  let v140 : BitVec 32 := Scalar.muli v139 c64_i32_312
  let v141 : Index := Scalar.indexCast v140
  let c0_313 : Index := 0#32
  ![v141.toNat, 0]
def k0_off107 (k0_t51 : Fin k0_t51_loop.trips) : Fin 2 → Nat :=
  let c0_i32_221 : BitVec 32 := 0#32
  let c1_i32_223 : BitVec 32 := 1#32
  let arg5 : BitVec 32 := Scf.iv c0_i32_221 c1_i32_223 k0_t51
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c8_i32_311 : BitVec 32 := 8#32
  let v136 : BitVec 32 := Scalar.shrsi v135 c8_i32_311
  let c9_i32 : BitVec 32 := 9#32
  let v137 : BitVec 32 := Scalar.shli v136 c9_i32
  let c255_i32 : BitVec 32 := 255#32
  let v138 : BitVec 32 := Scalar.andi v135 c255_i32
  let v139 : BitVec 32 := Scalar.ori v137 v138
  let c64_i32_312 : BitVec 32 := 64#32
  let v140 : BitVec 32 := Scalar.muli v139 c64_i32_312
  let c128_i32_314 : BitVec 32 := 128#32
  let v143 : BitVec 32 := Scalar.addi v140 c128_i32_314
  let v144 : Index := Scalar.indexCast v143
  let c0_315 : Index := 0#32
  ![v144.toNat, 0]
@[reducible] def k0_t52_loop : Scf.Loop 32 :=
  let c0_i32_225 : BitVec 32 := 0#32
  let c256_i32_226 : BitVec 32 := 256#32
  let v109 : BitVec 32 := Scalar.addi c0_i32_225 c256_i32_226
  let c1_i32_227 : BitVec 32 := 1#32
  ⟨c0_i32_225, v109, c1_i32_227⟩
def k0_off108 (k0_t52 : Fin k0_t52_loop.trips) : Fin 2 → Nat :=
  let c0_i32_225 : BitVec 32 := 0#32
  let c1_i32_227 : BitVec 32 := 1#32
  let arg5 : BitVec 32 := Scf.iv c0_i32_225 c1_i32_227 k0_t52
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c8_i32_311 : BitVec 32 := 8#32
  let v136 : BitVec 32 := Scalar.shrsi v135 c8_i32_311
  let c9_i32 : BitVec 32 := 9#32
  let v137 : BitVec 32 := Scalar.shli v136 c9_i32
  let c255_i32 : BitVec 32 := 255#32
  let v138 : BitVec 32 := Scalar.andi v135 c255_i32
  let v139 : BitVec 32 := Scalar.ori v137 v138
  let c256_i32_312 : BitVec 32 := 256#32
  let v140 : BitVec 32 := Scalar.ori v139 c256_i32_312
  let c64_i32_313 : BitVec 32 := 64#32
  let v141 : BitVec 32 := Scalar.muli v140 c64_i32_313
  let v142 : Index := Scalar.indexCast v141
  let c0_314 : Index := 0#32
  ![v142.toNat, 0]
def k0_off109 (k0_t52 : Fin k0_t52_loop.trips) : Fin 2 → Nat :=
  let c0_i32_225 : BitVec 32 := 0#32
  let c1_i32_227 : BitVec 32 := 1#32
  let arg5 : BitVec 32 := Scf.iv c0_i32_225 c1_i32_227 k0_t52
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c8_i32_311 : BitVec 32 := 8#32
  let v136 : BitVec 32 := Scalar.shrsi v135 c8_i32_311
  let c9_i32 : BitVec 32 := 9#32
  let v137 : BitVec 32 := Scalar.shli v136 c9_i32
  let c255_i32 : BitVec 32 := 255#32
  let v138 : BitVec 32 := Scalar.andi v135 c255_i32
  let v139 : BitVec 32 := Scalar.ori v137 v138
  let c256_i32_312 : BitVec 32 := 256#32
  let v140 : BitVec 32 := Scalar.ori v139 c256_i32_312
  let c64_i32_313 : BitVec 32 := 64#32
  let v141 : BitVec 32 := Scalar.muli v140 c64_i32_313
  let c128_i32_315 : BitVec 32 := 128#32
  let v144 : BitVec 32 := Scalar.addi v141 c128_i32_315
  let v145 : Index := Scalar.indexCast v144
  let c0_316 : Index := 0#32
  ![v145.toNat, 0]
@[reducible] def k0_t53_loop : Scf.Loop 32 :=
  let c0_i32_229 : BitVec 32 := 0#32
  let c256_i32_230 : BitVec 32 := 256#32
  let v110 : BitVec 32 := Scalar.addi c0_i32_229 c256_i32_230
  let c1_i32_231 : BitVec 32 := 1#32
  ⟨c0_i32_229, v110, c1_i32_231⟩
def k0_off110 (k0_t53 : Fin k0_t53_loop.trips) : Fin 2 → Nat :=
  let c0_i32_229 : BitVec 32 := 0#32
  let c1_i32_231 : BitVec 32 := 1#32
  let arg5 : BitVec 32 := Scf.iv c0_i32_229 c1_i32_231 k0_t53
  let c7_i32 : BitVec 32 := 7#32
  let v132 : BitVec 32 := Scalar.shrsi arg5 c7_i32
  let c8_i32_308 : BitVec 32 := 8#32
  let v133 : BitVec 32 := Scalar.shli v132 c8_i32_308
  let c127_i32 : BitVec 32 := 127#32
  let v134 : BitVec 32 := Scalar.andi arg5 c127_i32
  let v135 : BitVec 32 := Scalar.ori v133 v134
  let c128_i32_309 : BitVec 32 := 128#32
  let v136 : BitVec 32 := Scalar.muli v135 c128_i32_309
  let v137 : Index := Scalar.indexCast v136
  let c0_310 : Index := 0#32
  ![v137.toNat, 0]
@[reducible] def k0_t54_loop : Scf.Loop 32 :=
  let c0_i32_233 : BitVec 32 := 0#32
  let c256_i32_234 : BitVec 32 := 256#32
  let v111 : BitVec 32 := Scalar.addi c0_i32_233 c256_i32_234
  let c1_i32_235 : BitVec 32 := 1#32
  ⟨c0_i32_233, v111, c1_i32_235⟩
def k0_off111 (k0_t54 : Fin k0_t54_loop.trips) : Fin 2 → Nat :=
  let c0_i32_233 : BitVec 32 := 0#32
  let c1_i32_235 : BitVec 32 := 1#32
  let arg5 : BitVec 32 := Scf.iv c0_i32_233 c1_i32_235 k0_t54
  let c7_i32 : BitVec 32 := 7#32
  let v132 : BitVec 32 := Scalar.shrsi arg5 c7_i32
  let c8_i32_308 : BitVec 32 := 8#32
  let v133 : BitVec 32 := Scalar.shli v132 c8_i32_308
  let c127_i32 : BitVec 32 := 127#32
  let v134 : BitVec 32 := Scalar.andi arg5 c127_i32
  let v135 : BitVec 32 := Scalar.ori v133 v134
  let c128_i32_309 : BitVec 32 := 128#32
  let v136 : BitVec 32 := Scalar.ori v135 c128_i32_309
  let c128_i32_310 : BitVec 32 := 128#32
  let v137 : BitVec 32 := Scalar.muli v136 c128_i32_310
  let v138 : Index := Scalar.indexCast v137
  let c0_311 : Index := 0#32
  ![v138.toNat, 0]
@[reducible] def k0_t55_loop : Scf.Loop 32 :=
  let c0_i32_237 : BitVec 32 := 0#32
  let c128_i32_238 : BitVec 32 := 128#32
  let v112 : BitVec 32 := Scalar.addi c0_i32_237 c128_i32_238
  let c1_i32_239 : BitVec 32 := 1#32
  ⟨c0_i32_237, v112, c1_i32_239⟩
def k0_off112 (k0_t55 : Fin k0_t55_loop.trips) : Fin 2 → Nat :=
  let c0_i32_237 : BitVec 32 := 0#32
  let c1_i32_239 : BitVec 32 := 1#32
  let arg5 : BitVec 32 := Scf.iv c0_i32_237 c1_i32_239 k0_t55
  let c7_i32 : BitVec 32 := 7#32
  let v132 : BitVec 32 := Scalar.shrsi arg5 c7_i32
  let c8_i32_308 : BitVec 32 := 8#32
  let v133 : BitVec 32 := Scalar.shli v132 c8_i32_308
  let c127_i32 : BitVec 32 := 127#32
  let v134 : BitVec 32 := Scalar.andi arg5 c127_i32
  let v135 : BitVec 32 := Scalar.ori v133 v134
  let c8_i32_309 : BitVec 32 := 8#32
  let v136 : BitVec 32 := Scalar.shrsi v135 c8_i32_309
  let c9_i32 : BitVec 32 := 9#32
  let v137 : BitVec 32 := Scalar.shli v136 c9_i32
  let c255_i32 : BitVec 32 := 255#32
  let v138 : BitVec 32 := Scalar.andi v135 c255_i32
  let v139 : BitVec 32 := Scalar.ori v137 v138
  let c9_i32_310 : BitVec 32 := 9#32
  let v140 : BitVec 32 := Scalar.shrsi v139 c9_i32_310
  let c10_i32 : BitVec 32 := 10#32
  let v141 : BitVec 32 := Scalar.shli v140 c10_i32
  let c511_i32 : BitVec 32 := 511#32
  let v142 : BitVec 32 := Scalar.andi v139 c511_i32
  let v143 : BitVec 32 := Scalar.ori v141 v142
  let c64_i32_311 : BitVec 32 := 64#32
  let v144 : BitVec 32 := Scalar.muli v143 c64_i32_311
  let v145 : Index := Scalar.indexCast v144
  let c0_312 : Index := 0#32
  ![v145.toNat, 0]
def k0_off113 (k0_t55 : Fin k0_t55_loop.trips) (c8192_i32 : BitVec 32) : Fin 2 → Nat :=
  let c0_i32_237 : BitVec 32 := 0#32
  let c1_i32_239 : BitVec 32 := 1#32
  let arg5 : BitVec 32 := Scf.iv c0_i32_237 c1_i32_239 k0_t55
  let c7_i32 : BitVec 32 := 7#32
  let v132 : BitVec 32 := Scalar.shrsi arg5 c7_i32
  let c8_i32_308 : BitVec 32 := 8#32
  let v133 : BitVec 32 := Scalar.shli v132 c8_i32_308
  let c127_i32 : BitVec 32 := 127#32
  let v134 : BitVec 32 := Scalar.andi arg5 c127_i32
  let v135 : BitVec 32 := Scalar.ori v133 v134
  let c8_i32_309 : BitVec 32 := 8#32
  let v136 : BitVec 32 := Scalar.shrsi v135 c8_i32_309
  let c9_i32 : BitVec 32 := 9#32
  let v137 : BitVec 32 := Scalar.shli v136 c9_i32
  let c255_i32 : BitVec 32 := 255#32
  let v138 : BitVec 32 := Scalar.andi v135 c255_i32
  let v139 : BitVec 32 := Scalar.ori v137 v138
  let c9_i32_310 : BitVec 32 := 9#32
  let v140 : BitVec 32 := Scalar.shrsi v139 c9_i32_310
  let c10_i32 : BitVec 32 := 10#32
  let v141 : BitVec 32 := Scalar.shli v140 c10_i32
  let c511_i32 : BitVec 32 := 511#32
  let v142 : BitVec 32 := Scalar.andi v139 c511_i32
  let v143 : BitVec 32 := Scalar.ori v141 v142
  let c64_i32_311 : BitVec 32 := 64#32
  let v144 : BitVec 32 := Scalar.muli v143 c64_i32_311
  let v147 : BitVec 32 := Scalar.addi v144 c8192_i32
  let v148 : Index := Scalar.indexCast v147
  let c0_313 : Index := 0#32
  ![v148.toNat, 0]
def k0_off114 (k0_t55 : Fin k0_t55_loop.trips) : Fin 2 → Nat :=
  let c0_i32_237 : BitVec 32 := 0#32
  let c1_i32_239 : BitVec 32 := 1#32
  let arg5 : BitVec 32 := Scf.iv c0_i32_237 c1_i32_239 k0_t55
  let c7_i32 : BitVec 32 := 7#32
  let v132 : BitVec 32 := Scalar.shrsi arg5 c7_i32
  let c8_i32_308 : BitVec 32 := 8#32
  let v133 : BitVec 32 := Scalar.shli v132 c8_i32_308
  let c127_i32 : BitVec 32 := 127#32
  let v134 : BitVec 32 := Scalar.andi arg5 c127_i32
  let v135 : BitVec 32 := Scalar.ori v133 v134
  let c8_i32_309 : BitVec 32 := 8#32
  let v136 : BitVec 32 := Scalar.shrsi v135 c8_i32_309
  let c9_i32 : BitVec 32 := 9#32
  let v137 : BitVec 32 := Scalar.shli v136 c9_i32
  let c255_i32 : BitVec 32 := 255#32
  let v138 : BitVec 32 := Scalar.andi v135 c255_i32
  let v139 : BitVec 32 := Scalar.ori v137 v138
  let c9_i32_310 : BitVec 32 := 9#32
  let v140 : BitVec 32 := Scalar.shrsi v139 c9_i32_310
  let c10_i32 : BitVec 32 := 10#32
  let v141 : BitVec 32 := Scalar.shli v140 c10_i32
  let c511_i32 : BitVec 32 := 511#32
  let v142 : BitVec 32 := Scalar.andi v139 c511_i32
  let v143 : BitVec 32 := Scalar.ori v141 v142
  let c64_i32_311 : BitVec 32 := 64#32
  let v144 : BitVec 32 := Scalar.muli v143 c64_i32_311
  let c16384_i32_315 : BitVec 32 := 16384#32
  let v153 : BitVec 32 := Scalar.addi v144 c16384_i32_315
  let c8192_i32_316 : BitVec 32 := 8192#32
  let v154 : BitVec 32 := Scalar.addi v153 c8192_i32_316
  let v155 : Index := Scalar.indexCast v154
  let c0_317 : Index := 0#32
  ![v155.toNat, 0]
@[reducible] def k0_t56_loop : Scf.Loop 32 :=
  let c0_i32_241 : BitVec 32 := 0#32
  let c128_i32_242 : BitVec 32 := 128#32
  let v113 : BitVec 32 := Scalar.addi c0_i32_241 c128_i32_242
  let c1_i32_243 : BitVec 32 := 1#32
  ⟨c0_i32_241, v113, c1_i32_243⟩
def k0_off115 (k0_t56 : Fin k0_t56_loop.trips) : Fin 2 → Nat :=
  let c0_i32_241 : BitVec 32 := 0#32
  let c1_i32_243 : BitVec 32 := 1#32
  let arg5 : BitVec 32 := Scf.iv c0_i32_241 c1_i32_243 k0_t56
  let c7_i32 : BitVec 32 := 7#32
  let v132 : BitVec 32 := Scalar.shrsi arg5 c7_i32
  let c8_i32_308 : BitVec 32 := 8#32
  let v133 : BitVec 32 := Scalar.shli v132 c8_i32_308
  let c127_i32 : BitVec 32 := 127#32
  let v134 : BitVec 32 := Scalar.andi arg5 c127_i32
  let v135 : BitVec 32 := Scalar.ori v133 v134
  let c8_i32_309 : BitVec 32 := 8#32
  let v136 : BitVec 32 := Scalar.shrsi v135 c8_i32_309
  let c9_i32 : BitVec 32 := 9#32
  let v137 : BitVec 32 := Scalar.shli v136 c9_i32
  let c255_i32 : BitVec 32 := 255#32
  let v138 : BitVec 32 := Scalar.andi v135 c255_i32
  let v139 : BitVec 32 := Scalar.ori v137 v138
  let c9_i32_310 : BitVec 32 := 9#32
  let v140 : BitVec 32 := Scalar.shrsi v139 c9_i32_310
  let c10_i32 : BitVec 32 := 10#32
  let v141 : BitVec 32 := Scalar.shli v140 c10_i32
  let c511_i32 : BitVec 32 := 511#32
  let v142 : BitVec 32 := Scalar.andi v139 c511_i32
  let v143 : BitVec 32 := Scalar.ori v141 v142
  let c512_i32_311 : BitVec 32 := 512#32
  let v144 : BitVec 32 := Scalar.ori v143 c512_i32_311
  let c64_i32_312 : BitVec 32 := 64#32
  let v145 : BitVec 32 := Scalar.muli v144 c64_i32_312
  let v146 : Index := Scalar.indexCast v145
  let c0_313 : Index := 0#32
  ![v146.toNat, 0]
def k0_off116 (k0_t56 : Fin k0_t56_loop.trips) (c8192_i32 : BitVec 32) : Fin 2 → Nat :=
  let c0_i32_241 : BitVec 32 := 0#32
  let c1_i32_243 : BitVec 32 := 1#32
  let arg5 : BitVec 32 := Scf.iv c0_i32_241 c1_i32_243 k0_t56
  let c7_i32 : BitVec 32 := 7#32
  let v132 : BitVec 32 := Scalar.shrsi arg5 c7_i32
  let c8_i32_308 : BitVec 32 := 8#32
  let v133 : BitVec 32 := Scalar.shli v132 c8_i32_308
  let c127_i32 : BitVec 32 := 127#32
  let v134 : BitVec 32 := Scalar.andi arg5 c127_i32
  let v135 : BitVec 32 := Scalar.ori v133 v134
  let c8_i32_309 : BitVec 32 := 8#32
  let v136 : BitVec 32 := Scalar.shrsi v135 c8_i32_309
  let c9_i32 : BitVec 32 := 9#32
  let v137 : BitVec 32 := Scalar.shli v136 c9_i32
  let c255_i32 : BitVec 32 := 255#32
  let v138 : BitVec 32 := Scalar.andi v135 c255_i32
  let v139 : BitVec 32 := Scalar.ori v137 v138
  let c9_i32_310 : BitVec 32 := 9#32
  let v140 : BitVec 32 := Scalar.shrsi v139 c9_i32_310
  let c10_i32 : BitVec 32 := 10#32
  let v141 : BitVec 32 := Scalar.shli v140 c10_i32
  let c511_i32 : BitVec 32 := 511#32
  let v142 : BitVec 32 := Scalar.andi v139 c511_i32
  let v143 : BitVec 32 := Scalar.ori v141 v142
  let c512_i32_311 : BitVec 32 := 512#32
  let v144 : BitVec 32 := Scalar.ori v143 c512_i32_311
  let c64_i32_312 : BitVec 32 := 64#32
  let v145 : BitVec 32 := Scalar.muli v144 c64_i32_312
  let v148 : BitVec 32 := Scalar.addi v145 c8192_i32
  let v149 : Index := Scalar.indexCast v148
  let c0_314 : Index := 0#32
  ![v149.toNat, 0]
def k0_off117 (k0_t56 : Fin k0_t56_loop.trips) : Fin 2 → Nat :=
  let c0_i32_241 : BitVec 32 := 0#32
  let c1_i32_243 : BitVec 32 := 1#32
  let arg5 : BitVec 32 := Scf.iv c0_i32_241 c1_i32_243 k0_t56
  let c7_i32 : BitVec 32 := 7#32
  let v132 : BitVec 32 := Scalar.shrsi arg5 c7_i32
  let c8_i32_308 : BitVec 32 := 8#32
  let v133 : BitVec 32 := Scalar.shli v132 c8_i32_308
  let c127_i32 : BitVec 32 := 127#32
  let v134 : BitVec 32 := Scalar.andi arg5 c127_i32
  let v135 : BitVec 32 := Scalar.ori v133 v134
  let c8_i32_309 : BitVec 32 := 8#32
  let v136 : BitVec 32 := Scalar.shrsi v135 c8_i32_309
  let c9_i32 : BitVec 32 := 9#32
  let v137 : BitVec 32 := Scalar.shli v136 c9_i32
  let c255_i32 : BitVec 32 := 255#32
  let v138 : BitVec 32 := Scalar.andi v135 c255_i32
  let v139 : BitVec 32 := Scalar.ori v137 v138
  let c9_i32_310 : BitVec 32 := 9#32
  let v140 : BitVec 32 := Scalar.shrsi v139 c9_i32_310
  let c10_i32 : BitVec 32 := 10#32
  let v141 : BitVec 32 := Scalar.shli v140 c10_i32
  let c511_i32 : BitVec 32 := 511#32
  let v142 : BitVec 32 := Scalar.andi v139 c511_i32
  let v143 : BitVec 32 := Scalar.ori v141 v142
  let c512_i32_311 : BitVec 32 := 512#32
  let v144 : BitVec 32 := Scalar.ori v143 c512_i32_311
  let c64_i32_312 : BitVec 32 := 64#32
  let v145 : BitVec 32 := Scalar.muli v144 c64_i32_312
  let c16384_i32_316 : BitVec 32 := 16384#32
  let v154 : BitVec 32 := Scalar.addi v145 c16384_i32_316
  let c8192_i32_317 : BitVec 32 := 8192#32
  let v155 : BitVec 32 := Scalar.addi v154 c8192_i32_317
  let v156 : Index := Scalar.indexCast v155
  let c0_318 : Index := 0#32
  ![v156.toNat, 0]
@[reducible] def k0_t57_loop : Scf.Loop 32 :=
  let c0_i32_245 : BitVec 32 := 0#32
  let c128_i32_246 : BitVec 32 := 128#32
  let v114 : BitVec 32 := Scalar.addi c0_i32_245 c128_i32_246
  let c1_i32_247 : BitVec 32 := 1#32
  ⟨c0_i32_245, v114, c1_i32_247⟩
def k0_off118 (k0_t57 : Fin k0_t57_loop.trips) : Fin 2 → Nat :=
  let c0_i32_245 : BitVec 32 := 0#32
  let c1_i32_247 : BitVec 32 := 1#32
  let arg5 : BitVec 32 := Scf.iv c0_i32_245 c1_i32_247 k0_t57
  let c5_i32 : BitVec 32 := 5#32
  let v132 : BitVec 32 := Scalar.shrsi arg5 c5_i32
  let c6_i32 : BitVec 32 := 6#32
  let v133 : BitVec 32 := Scalar.shli v132 c6_i32
  let c31_i32 : BitVec 32 := 31#32
  let v134 : BitVec 32 := Scalar.andi arg5 c31_i32
  let v135 : BitVec 32 := Scalar.ori v133 v134
  let c6_i32_308 : BitVec 32 := 6#32
  let v136 : BitVec 32 := Scalar.shrsi v135 c6_i32_308
  let c7_i32 : BitVec 32 := 7#32
  let v137 : BitVec 32 := Scalar.shli v136 c7_i32
  let c63_i32 : BitVec 32 := 63#32
  let v138 : BitVec 32 := Scalar.andi v135 c63_i32
  let v139 : BitVec 32 := Scalar.ori v137 v138
  let c9_i32 : BitVec 32 := 9#32
  let v140 : BitVec 32 := Scalar.shrsi v139 c9_i32
  let c10_i32 : BitVec 32 := 10#32
  let v141 : BitVec 32 := Scalar.shli v140 c10_i32
  let c511_i32 : BitVec 32 := 511#32
  let v142 : BitVec 32 := Scalar.andi v139 c511_i32
  let v143 : BitVec 32 := Scalar.ori v141 v142
  let c64_i32_309 : BitVec 32 := 64#32
  let v144 : BitVec 32 := Scalar.muli v143 c64_i32_309
  let v145 : Index := Scalar.indexCast v144
  let c0_310 : Index := 0#32
  ![v145.toNat, 0]
def k0_off119 (k0_t57 : Fin k0_t57_loop.trips) (c2048_i32 : BitVec 32) : Fin 2 → Nat :=
  let c0_i32_245 : BitVec 32 := 0#32
  let c1_i32_247 : BitVec 32 := 1#32
  let arg5 : BitVec 32 := Scf.iv c0_i32_245 c1_i32_247 k0_t57
  let c5_i32 : BitVec 32 := 5#32
  let v132 : BitVec 32 := Scalar.shrsi arg5 c5_i32
  let c6_i32 : BitVec 32 := 6#32
  let v133 : BitVec 32 := Scalar.shli v132 c6_i32
  let c31_i32 : BitVec 32 := 31#32
  let v134 : BitVec 32 := Scalar.andi arg5 c31_i32
  let v135 : BitVec 32 := Scalar.ori v133 v134
  let c6_i32_308 : BitVec 32 := 6#32
  let v136 : BitVec 32 := Scalar.shrsi v135 c6_i32_308
  let c7_i32 : BitVec 32 := 7#32
  let v137 : BitVec 32 := Scalar.shli v136 c7_i32
  let c63_i32 : BitVec 32 := 63#32
  let v138 : BitVec 32 := Scalar.andi v135 c63_i32
  let v139 : BitVec 32 := Scalar.ori v137 v138
  let c9_i32 : BitVec 32 := 9#32
  let v140 : BitVec 32 := Scalar.shrsi v139 c9_i32
  let c10_i32 : BitVec 32 := 10#32
  let v141 : BitVec 32 := Scalar.shli v140 c10_i32
  let c511_i32 : BitVec 32 := 511#32
  let v142 : BitVec 32 := Scalar.andi v139 c511_i32
  let v143 : BitVec 32 := Scalar.ori v141 v142
  let c64_i32_309 : BitVec 32 := 64#32
  let v144 : BitVec 32 := Scalar.muli v143 c64_i32_309
  let v147 : BitVec 32 := Scalar.addi v144 c2048_i32
  let v148 : Index := Scalar.indexCast v147
  let c0_311 : Index := 0#32
  ![v148.toNat, 0]
def k0_off120 (k0_t57 : Fin k0_t57_loop.trips) : Fin 2 → Nat :=
  let c0_i32_245 : BitVec 32 := 0#32
  let c1_i32_247 : BitVec 32 := 1#32
  let arg5 : BitVec 32 := Scf.iv c0_i32_245 c1_i32_247 k0_t57
  let c5_i32 : BitVec 32 := 5#32
  let v132 : BitVec 32 := Scalar.shrsi arg5 c5_i32
  let c6_i32 : BitVec 32 := 6#32
  let v133 : BitVec 32 := Scalar.shli v132 c6_i32
  let c31_i32 : BitVec 32 := 31#32
  let v134 : BitVec 32 := Scalar.andi arg5 c31_i32
  let v135 : BitVec 32 := Scalar.ori v133 v134
  let c6_i32_308 : BitVec 32 := 6#32
  let v136 : BitVec 32 := Scalar.shrsi v135 c6_i32_308
  let c7_i32 : BitVec 32 := 7#32
  let v137 : BitVec 32 := Scalar.shli v136 c7_i32
  let c63_i32 : BitVec 32 := 63#32
  let v138 : BitVec 32 := Scalar.andi v135 c63_i32
  let v139 : BitVec 32 := Scalar.ori v137 v138
  let c9_i32 : BitVec 32 := 9#32
  let v140 : BitVec 32 := Scalar.shrsi v139 c9_i32
  let c10_i32 : BitVec 32 := 10#32
  let v141 : BitVec 32 := Scalar.shli v140 c10_i32
  let c511_i32 : BitVec 32 := 511#32
  let v142 : BitVec 32 := Scalar.andi v139 c511_i32
  let v143 : BitVec 32 := Scalar.ori v141 v142
  let c64_i32_309 : BitVec 32 := 64#32
  let v144 : BitVec 32 := Scalar.muli v143 c64_i32_309
  let c4096_i32_313 : BitVec 32 := 4096#32
  let v153 : BitVec 32 := Scalar.addi v144 c4096_i32_313
  let c2048_i32_314 : BitVec 32 := 2048#32
  let v154 : BitVec 32 := Scalar.addi v153 c2048_i32_314
  let v155 : Index := Scalar.indexCast v154
  let c0_315 : Index := 0#32
  ![v155.toNat, 0]
@[reducible] def k0_t58_loop : Scf.Loop 32 :=
  let c0_i32_249 : BitVec 32 := 0#32
  let c128_i32_250 : BitVec 32 := 128#32
  let v115 : BitVec 32 := Scalar.addi c0_i32_249 c128_i32_250
  let c1_i32_251 : BitVec 32 := 1#32
  ⟨c0_i32_249, v115, c1_i32_251⟩
def k0_off121 (k0_t58 : Fin k0_t58_loop.trips) : Fin 2 → Nat :=
  let c0_i32_249 : BitVec 32 := 0#32
  let c1_i32_251 : BitVec 32 := 1#32
  let arg5 : BitVec 32 := Scf.iv c0_i32_249 c1_i32_251 k0_t58
  let c5_i32 : BitVec 32 := 5#32
  let v132 : BitVec 32 := Scalar.shrsi arg5 c5_i32
  let c6_i32 : BitVec 32 := 6#32
  let v133 : BitVec 32 := Scalar.shli v132 c6_i32
  let c31_i32 : BitVec 32 := 31#32
  let v134 : BitVec 32 := Scalar.andi arg5 c31_i32
  let v135 : BitVec 32 := Scalar.ori v133 v134
  let c6_i32_308 : BitVec 32 := 6#32
  let v136 : BitVec 32 := Scalar.shrsi v135 c6_i32_308
  let c7_i32 : BitVec 32 := 7#32
  let v137 : BitVec 32 := Scalar.shli v136 c7_i32
  let c63_i32 : BitVec 32 := 63#32
  let v138 : BitVec 32 := Scalar.andi v135 c63_i32
  let v139 : BitVec 32 := Scalar.ori v137 v138
  let c9_i32 : BitVec 32 := 9#32
  let v140 : BitVec 32 := Scalar.shrsi v139 c9_i32
  let c10_i32 : BitVec 32 := 10#32
  let v141 : BitVec 32 := Scalar.shli v140 c10_i32
  let c511_i32 : BitVec 32 := 511#32
  let v142 : BitVec 32 := Scalar.andi v139 c511_i32
  let v143 : BitVec 32 := Scalar.ori v141 v142
  let c512_i32_309 : BitVec 32 := 512#32
  let v144 : BitVec 32 := Scalar.ori v143 c512_i32_309
  let c64_i32_310 : BitVec 32 := 64#32
  let v145 : BitVec 32 := Scalar.muli v144 c64_i32_310
  let v146 : Index := Scalar.indexCast v145
  let c0_311 : Index := 0#32
  ![v146.toNat, 0]
def k0_off122 (k0_t58 : Fin k0_t58_loop.trips) (c2048_i32 : BitVec 32) : Fin 2 → Nat :=
  let c0_i32_249 : BitVec 32 := 0#32
  let c1_i32_251 : BitVec 32 := 1#32
  let arg5 : BitVec 32 := Scf.iv c0_i32_249 c1_i32_251 k0_t58
  let c5_i32 : BitVec 32 := 5#32
  let v132 : BitVec 32 := Scalar.shrsi arg5 c5_i32
  let c6_i32 : BitVec 32 := 6#32
  let v133 : BitVec 32 := Scalar.shli v132 c6_i32
  let c31_i32 : BitVec 32 := 31#32
  let v134 : BitVec 32 := Scalar.andi arg5 c31_i32
  let v135 : BitVec 32 := Scalar.ori v133 v134
  let c6_i32_308 : BitVec 32 := 6#32
  let v136 : BitVec 32 := Scalar.shrsi v135 c6_i32_308
  let c7_i32 : BitVec 32 := 7#32
  let v137 : BitVec 32 := Scalar.shli v136 c7_i32
  let c63_i32 : BitVec 32 := 63#32
  let v138 : BitVec 32 := Scalar.andi v135 c63_i32
  let v139 : BitVec 32 := Scalar.ori v137 v138
  let c9_i32 : BitVec 32 := 9#32
  let v140 : BitVec 32 := Scalar.shrsi v139 c9_i32
  let c10_i32 : BitVec 32 := 10#32
  let v141 : BitVec 32 := Scalar.shli v140 c10_i32
  let c511_i32 : BitVec 32 := 511#32
  let v142 : BitVec 32 := Scalar.andi v139 c511_i32
  let v143 : BitVec 32 := Scalar.ori v141 v142
  let c512_i32_309 : BitVec 32 := 512#32
  let v144 : BitVec 32 := Scalar.ori v143 c512_i32_309
  let c64_i32_310 : BitVec 32 := 64#32
  let v145 : BitVec 32 := Scalar.muli v144 c64_i32_310
  let v148 : BitVec 32 := Scalar.addi v145 c2048_i32
  let v149 : Index := Scalar.indexCast v148
  let c0_312 : Index := 0#32
  ![v149.toNat, 0]
def k0_off123 (k0_t58 : Fin k0_t58_loop.trips) : Fin 2 → Nat :=
  let c0_i32_249 : BitVec 32 := 0#32
  let c1_i32_251 : BitVec 32 := 1#32
  let arg5 : BitVec 32 := Scf.iv c0_i32_249 c1_i32_251 k0_t58
  let c5_i32 : BitVec 32 := 5#32
  let v132 : BitVec 32 := Scalar.shrsi arg5 c5_i32
  let c6_i32 : BitVec 32 := 6#32
  let v133 : BitVec 32 := Scalar.shli v132 c6_i32
  let c31_i32 : BitVec 32 := 31#32
  let v134 : BitVec 32 := Scalar.andi arg5 c31_i32
  let v135 : BitVec 32 := Scalar.ori v133 v134
  let c6_i32_308 : BitVec 32 := 6#32
  let v136 : BitVec 32 := Scalar.shrsi v135 c6_i32_308
  let c7_i32 : BitVec 32 := 7#32
  let v137 : BitVec 32 := Scalar.shli v136 c7_i32
  let c63_i32 : BitVec 32 := 63#32
  let v138 : BitVec 32 := Scalar.andi v135 c63_i32
  let v139 : BitVec 32 := Scalar.ori v137 v138
  let c9_i32 : BitVec 32 := 9#32
  let v140 : BitVec 32 := Scalar.shrsi v139 c9_i32
  let c10_i32 : BitVec 32 := 10#32
  let v141 : BitVec 32 := Scalar.shli v140 c10_i32
  let c511_i32 : BitVec 32 := 511#32
  let v142 : BitVec 32 := Scalar.andi v139 c511_i32
  let v143 : BitVec 32 := Scalar.ori v141 v142
  let c512_i32_309 : BitVec 32 := 512#32
  let v144 : BitVec 32 := Scalar.ori v143 c512_i32_309
  let c64_i32_310 : BitVec 32 := 64#32
  let v145 : BitVec 32 := Scalar.muli v144 c64_i32_310
  let c4096_i32_314 : BitVec 32 := 4096#32
  let v154 : BitVec 32 := Scalar.addi v145 c4096_i32_314
  let c2048_i32_315 : BitVec 32 := 2048#32
  let v155 : BitVec 32 := Scalar.addi v154 c2048_i32_315
  let v156 : Index := Scalar.indexCast v155
  let c0_316 : Index := 0#32
  ![v156.toNat, 0]
@[reducible] def k0_t59_loop : Scf.Loop 32 :=
  let c0_i32_253 : BitVec 32 := 0#32
  let c128_i32_254 : BitVec 32 := 128#32
  let v116 : BitVec 32 := Scalar.addi c0_i32_253 c128_i32_254
  let c1_i32_255 : BitVec 32 := 1#32
  ⟨c0_i32_253, v116, c1_i32_255⟩
def k0_off124 (k0_t59 : Fin k0_t59_loop.trips) : Fin 2 → Nat :=
  let c0_i32_253 : BitVec 32 := 0#32
  let c1_i32_255 : BitVec 32 := 1#32
  let arg5 : BitVec 32 := Scf.iv c0_i32_253 c1_i32_255 k0_t59
  let c3_i32 : BitVec 32 := 3#32
  let v132 : BitVec 32 := Scalar.shrsi arg5 c3_i32
  let c4_i32_308 : BitVec 32 := 4#32
  let v133 : BitVec 32 := Scalar.shli v132 c4_i32_308
  let c7_i32 : BitVec 32 := 7#32
  let v134 : BitVec 32 := Scalar.andi arg5 c7_i32
  let v135 : BitVec 32 := Scalar.ori v133 v134
  let c4_i32_309 : BitVec 32 := 4#32
  let v136 : BitVec 32 := Scalar.shrsi v135 c4_i32_309
  let c5_i32 : BitVec 32 := 5#32
  let v137 : BitVec 32 := Scalar.shli v136 c5_i32
  let c15_i32 : BitVec 32 := 15#32
  let v138 : BitVec 32 := Scalar.andi v135 c15_i32
  let v139 : BitVec 32 := Scalar.ori v137 v138
  let c9_i32 : BitVec 32 := 9#32
  let v140 : BitVec 32 := Scalar.shrsi v139 c9_i32
  let c10_i32 : BitVec 32 := 10#32
  let v141 : BitVec 32 := Scalar.shli v140 c10_i32
  let c511_i32 : BitVec 32 := 511#32
  let v142 : BitVec 32 := Scalar.andi v139 c511_i32
  let v143 : BitVec 32 := Scalar.ori v141 v142
  let c64_i32_310 : BitVec 32 := 64#32
  let v144 : BitVec 32 := Scalar.muli v143 c64_i32_310
  let v145 : Index := Scalar.indexCast v144
  let c0_311 : Index := 0#32
  ![v145.toNat, 0]
def k0_off125 (k0_t59 : Fin k0_t59_loop.trips) (c512_i32_312 : BitVec 32) : Fin 2 → Nat :=
  let c0_i32_253 : BitVec 32 := 0#32
  let c1_i32_255 : BitVec 32 := 1#32
  let arg5 : BitVec 32 := Scf.iv c0_i32_253 c1_i32_255 k0_t59
  let c3_i32 : BitVec 32 := 3#32
  let v132 : BitVec 32 := Scalar.shrsi arg5 c3_i32
  let c4_i32_308 : BitVec 32 := 4#32
  let v133 : BitVec 32 := Scalar.shli v132 c4_i32_308
  let c7_i32 : BitVec 32 := 7#32
  let v134 : BitVec 32 := Scalar.andi arg5 c7_i32
  let v135 : BitVec 32 := Scalar.ori v133 v134
  let c4_i32_309 : BitVec 32 := 4#32
  let v136 : BitVec 32 := Scalar.shrsi v135 c4_i32_309
  let c5_i32 : BitVec 32 := 5#32
  let v137 : BitVec 32 := Scalar.shli v136 c5_i32
  let c15_i32 : BitVec 32 := 15#32
  let v138 : BitVec 32 := Scalar.andi v135 c15_i32
  let v139 : BitVec 32 := Scalar.ori v137 v138
  let c9_i32 : BitVec 32 := 9#32
  let v140 : BitVec 32 := Scalar.shrsi v139 c9_i32
  let c10_i32 : BitVec 32 := 10#32
  let v141 : BitVec 32 := Scalar.shli v140 c10_i32
  let c511_i32 : BitVec 32 := 511#32
  let v142 : BitVec 32 := Scalar.andi v139 c511_i32
  let v143 : BitVec 32 := Scalar.ori v141 v142
  let c64_i32_310 : BitVec 32 := 64#32
  let v144 : BitVec 32 := Scalar.muli v143 c64_i32_310
  let v147 : BitVec 32 := Scalar.addi v144 c512_i32_312
  let v148 : Index := Scalar.indexCast v147
  let c0_313 : Index := 0#32
  ![v148.toNat, 0]
def k0_off126 (k0_t59 : Fin k0_t59_loop.trips) : Fin 2 → Nat :=
  let c0_i32_253 : BitVec 32 := 0#32
  let c1_i32_255 : BitVec 32 := 1#32
  let arg5 : BitVec 32 := Scf.iv c0_i32_253 c1_i32_255 k0_t59
  let c3_i32 : BitVec 32 := 3#32
  let v132 : BitVec 32 := Scalar.shrsi arg5 c3_i32
  let c4_i32_308 : BitVec 32 := 4#32
  let v133 : BitVec 32 := Scalar.shli v132 c4_i32_308
  let c7_i32 : BitVec 32 := 7#32
  let v134 : BitVec 32 := Scalar.andi arg5 c7_i32
  let v135 : BitVec 32 := Scalar.ori v133 v134
  let c4_i32_309 : BitVec 32 := 4#32
  let v136 : BitVec 32 := Scalar.shrsi v135 c4_i32_309
  let c5_i32 : BitVec 32 := 5#32
  let v137 : BitVec 32 := Scalar.shli v136 c5_i32
  let c15_i32 : BitVec 32 := 15#32
  let v138 : BitVec 32 := Scalar.andi v135 c15_i32
  let v139 : BitVec 32 := Scalar.ori v137 v138
  let c9_i32 : BitVec 32 := 9#32
  let v140 : BitVec 32 := Scalar.shrsi v139 c9_i32
  let c10_i32 : BitVec 32 := 10#32
  let v141 : BitVec 32 := Scalar.shli v140 c10_i32
  let c511_i32 : BitVec 32 := 511#32
  let v142 : BitVec 32 := Scalar.andi v139 c511_i32
  let v143 : BitVec 32 := Scalar.ori v141 v142
  let c64_i32_310 : BitVec 32 := 64#32
  let v144 : BitVec 32 := Scalar.muli v143 c64_i32_310
  let c1024_i32_315 : BitVec 32 := 1024#32
  let v153 : BitVec 32 := Scalar.addi v144 c1024_i32_315
  let c512_i32_316 : BitVec 32 := 512#32
  let v154 : BitVec 32 := Scalar.addi v153 c512_i32_316
  let v155 : Index := Scalar.indexCast v154
  let c0_317 : Index := 0#32
  ![v155.toNat, 0]
@[reducible] def k0_t60_loop : Scf.Loop 32 :=
  let c0_i32_257 : BitVec 32 := 0#32
  let c128_i32_258 : BitVec 32 := 128#32
  let v117 : BitVec 32 := Scalar.addi c0_i32_257 c128_i32_258
  let c1_i32_259 : BitVec 32 := 1#32
  ⟨c0_i32_257, v117, c1_i32_259⟩
def k0_off127 (k0_t60 : Fin k0_t60_loop.trips) : Fin 2 → Nat :=
  let c0_i32_257 : BitVec 32 := 0#32
  let c1_i32_259 : BitVec 32 := 1#32
  let arg5 : BitVec 32 := Scf.iv c0_i32_257 c1_i32_259 k0_t60
  let c3_i32 : BitVec 32 := 3#32
  let v132 : BitVec 32 := Scalar.shrsi arg5 c3_i32
  let c4_i32_308 : BitVec 32 := 4#32
  let v133 : BitVec 32 := Scalar.shli v132 c4_i32_308
  let c7_i32 : BitVec 32 := 7#32
  let v134 : BitVec 32 := Scalar.andi arg5 c7_i32
  let v135 : BitVec 32 := Scalar.ori v133 v134
  let c4_i32_309 : BitVec 32 := 4#32
  let v136 : BitVec 32 := Scalar.shrsi v135 c4_i32_309
  let c5_i32 : BitVec 32 := 5#32
  let v137 : BitVec 32 := Scalar.shli v136 c5_i32
  let c15_i32 : BitVec 32 := 15#32
  let v138 : BitVec 32 := Scalar.andi v135 c15_i32
  let v139 : BitVec 32 := Scalar.ori v137 v138
  let c9_i32 : BitVec 32 := 9#32
  let v140 : BitVec 32 := Scalar.shrsi v139 c9_i32
  let c10_i32 : BitVec 32 := 10#32
  let v141 : BitVec 32 := Scalar.shli v140 c10_i32
  let c511_i32 : BitVec 32 := 511#32
  let v142 : BitVec 32 := Scalar.andi v139 c511_i32
  let v143 : BitVec 32 := Scalar.ori v141 v142
  let c512_i32_310 : BitVec 32 := 512#32
  let v144 : BitVec 32 := Scalar.ori v143 c512_i32_310
  let c64_i32_311 : BitVec 32 := 64#32
  let v145 : BitVec 32 := Scalar.muli v144 c64_i32_311
  let v146 : Index := Scalar.indexCast v145
  let c0_312 : Index := 0#32
  ![v146.toNat, 0]
def k0_off128 (k0_t60 : Fin k0_t60_loop.trips) (c512_i32_313 : BitVec 32) : Fin 2 → Nat :=
  let c0_i32_257 : BitVec 32 := 0#32
  let c1_i32_259 : BitVec 32 := 1#32
  let arg5 : BitVec 32 := Scf.iv c0_i32_257 c1_i32_259 k0_t60
  let c3_i32 : BitVec 32 := 3#32
  let v132 : BitVec 32 := Scalar.shrsi arg5 c3_i32
  let c4_i32_308 : BitVec 32 := 4#32
  let v133 : BitVec 32 := Scalar.shli v132 c4_i32_308
  let c7_i32 : BitVec 32 := 7#32
  let v134 : BitVec 32 := Scalar.andi arg5 c7_i32
  let v135 : BitVec 32 := Scalar.ori v133 v134
  let c4_i32_309 : BitVec 32 := 4#32
  let v136 : BitVec 32 := Scalar.shrsi v135 c4_i32_309
  let c5_i32 : BitVec 32 := 5#32
  let v137 : BitVec 32 := Scalar.shli v136 c5_i32
  let c15_i32 : BitVec 32 := 15#32
  let v138 : BitVec 32 := Scalar.andi v135 c15_i32
  let v139 : BitVec 32 := Scalar.ori v137 v138
  let c9_i32 : BitVec 32 := 9#32
  let v140 : BitVec 32 := Scalar.shrsi v139 c9_i32
  let c10_i32 : BitVec 32 := 10#32
  let v141 : BitVec 32 := Scalar.shli v140 c10_i32
  let c511_i32 : BitVec 32 := 511#32
  let v142 : BitVec 32 := Scalar.andi v139 c511_i32
  let v143 : BitVec 32 := Scalar.ori v141 v142
  let c512_i32_310 : BitVec 32 := 512#32
  let v144 : BitVec 32 := Scalar.ori v143 c512_i32_310
  let c64_i32_311 : BitVec 32 := 64#32
  let v145 : BitVec 32 := Scalar.muli v144 c64_i32_311
  let v148 : BitVec 32 := Scalar.addi v145 c512_i32_313
  let v149 : Index := Scalar.indexCast v148
  let c0_314 : Index := 0#32
  ![v149.toNat, 0]
def k0_off129 (k0_t60 : Fin k0_t60_loop.trips) : Fin 2 → Nat :=
  let c0_i32_257 : BitVec 32 := 0#32
  let c1_i32_259 : BitVec 32 := 1#32
  let arg5 : BitVec 32 := Scf.iv c0_i32_257 c1_i32_259 k0_t60
  let c3_i32 : BitVec 32 := 3#32
  let v132 : BitVec 32 := Scalar.shrsi arg5 c3_i32
  let c4_i32_308 : BitVec 32 := 4#32
  let v133 : BitVec 32 := Scalar.shli v132 c4_i32_308
  let c7_i32 : BitVec 32 := 7#32
  let v134 : BitVec 32 := Scalar.andi arg5 c7_i32
  let v135 : BitVec 32 := Scalar.ori v133 v134
  let c4_i32_309 : BitVec 32 := 4#32
  let v136 : BitVec 32 := Scalar.shrsi v135 c4_i32_309
  let c5_i32 : BitVec 32 := 5#32
  let v137 : BitVec 32 := Scalar.shli v136 c5_i32
  let c15_i32 : BitVec 32 := 15#32
  let v138 : BitVec 32 := Scalar.andi v135 c15_i32
  let v139 : BitVec 32 := Scalar.ori v137 v138
  let c9_i32 : BitVec 32 := 9#32
  let v140 : BitVec 32 := Scalar.shrsi v139 c9_i32
  let c10_i32 : BitVec 32 := 10#32
  let v141 : BitVec 32 := Scalar.shli v140 c10_i32
  let c511_i32 : BitVec 32 := 511#32
  let v142 : BitVec 32 := Scalar.andi v139 c511_i32
  let v143 : BitVec 32 := Scalar.ori v141 v142
  let c512_i32_310 : BitVec 32 := 512#32
  let v144 : BitVec 32 := Scalar.ori v143 c512_i32_310
  let c64_i32_311 : BitVec 32 := 64#32
  let v145 : BitVec 32 := Scalar.muli v144 c64_i32_311
  let c1024_i32_316 : BitVec 32 := 1024#32
  let v154 : BitVec 32 := Scalar.addi v145 c1024_i32_316
  let c512_i32_317 : BitVec 32 := 512#32
  let v155 : BitVec 32 := Scalar.addi v154 c512_i32_317
  let v156 : Index := Scalar.indexCast v155
  let c0_318 : Index := 0#32
  ![v156.toNat, 0]
@[reducible] def k0_t61_loop : Scf.Loop 32 :=
  let c0_i32_261 : BitVec 32 := 0#32
  let c128_i32_262 : BitVec 32 := 128#32
  let v118 : BitVec 32 := Scalar.addi c0_i32_261 c128_i32_262
  let c1_i32_263 : BitVec 32 := 1#32
  ⟨c0_i32_261, v118, c1_i32_263⟩
def k0_off130 (k0_t61 : Fin k0_t61_loop.trips) : Fin 2 → Nat :=
  let c0_i32_261 : BitVec 32 := 0#32
  let c1_i32_263 : BitVec 32 := 1#32
  let arg5 : BitVec 32 := Scf.iv c0_i32_261 c1_i32_263 k0_t61
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c9_i32 : BitVec 32 := 9#32
  let v140 : BitVec 32 := Scalar.shrsi v139 c9_i32
  let c10_i32 : BitVec 32 := 10#32
  let v141 : BitVec 32 := Scalar.shli v140 c10_i32
  let c511_i32 : BitVec 32 := 511#32
  let v142 : BitVec 32 := Scalar.andi v139 c511_i32
  let v143 : BitVec 32 := Scalar.ori v141 v142
  let c64_i32_313 : BitVec 32 := 64#32
  let v144 : BitVec 32 := Scalar.muli v143 c64_i32_313
  let v145 : Index := Scalar.indexCast v144
  let c0_314 : Index := 0#32
  ![v145.toNat, 0]
def k0_off131 (k0_t61 : Fin k0_t61_loop.trips) (c128_i32_315 : BitVec 32) : Fin 2 → Nat :=
  let c0_i32_261 : BitVec 32 := 0#32
  let c1_i32_263 : BitVec 32 := 1#32
  let arg5 : BitVec 32 := Scf.iv c0_i32_261 c1_i32_263 k0_t61
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c9_i32 : BitVec 32 := 9#32
  let v140 : BitVec 32 := Scalar.shrsi v139 c9_i32
  let c10_i32 : BitVec 32 := 10#32
  let v141 : BitVec 32 := Scalar.shli v140 c10_i32
  let c511_i32 : BitVec 32 := 511#32
  let v142 : BitVec 32 := Scalar.andi v139 c511_i32
  let v143 : BitVec 32 := Scalar.ori v141 v142
  let c64_i32_313 : BitVec 32 := 64#32
  let v144 : BitVec 32 := Scalar.muli v143 c64_i32_313
  let v147 : BitVec 32 := Scalar.addi v144 c128_i32_315
  let v148 : Index := Scalar.indexCast v147
  let c0_316 : Index := 0#32
  ![v148.toNat, 0]
def k0_off132 (k0_t61 : Fin k0_t61_loop.trips) : Fin 2 → Nat :=
  let c0_i32_261 : BitVec 32 := 0#32
  let c1_i32_263 : BitVec 32 := 1#32
  let arg5 : BitVec 32 := Scf.iv c0_i32_261 c1_i32_263 k0_t61
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c9_i32 : BitVec 32 := 9#32
  let v140 : BitVec 32 := Scalar.shrsi v139 c9_i32
  let c10_i32 : BitVec 32 := 10#32
  let v141 : BitVec 32 := Scalar.shli v140 c10_i32
  let c511_i32 : BitVec 32 := 511#32
  let v142 : BitVec 32 := Scalar.andi v139 c511_i32
  let v143 : BitVec 32 := Scalar.ori v141 v142
  let c64_i32_313 : BitVec 32 := 64#32
  let v144 : BitVec 32 := Scalar.muli v143 c64_i32_313
  let c256_i32_319 : BitVec 32 := 256#32
  let v153 : BitVec 32 := Scalar.addi v144 c256_i32_319
  let c128_i32_320 : BitVec 32 := 128#32
  let v154 : BitVec 32 := Scalar.addi v153 c128_i32_320
  let v155 : Index := Scalar.indexCast v154
  let c0_321 : Index := 0#32
  ![v155.toNat, 0]
@[reducible] def k0_t62_loop : Scf.Loop 32 :=
  let c0_i32_265 : BitVec 32 := 0#32
  let c128_i32_266 : BitVec 32 := 128#32
  let v119 : BitVec 32 := Scalar.addi c0_i32_265 c128_i32_266
  let c1_i32_267 : BitVec 32 := 1#32
  ⟨c0_i32_265, v119, c1_i32_267⟩
def k0_off133 (k0_t62 : Fin k0_t62_loop.trips) : Fin 2 → Nat :=
  let c0_i32_265 : BitVec 32 := 0#32
  let c1_i32_267 : BitVec 32 := 1#32
  let arg5 : BitVec 32 := Scf.iv c0_i32_265 c1_i32_267 k0_t62
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c9_i32 : BitVec 32 := 9#32
  let v140 : BitVec 32 := Scalar.shrsi v139 c9_i32
  let c10_i32 : BitVec 32 := 10#32
  let v141 : BitVec 32 := Scalar.shli v140 c10_i32
  let c511_i32 : BitVec 32 := 511#32
  let v142 : BitVec 32 := Scalar.andi v139 c511_i32
  let v143 : BitVec 32 := Scalar.ori v141 v142
  let c512_i32_313 : BitVec 32 := 512#32
  let v144 : BitVec 32 := Scalar.ori v143 c512_i32_313
  let c64_i32_314 : BitVec 32 := 64#32
  let v145 : BitVec 32 := Scalar.muli v144 c64_i32_314
  let v146 : Index := Scalar.indexCast v145
  let c0_315 : Index := 0#32
  ![v146.toNat, 0]
def k0_off134 (k0_t62 : Fin k0_t62_loop.trips) (c128_i32_316 : BitVec 32) : Fin 2 → Nat :=
  let c0_i32_265 : BitVec 32 := 0#32
  let c1_i32_267 : BitVec 32 := 1#32
  let arg5 : BitVec 32 := Scf.iv c0_i32_265 c1_i32_267 k0_t62
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c9_i32 : BitVec 32 := 9#32
  let v140 : BitVec 32 := Scalar.shrsi v139 c9_i32
  let c10_i32 : BitVec 32 := 10#32
  let v141 : BitVec 32 := Scalar.shli v140 c10_i32
  let c511_i32 : BitVec 32 := 511#32
  let v142 : BitVec 32 := Scalar.andi v139 c511_i32
  let v143 : BitVec 32 := Scalar.ori v141 v142
  let c512_i32_313 : BitVec 32 := 512#32
  let v144 : BitVec 32 := Scalar.ori v143 c512_i32_313
  let c64_i32_314 : BitVec 32 := 64#32
  let v145 : BitVec 32 := Scalar.muli v144 c64_i32_314
  let v148 : BitVec 32 := Scalar.addi v145 c128_i32_316
  let v149 : Index := Scalar.indexCast v148
  let c0_317 : Index := 0#32
  ![v149.toNat, 0]
def k0_off135 (k0_t62 : Fin k0_t62_loop.trips) : Fin 2 → Nat :=
  let c0_i32_265 : BitVec 32 := 0#32
  let c1_i32_267 : BitVec 32 := 1#32
  let arg5 : BitVec 32 := Scf.iv c0_i32_265 c1_i32_267 k0_t62
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c2_i32_311 : BitVec 32 := 2#32
  let v136 : BitVec 32 := Scalar.shrsi v135 c2_i32_311
  let c3_i32 : BitVec 32 := 3#32
  let v137 : BitVec 32 := Scalar.shli v136 c3_i32
  let c3_i32_312 : BitVec 32 := 3#32
  let v138 : BitVec 32 := Scalar.andi v135 c3_i32_312
  let v139 : BitVec 32 := Scalar.ori v137 v138
  let c9_i32 : BitVec 32 := 9#32
  let v140 : BitVec 32 := Scalar.shrsi v139 c9_i32
  let c10_i32 : BitVec 32 := 10#32
  let v141 : BitVec 32 := Scalar.shli v140 c10_i32
  let c511_i32 : BitVec 32 := 511#32
  let v142 : BitVec 32 := Scalar.andi v139 c511_i32
  let v143 : BitVec 32 := Scalar.ori v141 v142
  let c512_i32_313 : BitVec 32 := 512#32
  let v144 : BitVec 32 := Scalar.ori v143 c512_i32_313
  let c64_i32_314 : BitVec 32 := 64#32
  let v145 : BitVec 32 := Scalar.muli v144 c64_i32_314
  let c256_i32_320 : BitVec 32 := 256#32
  let v154 : BitVec 32 := Scalar.addi v145 c256_i32_320
  let c128_i32_321 : BitVec 32 := 128#32
  let v155 : BitVec 32 := Scalar.addi v154 c128_i32_321
  let v156 : Index := Scalar.indexCast v155
  let c0_322 : Index := 0#32
  ![v156.toNat, 0]
@[reducible] def k0_t63_loop : Scf.Loop 32 :=
  let c0_i32_269 : BitVec 32 := 0#32
  let c256_i32_270 : BitVec 32 := 256#32
  let v120 : BitVec 32 := Scalar.addi c0_i32_269 c256_i32_270
  let c1_i32_271 : BitVec 32 := 1#32
  ⟨c0_i32_269, v120, c1_i32_271⟩
def k0_off136 (k0_t63 : Fin k0_t63_loop.trips) : Fin 2 → Nat :=
  let c0_i32_269 : BitVec 32 := 0#32
  let c1_i32_271 : BitVec 32 := 1#32
  let arg5 : BitVec 32 := Scf.iv c0_i32_269 c1_i32_271 k0_t63
  let c8_i32_308 : BitVec 32 := 8#32
  let v132 : BitVec 32 := Scalar.shrsi arg5 c8_i32_308
  let c9_i32 : BitVec 32 := 9#32
  let v133 : BitVec 32 := Scalar.shli v132 c9_i32
  let c255_i32 : BitVec 32 := 255#32
  let v134 : BitVec 32 := Scalar.andi arg5 c255_i32
  let v135 : BitVec 32 := Scalar.ori v133 v134
  let c128_i32_309 : BitVec 32 := 128#32
  let v136 : BitVec 32 := Scalar.muli v135 c128_i32_309
  let v137 : Index := Scalar.indexCast v136
  let c0_310 : Index := 0#32
  ![v137.toNat, 0]
@[reducible] def k0_t64_loop : Scf.Loop 32 :=
  let c0_i32_273 : BitVec 32 := 0#32
  let c256_i32_274 : BitVec 32 := 256#32
  let v121 : BitVec 32 := Scalar.addi c0_i32_273 c256_i32_274
  let c1_i32_275 : BitVec 32 := 1#32
  ⟨c0_i32_273, v121, c1_i32_275⟩
def k0_off137 (k0_t64 : Fin k0_t64_loop.trips) : Fin 2 → Nat :=
  let c0_i32_273 : BitVec 32 := 0#32
  let c1_i32_275 : BitVec 32 := 1#32
  let arg5 : BitVec 32 := Scf.iv c0_i32_273 c1_i32_275 k0_t64
  let c8_i32_308 : BitVec 32 := 8#32
  let v132 : BitVec 32 := Scalar.shrsi arg5 c8_i32_308
  let c9_i32 : BitVec 32 := 9#32
  let v133 : BitVec 32 := Scalar.shli v132 c9_i32
  let c255_i32 : BitVec 32 := 255#32
  let v134 : BitVec 32 := Scalar.andi arg5 c255_i32
  let v135 : BitVec 32 := Scalar.ori v133 v134
  let c256_i32_309 : BitVec 32 := 256#32
  let v136 : BitVec 32 := Scalar.ori v135 c256_i32_309
  let c128_i32_310 : BitVec 32 := 128#32
  let v137 : BitVec 32 := Scalar.muli v136 c128_i32_310
  let v138 : Index := Scalar.indexCast v137
  let c0_311 : Index := 0#32
  ![v138.toNat, 0]
@[reducible] def k0_t65_loop : Scf.Loop 32 :=
  let c0_i32_277 : BitVec 32 := 0#32
  let c256_i32_278 : BitVec 32 := 256#32
  let v122 : BitVec 32 := Scalar.addi c0_i32_277 c256_i32_278
  let c1_i32_279 : BitVec 32 := 1#32
  ⟨c0_i32_277, v122, c1_i32_279⟩
def k0_off138 (k0_t65 : Fin k0_t65_loop.trips) : Fin 2 → Nat :=
  let c0_i32_277 : BitVec 32 := 0#32
  let c1_i32_279 : BitVec 32 := 1#32
  let arg5 : BitVec 32 := Scf.iv c0_i32_277 c1_i32_279 k0_t65
  let c8_i32_308 : BitVec 32 := 8#32
  let v132 : BitVec 32 := Scalar.shrsi arg5 c8_i32_308
  let c9_i32 : BitVec 32 := 9#32
  let v133 : BitVec 32 := Scalar.shli v132 c9_i32
  let c255_i32 : BitVec 32 := 255#32
  let v134 : BitVec 32 := Scalar.andi arg5 c255_i32
  let v135 : BitVec 32 := Scalar.ori v133 v134
  let c9_i32_309 : BitVec 32 := 9#32
  let v136 : BitVec 32 := Scalar.shrsi v135 c9_i32_309
  let c10_i32 : BitVec 32 := 10#32
  let v137 : BitVec 32 := Scalar.shli v136 c10_i32
  let c511_i32 : BitVec 32 := 511#32
  let v138 : BitVec 32 := Scalar.andi v135 c511_i32
  let v139 : BitVec 32 := Scalar.ori v137 v138
  let c64_i32_310 : BitVec 32 := 64#32
  let v140 : BitVec 32 := Scalar.muli v139 c64_i32_310
  let v141 : Index := Scalar.indexCast v140
  let c0_311 : Index := 0#32
  ![v141.toNat, 0]
def k0_off139 (k0_t65 : Fin k0_t65_loop.trips) (c16384_i32 : BitVec 32) : Fin 2 → Nat :=
  let c0_i32_277 : BitVec 32 := 0#32
  let c1_i32_279 : BitVec 32 := 1#32
  let arg5 : BitVec 32 := Scf.iv c0_i32_277 c1_i32_279 k0_t65
  let c8_i32_308 : BitVec 32 := 8#32
  let v132 : BitVec 32 := Scalar.shrsi arg5 c8_i32_308
  let c9_i32 : BitVec 32 := 9#32
  let v133 : BitVec 32 := Scalar.shli v132 c9_i32
  let c255_i32 : BitVec 32 := 255#32
  let v134 : BitVec 32 := Scalar.andi arg5 c255_i32
  let v135 : BitVec 32 := Scalar.ori v133 v134
  let c9_i32_309 : BitVec 32 := 9#32
  let v136 : BitVec 32 := Scalar.shrsi v135 c9_i32_309
  let c10_i32 : BitVec 32 := 10#32
  let v137 : BitVec 32 := Scalar.shli v136 c10_i32
  let c511_i32 : BitVec 32 := 511#32
  let v138 : BitVec 32 := Scalar.andi v135 c511_i32
  let v139 : BitVec 32 := Scalar.ori v137 v138
  let c64_i32_310 : BitVec 32 := 64#32
  let v140 : BitVec 32 := Scalar.muli v139 c64_i32_310
  let v143 : BitVec 32 := Scalar.addi v140 c16384_i32
  let v144 : Index := Scalar.indexCast v143
  let c0_312 : Index := 0#32
  ![v144.toNat, 0]
def k0_off140 (k0_t65 : Fin k0_t65_loop.trips) : Fin 2 → Nat :=
  let c0_i32_277 : BitVec 32 := 0#32
  let c1_i32_279 : BitVec 32 := 1#32
  let arg5 : BitVec 32 := Scf.iv c0_i32_277 c1_i32_279 k0_t65
  let c8_i32_308 : BitVec 32 := 8#32
  let v132 : BitVec 32 := Scalar.shrsi arg5 c8_i32_308
  let c9_i32 : BitVec 32 := 9#32
  let v133 : BitVec 32 := Scalar.shli v132 c9_i32
  let c255_i32 : BitVec 32 := 255#32
  let v134 : BitVec 32 := Scalar.andi arg5 c255_i32
  let v135 : BitVec 32 := Scalar.ori v133 v134
  let c9_i32_309 : BitVec 32 := 9#32
  let v136 : BitVec 32 := Scalar.shrsi v135 c9_i32_309
  let c10_i32 : BitVec 32 := 10#32
  let v137 : BitVec 32 := Scalar.shli v136 c10_i32
  let c511_i32 : BitVec 32 := 511#32
  let v138 : BitVec 32 := Scalar.andi v135 c511_i32
  let v139 : BitVec 32 := Scalar.ori v137 v138
  let c64_i32_310 : BitVec 32 := 64#32
  let v140 : BitVec 32 := Scalar.muli v139 c64_i32_310
  let c32768_i32_314 : BitVec 32 := 32768#32
  let v149 : BitVec 32 := Scalar.addi v140 c32768_i32_314
  let c16384_i32_315 : BitVec 32 := 16384#32
  let v150 : BitVec 32 := Scalar.addi v149 c16384_i32_315
  let v151 : Index := Scalar.indexCast v150
  let c0_316 : Index := 0#32
  ![v151.toNat, 0]
@[reducible] def k0_t66_loop : Scf.Loop 32 :=
  let c0_i32_281 : BitVec 32 := 0#32
  let c256_i32_282 : BitVec 32 := 256#32
  let v123 : BitVec 32 := Scalar.addi c0_i32_281 c256_i32_282
  let c1_i32_283 : BitVec 32 := 1#32
  ⟨c0_i32_281, v123, c1_i32_283⟩
def k0_off141 (k0_t66 : Fin k0_t66_loop.trips) : Fin 2 → Nat :=
  let c0_i32_281 : BitVec 32 := 0#32
  let c1_i32_283 : BitVec 32 := 1#32
  let arg5 : BitVec 32 := Scf.iv c0_i32_281 c1_i32_283 k0_t66
  let c6_i32 : BitVec 32 := 6#32
  let v132 : BitVec 32 := Scalar.shrsi arg5 c6_i32
  let c7_i32 : BitVec 32 := 7#32
  let v133 : BitVec 32 := Scalar.shli v132 c7_i32
  let c63_i32 : BitVec 32 := 63#32
  let v134 : BitVec 32 := Scalar.andi arg5 c63_i32
  let v135 : BitVec 32 := Scalar.ori v133 v134
  let c7_i32_308 : BitVec 32 := 7#32
  let v136 : BitVec 32 := Scalar.shrsi v135 c7_i32_308
  let c8_i32_309 : BitVec 32 := 8#32
  let v137 : BitVec 32 := Scalar.shli v136 c8_i32_309
  let c127_i32 : BitVec 32 := 127#32
  let v138 : BitVec 32 := Scalar.andi v135 c127_i32
  let v139 : BitVec 32 := Scalar.ori v137 v138
  let c64_i32_310 : BitVec 32 := 64#32
  let v140 : BitVec 32 := Scalar.muli v139 c64_i32_310
  let v141 : Index := Scalar.indexCast v140
  let c0_311 : Index := 0#32
  ![v141.toNat, 0]
def k0_off142 (k0_t66 : Fin k0_t66_loop.trips) (c4096_i32 : BitVec 32) : Fin 2 → Nat :=
  let c0_i32_281 : BitVec 32 := 0#32
  let c1_i32_283 : BitVec 32 := 1#32
  let arg5 : BitVec 32 := Scf.iv c0_i32_281 c1_i32_283 k0_t66
  let c6_i32 : BitVec 32 := 6#32
  let v132 : BitVec 32 := Scalar.shrsi arg5 c6_i32
  let c7_i32 : BitVec 32 := 7#32
  let v133 : BitVec 32 := Scalar.shli v132 c7_i32
  let c63_i32 : BitVec 32 := 63#32
  let v134 : BitVec 32 := Scalar.andi arg5 c63_i32
  let v135 : BitVec 32 := Scalar.ori v133 v134
  let c7_i32_308 : BitVec 32 := 7#32
  let v136 : BitVec 32 := Scalar.shrsi v135 c7_i32_308
  let c8_i32_309 : BitVec 32 := 8#32
  let v137 : BitVec 32 := Scalar.shli v136 c8_i32_309
  let c127_i32 : BitVec 32 := 127#32
  let v138 : BitVec 32 := Scalar.andi v135 c127_i32
  let v139 : BitVec 32 := Scalar.ori v137 v138
  let c64_i32_310 : BitVec 32 := 64#32
  let v140 : BitVec 32 := Scalar.muli v139 c64_i32_310
  let v143 : BitVec 32 := Scalar.addi v140 c4096_i32
  let v144 : Index := Scalar.indexCast v143
  let c0_312 : Index := 0#32
  ![v144.toNat, 0]
def k0_off143 (k0_t66 : Fin k0_t66_loop.trips) : Fin 2 → Nat :=
  let c0_i32_281 : BitVec 32 := 0#32
  let c1_i32_283 : BitVec 32 := 1#32
  let arg5 : BitVec 32 := Scf.iv c0_i32_281 c1_i32_283 k0_t66
  let c6_i32 : BitVec 32 := 6#32
  let v132 : BitVec 32 := Scalar.shrsi arg5 c6_i32
  let c7_i32 : BitVec 32 := 7#32
  let v133 : BitVec 32 := Scalar.shli v132 c7_i32
  let c63_i32 : BitVec 32 := 63#32
  let v134 : BitVec 32 := Scalar.andi arg5 c63_i32
  let v135 : BitVec 32 := Scalar.ori v133 v134
  let c7_i32_308 : BitVec 32 := 7#32
  let v136 : BitVec 32 := Scalar.shrsi v135 c7_i32_308
  let c8_i32_309 : BitVec 32 := 8#32
  let v137 : BitVec 32 := Scalar.shli v136 c8_i32_309
  let c127_i32 : BitVec 32 := 127#32
  let v138 : BitVec 32 := Scalar.andi v135 c127_i32
  let v139 : BitVec 32 := Scalar.ori v137 v138
  let c64_i32_310 : BitVec 32 := 64#32
  let v140 : BitVec 32 := Scalar.muli v139 c64_i32_310
  let c8192_i32_314 : BitVec 32 := 8192#32
  let v149 : BitVec 32 := Scalar.addi v140 c8192_i32_314
  let c4096_i32_315 : BitVec 32 := 4096#32
  let v150 : BitVec 32 := Scalar.addi v149 c4096_i32_315
  let v151 : Index := Scalar.indexCast v150
  let c0_316 : Index := 0#32
  ![v151.toNat, 0]
@[reducible] def k0_t67_loop : Scf.Loop 32 :=
  let c0_i32_285 : BitVec 32 := 0#32
  let c256_i32_286 : BitVec 32 := 256#32
  let v124 : BitVec 32 := Scalar.addi c0_i32_285 c256_i32_286
  let c1_i32_287 : BitVec 32 := 1#32
  ⟨c0_i32_285, v124, c1_i32_287⟩
def k0_off144 (k0_t67 : Fin k0_t67_loop.trips) : Fin 2 → Nat :=
  let c0_i32_285 : BitVec 32 := 0#32
  let c1_i32_287 : BitVec 32 := 1#32
  let arg5 : BitVec 32 := Scf.iv c0_i32_285 c1_i32_287 k0_t67
  let c4_i32_308 : BitVec 32 := 4#32
  let v132 : BitVec 32 := Scalar.shrsi arg5 c4_i32_308
  let c5_i32 : BitVec 32 := 5#32
  let v133 : BitVec 32 := Scalar.shli v132 c5_i32
  let c15_i32 : BitVec 32 := 15#32
  let v134 : BitVec 32 := Scalar.andi arg5 c15_i32
  let v135 : BitVec 32 := Scalar.ori v133 v134
  let c5_i32_309 : BitVec 32 := 5#32
  let v136 : BitVec 32 := Scalar.shrsi v135 c5_i32_309
  let c6_i32 : BitVec 32 := 6#32
  let v137 : BitVec 32 := Scalar.shli v136 c6_i32
  let c31_i32 : BitVec 32 := 31#32
  let v138 : BitVec 32 := Scalar.andi v135 c31_i32
  let v139 : BitVec 32 := Scalar.ori v137 v138
  let c64_i32_310 : BitVec 32 := 64#32
  let v140 : BitVec 32 := Scalar.muli v139 c64_i32_310
  let v141 : Index := Scalar.indexCast v140
  let c0_311 : Index := 0#32
  ![v141.toNat, 0]
def k0_off145 (k0_t67 : Fin k0_t67_loop.trips) (c1024_i32 : BitVec 32) : Fin 2 → Nat :=
  let c0_i32_285 : BitVec 32 := 0#32
  let c1_i32_287 : BitVec 32 := 1#32
  let arg5 : BitVec 32 := Scf.iv c0_i32_285 c1_i32_287 k0_t67
  let c4_i32_308 : BitVec 32 := 4#32
  let v132 : BitVec 32 := Scalar.shrsi arg5 c4_i32_308
  let c5_i32 : BitVec 32 := 5#32
  let v133 : BitVec 32 := Scalar.shli v132 c5_i32
  let c15_i32 : BitVec 32 := 15#32
  let v134 : BitVec 32 := Scalar.andi arg5 c15_i32
  let v135 : BitVec 32 := Scalar.ori v133 v134
  let c5_i32_309 : BitVec 32 := 5#32
  let v136 : BitVec 32 := Scalar.shrsi v135 c5_i32_309
  let c6_i32 : BitVec 32 := 6#32
  let v137 : BitVec 32 := Scalar.shli v136 c6_i32
  let c31_i32 : BitVec 32 := 31#32
  let v138 : BitVec 32 := Scalar.andi v135 c31_i32
  let v139 : BitVec 32 := Scalar.ori v137 v138
  let c64_i32_310 : BitVec 32 := 64#32
  let v140 : BitVec 32 := Scalar.muli v139 c64_i32_310
  let v143 : BitVec 32 := Scalar.addi v140 c1024_i32
  let v144 : Index := Scalar.indexCast v143
  let c0_312 : Index := 0#32
  ![v144.toNat, 0]
def k0_off146 (k0_t67 : Fin k0_t67_loop.trips) : Fin 2 → Nat :=
  let c0_i32_285 : BitVec 32 := 0#32
  let c1_i32_287 : BitVec 32 := 1#32
  let arg5 : BitVec 32 := Scf.iv c0_i32_285 c1_i32_287 k0_t67
  let c4_i32_308 : BitVec 32 := 4#32
  let v132 : BitVec 32 := Scalar.shrsi arg5 c4_i32_308
  let c5_i32 : BitVec 32 := 5#32
  let v133 : BitVec 32 := Scalar.shli v132 c5_i32
  let c15_i32 : BitVec 32 := 15#32
  let v134 : BitVec 32 := Scalar.andi arg5 c15_i32
  let v135 : BitVec 32 := Scalar.ori v133 v134
  let c5_i32_309 : BitVec 32 := 5#32
  let v136 : BitVec 32 := Scalar.shrsi v135 c5_i32_309
  let c6_i32 : BitVec 32 := 6#32
  let v137 : BitVec 32 := Scalar.shli v136 c6_i32
  let c31_i32 : BitVec 32 := 31#32
  let v138 : BitVec 32 := Scalar.andi v135 c31_i32
  let v139 : BitVec 32 := Scalar.ori v137 v138
  let c64_i32_310 : BitVec 32 := 64#32
  let v140 : BitVec 32 := Scalar.muli v139 c64_i32_310
  let c2048_i32_314 : BitVec 32 := 2048#32
  let v149 : BitVec 32 := Scalar.addi v140 c2048_i32_314
  let c1024_i32_315 : BitVec 32 := 1024#32
  let v150 : BitVec 32 := Scalar.addi v149 c1024_i32_315
  let v151 : Index := Scalar.indexCast v150
  let c0_316 : Index := 0#32
  ![v151.toNat, 0]
@[reducible] def k0_t68_loop : Scf.Loop 32 :=
  let c0_i32_289 : BitVec 32 := 0#32
  let c256_i32_290 : BitVec 32 := 256#32
  let v125 : BitVec 32 := Scalar.addi c0_i32_289 c256_i32_290
  let c1_i32_291 : BitVec 32 := 1#32
  ⟨c0_i32_289, v125, c1_i32_291⟩
def k0_off147 (k0_t68 : Fin k0_t68_loop.trips) : Fin 2 → Nat :=
  let c0_i32_289 : BitVec 32 := 0#32
  let c1_i32_291 : BitVec 32 := 1#32
  let arg5 : BitVec 32 := Scf.iv c0_i32_289 c1_i32_291 k0_t68
  let c2_i32_308 : BitVec 32 := 2#32
  let v132 : BitVec 32 := Scalar.shrsi arg5 c2_i32_308
  let c3_i32 : BitVec 32 := 3#32
  let v133 : BitVec 32 := Scalar.shli v132 c3_i32
  let c3_i32_309 : BitVec 32 := 3#32
  let v134 : BitVec 32 := Scalar.andi arg5 c3_i32_309
  let v135 : BitVec 32 := Scalar.ori v133 v134
  let c3_i32_310 : BitVec 32 := 3#32
  let v136 : BitVec 32 := Scalar.shrsi v135 c3_i32_310
  let c4_i32_311 : BitVec 32 := 4#32
  let v137 : BitVec 32 := Scalar.shli v136 c4_i32_311
  let c7_i32 : BitVec 32 := 7#32
  let v138 : BitVec 32 := Scalar.andi v135 c7_i32
  let v139 : BitVec 32 := Scalar.ori v137 v138
  let c64_i32_312 : BitVec 32 := 64#32
  let v140 : BitVec 32 := Scalar.muli v139 c64_i32_312
  let v141 : Index := Scalar.indexCast v140
  let c0_313 : Index := 0#32
  ![v141.toNat, 0]
def k0_off148 (k0_t68 : Fin k0_t68_loop.trips) (c256_i32_314 : BitVec 32) : Fin 2 → Nat :=
  let c0_i32_289 : BitVec 32 := 0#32
  let c1_i32_291 : BitVec 32 := 1#32
  let arg5 : BitVec 32 := Scf.iv c0_i32_289 c1_i32_291 k0_t68
  let c2_i32_308 : BitVec 32 := 2#32
  let v132 : BitVec 32 := Scalar.shrsi arg5 c2_i32_308
  let c3_i32 : BitVec 32 := 3#32
  let v133 : BitVec 32 := Scalar.shli v132 c3_i32
  let c3_i32_309 : BitVec 32 := 3#32
  let v134 : BitVec 32 := Scalar.andi arg5 c3_i32_309
  let v135 : BitVec 32 := Scalar.ori v133 v134
  let c3_i32_310 : BitVec 32 := 3#32
  let v136 : BitVec 32 := Scalar.shrsi v135 c3_i32_310
  let c4_i32_311 : BitVec 32 := 4#32
  let v137 : BitVec 32 := Scalar.shli v136 c4_i32_311
  let c7_i32 : BitVec 32 := 7#32
  let v138 : BitVec 32 := Scalar.andi v135 c7_i32
  let v139 : BitVec 32 := Scalar.ori v137 v138
  let c64_i32_312 : BitVec 32 := 64#32
  let v140 : BitVec 32 := Scalar.muli v139 c64_i32_312
  let v143 : BitVec 32 := Scalar.addi v140 c256_i32_314
  let v144 : Index := Scalar.indexCast v143
  let c0_315 : Index := 0#32
  ![v144.toNat, 0]
def k0_off149 (k0_t68 : Fin k0_t68_loop.trips) : Fin 2 → Nat :=
  let c0_i32_289 : BitVec 32 := 0#32
  let c1_i32_291 : BitVec 32 := 1#32
  let arg5 : BitVec 32 := Scf.iv c0_i32_289 c1_i32_291 k0_t68
  let c2_i32_308 : BitVec 32 := 2#32
  let v132 : BitVec 32 := Scalar.shrsi arg5 c2_i32_308
  let c3_i32 : BitVec 32 := 3#32
  let v133 : BitVec 32 := Scalar.shli v132 c3_i32
  let c3_i32_309 : BitVec 32 := 3#32
  let v134 : BitVec 32 := Scalar.andi arg5 c3_i32_309
  let v135 : BitVec 32 := Scalar.ori v133 v134
  let c3_i32_310 : BitVec 32 := 3#32
  let v136 : BitVec 32 := Scalar.shrsi v135 c3_i32_310
  let c4_i32_311 : BitVec 32 := 4#32
  let v137 : BitVec 32 := Scalar.shli v136 c4_i32_311
  let c7_i32 : BitVec 32 := 7#32
  let v138 : BitVec 32 := Scalar.andi v135 c7_i32
  let v139 : BitVec 32 := Scalar.ori v137 v138
  let c64_i32_312 : BitVec 32 := 64#32
  let v140 : BitVec 32 := Scalar.muli v139 c64_i32_312
  let c512_i32_318 : BitVec 32 := 512#32
  let v149 : BitVec 32 := Scalar.addi v140 c512_i32_318
  let c256_i32_319 : BitVec 32 := 256#32
  let v150 : BitVec 32 := Scalar.addi v149 c256_i32_319
  let v151 : Index := Scalar.indexCast v150
  let c0_320 : Index := 0#32
  ![v151.toNat, 0]
@[reducible] def k0_t69_loop : Scf.Loop 32 :=
  let c0_i32_293 : BitVec 32 := 0#32
  let c512_i32_294 : BitVec 32 := 512#32
  let v126 : BitVec 32 := Scalar.addi c0_i32_293 c512_i32_294
  let c1_i32_295 : BitVec 32 := 1#32
  ⟨c0_i32_293, v126, c1_i32_295⟩
def k0_off150 (k0_t69 : Fin k0_t69_loop.trips) : Fin 2 → Nat :=
  let c0_i32_293 : BitVec 32 := 0#32
  let c1_i32_295 : BitVec 32 := 1#32
  let arg5 : BitVec 32 := Scf.iv c0_i32_293 c1_i32_295 k0_t69
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c64_i32_311 : BitVec 32 := 64#32
  let v136 : BitVec 32 := Scalar.muli v135 c64_i32_311
  let v137 : Index := Scalar.indexCast v136
  let c0_312 : Index := 0#32
  ![v137.toNat, 0]
def k0_off151 (k0_t69 : Fin k0_t69_loop.trips) : Fin 2 → Nat :=
  let c0_i32_293 : BitVec 32 := 0#32
  let c1_i32_295 : BitVec 32 := 1#32
  let arg5 : BitVec 32 := Scf.iv c0_i32_293 c1_i32_295 k0_t69
  let c1_i32_308 : BitVec 32 := 1#32
  let v132 : BitVec 32 := Scalar.shrsi arg5 c1_i32_308
  let c2_i32_309 : BitVec 32 := 2#32
  let v133 : BitVec 32 := Scalar.shli v132 c2_i32_309
  let c1_i32_310 : BitVec 32 := 1#32
  let v134 : BitVec 32 := Scalar.andi arg5 c1_i32_310
  let v135 : BitVec 32 := Scalar.ori v133 v134
  let c64_i32_311 : BitVec 32 := 64#32
  let v136 : BitVec 32 := Scalar.muli v135 c64_i32_311
  let c128_i32_313 : BitVec 32 := 128#32
  let v139 : BitVec 32 := Scalar.addi v136 c128_i32_313
  let v140 : Index := Scalar.indexCast v139
  let c0_314 : Index := 0#32
  ![v140.toNat, 0]
@[reducible] def k0_t70_loop : Scf.Loop 32 :=
  let c0_i32_297 : BitVec 32 := 0#32
  let c512_i32_298 : BitVec 32 := 512#32
  let v127 : BitVec 32 := Scalar.addi c0_i32_297 c512_i32_298
  let c1_i32_299 : BitVec 32 := 1#32
  ⟨c0_i32_297, v127, c1_i32_299⟩
def k0_off152 (k0_t70 : Fin k0_t70_loop.trips) : Fin 2 → Nat :=
  let c0_i32_297 : BitVec 32 := 0#32
  let c1_i32_299 : BitVec 32 := 1#32
  let arg5 : BitVec 32 := Scf.iv c0_i32_297 c1_i32_299 k0_t70
  let c128_i32_308 : BitVec 32 := 128#32
  let v132 : BitVec 32 := Scalar.muli arg5 c128_i32_308
  let v133 : Index := Scalar.indexCast v132
  let c0_309 : Index := 0#32
  ![v133.toNat, 0]
@[reducible] def k0_t71_loop : Scf.Loop 32 :=
  let c0_i32_302 : BitVec 32 := 0#32
  let c32_i32_303 : BitVec 32 := 32#32
  let v128 : BitVec 32 := Scalar.addi c0_i32_302 c32_i32_303
  let c1_i32_304 : BitVec 32 := 1#32
  ⟨c0_i32_302, v128, c1_i32_304⟩
def k0_off153 (k0_t71 : Fin k0_t71_loop.trips) : Fin 2 → Nat :=
  let c0_i32_302 : BitVec 32 := 0#32
  let c1_i32_304 : BitVec 32 := 1#32
  let arg5 : BitVec 32 := Scf.iv c0_i32_302 c1_i32_304 k0_t71
  let c2048_i32 : BitVec 32 := 2048#32
  let v132 : BitVec 32 := Scalar.muli arg5 c2048_i32
  let v133 : Index := Scalar.indexCast v132
  let c0_308 : Index := 0#32
  ![v133.toNat, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== ReferenceIdeal.lean ====
abbrev S65536x256 : Shape := ⟨2, ![65536, 256]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S65536x256, .f32⟩
  | .hbm, ⟨4, _⟩ => ⟨S65536x256, .f32⟩
  | .hbm, ⟨5, _⟩ => ⟨S65536x256, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.Steps.lean ====
/-
  What one trip of each kind of loop does to the values of the scratch buffer, as plain functions of vectors: a compare-exchange at each of the
  strides 64 … 1 inside a chunk of 128 rows, the chunk passes, the pair passes and the quad passes, and the passes as sweeps over their trips.
-/
module

public import proofs.«01_k».proof.Proof.Gen.KernelIdeal.Skeleton
public import Idealize.ShloMosaic.Lib.VecWindow

@[expose] public section

set_option maxRecDepth 16384

noncomputable section

namespace Cert.KernelIdeal.Gen

open Idealize.ShloMosaic

variable {F : FTy → Type} [FloatOps F]

/-- The values of the scratch buffer. -/
abbrev Rows (F : FTy → Type) [FloatOps F] : Type := S65536x128.Idx → Elt F .f32

/-- What goes to the earlier place of a compared pair: the smaller one, or the larger one when the direction `d` is descending. -/
def lower {s : Shape} (d : Bool) (a b : FVec F s .f32) : FVec F s .f32 := cond d (maximumf a b) (minimumf a b)
/-- What goes to the later place of a compared pair. -/
def upper {s : Shape} (d : Bool) (a b : FVec F s .f32) : FVec F s .f32 := cond d (minimumf a b) (maximumf a b)

/-- The compare-exchange at stride 64 inside a chunk. -/
def ex64 (d : Bool) (c : FVec F S128x128 .f32) : FVec F S128x128 .f32 :=
  let r : FVec F S1x2x64x128 .f32 := shapeCast S1x2x64x128 c shapeCasts_S128x128_S1x2x64x128
  let p : FVec F S1x64x128 .f32 := shapeCast S1x64x128 (extractStridedSlice S1x1x64x128 ![0, 0, 0, 0] r slices_S1x2x64x128_o0_0_0_0_S1x1x64x128) shapeCasts_S1x1x64x128_S1x64x128
  let q : FVec F S1x64x128 .f32 := shapeCast S1x64x128 (extractStridedSlice S1x1x64x128 ![0, 1, 0, 0] r slices_S1x2x64x128_o0_1_0_0_S1x1x64x128) shapeCasts_S1x1x64x128_S1x64x128
  shapeCast S128x128 (concatenate S1x2x64x128 1 [⟨S1x1x64x128, shapeCast S1x1x64x128 (lower d p q) shapeCasts_S1x64x128_S1x1x64x128⟩,
    ⟨S1x1x64x128, shapeCast S1x1x64x128 (upper d p q) shapeCasts_S1x64x128_S1x1x64x128⟩] concatenates_S1x1x64x128_S1x1x64x128_S1x2x64x128_d1) shapeCasts_S1x2x64x128_S128x128

/-- The compare-exchange at stride 32 inside a chunk. -/
def ex32 (d : Bool) (c : FVec F S128x128 .f32) : FVec F S128x128 .f32 :=
  let r : FVec F S2x2x32x128 .f32 := shapeCast S2x2x32x128 c shapeCasts_S128x128_S2x2x32x128
  let p : FVec F S2x32x128 .f32 := shapeCast S2x32x128 (extractStridedSlice S2x1x32x128 ![0, 0, 0, 0] r slices_S2x2x32x128_o0_0_0_0_S2x1x32x128) shapeCasts_S2x1x32x128_S2x32x128
  let q : FVec F S2x32x128 .f32 := shapeCast S2x32x128 (extractStridedSlice S2x1x32x128 ![0, 1, 0, 0] r slices_S2x2x32x128_o0_1_0_0_S2x1x32x128) shapeCasts_S2x1x32x128_S2x32x128
  shapeCast S128x128 (concatenate S2x2x32x128 1 [⟨S2x1x32x128, shapeCast S2x1x32x128 (lower d p q) shapeCasts_S2x32x128_S2x1x32x128⟩,
    ⟨S2x1x32x128, shapeCast S2x1x32x128 (upper d p q) shapeCasts_S2x32x128_S2x1x32x128⟩] concatenates_S2x1x32x128_S2x1x32x128_S2x2x32x128_d1) shapeCasts_S2x2x32x128_S128x128

/-- The compare-exchange at stride 16 inside a chunk. -/
def ex16 (d : Bool) (c : FVec F S128x128 .f32) : FVec F S128x128 .f32 :=
  let r : FVec F S4x2x16x128 .f32 := shapeCast S4x2x16x128 c shapeCasts_S128x128_S4x2x16x128
  let p : FVec F S4x16x128 .f32 := shapeCast S4x16x128 (extractStridedSlice S4x1x16x128 ![0, 0, 0, 0] r slices_S4x2x16x128_o0_0_0_0_S4x1x16x128) shapeCasts_S4x1x16x128_S4x16x128
  let q : FVec F S4x16x128 .f32 := shapeCast S4x16x128 (extractStridedSlice S4x1x16x128 ![0, 1, 0, 0] r slices_S4x2x16x128_o0_1_0_0_S4x1x16x128) shapeCasts_S4x1x16x128_S4x16x128
  shapeCast S128x128 (concatenate S4x2x16x128 1 [⟨S4x1x16x128, shapeCast S4x1x16x128 (lower d p q) shapeCasts_S4x16x128_S4x1x16x128⟩,
    ⟨S4x1x16x128, shapeCast S4x1x16x128 (upper d p q) shapeCasts_S4x16x128_S4x1x16x128⟩] concatenates_S4x1x16x128_S4x1x16x128_S4x2x16x128_d1) shapeCasts_S4x2x16x128_S128x128

/-- The compare-exchange at stride 8 inside a chunk. -/
def ex8 (d : Bool) (c : FVec F S128x128 .f32) : FVec F S128x128 .f32 :=
  let r : FVec F S8x2x8x128 .f32 := shapeCast S8x2x8x128 c shapeCasts_S128x128_S8x2x8x128
  let p : FVec F S8x8x128 .f32 := shapeCast S8x8x128 (extractStridedSlice S8x1x8x128 ![0, 0, 0, 0] r slices_S8x2x8x128_o0_0_0_0_S8x1x8x128) shapeCasts_S8x1x8x128_S8x8x128
  let q : FVec F S8x8x128 .f32 := shapeCast S8x8x128 (extractStridedSlice S8x1x8x128 ![0, 1, 0, 0] r slices_S8x2x8x128_o0_1_0_0_S8x1x8x128) shapeCasts_S8x1x8x128_S8x8x128
  shapeCast S128x128 (concatenate S8x2x8x128 1 [⟨S8x1x8x128, shapeCast S8x1x8x128 (lower d p q) shapeCasts_S8x8x128_S8x1x8x128⟩,
    ⟨S8x1x8x128, shapeCast S8x1x8x128 (upper d p q) shapeCasts_S8x8x128_S8x1x8x128⟩] concatenates_S8x1x8x128_S8x1x8x128_S8x2x8x128_d1) shapeCasts_S8x2x8x128_S128x128

/-- The rows where the mask `m` holds keep what the earlier place gets of themselves and the row 4 below, the others what the later place gets of themselves and the row 4 above. -/
def ex4 (d : Bool) (m : IVec S128x1 1) (c : FVec F S128x128 .f32) : FVec F S128x128 .f32 :=
  let y : FVec F S128x128 .f32 := concatenate S128x128 0 [⟨S124x128, extractStridedSlice S124x128 ![4, 0] c slices_S128x128_o4_0_S124x128⟩,
    ⟨S4x128, extractStridedSlice S4x128 ![0, 0] c slices_S128x128_o0_0_S4x128⟩] concatenates_S124x128_S4x128_S128x128_d0
  let z : FVec F S128x128 .f32 := concatenate S128x128 0 [⟨S4x128, extractStridedSlice S4x128 ![124, 0] c slices_S128x128_o124_0_S4x128⟩,
    ⟨S124x128, extractStridedSlice S124x128 ![0, 0] c slices_S128x128_o0_0_S124x128⟩] concatenates_S4x128_S124x128_S128x128_d0
  select (broadcastTo S128x128 (shapeCast S128x1 m shapeCasts_S128x1_S128x1) broadcasts_S128x1_S128x128) (lower d c y) (upper d c z)

/-- `ex4` at stride 2. -/
def ex2 (d : Bool) (m : IVec S128x1 1) (c : FVec F S128x128 .f32) : FVec F S128x128 .f32 :=
  let y : FVec F S128x128 .f32 := concatenate S128x128 0 [⟨S126x128, extractStridedSlice S126x128 ![2, 0] c slices_S128x128_o2_0_S126x128⟩,
    ⟨S2x128, extractStridedSlice S2x128 ![0, 0] c slices_S128x128_o0_0_S2x128⟩] concatenates_S126x128_S2x128_S128x128_d0
  let z : FVec F S128x128 .f32 := concatenate S128x128 0 [⟨S2x128, extractStridedSlice S2x128 ![126, 0] c slices_S128x128_o126_0_S2x128⟩,
    ⟨S126x128, extractStridedSlice S126x128 ![0, 0] c slices_S128x128_o0_0_S126x128⟩] concatenates_S2x128_S126x128_S128x128_d0
  select (broadcastTo S128x128 (shapeCast S128x1 m shapeCasts_S128x1_S128x1) broadcasts_S128x1_S128x128) (lower d c y) (upper d c z)

/-- `ex4` at stride 1. -/
def ex1 (d : Bool) (m : IVec S128x1 1) (c : FVec F S128x128 .f32) : FVec F S128x128 .f32 :=
  let y : FVec F S128x128 .f32 := concatenate S128x128 0 [⟨S127x128, extractStridedSlice S127x128 ![1, 0] c slices_S128x128_o1_0_S127x128⟩,
    ⟨S1x128, extractStridedSlice S1x128 ![0, 0] c slices_S128x128_o0_0_S1x128⟩] concatenates_S127x128_S1x128_S128x128_d0
  let z : FVec F S128x128 .f32 := concatenate S128x128 0 [⟨S1x128, extractStridedSlice S1x128 ![127, 0] c slices_S128x128_o127_0_S1x128⟩,
    ⟨S127x128, extractStridedSlice S127x128 ![0, 0] c slices_S128x128_o0_0_S127x128⟩] concatenates_S1x128_S127x128_S128x128_d0
  select (broadcastTo S128x128 (shapeCast S128x1 m shapeCasts_S128x1_S128x1) broadcasts_S128x1_S128x128) (lower d c y) (upper d c z)

/-- The compare-exchanges at strides 1; 2, 1; … ; 64, 32, 16, 8, 4, 2, 1, under the masks `v7`, `v11`, `v15` of strides 1, 2, 4. -/
def net1 (d : Bool) (v7 : IVec S128x1 1) (c : FVec F S128x128 .f32) : FVec F S128x128 .f32 := ex1 d v7 c
/-- Strides 2, 1. -/
def net2 (d : Bool) (v7 v11 : IVec S128x1 1) (c : FVec F S128x128 .f32) : FVec F S128x128 .f32 := net1 d v7 (ex2 d v11 c)
/-- Strides 4, 2, 1. -/
def net3 (d : Bool) (v7 v11 v15 : IVec S128x1 1) (c : FVec F S128x128 .f32) : FVec F S128x128 .f32 := net2 d v7 v11 (ex4 d v15 c)
/-- Strides 8, 4, 2, 1. -/
def net4 (d : Bool) (v7 v11 v15 : IVec S128x1 1) (c : FVec F S128x128 .f32) : FVec F S128x128 .f32 := net3 d v7 v11 v15 (ex8 d c)
/-- Strides 16, 8, 4, 2, 1. -/
def net5 (d : Bool) (v7 v11 v15 : IVec S128x1 1) (c : FVec F S128x128 .f32) : FVec F S128x128 .f32 := net4 d v7 v11 v15 (ex16 d c)
/-- Strides 32, 16, 8, 4, 2, 1. -/
def net6 (d : Bool) (v7 v11 v15 : IVec S128x1 1) (c : FVec F S128x128 .f32) : FVec F S128x128 .f32 := net5 d v7 v11 v15 (ex32 d c)
/-- Strides 64, 32, 16, 8, 4, 2, 1. -/
def net7 (d : Bool) (v7 v11 v15 : IVec S128x1 1) (c : FVec F S128x128 .f32) : FVec F S128x128 .f32 := net6 d v7 v11 v15 (ex64 d c)

/-- The chunk `c` with the network `n` run between two multiplications by the column `v`. -/
def flipped (v : FVec F S128x1 .f32) (n : FVec F S128x128 .f32 → FVec F S128x128 .f32) (c : FVec F S128x128 .f32) : FVec F S128x128 .f32 :=
  mulf (n (mulf c (broadcastTo S128x128 v broadcasts_S128x1_S128x128))) (broadcastTo S128x128 v broadcasts_S128x1_S128x128)

/-- A window of `S` rows at `o` fits in the buffer. -/
abbrev Fits (S : Shape) (o size : Fin 2 → ℕ) : Prop := ∀ a, o a + size a ≤ S65536x128.size a

/-- One trip of a chunk pass: the chunk at `o` replaced by `n` of itself. -/
def chunkStep (n : FVec F S128x128 .f32 → FVec F S128x128 .f32) (o : Fin 2 → ℕ) (h : ∀ a, o a + S128x128.size a ≤ S65536x128.size a) (x : Rows F) : Rows F :=
  VecWindow.put x o S128x128.size (shapeCast S128x128 (n (VecWindow.window x o S128x128.size h)) shapeCasts_S128x128_S128x128)

/-- One trip of a pair pass: the blocks of 64 rows at `o1` and `o2` compared and exchanged. -/
def pairStep (d : Bool) (o1 o2 : Fin 2 → ℕ) (h1 : ∀ a, o1 a + S64x128.size a ≤ S65536x128.size a) (h2 : ∀ a, o2 a + S64x128.size a ≤ S65536x128.size a) (x : Rows F) : Rows F :=
  let p : FVec F S64x128 .f32 := VecWindow.window x o1 S64x128.size h1
  let q : FVec F S64x128 .f32 := VecWindow.window x o2 S64x128.size h2
  VecWindow.put (VecWindow.put x o1 S64x128.size (shapeCast S64x128 (lower d p q) shapeCasts_S64x128_S64x128))
    o2 S64x128.size (shapeCast S64x128 (upper d p q) shapeCasts_S64x128_S64x128)

/-- One trip of a quad pass: of the blocks of 64 rows at `o1`, `o2`, `o3`, `o4`, the first compared and exchanged with the third and the second with the
    fourth, and then the first with the second and the third with the fourth. -/
def quadStep (d : Bool) (o1 o2 o3 o4 : Fin 2 → ℕ) (h1 : ∀ a, o1 a + S64x128.size a ≤ S65536x128.size a) (h2 : ∀ a, o2 a + S64x128.size a ≤ S65536x128.size a)
    (h3 : ∀ a, o3 a + S64x128.size a ≤ S65536x128.size a) (h4 : ∀ a, o4 a + S64x128.size a ≤ S65536x128.size a) (x : Rows F) : Rows F :=
  let p : FVec F S64x128 .f32 := VecWindow.window x o1 S64x128.size h1
  let q : FVec F S64x128 .f32 := VecWindow.window x o2 S64x128.size h2
  let r : FVec F S64x128 .f32 := VecWindow.window x o3 S64x128.size h3
  let s : FVec F S64x128 .f32 := VecWindow.window x o4 S64x128.size h4
  VecWindow.put (VecWindow.put (VecWindow.put (VecWindow.put x
    o1 S64x128.size (shapeCast S64x128 (lower d (lower d p r) (lower d q s)) shapeCasts_S64x128_S64x128))
    o2 S64x128.size (shapeCast S64x128 (upper d (lower d p r) (lower d q s)) shapeCasts_S64x128_S64x128))
    o3 S64x128.size (shapeCast S64x128 (lower d (upper d p r) (upper d q s)) shapeCasts_S64x128_S64x128))
    o4 S64x128.size (shapeCast S64x128 (upper d (upper d p r) (upper d q s)) shapeCasts_S64x128_S64x128)

/-- The first `n` of `T` trips, one after the other. -/
def trips {X : Type} (T : ℕ) (step : Fin T → X → X) (x : X) : ℕ → X
  | 0 => x
  | n + 1 => if h : n < T then step ⟨n, h⟩ (trips T step x n) else trips T step x n

/-- All `T` trips, one after the other. -/
def sweep {X : Type} (T : ℕ) (step : Fin T → X → X) (x : X) : X := trips T step x T

/-- One more trip. -/
theorem trips_succ {X : Type} (T : ℕ) (step : Fin T → X → X) (x : X) (k : Fin T) :
    trips T step x (k.val + 1) = step k (trips T step x k.val) := dif_pos k.isLt

end Cert.KernelIdeal.Gen
end
-- ==== Proof.Held.lean ====
/-
  The scratch buffer held at given values, and the shared readings of what the stores of one trip leave: a trip of each kind takes the buffer from `x` to
  the step of its kind on `x`, and a loop takes it to the sweep over its trips.
-/
module

public import proofs.«01_k».proof.Proof.Steps
public import Idealize.ShloMosaic.Lib.Exec
public import Idealize.ShloMosaic.Lib.Tactic
public import Idealize.ShloMosaic.Lib.Pipeline.Kit
public import Idealize.ShloMosaic.Lib.Pipeline.Frame
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The scratch buffer, held in full, reads `x`. -/
abbrev heldAt (c : Dev nD) (arg3 : Memref sig .tc .vmem S65536x128 .f32) (x : Rows F) : sProp 𝕄 :=
  arg3.view.loc (c : Thread nD τ) ↦[arg3.view.set]{fullShare} arg3.view.rep x

/-- `p` takes the scratch buffer from the values `x` to the values `y`. -/
abbrev Takes (c : Dev nD) (arg3 : Memref sig .tc .vmem S65536x128 .f32) (p : Prog (TpuEff nD τ sig (Elt F) Λ₀ .tc) Unit) (x y : Rows F) : Prop :=
  heldAt c arg3 x ⊢ wp frame (wpE (defs₀ (F := F)) Variants.none c none) Set.univ p (fun _ => heldAt c arg3 y)

/-- A chunk loaded from the values `x`. -/
abbrev load128 (arg3 : Memref sig .tc .vmem S65536x128 .f32) (x : Rows F) (o : Fin 2 → ℕ) (h : ∀ a, o a + S128x128.size a ≤ S65536x128.size a) : FVec F S128x128 .f32 :=
  arg3.view.readAt (Elt F) (Rect.unit (s := S65536x128) o S128x128.size h).toLoadRect (arg3.view.rep x)

/-- A block of 64 rows loaded from the values `x`. -/
abbrev load64 (arg3 : Memref sig .tc .vmem S65536x128 .f32) (x : Rows F) (o : Fin 2 → ℕ) (h : ∀ a, o a + S64x128.size a ≤ S65536x128.size a) : FVec F S64x128 .f32 :=
  arg3.view.readAt (Elt F) (Rect.unit (s := S65536x128) o S64x128.size h).toLoadRect (arg3.view.rep x)

variable {c : Dev nD} {arg3 : Memref sig .tc .vmem S65536x128 .f32} {x : Rows F}

/-- A chunk loaded from `x` is the window of `x`. -/
theorem load128_eq (arg3 : Memref sig .tc .vmem S65536x128 .f32) (x : Rows F) (o : Fin 2 → ℕ) (h : ∀ a, o a + S128x128.size a ≤ S65536x128.size a) :
    load128 arg3 x o h = VecWindow.window x o S128x128.size h := View.readAt_rep_unit arg3.view x h rfl h

/-- A block loaded from `x` is the window of `x`. -/
theorem load64_eq (arg3 : Memref sig .tc .vmem S65536x128 .f32) (x : Rows F) (o : Fin 2 → ℕ) (h : ∀ a, o a + S64x128.size a ≤ S65536x128.size a) :
    load64 arg3 x o h = VecWindow.window x o S64x128.size h := View.readAt_rep_unit arg3.view x h rfl h

/-- What the buffer reads after the stores `L` over the values `x`. -/
def after (arg3 : Memref sig .tc .vmem S65536x128 .f32) (x : Rows F) (L : List (View.Piece (Elt F) S65536x128 .f32)) : Rows F :=
  arg3.view.read (Elt F) (arg3.view.writes (Elt F) (arg3.view.rep x) L)

/-- After no store it reads `x`. -/
theorem after_nil (arg3 : Memref sig .tc .vmem S65536x128 .f32) (x : Rows F) : after arg3 x [] = x := by
  unfold after
  rw [View.writes_nil, View.read_rep]

/-- After one more store it reads what it read before with the payload put there. -/
theorem after_cons (arg3 : Memref sig .tc .vmem S65536x128 .f32) (x : Rows F) (o size : Fin 2 → ℕ) (h : ∀ a, o a + size a ≤ S65536x128.size a)
    (w : (Rect.unit (s := S65536x128) o size h).shape.Idx → Elt F .f32) (L : List (View.Piece (Elt F) S65536x128 .f32)) :
    after arg3 x (⟨Rect.unit (s := S65536x128) o size h, w⟩ :: L) = VecWindow.put (after arg3 x L) o size w :=
  View.read_writes_cons_put arg3.view (arg3.view.rep x) h w L rfl

/-- The store of a chunk trip leaves the chunk step. -/
theorem chunk_left (n : FVec F S128x128 .f32 → FVec F S128x128 .f32) {o : Fin 2 → ℕ} {h : ∀ a, o a + S128x128.size a ≤ S65536x128.size a}
    {w : FVec F S128x128 .f32} (e : w = shapeCast S128x128 (n (load128 arg3 x o h)) shapeCasts_S128x128_S128x128) :
    (arg3.view.loc (c : Thread nD τ) ↦[arg3.view.set]{fullShare} arg3.view.writes (Elt F) (arg3.view.rep x) [⟨Rect.unit (s := S65536x128) o S128x128.size h, w⟩] : sProp 𝕄)
    ⊢ heldAt c arg3 (chunkStep n o h x) := by
  refine (pointsTo_rep_of_read (c : Thread nD τ) arg3 _ fullShare (chunkStep n o h x) ?_)
  refine (after_cons arg3 x o S128x128.size h w []).trans ?_
  rw [after_nil, e, load128_eq]
  rfl

/-- The stores of a pair trip leave the pair step. -/
theorem pair_left (d : Bool) {o1 o2 : Fin 2 → ℕ} {h1 : ∀ a, o1 a + S64x128.size a ≤ S65536x128.size a} {h2 : ∀ a, o2 a + S64x128.size a ≤ S65536x128.size a}
    {w1 w2 : FVec F S64x128 .f32}
    (e1 : w1 = shapeCast S64x128 (lower d (load64 arg3 x o1 h1) (load64 arg3 x o2 h2)) shapeCasts_S64x128_S64x128)
    (e2 : w2 = shapeCast S64x128 (upper d (load64 arg3 x o1 h1) (load64 arg3 x o2 h2)) shapeCasts_S64x128_S64x128) :
    (arg3.view.loc (c : Thread nD τ) ↦[arg3.view.set]{fullShare} arg3.view.writes (Elt F) (arg3.view.rep x)
      [⟨Rect.unit (s := S65536x128) o2 S64x128.size h2, w2⟩, ⟨Rect.unit (s := S65536x128) o1 S64x128.size h1, w1⟩] : sProp 𝕄)
    ⊢ heldAt c arg3 (pairStep d o1 o2 h1 h2 x) := by
  refine (pointsTo_rep_of_read (c : Thread nD τ) arg3 _ fullShare (pairStep d o1 o2 h1 h2 x) ?_)
  refine (after_cons arg3 x o2 S64x128.size h2 w2 _).trans ?_
  rw [after_cons arg3 x o1 S64x128.size h1 w1 [], after_nil, e1, e2, load64_eq, load64_eq]
  rfl

/-- The stores of a quad trip leave the quad step. -/
theorem quad_left (d : Bool) {o1 o2 o3 o4 : Fin 2 → ℕ} {h1 : ∀ a, o1 a + S64x128.size a ≤ S65536x128.size a} {h2 : ∀ a, o2 a + S64x128.size a ≤ S65536x128.size a}
    {h3 : ∀ a, o3 a + S64x128.size a ≤ S65536x128.size a} {h4 : ∀ a, o4 a + S64x128.size a ≤ S65536x128.size a}
    {w1 w2 w3 w4 : FVec F S64x128 .f32}
    (e1 : w1 = shapeCast S64x128 (lower d (lower d (load64 arg3 x o1 h1) (load64 arg3 x o3 h3)) (lower d (load64 arg3 x o2 h2) (load64 arg3 x o4 h4))) shapeCasts_S64x128_S64x128)
    (e2 : w2 = shapeCast S64x128 (upper d (lower d (load64 arg3 x o1 h1) (load64 arg3 x o3 h3)) (lower d (load64 arg3 x o2 h2) (load64 arg3 x o4 h4))) shapeCasts_S64x128_S64x128)
    (e3 : w3 = shapeCast S64x128 (lower d (upper d (load64 arg3 x o1 h1) (load64 arg3 x o3 h3)) (upper d (load64 arg3 x o2 h2) (load64 arg3 x o4 h4))) shapeCasts_S64x128_S64x128)
    (e4 : w4 = shapeCast S64x128 (upper d (upper d (load64 arg3 x o1 h1) (load64 arg3 x o3 h3)) (upper d (load64 arg3 x o2 h2) (load64 arg3 x o4 h4))) shapeCasts_S64x128_S64x128) :
    (arg3.view.loc (c : Thread nD τ) ↦[arg3.view.set]{fullShare} arg3.view.writes (Elt F) (arg3.view.rep x)
      [⟨Rect.unit (s := S65536x128) o4 S64x128.size h4, w4⟩, ⟨Rect.unit (s := S65536x128) o3 S64x128.size h3, w3⟩, ⟨Rect.unit (s := S65536x128) o2 S64x128.size h2, w2⟩, ⟨Rect.unit (s := S65536x128) o1 S64x128.size h1, w1⟩] : sProp 𝕄)
    ⊢ heldAt c arg3 (quadStep d o1 o2 o3 o4 h1 h2 h3 h4 x) := by
  refine (pointsTo_rep_of_read (c : Thread nD τ) arg3 _ fullShare (quadStep d o1 o2 o3 o4 h1 h2 h3 h4 x) ?_)
  refine (after_cons arg3 x o4 S64x128.size h4 w4 _).trans ?_
  rw [after_cons arg3 x o3 S64x128.size h3 w3, after_cons arg3 x o2 S64x128.size h2 w2, after_cons arg3 x o1 S64x128.size h1 w1 [], after_nil, e1, e2, e3, e4,
    load64_eq, load64_eq, load64_eq, load64_eq]
  rfl

/-- A loop whose every trip takes the buffer from any `x` to `step k x` takes it to the sweep of the steps. -/
theorem loop_takes {lb ub st : BitVec 32} (ok : Scf.OK lb ub st) (body : Fin (Scf.trips lb ub st) → Unit → Prog (TpuEff nD τ sig (Elt F) Λ₀ .tc) Unit)
    (step : Fin (Scf.trips lb ub st) → Rows F → Rows F) (h : ∀ k y, Takes c arg3 (body k ()) y (step k y)) (x : Rows F) :
    Takes c arg3 (Scf.for lb ub st ok () body) x (sweep (Scf.trips lb ub st) step x) := by
  have inv := Scf.wp_for (Q := fun _ => heldAt c arg3 (sweep (Scf.trips lb ub st) step x)) frame (wpE (defs₀ (F := F)) Variants.none c none) Set.univ lb ub st ok () body
    (fun n _ => heldAt c arg3 (trips (Scf.trips lb ub st) step x n)) (fun k _ => by rw [trips_succ]; exact h k _)
  refine .trans ?_ inv
  iintro H
  isplitl [H]
  · iexact H
  · iintro %_ H
    iexact H

/-- Running `p` first and the rest from where it leaves the buffer. -/
theorem takes_bind {p : Prog (TpuEff nD τ sig (Elt F) Λ₀ .tc) Unit} {x y : Rows F} (h : Takes c arg3 p x y) {β : Type}
    (kk : Unit → Prog (TpuEff nD τ sig (Elt F) Λ₀ .tc) β) (Q : β → sProp 𝕄) :
    iprop(heldAt c arg3 x ∗ (heldAt c arg3 y -∗ wp frame (wpE (defs₀ (F := F)) Variants.none c none) Set.univ (kk ()) Q))
      ⊢ wp frame (wpE (defs₀ (F := F)) Variants.none c none) Set.univ (p >>= kk) Q := by
  rw [wp_bind]
  iintro ⟨HP, HK⟩
  iapply (wp_wand_r frame (wpE (defs₀ (F := F)) Variants.none c none) Set.univ)
  isplitl [HP]
  · iapply h; iexact HP
  · iintro %_ HPost
    iapply HK; iexact HPost

/-- Two programs in a row. -/
theorem takes_then {p : Prog (TpuEff nD τ sig (Elt F) Λ₀ .tc) Unit} {q : Unit → Prog (TpuEff nD τ sig (Elt F) Λ₀ .tc) Unit} {x y z : Rows F}
    (h : Takes c arg3 p x y) (h' : Takes c arg3 (q ()) y z) : Takes c arg3 (p >>= q) x z := by
  refine .trans ?_ (takes_bind h q _)
  iintro H
  isplitl [H]
  · iexact H
  · iintro H
    iapply h'; iexact H

end Cert.KernelIdeal.Gen
end
-- ==== Proof.Passes1.lean ====
/-
  The loops of the first part: the flip passes of levels 1 to 6 and the chunk, pair and quad passes of levels 7 to 11, each as a function of the values of the buffer.
-/
module

public import proofs.«01_k».proof.Proof.Held

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (c : Dev nD) (i : grid0.Coords) (arg1 : Memref sig .tc .hbm S65536x512 .f32) (harg1 : arg1.IsWhole) (arg2 : Memref sig .tc .vmem S1x8x128 .f32) (harg2 : arg2.IsWhole)
  (arg3 : Memref sig .tc .vmem S65536x128 .f32) (harg3 : arg3.IsWhole) (arg4 : DmaSems sig S_)

/-- The chunk pass `k0_t1`, as a function of the values of the buffer. -/
def sweep_t1 (v7 : IVec S128x1 1) (v22 : FVec F S128x1 .f32) (x : Rows F) : Rows F :=
  sweep k0_t1_loop.trips (fun k => chunkStep (flipped v22 (net1 false v7)) (k0_off2 k) (k0_off2_inb k)) x

/-- The loop `k0_t1` takes the buffer to that pass of its values. -/
theorem pass_t1 (v3 : IVec S128x1 32) (v7 : IVec S128x1 1) (v11 : IVec S128x1 1) (v15 : IVec S128x1 1) (v22 : FVec F S128x1 .f32) (v29 : FVec F S128x1 .f32) (v33 : IVec S128x1 1) (v34 : FVec F S128x1 .f32) (v35 : FVec F S128x1 .f32) (x : Rows F) :
    Takes c arg3 (Scf.Loop.for k0_t1_loop k0_t1_ok ⟨⟩ (k0_t1_body i arg1 harg1 arg2 harg2 arg3 harg3 arg4 v3 v7 v11 v15 v22 v29 v33 v34 v35)) x (sweep_t1 v7 v22 x) :=
  loop_takes _ _ _ (fun k y => by unfold k0_t1_body; iintro H; sl_exec; sl_step; iapply (chunk_left (flipped v22 (net1 false v7)) rfl); iexact H) x

/-- The chunk pass `k0_t2`, as a function of the values of the buffer. -/
def sweep_t2 (v7 v11 : IVec S128x1 1) (v29 : FVec F S128x1 .f32) (x : Rows F) : Rows F :=
  sweep k0_t2_loop.trips (fun k => chunkStep (flipped v29 (net2 false v7 v11)) (k0_off3 k) (k0_off3_inb k)) x

/-- The loop `k0_t2` takes the buffer to that pass of its values. -/
theorem pass_t2 (v3 : IVec S128x1 32) (v7 : IVec S128x1 1) (v11 : IVec S128x1 1) (v15 : IVec S128x1 1) (v22 : FVec F S128x1 .f32) (v29 : FVec F S128x1 .f32) (v33 : IVec S128x1 1) (v34 : FVec F S128x1 .f32) (v35 : FVec F S128x1 .f32) (x : Rows F) :
    Takes c arg3 (Scf.Loop.for k0_t2_loop k0_t2_ok ⟨⟩ (k0_t2_body i arg1 harg1 arg2 harg2 arg3 harg3 arg4 v3 v7 v11 v15 v22 v29 v33 v34 v35)) x (sweep_t2 v7 v11 v29 x) :=
  loop_takes _ _ _ (fun k y => by unfold k0_t2_body; iintro H; sl_exec; sl_step; iapply (chunk_left (flipped v29 (net2 false v7 v11)) rfl); iexact H) x

/-- The chunk pass `k0_t3`, as a function of the values of the buffer. -/
def sweep_t3 (v7 v11 v15 v33 : IVec S128x1 1) (v34 v35 : FVec F S128x1 .f32) (x : Rows F) : Rows F :=
  sweep k0_t3_loop.trips (fun k => chunkStep (flipped (select v33 v34 v35) (net3 false v7 v11 v15)) (k0_off4 k) (k0_off4_inb k)) x

/-- The loop `k0_t3` takes the buffer to that pass of its values. -/
theorem pass_t3 (v3 : IVec S128x1 32) (v7 : IVec S128x1 1) (v11 : IVec S128x1 1) (v15 : IVec S128x1 1) (v22 : FVec F S128x1 .f32) (v29 : FVec F S128x1 .f32) (v33 : IVec S128x1 1) (v34 : FVec F S128x1 .f32) (v35 : FVec F S128x1 .f32) (x : Rows F) :
    Takes c arg3 (Scf.Loop.for k0_t3_loop k0_t3_ok ⟨⟩ (k0_t3_body i arg1 harg1 arg2 harg2 arg3 harg3 arg4 v3 v7 v11 v15 v22 v29 v33 v34 v35)) x (sweep_t3 v7 v11 v15 v33 v34 v35 x) :=
  loop_takes _ _ _ (fun k y => by unfold k0_t3_body; iintro H; sl_exec; sl_step; iapply (chunk_left (flipped (select v33 v34 v35) (net3 false v7 v11 v15)) rfl); iexact H) x

/-- The chunk pass `k0_t4`, as a function of the values of the buffer. -/
def sweep_t4 (v3 : IVec S128x1 32) (v7 v11 v15 : IVec S128x1 1) (x : Rows F) : Rows F :=
  sweep k0_t4_loop.trips (fun k => chunkStep (flipped (k0_pay278 v3) (net4 false v7 v11 v15)) (k0_off5 k) (k0_off5_inb k)) x

/-- The loop `k0_t4` takes the buffer to that pass of its values. -/
theorem pass_t4 (v3 : IVec S128x1 32) (v7 : IVec S128x1 1) (v11 : IVec S128x1 1) (v15 : IVec S128x1 1) (v22 : FVec F S128x1 .f32) (v29 : FVec F S128x1 .f32) (v33 : IVec S128x1 1) (v34 : FVec F S128x1 .f32) (v35 : FVec F S128x1 .f32) (x : Rows F) :
    Takes c arg3 (Scf.Loop.for k0_t4_loop k0_t4_ok ⟨⟩ (k0_t4_body i arg1 harg1 arg2 harg2 arg3 harg3 arg4 v3 v7 v11 v15 v22 v29 v33 v34 v35)) x (sweep_t4 v3 v7 v11 v15 x) :=
  loop_takes _ _ _ (fun k y => by unfold k0_t4_body; iintro H; sl_exec; sl_step; iapply (chunk_left (flipped (k0_pay278 v3) (net4 false v7 v11 v15)) rfl); iexact H) x

/-- The chunk pass `k0_t5`, as a function of the values of the buffer. -/
def sweep_t5 (v7 v11 v15 : IVec S128x1 1) (v50 : FVec F S128x1 .f32) (x : Rows F) : Rows F :=
  sweep k0_t5_loop.trips (fun k => chunkStep (flipped v50 (net5 false v7 v11 v15)) (k0_off6 k) (k0_off6_inb k)) x

/-- The loop `k0_t5` takes the buffer to that pass of its values. -/
theorem pass_t5 (v7 : IVec S128x1 1) (v11 : IVec S128x1 1) (v15 : IVec S128x1 1) (v50 : FVec F S128x1 .f32) (v57 : FVec F S128x1 .f32) (c0_i32_38 : BitVec 32) (c512_i32_39 : BitVec 32) (x : Rows F) :
    Takes c arg3 (Scf.Loop.for k0_t5_loop k0_t5_ok ⟨⟩ (k0_t5_body i arg1 harg1 arg2 harg2 arg3 harg3 arg4 v7 v11 v15 v50 v57 c0_i32_38 c512_i32_39)) x (sweep_t5 v7 v11 v15 v50 x) :=
  loop_takes _ _ _ (fun k y => by unfold k0_t5_body; iintro H; sl_exec; sl_step; iapply (chunk_left (flipped v50 (net5 false v7 v11 v15)) rfl); iexact H) x

/-- The chunk pass `k0_t6`, as a function of the values of the buffer. -/
def sweep_t6 (v7 v11 v15 : IVec S128x1 1) (v57 : FVec F S128x1 .f32) (x : Rows F) : Rows F :=
  sweep k0_t6_loop.trips (fun k => chunkStep (flipped v57 (net6 false v7 v11 v15)) (k0_off7 k) (k0_off7_inb k)) x

/-- The loop `k0_t6` takes the buffer to that pass of its values. -/
theorem pass_t6 (v7 : IVec S128x1 1) (v11 : IVec S128x1 1) (v15 : IVec S128x1 1) (v50 : FVec F S128x1 .f32) (v57 : FVec F S128x1 .f32) (c0_i32_38 : BitVec 32) (c512_i32_39 : BitVec 32) (x : Rows F) :
    Takes c arg3 (Scf.Loop.for k0_t6_loop k0_t6_ok ⟨⟩ (k0_t6_body i arg1 harg1 arg2 harg2 arg3 harg3 arg4 v7 v11 v15 v50 v57 c0_i32_38 c512_i32_39)) x (sweep_t6 v7 v11 v15 v57 x) :=
  loop_takes _ _ _ (fun k y => by unfold k0_t6_body; iintro H; sl_exec; sl_step; iapply (chunk_left (flipped v57 (net6 false v7 v11 v15)) rfl); iexact H) x

/-- The chunk pass `k0_t7`, as a function of the values of the buffer. -/
def sweep_t7 (v7 v11 v15 : IVec S128x1 1) (x : Rows F) : Rows F :=
  sweep k0_t7_loop.trips (fun k => chunkStep (net7 false v7 v11 v15) (k0_off8 k) (k0_off8_inb k)) x

/-- The loop `k0_t7` takes the buffer to that pass of its values. -/
theorem pass_t7 (v7 : IVec S128x1 1) (v11 : IVec S128x1 1) (v15 : IVec S128x1 1) (v50 : FVec F S128x1 .f32) (v57 : FVec F S128x1 .f32) (c0_i32_38 : BitVec 32) (c512_i32_39 : BitVec 32) (x : Rows F) :
    Takes c arg3 (Scf.Loop.for k0_t7_loop k0_t7_ok ⟨⟩ (k0_t7_body i arg1 harg1 arg2 harg2 arg3 harg3 arg4 v7 v11 v15 v50 v57 c0_i32_38 c512_i32_39)) x (sweep_t7 v7 v11 v15 x) :=
  loop_takes _ _ _ (fun k y => by unfold k0_t7_body; iintro H; sl_exec; sl_step; iapply (chunk_left (net7 false v7 v11 v15) rfl); iexact H) x

/-- The chunk pass `k0_t8`, as a function of the values of the buffer. -/
def sweep_t8 (v7 v11 v15 : IVec S128x1 1) (x : Rows F) : Rows F :=
  sweep k0_t8_loop.trips (fun k => chunkStep (net7 true v7 v11 v15) (k0_off9 k) (k0_off9_inb k)) x

/-- The loop `k0_t8` takes the buffer to that pass of its values. -/
theorem pass_t8 (v7 : IVec S128x1 1) (v11 : IVec S128x1 1) (v15 : IVec S128x1 1) (v50 : FVec F S128x1 .f32) (v57 : FVec F S128x1 .f32) (c0_i32_38 : BitVec 32) (c512_i32_39 : BitVec 32) (x : Rows F) :
    Takes c arg3 (Scf.Loop.for k0_t8_loop k0_t8_ok ⟨⟩ (k0_t8_body i arg1 harg1 arg2 harg2 arg3 harg3 arg4 v7 v11 v15 v50 v57 c0_i32_38 c512_i32_39)) x (sweep_t8 v7 v11 v15 x) :=
  loop_takes _ _ _ (fun k y => by unfold k0_t8_body; iintro H; sl_exec; sl_step; iapply (chunk_left (net7 true v7 v11 v15) rfl); iexact H) x

/-- The pair pass `k0_t9`, as a function of the values of the buffer. -/
def sweep_t9 (x : Rows F) : Rows F :=
  sweep k0_t9_loop.trips (fun k => pairStep false (k0_off10 k) (k0_off11 k) (k0_off10_inb k) (k0_off11_inb k)) x

/-- The loop `k0_t9` takes the buffer to that pass of its values. -/
theorem pass_t9 (v7 : IVec S128x1 1) (v11 : IVec S128x1 1) (v15 : IVec S128x1 1) (v50 : FVec F S128x1 .f32) (v57 : FVec F S128x1 .f32) (c0_i32_38 : BitVec 32) (c512_i32_39 : BitVec 32) (x : Rows F) :
    Takes c arg3 (Scf.Loop.for k0_t9_loop k0_t9_ok ⟨⟩ (k0_t9_body i arg1 harg1 arg2 harg2 arg3 harg3 arg4 v7 v11 v15 v50 v57 c0_i32_38 c512_i32_39)) x (sweep_t9 x) :=
  loop_takes _ _ _ (fun k y => by unfold k0_t9_body; iintro H; sl_exec; sl_step; iapply (pair_left false rfl rfl); iexact H) x

/-- The pair pass `k0_t10`, as a function of the values of the buffer. -/
def sweep_t10 (x : Rows F) : Rows F :=
  sweep k0_t10_loop.trips (fun k => pairStep true (k0_off12 k) (k0_off13 k) (k0_off12_inb k) (k0_off13_inb k)) x

/-- The loop `k0_t10` takes the buffer to that pass of its values. -/
theorem pass_t10 (v7 : IVec S128x1 1) (v11 : IVec S128x1 1) (v15 : IVec S128x1 1) (v50 : FVec F S128x1 .f32) (v57 : FVec F S128x1 .f32) (c0_i32_38 : BitVec 32) (c512_i32_39 : BitVec 32) (x : Rows F) :
    Takes c arg3 (Scf.Loop.for k0_t10_loop k0_t10_ok ⟨⟩ (k0_t10_body i arg1 harg1 arg2 harg2 arg3 harg3 arg4 v7 v11 v15 v50 v57 c0_i32_38 c512_i32_39)) x (sweep_t10 x) :=
  loop_takes _ _ _ (fun k y => by unfold k0_t10_body; iintro H; sl_exec; sl_step; iapply (pair_left true rfl rfl); iexact H) x

/-- The chunk pass `k0_t11`, as a function of the values of the buffer. -/
def sweep_t11 (v7 v11 v15 : IVec S128x1 1) (x : Rows F) : Rows F :=
  sweep k0_t11_loop.trips (fun k => chunkStep (net7 false v7 v11 v15) (k0_off14 k) (k0_off14_inb k)) x

/-- The loop `k0_t11` takes the buffer to that pass of its values. -/
theorem pass_t11 (v7 : IVec S128x1 1) (v11 : IVec S128x1 1) (v15 : IVec S128x1 1) (v50 : FVec F S128x1 .f32) (v57 : FVec F S128x1 .f32) (c0_i32_38 : BitVec 32) (c512_i32_39 : BitVec 32) (x : Rows F) :
    Takes c arg3 (Scf.Loop.for k0_t11_loop k0_t11_ok ⟨⟩ (k0_t11_body i arg1 harg1 arg2 harg2 arg3 harg3 arg4 v7 v11 v15 v50 v57 c0_i32_38 c512_i32_39)) x (sweep_t11 v7 v11 v15 x) :=
  loop_takes _ _ _ (fun k y => by unfold k0_t11_body; iintro H; sl_exec; sl_step; iapply (chunk_left (net7 false v7 v11 v15) rfl); iexact H) x

/-- The chunk pass `k0_t12`, as a function of the values of the buffer. -/
def sweep_t12 (v7 v11 v15 : IVec S128x1 1) (x : Rows F) : Rows F :=
  sweep k0_t12_loop.trips (fun k => chunkStep (net7 true v7 v11 v15) (k0_off15 k) (k0_off15_inb k)) x

/-- The loop `k0_t12` takes the buffer to that pass of its values. -/
theorem pass_t12 (v7 : IVec S128x1 1) (v11 : IVec S128x1 1) (v15 : IVec S128x1 1) (v50 : FVec F S128x1 .f32) (v57 : FVec F S128x1 .f32) (c0_i32_38 : BitVec 32) (c512_i32_39 : BitVec 32) (x : Rows F) :
    Takes c arg3 (Scf.Loop.for k0_t12_loop k0_t12_ok ⟨⟩ (k0_t12_body i arg1 harg1 arg2 harg2 arg3 harg3 arg4 v7 v11 v15 v50 v57 c0_i32_38 c512_i32_39)) x (sweep_t12 v7 v11 v15 x) :=
  loop_takes _ _ _ (fun k y => by unfold k0_t12_body; iintro H; sl_exec; sl_step; iapply (chunk_left (net7 true v7 v11 v15) rfl); iexact H) x

/-- The quad pass `k0_t13`, as a function of the values of the buffer. -/
def sweep_t13 (x : Rows F) : Rows F :=
  sweep k0_t13_loop.trips (fun k => quadStep false (k0_off16 k) (k0_off17 k 128#32) (k0_off17 k 256#32) (k0_off18 k) (k0_off16_inb k) (k0_off17_inb k 0) (k0_off17_inb k 1) (k0_off18_inb k)) x

/-- The loop `k0_t13` takes the buffer to that pass of its values. -/
theorem pass_t13 (v7 : IVec S128x1 1) (v11 : IVec S128x1 1) (v15 : IVec S128x1 1) (v50 : FVec F S128x1 .f32) (v57 : FVec F S128x1 .f32) (c0_i32_38 : BitVec 32) (c512_i32_39 : BitVec 32) (x : Rows F) :
    Takes c arg3 (Scf.Loop.for k0_t13_loop k0_t13_ok ⟨⟩ (k0_t13_body i arg1 harg1 arg2 harg2 arg3 harg3 arg4 v7 v11 v15 v50 v57 c0_i32_38 c512_i32_39)) x (sweep_t13 x) :=
  loop_takes _ _ _ (fun k y => by unfold k0_t13_body; iintro H; sl_exec; sl_step; iapply (quad_left false rfl rfl rfl rfl); iexact H) x

/-- The quad pass `k0_t14`, as a function of the values of the buffer. -/
def sweep_t14 (x : Rows F) : Rows F :=
  sweep k0_t14_loop.trips (fun k => quadStep true (k0_off19 k) (k0_off20 k 128#32) (k0_off20 k 256#32) (k0_off21 k) (k0_off19_inb k) (k0_off20_inb k 0) (k0_off20_inb k 1) (k0_off21_inb k)) x

/-- The loop `k0_t14` takes the buffer to that pass of its values. -/
theorem pass_t14 (v7 : IVec S128x1 1) (v11 : IVec S128x1 1) (v15 : IVec S128x1 1) (v50 : FVec F S128x1 .f32) (v57 : FVec F S128x1 .f32) (c0_i32_38 : BitVec 32) (c512_i32_39 : BitVec 32) (x : Rows F) :
    Takes c arg3 (Scf.Loop.for k0_t14_loop k0_t14_ok ⟨⟩ (k0_t14_body i arg1 harg1 arg2 harg2 arg3 harg3 arg4 v7 v11 v15 v50 v57 c0_i32_38 c512_i32_39)) x (sweep_t14 x) :=
  loop_takes _ _ _ (fun k y => by unfold k0_t14_body; iintro H; sl_exec; sl_step; iapply (quad_left true rfl rfl rfl rfl); iexact H) x

/-- The chunk pass `k0_t15`, as a function of the values of the buffer. -/
def sweep_t15 (v7 v11 v15 : IVec S128x1 1) (x : Rows F) : Rows F :=
  sweep k0_t15_loop.trips (fun k => chunkStep (net7 false v7 v11 v15) (k0_off22 k) (k0_off22_inb k)) x

/-- The loop `k0_t15` takes the buffer to that pass of its values. -/
theorem pass_t15 (v7 : IVec S128x1 1) (v11 : IVec S128x1 1) (v15 : IVec S128x1 1) (c0_i32_77 : BitVec 32) (c256_i32_78 : BitVec 32) (x : Rows F) :
    Takes c arg3 (Scf.Loop.for k0_t15_loop k0_t15_ok ⟨⟩ (k0_t15_body i arg1 harg1 arg2 harg2 arg3 harg3 arg4 v7 v11 v15 c0_i32_77 c256_i32_78)) x (sweep_t15 v7 v11 v15 x) :=
  loop_takes _ _ _ (fun k y => by unfold k0_t15_body; iintro H; sl_exec; sl_step; iapply (chunk_left (net7 false v7 v11 v15) rfl); iexact H) x

/-- The chunk pass `k0_t16`, as a function of the values of the buffer. -/
def sweep_t16 (v7 v11 v15 : IVec S128x1 1) (x : Rows F) : Rows F :=
  sweep k0_t16_loop.trips (fun k => chunkStep (net7 true v7 v11 v15) (k0_off23 k) (k0_off23_inb k)) x

/-- The loop `k0_t16` takes the buffer to that pass of its values. -/
theorem pass_t16 (v7 : IVec S128x1 1) (v11 : IVec S128x1 1) (v15 : IVec S128x1 1) (c0_i32_77 : BitVec 32) (c256_i32_78 : BitVec 32) (x : Rows F) :
    Takes c arg3 (Scf.Loop.for k0_t16_loop k0_t16_ok ⟨⟩ (k0_t16_body i arg1 harg1 arg2 harg2 arg3 harg3 arg4 v7 v11 v15 c0_i32_77 c256_i32_78)) x (sweep_t16 v7 v11 v15 x) :=
  loop_takes _ _ _ (fun k y => by unfold k0_t16_body; iintro H; sl_exec; sl_step; iapply (chunk_left (net7 true v7 v11 v15) rfl); iexact H) x

/-- The quad pass `k0_t17`, as a function of the values of the buffer. -/
def sweep_t17 (x : Rows F) : Rows F :=
  sweep k0_t17_loop.trips (fun k => quadStep false (k0_off24 k) (k0_off25 k 256#32) (k0_off25 k 512#32) (k0_off26 k) (k0_off24_inb k) (k0_off25_inb k 0) (k0_off25_inb k 1) (k0_off26_inb k)) x

/-- The loop `k0_t17` takes the buffer to that pass of its values. -/
theorem pass_t17 (v7 : IVec S128x1 1) (v11 : IVec S128x1 1) (v15 : IVec S128x1 1) (c0_i32_77 : BitVec 32) (c256_i32_78 : BitVec 32) (x : Rows F) :
    Takes c arg3 (Scf.Loop.for k0_t17_loop k0_t17_ok ⟨⟩ (k0_t17_body i arg1 harg1 arg2 harg2 arg3 harg3 arg4 v7 v11 v15 c0_i32_77 c256_i32_78)) x (sweep_t17 x) :=
  loop_takes _ _ _ (fun k y => by unfold k0_t17_body; iintro H; sl_exec; sl_step; iapply (quad_left false rfl rfl rfl rfl); iexact H) x

/-- The quad pass `k0_t18`, as a function of the values of the buffer. -/
def sweep_t18 (x : Rows F) : Rows F :=
  sweep k0_t18_loop.trips (fun k => quadStep true (k0_off27 k) (k0_off28 k 256#32) (k0_off28 k 512#32) (k0_off29 k) (k0_off27_inb k) (k0_off28_inb k 0) (k0_off28_inb k 1) (k0_off29_inb k)) x

/-- The loop `k0_t18` takes the buffer to that pass of its values. -/
theorem pass_t18 (v7 : IVec S128x1 1) (v11 : IVec S128x1 1) (v15 : IVec S128x1 1) (c0_i32_77 : BitVec 32) (c256_i32_78 : BitVec 32) (x : Rows F) :
    Takes c arg3 (Scf.Loop.for k0_t18_loop k0_t18_ok ⟨⟩ (k0_t18_body i arg1 harg1 arg2 harg2 arg3 harg3 arg4 v7 v11 v15 c0_i32_77 c256_i32_78)) x (sweep_t18 x) :=
  loop_takes _ _ _ (fun k y => by unfold k0_t18_body; iintro H; sl_exec; sl_step; iapply (quad_left true rfl rfl rfl rfl); iexact H) x

/-- The pair pass `k0_t19`, as a function of the values of the buffer. -/
def sweep_t19 (x : Rows F) : Rows F :=
  sweep k0_t19_loop.trips (fun k => pairStep false (k0_off30 k) (k0_off31 k) (k0_off30_inb k) (k0_off31_inb k)) x

/-- The loop `k0_t19` takes the buffer to that pass of its values. -/
theorem pass_t19 (v7 : IVec S128x1 1) (v11 : IVec S128x1 1) (v15 : IVec S128x1 1) (c0_i32_77 : BitVec 32) (c256_i32_78 : BitVec 32) (x : Rows F) :
    Takes c arg3 (Scf.Loop.for k0_t19_loop k0_t19_ok ⟨⟩ (k0_t19_body i arg1 harg1 arg2 harg2 arg3 harg3 arg4 v7 v11 v15 c0_i32_77 c256_i32_78)) x (sweep_t19 x) :=
  loop_takes _ _ _ (fun k y => by unfold k0_t19_body; iintro H; sl_exec; sl_step; iapply (pair_left false rfl rfl); iexact H) x

/-- The pair pass `k0_t20`, as a function of the values of the buffer. -/
def sweep_t20 (x : Rows F) : Rows F :=
  sweep k0_t20_loop.trips (fun k => pairStep true (k0_off32 k) (k0_off33 k) (k0_off32_inb k) (k0_off33_inb k)) x

/-- The loop `k0_t20` takes the buffer to that pass of its values. -/
theorem pass_t20 (v7 : IVec S128x1 1) (v11 : IVec S128x1 1) (v15 : IVec S128x1 1) (c0_i32_77 : BitVec 32) (c256_i32_78 : BitVec 32) (x : Rows F) :
    Takes c arg3 (Scf.Loop.for k0_t20_loop k0_t20_ok ⟨⟩ (k0_t20_body i arg1 harg1 arg2 harg2 arg3 harg3 arg4 v7 v11 v15 c0_i32_77 c256_i32_78)) x (sweep_t20 x) :=
  loop_takes _ _ _ (fun k y => by unfold k0_t20_body; iintro H; sl_exec; sl_step; iapply (pair_left true rfl rfl); iexact H) x

/-- The chunk pass `k0_t21`, as a function of the values of the buffer. -/
def sweep_t21 (v7 v11 v15 : IVec S128x1 1) (x : Rows F) : Rows F :=
  sweep k0_t21_loop.trips (fun k => chunkStep (net7 false v7 v11 v15) (k0_off34 k) (k0_off34_inb k)) x

/-- The loop `k0_t21` takes the buffer to that pass of its values. -/
theorem pass_t21 (v7 : IVec S128x1 1) (v11 : IVec S128x1 1) (v15 : IVec S128x1 1) (c0_i32_77 : BitVec 32) (c256_i32_78 : BitVec 32) (x : Rows F) :
    Takes c arg3 (Scf.Loop.for k0_t21_loop k0_t21_ok ⟨⟩ (k0_t21_body i arg1 harg1 arg2 harg2 arg3 harg3 arg4 v7 v11 v15 c0_i32_77 c256_i32_78)) x (sweep_t21 v7 v11 v15 x) :=
  loop_takes _ _ _ (fun k y => by unfold k0_t21_body; iintro H; sl_exec; sl_step; iapply (chunk_left (net7 false v7 v11 v15) rfl); iexact H) x

/-- The chunk pass `k0_t22`, as a function of the values of the buffer. -/
def sweep_t22 (v7 v11 v15 : IVec S128x1 1) (x : Rows F) : Rows F :=
  sweep k0_t22_loop.trips (fun k => chunkStep (net7 true v7 v11 v15) (k0_off35 k) (k0_off35_inb k)) x

/-- The loop `k0_t22` takes the buffer to that pass of its values. -/
theorem pass_t22 (v7 : IVec S128x1 1) (v11 : IVec S128x1 1) (v15 : IVec S128x1 1) (c0_i32_77 : BitVec 32) (c256_i32_78 : BitVec 32) (x : Rows F) :
    Takes c arg3 (Scf.Loop.for k0_t22_loop k0_t22_ok ⟨⟩ (k0_t22_body i arg1 harg1 arg2 harg2 arg3 harg3 arg4 v7 v11 v15 c0_i32_77 c256_i32_78)) x (sweep_t22 v7 v11 v15 x) :=
  loop_takes _ _ _ (fun k y => by unfold k0_t22_body; iintro H; sl_exec; sl_step; iapply (chunk_left (net7 true v7 v11 v15) rfl); iexact H) x

/-- The quad pass `k0_t23`, as a function of the values of the buffer. -/
def sweep_t23 (x : Rows F) : Rows F :=
  sweep k0_t23_loop.trips (fun k => quadStep false (k0_off36 k) (k0_off37 k 512#32) (k0_off37 k 1024#32) (k0_off38 k) (k0_off36_inb k) (k0_off37_inb k 0) (k0_off37_inb k 1) (k0_off38_inb k)) x

/-- The loop `k0_t23` takes the buffer to that pass of its values. -/
theorem pass_t23 (v7 : IVec S128x1 1) (v11 : IVec S128x1 1) (v15 : IVec S128x1 1) (c0_i32_77 : BitVec 32) (c256_i32_78 : BitVec 32) (x : Rows F) :
    Takes c arg3 (Scf.Loop.for k0_t23_loop k0_t23_ok ⟨⟩ (k0_t23_body i arg1 harg1 arg2 harg2 arg3 harg3 arg4 v7 v11 v15 c0_i32_77 c256_i32_78)) x (sweep_t23 x) :=
  loop_takes _ _ _ (fun k y => by unfold k0_t23_body; iintro H; sl_exec; sl_step; iapply (quad_left false rfl rfl rfl rfl); iexact H) x

/-- The quad pass `k0_t24`, as a function of the values of the buffer. -/
def sweep_t24 (x : Rows F) : Rows F :=
  sweep k0_t24_loop.trips (fun k => quadStep true (k0_off39 k) (k0_off40 k 512#32) (k0_off40 k 1024#32) (k0_off41 k) (k0_off39_inb k) (k0_off40_inb k 0) (k0_off40_inb k 1) (k0_off41_inb k)) x

/-- The loop `k0_t24` takes the buffer to that pass of its values. -/
theorem pass_t24 (v7 : IVec S128x1 1) (v11 : IVec S128x1 1) (v15 : IVec S128x1 1) (c0_i32_77 : BitVec 32) (c256_i32_78 : BitVec 32) (x : Rows F) :
    Takes c arg3 (Scf.Loop.for k0_t24_loop k0_t24_ok ⟨⟩ (k0_t24_body i arg1 harg1 arg2 harg2 arg3 harg3 arg4 v7 v11 v15 c0_i32_77 c256_i32_78)) x (sweep_t24 x) :=
  loop_takes _ _ _ (fun k y => by unfold k0_t24_body; iintro H; sl_exec; sl_step; iapply (quad_left true rfl rfl rfl rfl); iexact H) x

/-- The quad pass `k0_t25`, as a function of the values of the buffer. -/
def sweep_t25 (x : Rows F) : Rows F :=
  sweep k0_t25_loop.trips (fun k => quadStep false (k0_off42 k) (k0_off43 k 128#32) (k0_off43 k 256#32) (k0_off44 k) (k0_off42_inb k) (k0_off43_inb k 0) (k0_off43_inb k 1) (k0_off44_inb k)) x

/-- The loop `k0_t25` takes the buffer to that pass of its values. -/
theorem pass_t25 (v7 : IVec S128x1 1) (v11 : IVec S128x1 1) (v15 : IVec S128x1 1) (c0_i32_117 : BitVec 32) (c128_i32_118 : BitVec 32) (x : Rows F) :
    Takes c arg3 (Scf.Loop.for k0_t25_loop k0_t25_ok ⟨⟩ (k0_t25_body i arg1 harg1 arg2 harg2 arg3 harg3 arg4 v7 v11 v15 c0_i32_117 c128_i32_118)) x (sweep_t25 x) :=
  loop_takes _ _ _ (fun k y => by unfold k0_t25_body; iintro H; sl_exec; sl_step; iapply (quad_left false rfl rfl rfl rfl); iexact H) x

/-- The quad pass `k0_t26`, as a function of the values of the buffer. -/
def sweep_t26 (x : Rows F) : Rows F :=
  sweep k0_t26_loop.trips (fun k => quadStep true (k0_off45 k) (k0_off46 k 128#32) (k0_off46 k 256#32) (k0_off47 k) (k0_off45_inb k) (k0_off46_inb k 0) (k0_off46_inb k 1) (k0_off47_inb k)) x

/-- The loop `k0_t26` takes the buffer to that pass of its values. -/
theorem pass_t26 (v7 : IVec S128x1 1) (v11 : IVec S128x1 1) (v15 : IVec S128x1 1) (c0_i32_117 : BitVec 32) (c128_i32_118 : BitVec 32) (x : Rows F) :
    Takes c arg3 (Scf.Loop.for k0_t26_loop k0_t26_ok ⟨⟩ (k0_t26_body i arg1 harg1 arg2 harg2 arg3 harg3 arg4 v7 v11 v15 c0_i32_117 c128_i32_118)) x (sweep_t26 x) :=
  loop_takes _ _ _ (fun k y => by unfold k0_t26_body; iintro H; sl_exec; sl_step; iapply (quad_left true rfl rfl rfl rfl); iexact H) x

/-- The chunk pass `k0_t27`, as a function of the values of the buffer. -/
def sweep_t27 (v7 v11 v15 : IVec S128x1 1) (x : Rows F) : Rows F :=
  sweep k0_t27_loop.trips (fun k => chunkStep (net7 false v7 v11 v15) (k0_off48 k) (k0_off48_inb k)) x

/-- The loop `k0_t27` takes the buffer to that pass of its values. -/
theorem pass_t27 (v7 : IVec S128x1 1) (v11 : IVec S128x1 1) (v15 : IVec S128x1 1) (c0_i32_117 : BitVec 32) (c128_i32_118 : BitVec 32) (x : Rows F) :
    Takes c arg3 (Scf.Loop.for k0_t27_loop k0_t27_ok ⟨⟩ (k0_t27_body i arg1 harg1 arg2 harg2 arg3 harg3 arg4 v7 v11 v15 c0_i32_117 c128_i32_118)) x (sweep_t27 v7 v11 v15 x) :=
  loop_takes _ _ _ (fun k y => by unfold k0_t27_body; iintro H; sl_exec; sl_step; iapply (chunk_left (net7 false v7 v11 v15) rfl); iexact H) x

/-- The chunk pass `k0_t28`, as a function of the values of the buffer. -/
def sweep_t28 (v7 v11 v15 : IVec S128x1 1) (x : Rows F) : Rows F :=
  sweep k0_t28_loop.trips (fun k => chunkStep (net7 true v7 v11 v15) (k0_off49 k) (k0_off49_inb k)) x

/-- The loop `k0_t28` takes the buffer to that pass of its values. -/
theorem pass_t28 (v7 : IVec S128x1 1) (v11 : IVec S128x1 1) (v15 : IVec S128x1 1) (c0_i32_117 : BitVec 32) (c128_i32_118 : BitVec 32) (x : Rows F) :
    Takes c arg3 (Scf.Loop.for k0_t28_loop k0_t28_ok ⟨⟩ (k0_t28_body i arg1 harg1 arg2 harg2 arg3 harg3 arg4 v7 v11 v15 c0_i32_117 c128_i32_118)) x (sweep_t28 v7 v11 v15 x) :=
  loop_takes _ _ _ (fun k y => by unfold k0_t28_body; iintro H; sl_exec; sl_step; iapply (chunk_left (net7 true v7 v11 v15) rfl); iexact H) x

end Cert.KernelIdeal.Gen
end
-- ==== Proof.Passes2.lean ====
/-
  The loops of the second part: the chunk, pair and quad passes of levels 12 to 16, each as a function of the values of the buffer.
-/
module

public import proofs.«01_k».proof.Proof.Held

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (c : Dev nD) (i : grid0.Coords) (arg1 : Memref sig .tc .hbm S65536x512 .f32) (harg1 : arg1.IsWhole) (arg2 : Memref sig .tc .vmem S1x8x128 .f32) (harg2 : arg2.IsWhole)
  (arg3 : Memref sig .tc .vmem S65536x128 .f32) (harg3 : arg3.IsWhole) (arg4 : DmaSems sig S_)

/-- The quad pass `k0_t29`, as a function of the values of the buffer. -/
def sweep_t29 (x : Rows F) : Rows F :=
  sweep k0_t29_loop.trips (fun k => quadStep false (k0_off50 k) (k0_off51 k 1024#32) (k0_off51 k 2048#32) (k0_off52 k) (k0_off50_inb k) (k0_off51_inb k 0) (k0_off51_inb k 1) (k0_off52_inb k)) x

/-- The loop `k0_t29` takes the buffer to that pass of its values. -/
theorem pass_t29 (v7 : IVec S128x1 1) (v11 : IVec S128x1 1) (v15 : IVec S128x1 1) (c0_i32_117 : BitVec 32) (c128_i32_118 : BitVec 32) (x : Rows F) :
    Takes c arg3 (Scf.Loop.for k0_t29_loop k0_t29_ok ⟨⟩ (k0_t29_body i arg1 harg1 arg2 harg2 arg3 harg3 arg4 v7 v11 v15 c0_i32_117 c128_i32_118)) x (sweep_t29 x) :=
  loop_takes _ _ _ (fun k y => by unfold k0_t29_body; iintro H; sl_exec; sl_step; iapply (quad_left false rfl rfl rfl rfl); iexact H) x

/-- The quad pass `k0_t30`, as a function of the values of the buffer. -/
def sweep_t30 (x : Rows F) : Rows F :=
  sweep k0_t30_loop.trips (fun k => quadStep true (k0_off53 k) (k0_off54 k 1024#32) (k0_off54 k 2048#32) (k0_off55 k) (k0_off53_inb k) (k0_off54_inb k 0) (k0_off54_inb k 1) (k0_off55_inb k)) x

/-- The loop `k0_t30` takes the buffer to that pass of its values. -/
theorem pass_t30 (v7 : IVec S128x1 1) (v11 : IVec S128x1 1) (v15 : IVec S128x1 1) (c0_i32_117 : BitVec 32) (c128_i32_118 : BitVec 32) (x : Rows F) :
    Takes c arg3 (Scf.Loop.for k0_t30_loop k0_t30_ok ⟨⟩ (k0_t30_body i arg1 harg1 arg2 harg2 arg3 harg3 arg4 v7 v11 v15 c0_i32_117 c128_i32_118)) x (sweep_t30 x) :=
  loop_takes _ _ _ (fun k y => by unfold k0_t30_body; iintro H; sl_exec; sl_step; iapply (quad_left true rfl rfl rfl rfl); iexact H) x

/-- The quad pass `k0_t31`, as a function of the values of the buffer. -/
def sweep_t31 (x : Rows F) : Rows F :=
  sweep k0_t31_loop.trips (fun k => quadStep false (k0_off56 k) (k0_off57 k 256#32) (k0_off57 k 512#32) (k0_off58 k) (k0_off56_inb k) (k0_off57_inb k 0) (k0_off57_inb k 1) (k0_off58_inb k)) x

/-- The loop `k0_t31` takes the buffer to that pass of its values. -/
theorem pass_t31 (v7 : IVec S128x1 1) (v11 : IVec S128x1 1) (v15 : IVec S128x1 1) (c0_i32_117 : BitVec 32) (c128_i32_118 : BitVec 32) (x : Rows F) :
    Takes c arg3 (Scf.Loop.for k0_t31_loop k0_t31_ok ⟨⟩ (k0_t31_body i arg1 harg1 arg2 harg2 arg3 harg3 arg4 v7 v11 v15 c0_i32_117 c128_i32_118)) x (sweep_t31 x) :=
  loop_takes _ _ _ (fun k y => by unfold k0_t31_body; iintro H; sl_exec; sl_step; iapply (quad_left false rfl rfl rfl rfl); iexact H) x

/-- The quad pass `k0_t32`, as a function of the values of the buffer. -/
def sweep_t32 (x : Rows F) : Rows F :=
  sweep k0_t32_loop.trips (fun k => quadStep true (k0_off59 k) (k0_off60 k 256#32) (k0_off60 k 512#32) (k0_off61 k) (k0_off59_inb k) (k0_off60_inb k 0) (k0_off60_inb k 1) (k0_off61_inb k)) x

/-- The loop `k0_t32` takes the buffer to that pass of its values. -/
theorem pass_t32 (v7 : IVec S128x1 1) (v11 : IVec S128x1 1) (v15 : IVec S128x1 1) (c0_i32_117 : BitVec 32) (c128_i32_118 : BitVec 32) (x : Rows F) :
    Takes c arg3 (Scf.Loop.for k0_t32_loop k0_t32_ok ⟨⟩ (k0_t32_body i arg1 harg1 arg2 harg2 arg3 harg3 arg4 v7 v11 v15 c0_i32_117 c128_i32_118)) x (sweep_t32 x) :=
  loop_takes _ _ _ (fun k y => by unfold k0_t32_body; iintro H; sl_exec; sl_step; iapply (quad_left true rfl rfl rfl rfl); iexact H) x

/-- The pair pass `k0_t33`, as a function of the values of the buffer. -/
def sweep_t33 (x : Rows F) : Rows F :=
  sweep k0_t33_loop.trips (fun k => pairStep false (k0_off62 k) (k0_off63 k) (k0_off62_inb k) (k0_off63_inb k)) x

/-- The loop `k0_t33` takes the buffer to that pass of its values. -/
theorem pass_t33 (v7 : IVec S128x1 1) (v11 : IVec S128x1 1) (v15 : IVec S128x1 1) (c0_i32_117 : BitVec 32) (c128_i32_118 : BitVec 32) (x : Rows F) :
    Takes c arg3 (Scf.Loop.for k0_t33_loop k0_t33_ok ⟨⟩ (k0_t33_body i arg1 harg1 arg2 harg2 arg3 harg3 arg4 v7 v11 v15 c0_i32_117 c128_i32_118)) x (sweep_t33 x) :=
  loop_takes _ _ _ (fun k y => by unfold k0_t33_body; iintro H; sl_exec; sl_step; iapply (pair_left false rfl rfl); iexact H) x

/-- The pair pass `k0_t34`, as a function of the values of the buffer. -/
def sweep_t34 (x : Rows F) : Rows F :=
  sweep k0_t34_loop.trips (fun k => pairStep true (k0_off64 k) (k0_off65 k) (k0_off64_inb k) (k0_off65_inb k)) x

/-- The loop `k0_t34` takes the buffer to that pass of its values. -/
theorem pass_t34 (v7 : IVec S128x1 1) (v11 : IVec S128x1 1) (v15 : IVec S128x1 1) (c0_i32_117 : BitVec 32) (c128_i32_118 : BitVec 32) (x : Rows F) :
    Takes c arg3 (Scf.Loop.for k0_t34_loop k0_t34_ok ⟨⟩ (k0_t34_body i arg1 harg1 arg2 harg2 arg3 harg3 arg4 v7 v11 v15 c0_i32_117 c128_i32_118)) x (sweep_t34 x) :=
  loop_takes _ _ _ (fun k y => by unfold k0_t34_body; iintro H; sl_exec; sl_step; iapply (pair_left true rfl rfl); iexact H) x

/-- The chunk pass `k0_t35`, as a function of the values of the buffer. -/
def sweep_t35 (v7 v11 v15 : IVec S128x1 1) (x : Rows F) : Rows F :=
  sweep k0_t35_loop.trips (fun k => chunkStep (net7 false v7 v11 v15) (k0_off66 k) (k0_off66_inb k)) x

/-- The loop `k0_t35` takes the buffer to that pass of its values. -/
theorem pass_t35 (v7 : IVec S128x1 1) (v11 : IVec S128x1 1) (v15 : IVec S128x1 1) (c0_i32_157 : BitVec 32) (c256_i32_158 : BitVec 32) (x : Rows F) :
    Takes c arg3 (Scf.Loop.for k0_t35_loop k0_t35_ok ⟨⟩ (k0_t35_body i arg1 harg1 arg2 harg2 arg3 harg3 arg4 v7 v11 v15 c0_i32_157 c256_i32_158)) x (sweep_t35 v7 v11 v15 x) :=
  loop_takes _ _ _ (fun k y => by unfold k0_t35_body; iintro H; sl_exec; sl_step; iapply (chunk_left (net7 false v7 v11 v15) rfl); iexact H) x

/-- The chunk pass `k0_t36`, as a function of the values of the buffer. -/
def sweep_t36 (v7 v11 v15 : IVec S128x1 1) (x : Rows F) : Rows F :=
  sweep k0_t36_loop.trips (fun k => chunkStep (net7 true v7 v11 v15) (k0_off67 k) (k0_off67_inb k)) x

/-- The loop `k0_t36` takes the buffer to that pass of its values. -/
theorem pass_t36 (v7 : IVec S128x1 1) (v11 : IVec S128x1 1) (v15 : IVec S128x1 1) (c0_i32_157 : BitVec 32) (c256_i32_158 : BitVec 32) (x : Rows F) :
    Takes c arg3 (Scf.Loop.for k0_t36_loop k0_t36_ok ⟨⟩ (k0_t36_body i arg1 harg1 arg2 harg2 arg3 harg3 arg4 v7 v11 v15 c0_i32_157 c256_i32_158)) x (sweep_t36 v7 v11 v15 x) :=
  loop_takes _ _ _ (fun k y => by unfold k0_t36_body; iintro H; sl_exec; sl_step; iapply (chunk_left (net7 true v7 v11 v15) rfl); iexact H) x

/-- The quad pass `k0_t37`, as a function of the values of the buffer. -/
def sweep_t37 (x : Rows F) : Rows F :=
  sweep k0_t37_loop.trips (fun k => quadStep false (k0_off68 k) (k0_off69 k 2048#32) (k0_off69 k 4096#32) (k0_off70 k) (k0_off68_inb k) (k0_off69_inb k 0) (k0_off69_inb k 1) (k0_off70_inb k)) x

/-- The loop `k0_t37` takes the buffer to that pass of its values. -/
theorem pass_t37 (v7 : IVec S128x1 1) (v11 : IVec S128x1 1) (v15 : IVec S128x1 1) (c0_i32_157 : BitVec 32) (c256_i32_158 : BitVec 32) (x : Rows F) :
    Takes c arg3 (Scf.Loop.for k0_t37_loop k0_t37_ok ⟨⟩ (k0_t37_body i arg1 harg1 arg2 harg2 arg3 harg3 arg4 v7 v11 v15 c0_i32_157 c256_i32_158)) x (sweep_t37 x) :=
  loop_takes _ _ _ (fun k y => by unfold k0_t37_body; iintro H; sl_exec; sl_step; iapply (quad_left false rfl rfl rfl rfl); iexact H) x

/-- The quad pass `k0_t38`, as a function of the values of the buffer. -/
def sweep_t38 (x : Rows F) : Rows F :=
  sweep k0_t38_loop.trips (fun k => quadStep true (k0_off71 k) (k0_off72 k 2048#32) (k0_off72 k 4096#32) (k0_off73 k) (k0_off71_inb k) (k0_off72_inb k 0) (k0_off72_inb k 1) (k0_off73_inb k)) x

/-- The loop `k0_t38` takes the buffer to that pass of its values. -/
theorem pass_t38 (v7 : IVec S128x1 1) (v11 : IVec S128x1 1) (v15 : IVec S128x1 1) (c0_i32_157 : BitVec 32) (c256_i32_158 : BitVec 32) (x : Rows F) :
    Takes c arg3 (Scf.Loop.for k0_t38_loop k0_t38_ok ⟨⟩ (k0_t38_body i arg1 harg1 arg2 harg2 arg3 harg3 arg4 v7 v11 v15 c0_i32_157 c256_i32_158)) x (sweep_t38 x) :=
  loop_takes _ _ _ (fun k y => by unfold k0_t38_body; iintro H; sl_exec; sl_step; iapply (quad_left true rfl rfl rfl rfl); iexact H) x

/-- The quad pass `k0_t39`, as a function of the values of the buffer. -/
def sweep_t39 (x : Rows F) : Rows F :=
  sweep k0_t39_loop.trips (fun k => quadStep false (k0_off74 k) (k0_off75 k 512#32) (k0_off75 k 1024#32) (k0_off76 k) (k0_off74_inb k) (k0_off75_inb k 0) (k0_off75_inb k 1) (k0_off76_inb k)) x

/-- The loop `k0_t39` takes the buffer to that pass of its values. -/
theorem pass_t39 (v7 : IVec S128x1 1) (v11 : IVec S128x1 1) (v15 : IVec S128x1 1) (c0_i32_157 : BitVec 32) (c256_i32_158 : BitVec 32) (x : Rows F) :
    Takes c arg3 (Scf.Loop.for k0_t39_loop k0_t39_ok ⟨⟩ (k0_t39_body i arg1 harg1 arg2 harg2 arg3 harg3 arg4 v7 v11 v15 c0_i32_157 c256_i32_158)) x (sweep_t39 x) :=
  loop_takes _ _ _ (fun k y => by unfold k0_t39_body; iintro H; sl_exec; sl_step; iapply (quad_left false rfl rfl rfl rfl); iexact H) x

/-- The quad pass `k0_t40`, as a function of the values of the buffer. -/
def sweep_t40 (x : Rows F) : Rows F :=
  sweep k0_t40_loop.trips (fun k => quadStep true (k0_off77 k) (k0_off78 k 512#32) (k0_off78 k 1024#32) (k0_off79 k) (k0_off77_inb k) (k0_off78_inb k 0) (k0_off78_inb k 1) (k0_off79_inb k)) x

/-- The loop `k0_t40` takes the buffer to that pass of its values. -/
theorem pass_t40 (v7 : IVec S128x1 1) (v11 : IVec S128x1 1) (v15 : IVec S128x1 1) (c0_i32_157 : BitVec 32) (c256_i32_158 : BitVec 32) (x : Rows F) :
    Takes c arg3 (Scf.Loop.for k0_t40_loop k0_t40_ok ⟨⟩ (k0_t40_body i arg1 harg1 arg2 harg2 arg3 harg3 arg4 v7 v11 v15 c0_i32_157 c256_i32_158)) x (sweep_t40 x) :=
  loop_takes _ _ _ (fun k y => by unfold k0_t40_body; iintro H; sl_exec; sl_step; iapply (quad_left true rfl rfl rfl rfl); iexact H) x

/-- The quad pass `k0_t41`, as a function of the values of the buffer. -/
def sweep_t41 (x : Rows F) : Rows F :=
  sweep k0_t41_loop.trips (fun k => quadStep false (k0_off80 k) (k0_off81 k 128#32) (k0_off81 k 256#32) (k0_off82 k) (k0_off80_inb k) (k0_off81_inb k 0) (k0_off81_inb k 1) (k0_off82_inb k)) x

/-- The loop `k0_t41` takes the buffer to that pass of its values. -/
theorem pass_t41 (v7 : IVec S128x1 1) (v11 : IVec S128x1 1) (v15 : IVec S128x1 1) (c0_i32_157 : BitVec 32) (c256_i32_158 : BitVec 32) (x : Rows F) :
    Takes c arg3 (Scf.Loop.for k0_t41_loop k0_t41_ok ⟨⟩ (k0_t41_body i arg1 harg1 arg2 harg2 arg3 harg3 arg4 v7 v11 v15 c0_i32_157 c256_i32_158)) x (sweep_t41 x) :=
  loop_takes _ _ _ (fun k y => by unfold k0_t41_body; iintro H; sl_exec; sl_step; iapply (quad_left false rfl rfl rfl rfl); iexact H) x

/-- The quad pass `k0_t42`, as a function of the values of the buffer. -/
def sweep_t42 (x : Rows F) : Rows F :=
  sweep k0_t42_loop.trips (fun k => quadStep true (k0_off83 k) (k0_off84 k 128#32) (k0_off84 k 256#32) (k0_off85 k) (k0_off83_inb k) (k0_off84_inb k 0) (k0_off84_inb k 1) (k0_off85_inb k)) x

/-- The loop `k0_t42` takes the buffer to that pass of its values. -/
theorem pass_t42 (v7 : IVec S128x1 1) (v11 : IVec S128x1 1) (v15 : IVec S128x1 1) (c0_i32_157 : BitVec 32) (c256_i32_158 : BitVec 32) (x : Rows F) :
    Takes c arg3 (Scf.Loop.for k0_t42_loop k0_t42_ok ⟨⟩ (k0_t42_body i arg1 harg1 arg2 harg2 arg3 harg3 arg4 v7 v11 v15 c0_i32_157 c256_i32_158)) x (sweep_t42 x) :=
  loop_takes _ _ _ (fun k y => by unfold k0_t42_body; iintro H; sl_exec; sl_step; iapply (quad_left true rfl rfl rfl rfl); iexact H) x

/-- The chunk pass `k0_t43`, as a function of the values of the buffer. -/
def sweep_t43 (v7 v11 v15 : IVec S128x1 1) (x : Rows F) : Rows F :=
  sweep k0_t43_loop.trips (fun k => chunkStep (net7 false v7 v11 v15) (k0_off86 k) (k0_off86_inb k)) x

/-- The loop `k0_t43` takes the buffer to that pass of its values. -/
theorem pass_t43 (v7 : IVec S128x1 1) (v11 : IVec S128x1 1) (v15 : IVec S128x1 1) (c0_i32_157 : BitVec 32) (c256_i32_158 : BitVec 32) (x : Rows F) :
    Takes c arg3 (Scf.Loop.for k0_t43_loop k0_t43_ok ⟨⟩ (k0_t43_body i arg1 harg1 arg2 harg2 arg3 harg3 arg4 v7 v11 v15 c0_i32_157 c256_i32_158)) x (sweep_t43 v7 v11 v15 x) :=
  loop_takes _ _ _ (fun k y => by unfold k0_t43_body; iintro H; sl_exec; sl_step; iapply (chunk_left (net7 false v7 v11 v15) rfl); iexact H) x

/-- The chunk pass `k0_t44`, as a function of the values of the buffer. -/
def sweep_t44 (v7 v11 v15 : IVec S128x1 1) (x : Rows F) : Rows F :=
  sweep k0_t44_loop.trips (fun k => chunkStep (net7 true v7 v11 v15) (k0_off87 k) (k0_off87_inb k)) x

/-- The loop `k0_t44` takes the buffer to that pass of its values. -/
theorem pass_t44 (v7 : IVec S128x1 1) (v11 : IVec S128x1 1) (v15 : IVec S128x1 1) (c0_i32_157 : BitVec 32) (c256_i32_158 : BitVec 32) (x : Rows F) :
    Takes c arg3 (Scf.Loop.for k0_t44_loop k0_t44_ok ⟨⟩ (k0_t44_body i arg1 harg1 arg2 harg2 arg3 harg3 arg4 v7 v11 v15 c0_i32_157 c256_i32_158)) x (sweep_t44 v7 v11 v15 x) :=
  loop_takes _ _ _ (fun k y => by unfold k0_t44_body; iintro H; sl_exec; sl_step; iapply (chunk_left (net7 true v7 v11 v15) rfl); iexact H) x

/-- The quad pass `k0_t45`, as a function of the values of the buffer. -/
def sweep_t45 (x : Rows F) : Rows F :=
  sweep k0_t45_loop.trips (fun k => quadStep false (k0_off88 k) (k0_off89 k 4096#32) (k0_off89 k 8192#32) (k0_off90 k) (k0_off88_inb k) (k0_off89_inb k 0) (k0_off89_inb k 1) (k0_off90_inb k)) x

/-- The loop `k0_t45` takes the buffer to that pass of its values. -/
theorem pass_t45 (v7 : IVec S128x1 1) (v11 : IVec S128x1 1) (v15 : IVec S128x1 1) (c0_i32_197 : BitVec 32) (c128_i32_198 : BitVec 32) (x : Rows F) :
    Takes c arg3 (Scf.Loop.for k0_t45_loop k0_t45_ok ⟨⟩ (k0_t45_body i arg1 harg1 arg2 harg2 arg3 harg3 arg4 v7 v11 v15 c0_i32_197 c128_i32_198)) x (sweep_t45 x) :=
  loop_takes _ _ _ (fun k y => by unfold k0_t45_body; iintro H; sl_exec; sl_step; iapply (quad_left false rfl rfl rfl rfl); iexact H) x

/-- The quad pass `k0_t46`, as a function of the values of the buffer. -/
def sweep_t46 (x : Rows F) : Rows F :=
  sweep k0_t46_loop.trips (fun k => quadStep true (k0_off91 k) (k0_off92 k 4096#32) (k0_off92 k 8192#32) (k0_off93 k) (k0_off91_inb k) (k0_off92_inb k 0) (k0_off92_inb k 1) (k0_off93_inb k)) x

/-- The loop `k0_t46` takes the buffer to that pass of its values. -/
theorem pass_t46 (v7 : IVec S128x1 1) (v11 : IVec S128x1 1) (v15 : IVec S128x1 1) (c0_i32_197 : BitVec 32) (c128_i32_198 : BitVec 32) (x : Rows F) :
    Takes c arg3 (Scf.Loop.for k0_t46_loop k0_t46_ok ⟨⟩ (k0_t46_body i arg1 harg1 arg2 harg2 arg3 harg3 arg4 v7 v11 v15 c0_i32_197 c128_i32_198)) x (sweep_t46 x) :=
  loop_takes _ _ _ (fun k y => by unfold k0_t46_body; iintro H; sl_exec; sl_step; iapply (quad_left true rfl rfl rfl rfl); iexact H) x

/-- The quad pass `k0_t47`, as a function of the values of the buffer. -/
def sweep_t47 (x : Rows F) : Rows F :=
  sweep k0_t47_loop.trips (fun k => quadStep false (k0_off94 k) (k0_off95 k 1024#32) (k0_off95 k 2048#32) (k0_off96 k) (k0_off94_inb k) (k0_off95_inb k 0) (k0_off95_inb k 1) (k0_off96_inb k)) x

/-- The loop `k0_t47` takes the buffer to that pass of its values. -/
theorem pass_t47 (v7 : IVec S128x1 1) (v11 : IVec S128x1 1) (v15 : IVec S128x1 1) (c0_i32_197 : BitVec 32) (c128_i32_198 : BitVec 32) (x : Rows F) :
    Takes c arg3 (Scf.Loop.for k0_t47_loop k0_t47_ok ⟨⟩ (k0_t47_body i arg1 harg1 arg2 harg2 arg3 harg3 arg4 v7 v11 v15 c0_i32_197 c128_i32_198)) x (sweep_t47 x) :=
  loop_takes _ _ _ (fun k y => by unfold k0_t47_body; iintro H; sl_exec; sl_step; iapply (quad_left false rfl rfl rfl rfl); iexact H) x

/-- The quad pass `k0_t48`, as a function of the values of the buffer. -/
def sweep_t48 (x : Rows F) : Rows F :=
  sweep k0_t48_loop.trips (fun k => quadStep true (k0_off97 k) (k0_off98 k 1024#32) (k0_off98 k 2048#32) (k0_off99 k) (k0_off97_inb k) (k0_off98_inb k 0) (k0_off98_inb k 1) (k0_off99_inb k)) x

/-- The loop `k0_t48` takes the buffer to that pass of its values. -/
theorem pass_t48 (v7 : IVec S128x1 1) (v11 : IVec S128x1 1) (v15 : IVec S128x1 1) (c0_i32_197 : BitVec 32) (c128_i32_198 : BitVec 32) (x : Rows F) :
    Takes c arg3 (Scf.Loop.for k0_t48_loop k0_t48_ok ⟨⟩ (k0_t48_body i arg1 harg1 arg2 harg2 arg3 harg3 arg4 v7 v11 v15 c0_i32_197 c128_i32_198)) x (sweep_t48 x) :=
  loop_takes _ _ _ (fun k y => by unfold k0_t48_body; iintro H; sl_exec; sl_step; iapply (quad_left true rfl rfl rfl rfl); iexact H) x

/-- The quad pass `k0_t49`, as a function of the values of the buffer. -/
def sweep_t49 (x : Rows F) : Rows F :=
  sweep k0_t49_loop.trips (fun k => quadStep false (k0_off100 k) (k0_off101 k 256#32) (k0_off101 k 512#32) (k0_off102 k) (k0_off100_inb k) (k0_off101_inb k 0) (k0_off101_inb k 1) (k0_off102_inb k)) x

/-- The loop `k0_t49` takes the buffer to that pass of its values. -/
theorem pass_t49 (v7 : IVec S128x1 1) (v11 : IVec S128x1 1) (v15 : IVec S128x1 1) (c0_i32_197 : BitVec 32) (c128_i32_198 : BitVec 32) (x : Rows F) :
    Takes c arg3 (Scf.Loop.for k0_t49_loop k0_t49_ok ⟨⟩ (k0_t49_body i arg1 harg1 arg2 harg2 arg3 harg3 arg4 v7 v11 v15 c0_i32_197 c128_i32_198)) x (sweep_t49 x) :=
  loop_takes _ _ _ (fun k y => by unfold k0_t49_body; iintro H; sl_exec; sl_step; iapply (quad_left false rfl rfl rfl rfl); iexact H) x

/-- The quad pass `k0_t50`, as a function of the values of the buffer. -/
def sweep_t50 (x : Rows F) : Rows F :=
  sweep k0_t50_loop.trips (fun k => quadStep true (k0_off103 k) (k0_off104 k 256#32) (k0_off104 k 512#32) (k0_off105 k) (k0_off103_inb k) (k0_off104_inb k 0) (k0_off104_inb k 1) (k0_off105_inb k)) x

/-- The loop `k0_t50` takes the buffer to that pass of its values. -/
theorem pass_t50 (v7 : IVec S128x1 1) (v11 : IVec S128x1 1) (v15 : IVec S128x1 1) (c0_i32_197 : BitVec 32) (c128_i32_198 : BitVec 32) (x : Rows F) :
    Takes c arg3 (Scf.Loop.for k0_t50_loop k0_t50_ok ⟨⟩ (k0_t50_body i arg1 harg1 arg2 harg2 arg3 harg3 arg4 v7 v11 v15 c0_i32_197 c128_i32_198)) x (sweep_t50 x) :=
  loop_takes _ _ _ (fun k y => by unfold k0_t50_body; iintro H; sl_exec; sl_step; iapply (quad_left true rfl rfl rfl rfl); iexact H) x

/-- The pair pass `k0_t51`, as a function of the values of the buffer. -/
def sweep_t51 (x : Rows F) : Rows F :=
  sweep k0_t51_loop.trips (fun k => pairStep false (k0_off106 k) (k0_off107 k) (k0_off106_inb k) (k0_off107_inb k)) x

/-- The loop `k0_t51` takes the buffer to that pass of its values. -/
theorem pass_t51 (v7 : IVec S128x1 1) (v11 : IVec S128x1 1) (v15 : IVec S128x1 1) (c0_i32_197 : BitVec 32) (c128_i32_198 : BitVec 32) (x : Rows F) :
    Takes c arg3 (Scf.Loop.for k0_t51_loop k0_t51_ok ⟨⟩ (k0_t51_body i arg1 harg1 arg2 harg2 arg3 harg3 arg4 v7 v11 v15 c0_i32_197 c128_i32_198)) x (sweep_t51 x) :=
  loop_takes _ _ _ (fun k y => by unfold k0_t51_body; iintro H; sl_exec; sl_step; iapply (pair_left false rfl rfl); iexact H) x

/-- The pair pass `k0_t52`, as a function of the values of the buffer. -/
def sweep_t52 (x : Rows F) : Rows F :=
  sweep k0_t52_loop.trips (fun k => pairStep true (k0_off108 k) (k0_off109 k) (k0_off108_inb k) (k0_off109_inb k)) x

/-- The loop `k0_t52` takes the buffer to that pass of its values. -/
theorem pass_t52 (v7 : IVec S128x1 1) (v11 : IVec S128x1 1) (v15 : IVec S128x1 1) (c0_i32_197 : BitVec 32) (c128_i32_198 : BitVec 32) (x : Rows F) :
    Takes c arg3 (Scf.Loop.for k0_t52_loop k0_t52_ok ⟨⟩ (k0_t52_body i arg1 harg1 arg2 harg2 arg3 harg3 arg4 v7 v11 v15 c0_i32_197 c128_i32_198)) x (sweep_t52 x) :=
  loop_takes _ _ _ (fun k y => by unfold k0_t52_body; iintro H; sl_exec; sl_step; iapply (pair_left true rfl rfl); iexact H) x

/-- The chunk pass `k0_t53`, as a function of the values of the buffer. -/
def sweep_t53 (v7 v11 v15 : IVec S128x1 1) (x : Rows F) : Rows F :=
  sweep k0_t53_loop.trips (fun k => chunkStep (net7 false v7 v11 v15) (k0_off110 k) (k0_off110_inb k)) x

/-- The loop `k0_t53` takes the buffer to that pass of its values. -/
theorem pass_t53 (v7 : IVec S128x1 1) (v11 : IVec S128x1 1) (v15 : IVec S128x1 1) (c0_i32_197 : BitVec 32) (c128_i32_198 : BitVec 32) (x : Rows F) :
    Takes c arg3 (Scf.Loop.for k0_t53_loop k0_t53_ok ⟨⟩ (k0_t53_body i arg1 harg1 arg2 harg2 arg3 harg3 arg4 v7 v11 v15 c0_i32_197 c128_i32_198)) x (sweep_t53 v7 v11 v15 x) :=
  loop_takes _ _ _ (fun k y => by unfold k0_t53_body; iintro H; sl_exec; sl_step; iapply (chunk_left (net7 false v7 v11 v15) rfl); iexact H) x

/-- The chunk pass `k0_t54`, as a function of the values of the buffer. -/
def sweep_t54 (v7 v11 v15 : IVec S128x1 1) (x : Rows F) : Rows F :=
  sweep k0_t54_loop.trips (fun k => chunkStep (net7 true v7 v11 v15) (k0_off111 k) (k0_off111_inb k)) x

/-- The loop `k0_t54` takes the buffer to that pass of its values. -/
theorem pass_t54 (v7 : IVec S128x1 1) (v11 : IVec S128x1 1) (v15 : IVec S128x1 1) (c0_i32_197 : BitVec 32) (c128_i32_198 : BitVec 32) (x : Rows F) :
    Takes c arg3 (Scf.Loop.for k0_t54_loop k0_t54_ok ⟨⟩ (k0_t54_body i arg1 harg1 arg2 harg2 arg3 harg3 arg4 v7 v11 v15 c0_i32_197 c128_i32_198)) x (sweep_t54 v7 v11 v15 x) :=
  loop_takes _ _ _ (fun k y => by unfold k0_t54_body; iintro H; sl_exec; sl_step; iapply (chunk_left (net7 true v7 v11 v15) rfl); iexact H) x

/-- The quad pass `k0_t55`, as a function of the values of the buffer. -/
def sweep_t55 (x : Rows F) : Rows F :=
  sweep k0_t55_loop.trips (fun k => quadStep false (k0_off112 k) (k0_off113 k 8192#32) (k0_off113 k 16384#32) (k0_off114 k) (k0_off112_inb k) (k0_off113_inb k 0) (k0_off113_inb k 1) (k0_off114_inb k)) x

/-- The loop `k0_t55` takes the buffer to that pass of its values. -/
theorem pass_t55 (v7 : IVec S128x1 1) (v11 : IVec S128x1 1) (v15 : IVec S128x1 1) (c0_i32_237 : BitVec 32) (c128_i32_238 : BitVec 32) (x : Rows F) :
    Takes c arg3 (Scf.Loop.for k0_t55_loop k0_t55_ok ⟨⟩ (k0_t55_body i arg1 harg1 arg2 harg2 arg3 harg3 arg4 v7 v11 v15 c0_i32_237 c128_i32_238)) x (sweep_t55 x) :=
  loop_takes _ _ _ (fun k y => by unfold k0_t55_body; iintro H; sl_exec; sl_step; iapply (quad_left false rfl rfl rfl rfl); iexact H) x

/-- The quad pass `k0_t56`, as a function of the values of the buffer. -/
def sweep_t56 (x : Rows F) : Rows F :=
  sweep k0_t56_loop.trips (fun k => quadStep true (k0_off115 k) (k0_off116 k 8192#32) (k0_off116 k 16384#32) (k0_off117 k) (k0_off115_inb k) (k0_off116_inb k 0) (k0_off116_inb k 1) (k0_off117_inb k)) x

/-- The loop `k0_t56` takes the buffer to that pass of its values. -/
theorem pass_t56 (v7 : IVec S128x1 1) (v11 : IVec S128x1 1) (v15 : IVec S128x1 1) (c0_i32_237 : BitVec 32) (c128_i32_238 : BitVec 32) (x : Rows F) :
    Takes c arg3 (Scf.Loop.for k0_t56_loop k0_t56_ok ⟨⟩ (k0_t56_body i arg1 harg1 arg2 harg2 arg3 harg3 arg4 v7 v11 v15 c0_i32_237 c128_i32_238)) x (sweep_t56 x) :=
  loop_takes _ _ _ (fun k y => by unfold k0_t56_body; iintro H; sl_exec; sl_step; iapply (quad_left true rfl rfl rfl rfl); iexact H) x

/-- The quad pass `k0_t57`, as a function of the values of the buffer. -/
def sweep_t57 (x : Rows F) : Rows F :=
  sweep k0_t57_loop.trips (fun k => quadStep false (k0_off118 k) (k0_off119 k 2048#32) (k0_off119 k 4096#32) (k0_off120 k) (k0_off118_inb k) (k0_off119_inb k 0) (k0_off119_inb k 1) (k0_off120_inb k)) x

/-- The loop `k0_t57` takes the buffer to that pass of its values. -/
theorem pass_t57 (v7 : IVec S128x1 1) (v11 : IVec S128x1 1) (v15 : IVec S128x1 1) (c0_i32_237 : BitVec 32) (c128_i32_238 : BitVec 32) (x : Rows F) :
    Takes c arg3 (Scf.Loop.for k0_t57_loop k0_t57_ok ⟨⟩ (k0_t57_body i arg1 harg1 arg2 harg2 arg3 harg3 arg4 v7 v11 v15 c0_i32_237 c128_i32_238)) x (sweep_t57 x) :=
  loop_takes _ _ _ (fun k y => by unfold k0_t57_body; iintro H; sl_exec; sl_step; iapply (quad_left false rfl rfl rfl rfl); iexact H) x

/-- The quad pass `k0_t58`, as a function of the values of the buffer. -/
def sweep_t58 (x : Rows F) : Rows F :=
  sweep k0_t58_loop.trips (fun k => quadStep true (k0_off121 k) (k0_off122 k 2048#32) (k0_off122 k 4096#32) (k0_off123 k) (k0_off121_inb k) (k0_off122_inb k 0) (k0_off122_inb k 1) (k0_off123_inb k)) x

/-- The loop `k0_t58` takes the buffer to that pass of its values. -/
theorem pass_t58 (v7 : IVec S128x1 1) (v11 : IVec S128x1 1) (v15 : IVec S128x1 1) (c0_i32_237 : BitVec 32) (c128_i32_238 : BitVec 32) (x : Rows F) :
    Takes c arg3 (Scf.Loop.for k0_t58_loop k0_t58_ok ⟨⟩ (k0_t58_body i arg1 harg1 arg2 harg2 arg3 harg3 arg4 v7 v11 v15 c0_i32_237 c128_i32_238)) x (sweep_t58 x) :=
  loop_takes _ _ _ (fun k y => by unfold k0_t58_body; iintro H; sl_exec; sl_step; iapply (quad_left true rfl rfl rfl rfl); iexact H) x

/-- The quad pass `k0_t59`, as a function of the values of the buffer. -/
def sweep_t59 (x : Rows F) : Rows F :=
  sweep k0_t59_loop.trips (fun k => quadStep false (k0_off124 k) (k0_off125 k 512#32) (k0_off125 k 1024#32) (k0_off126 k) (k0_off124_inb k) (k0_off125_inb k 0) (k0_off125_inb k 1) (k0_off126_inb k)) x

/-- The loop `k0_t59` takes the buffer to that pass of its values. -/
theorem pass_t59 (v7 : IVec S128x1 1) (v11 : IVec S128x1 1) (v15 : IVec S128x1 1) (c0_i32_237 : BitVec 32) (c128_i32_238 : BitVec 32) (x : Rows F) :
    Takes c arg3 (Scf.Loop.for k0_t59_loop k0_t59_ok ⟨⟩ (k0_t59_body i arg1 harg1 arg2 harg2 arg3 harg3 arg4 v7 v11 v15 c0_i32_237 c128_i32_238)) x (sweep_t59 x) :=
  loop_takes _ _ _ (fun k y => by unfold k0_t59_body; iintro H; sl_exec; sl_step; iapply (quad_left false rfl rfl rfl rfl); iexact H) x

/-- The quad pass `k0_t60`, as a function of the values of the buffer. -/
def sweep_t60 (x : Rows F) : Rows F :=
  sweep k0_t60_loop.trips (fun k => quadStep true (k0_off127 k) (k0_off128 k 512#32) (k0_off128 k 1024#32) (k0_off129 k) (k0_off127_inb k) (k0_off128_inb k 0) (k0_off128_inb k 1) (k0_off129_inb k)) x

/-- The loop `k0_t60` takes the buffer to that pass of its values. -/
theorem pass_t60 (v7 : IVec S128x1 1) (v11 : IVec S128x1 1) (v15 : IVec S128x1 1) (c0_i32_237 : BitVec 32) (c128_i32_238 : BitVec 32) (x : Rows F) :
    Takes c arg3 (Scf.Loop.for k0_t60_loop k0_t60_ok ⟨⟩ (k0_t60_body i arg1 harg1 arg2 harg2 arg3 harg3 arg4 v7 v11 v15 c0_i32_237 c128_i32_238)) x (sweep_t60 x) :=
  loop_takes _ _ _ (fun k y => by unfold k0_t60_body; iintro H; sl_exec; sl_step; iapply (quad_left true rfl rfl rfl rfl); iexact H) x

/-- The quad pass `k0_t61`, as a function of the values of the buffer. -/
def sweep_t61 (x : Rows F) : Rows F :=
  sweep k0_t61_loop.trips (fun k => quadStep false (k0_off130 k) (k0_off131 k 128#32) (k0_off131 k 256#32) (k0_off132 k) (k0_off130_inb k) (k0_off131_inb k 0) (k0_off131_inb k 1) (k0_off132_inb k)) x

/-- The loop `k0_t61` takes the buffer to that pass of its values. -/
theorem pass_t61 (v7 : IVec S128x1 1) (v11 : IVec S128x1 1) (v15 : IVec S128x1 1) (c0_i32_237 : BitVec 32) (c128_i32_238 : BitVec 32) (x : Rows F) :
    Takes c arg3 (Scf.Loop.for k0_t61_loop k0_t61_ok ⟨⟩ (k0_t61_body i arg1 harg1 arg2 harg2 arg3 harg3 arg4 v7 v11 v15 c0_i32_237 c128_i32_238)) x (sweep_t61 x) :=
  loop_takes _ _ _ (fun k y => by unfold k0_t61_body; iintro H; sl_exec; sl_step; iapply (quad_left false rfl rfl rfl rfl); iexact H) x

/-- The quad pass `k0_t62`, as a function of the values of the buffer. -/
def sweep_t62 (x : Rows F) : Rows F :=
  sweep k0_t62_loop.trips (fun k => quadStep true (k0_off133 k) (k0_off134 k 128#32) (k0_off134 k 256#32) (k0_off135 k) (k0_off133_inb k) (k0_off134_inb k 0) (k0_off134_inb k 1) (k0_off135_inb k)) x

/-- The loop `k0_t62` takes the buffer to that pass of its values. -/
theorem pass_t62 (v7 : IVec S128x1 1) (v11 : IVec S128x1 1) (v15 : IVec S128x1 1) (c0_i32_237 : BitVec 32) (c128_i32_238 : BitVec 32) (x : Rows F) :
    Takes c arg3 (Scf.Loop.for k0_t62_loop k0_t62_ok ⟨⟩ (k0_t62_body i arg1 harg1 arg2 harg2 arg3 harg3 arg4 v7 v11 v15 c0_i32_237 c128_i32_238)) x (sweep_t62 x) :=
  loop_takes _ _ _ (fun k y => by unfold k0_t62_body; iintro H; sl_exec; sl_step; iapply (quad_left true rfl rfl rfl rfl); iexact H) x

/-- The chunk pass `k0_t63`, as a function of the values of the buffer. -/
def sweep_t63 (v7 v11 v15 : IVec S128x1 1) (x : Rows F) : Rows F :=
  sweep k0_t63_loop.trips (fun k => chunkStep (net7 false v7 v11 v15) (k0_off136 k) (k0_off136_inb k)) x

/-- The loop `k0_t63` takes the buffer to that pass of its values. -/
theorem pass_t63 (v7 : IVec S128x1 1) (v11 : IVec S128x1 1) (v15 : IVec S128x1 1) (c0_i32_237 : BitVec 32) (c128_i32_238 : BitVec 32) (x : Rows F) :
    Takes c arg3 (Scf.Loop.for k0_t63_loop k0_t63_ok ⟨⟩ (k0_t63_body i arg1 harg1 arg2 harg2 arg3 harg3 arg4 v7 v11 v15 c0_i32_237 c128_i32_238)) x (sweep_t63 v7 v11 v15 x) :=
  loop_takes _ _ _ (fun k y => by unfold k0_t63_body; iintro H; sl_exec; sl_step; iapply (chunk_left (net7 false v7 v11 v15) rfl); iexact H) x

/-- The chunk pass `k0_t64`, as a function of the values of the buffer. -/
def sweep_t64 (v7 v11 v15 : IVec S128x1 1) (x : Rows F) : Rows F :=
  sweep k0_t64_loop.trips (fun k => chunkStep (net7 true v7 v11 v15) (k0_off137 k) (k0_off137_inb k)) x

/-- The loop `k0_t64` takes the buffer to that pass of its values. -/
theorem pass_t64 (v7 : IVec S128x1 1) (v11 : IVec S128x1 1) (v15 : IVec S128x1 1) (c0_i32_237 : BitVec 32) (c128_i32_238 : BitVec 32) (x : Rows F) :
    Takes c arg3 (Scf.Loop.for k0_t64_loop k0_t64_ok ⟨⟩ (k0_t64_body i arg1 harg1 arg2 harg2 arg3 harg3 arg4 v7 v11 v15 c0_i32_237 c128_i32_238)) x (sweep_t64 v7 v11 v15 x) :=
  loop_takes _ _ _ (fun k y => by unfold k0_t64_body; iintro H; sl_exec; sl_step; iapply (chunk_left (net7 true v7 v11 v15) rfl); iexact H) x

/-- The quad pass `k0_t65`, as a function of the values of the buffer. -/
def sweep_t65 (x : Rows F) : Rows F :=
  sweep k0_t65_loop.trips (fun k => quadStep false (k0_off138 k) (k0_off139 k 16384#32) (k0_off139 k 32768#32) (k0_off140 k) (k0_off138_inb k) (k0_off139_inb k 0) (k0_off139_inb k 1) (k0_off140_inb k)) x

/-- The loop `k0_t65` takes the buffer to that pass of its values. -/
theorem pass_t65 (c0_i32_277 : BitVec 32) (x : Rows F) :
    Takes c arg3 (Scf.Loop.for k0_t65_loop k0_t65_ok ⟨⟩ (k0_t65_body i arg1 harg1 arg2 harg2 arg3 harg3 arg4 c0_i32_277)) x (sweep_t65 x) :=
  loop_takes _ _ _ (fun k y => by unfold k0_t65_body; iintro H; sl_exec; sl_step; iapply (quad_left false rfl rfl rfl rfl); iexact H) x

/-- The quad pass `k0_t66`, as a function of the values of the buffer. -/
def sweep_t66 (x : Rows F) : Rows F :=
  sweep k0_t66_loop.trips (fun k => quadStep false (k0_off141 k) (k0_off142 k 4096#32) (k0_off142 k 8192#32) (k0_off143 k) (k0_off141_inb k) (k0_off142_inb k 0) (k0_off142_inb k 1) (k0_off143_inb k)) x

/-- The loop `k0_t66` takes the buffer to that pass of its values. -/
theorem pass_t66 (x : Rows F) :
    Takes c arg3 (Scf.Loop.for k0_t66_loop k0_t66_ok ⟨⟩ (k0_t66_body i arg1 harg1 arg2 harg2 arg3 harg3 arg4)) x (sweep_t66 x) :=
  loop_takes _ _ _ (fun k y => by unfold k0_t66_body; iintro H; sl_exec; sl_step; iapply (quad_left false rfl rfl rfl rfl); iexact H) x

/-- The quad pass `k0_t67`, as a function of the values of the buffer. -/
def sweep_t67 (x : Rows F) : Rows F :=
  sweep k0_t67_loop.trips (fun k => quadStep false (k0_off144 k) (k0_off145 k 1024#32) (k0_off145 k 2048#32) (k0_off146 k) (k0_off144_inb k) (k0_off145_inb k 0) (k0_off145_inb k 1) (k0_off146_inb k)) x

/-- The loop `k0_t67` takes the buffer to that pass of its values. -/
theorem pass_t67 (x : Rows F) :
    Takes c arg3 (Scf.Loop.for k0_t67_loop k0_t67_ok ⟨⟩ (k0_t67_body i arg1 harg1 arg2 harg2 arg3 harg3 arg4)) x (sweep_t67 x) :=
  loop_takes _ _ _ (fun k y => by unfold k0_t67_body; iintro H; sl_exec; sl_step; iapply (quad_left false rfl rfl rfl rfl); iexact H) x

/-- The quad pass `k0_t68`, as a function of the values of the buffer. -/
def sweep_t68 (x : Rows F) : Rows F :=
  sweep k0_t68_loop.trips (fun k => quadStep false (k0_off147 k) (k0_off148 k 256#32) (k0_off148 k 512#32) (k0_off149 k) (k0_off147_inb k) (k0_off148_inb k 0) (k0_off148_inb k 1) (k0_off149_inb k)) x

/-- The loop `k0_t68` takes the buffer to that pass of its values. -/
theorem pass_t68 (x : Rows F) :
    Takes c arg3 (Scf.Loop.for k0_t68_loop k0_t68_ok ⟨⟩ (k0_t68_body i arg1 harg1 arg2 harg2 arg3 harg3 arg4)) x (sweep_t68 x) :=
  loop_takes _ _ _ (fun k y => by unfold k0_t68_body; iintro H; sl_exec; sl_step; iapply (quad_left false rfl rfl rfl rfl); iexact H) x

/-- The pair pass `k0_t69`, as a function of the values of the buffer. -/
def sweep_t69 (x : Rows F) : Rows F :=
  sweep k0_t69_loop.trips (fun k => pairStep false (k0_off150 k) (k0_off151 k) (k0_off150_inb k) (k0_off151_inb k)) x

/-- The loop `k0_t69` takes the buffer to that pass of its values. -/
theorem pass_t69 (x : Rows F) :
    Takes c arg3 (Scf.Loop.for k0_t69_loop k0_t69_ok ⟨⟩ (k0_t69_body i arg1 harg1 arg2 harg2 arg3 harg3 arg4)) x (sweep_t69 x) :=
  loop_takes _ _ _ (fun k y => by unfold k0_t69_body; iintro H; sl_exec; sl_step; iapply (pair_left false rfl rfl); iexact H) x

/-- The chunk pass `k0_t70`, as a function of the values of the buffer. -/
def sweep_t70 (v7 v11 v15 : IVec S128x1 1) (x : Rows F) : Rows F :=
  sweep k0_t70_loop.trips (fun k => chunkStep (net7 false v7 v11 v15) (k0_off152 k) (k0_off152_inb k)) x

/-- The loop `k0_t70` takes the buffer to that pass of its values. -/
theorem pass_t70 (v7 : IVec S128x1 1) (v11 : IVec S128x1 1) (v15 : IVec S128x1 1) (x : Rows F) :
    Takes c arg3 (Scf.Loop.for k0_t70_loop k0_t70_ok ⟨⟩ (k0_t70_body i arg1 harg1 arg2 harg2 arg3 harg3 arg4 v7 v11 v15)) x (sweep_t70 v7 v11 v15 x) :=
  loop_takes _ _ _ (fun k y => by unfold k0_t70_body; iintro H; sl_exec; sl_step; iapply (chunk_left (net7 false v7 v11 v15) rfl); iexact H) x

end Cert.KernelIdeal.Gen
end
-- ==== Proof.Parts.lean ====
/-
  The parts of the kernel, each a run of loops: what each returns and what it leaves in the buffer; and the last loop, which only reads.
-/
module

public import proofs.«01_k».proof.Proof.Passes1
public import proofs.«01_k».proof.Proof.Passes2

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

variable (c : Dev nD) (i : grid0.Coords) (arg1 : Memref sig .tc .hbm S65536x512 .f32) (harg1 : arg1.IsWhole) (arg2 : Memref sig .tc .vmem S1x8x128 .f32) (harg2 : arg2.IsWhole)
  (arg3 : Memref sig .tc .vmem S65536x128 .f32) (harg3 : arg3.IsWhole) (arg4 : DmaSems sig S_)

/-- `p` returns `v` and takes the scratch buffer from the values `x` to the values `y`. -/
abbrev Returns {α : Type} (c : Dev nD) (arg3 : Memref sig .tc .vmem S65536x128 .f32) (p : Prog (TpuEff nD τ sig (Elt F) Λ₀ .tc) α) (v : α) (x y : Rows F) : Prop :=
  heldAt c arg3 x ⊢ wp frame (wpE (defs₀ (F := F)) Variants.none c none) Set.univ p (fun r => iprop(⌜r = v⌝ ∗ heldAt c arg3 y))

variable {c arg3} in
/-- Doing nothing returns the value and leaves the buffer. -/
theorem returns_pure {α : Type} (v : α) (x : Rows F) : Returns c arg3 (pure v) v x x := by
  show heldAt c arg3 x ⊢ wp frame (wpE (defs₀ (F := F)) Variants.none c none) Set.univ (Prog.ret v) _
  iintro H
  sl_step
  isplitr [H]
  · ipureintro; rfl
  · iexact H

variable {c arg3} in
/-- A program that changes the buffer, then one that returns a value. -/
theorem takes_returns {α : Type} {p : Prog (TpuEff nD τ sig (Elt F) Λ₀ .tc) Unit} {q : Unit → Prog (TpuEff nD τ sig (Elt F) Λ₀ .tc) α} {v : α} {x y z : Rows F}
    (h : Takes c arg3 p x y) (h' : Returns c arg3 (q ()) v y z) : Returns c arg3 (p >>= q) v x z := by
  refine .trans ?_ (takes_bind h q _)
  iintro H
  isplitl [H]
  · iexact H
  · iintro H
    iapply h'; iexact H

variable {c arg3} in
/-- A program that returns a value, at the head of the rest. -/
theorem returns_bind {α β : Type} {p : Prog (TpuEff nD τ sig (Elt F) Λ₀ .tc) α} {v : α} {x y : Rows F} (h : Returns c arg3 p v x y)
    (kk : α → Prog (TpuEff nD τ sig (Elt F) Λ₀ .tc) β) (Q : β → sProp 𝕄) :
    iprop(heldAt c arg3 x ∗ (heldAt c arg3 y -∗ wp frame (wpE (defs₀ (F := F)) Variants.none c none) Set.univ (kk v) Q))
      ⊢ wp frame (wpE (defs₀ (F := F)) Variants.none c none) Set.univ (p >>= kk) Q := by
  rw [wp_bind]
  iintro ⟨HP, HK⟩
  iapply (wp_wand_r frame (wpE (defs₀ (F := F)) Variants.none c none) Set.univ)
  isplitl [HP]
  · iapply h; iexact HP
  · iintro %r ⟨%e, HPost⟩
    subst e
    iapply HK; iexact HPost

/-- Levels 1 to 4, as a function of the values of the buffer. -/
def sorted60 (v3 : IVec S128x1 32) (v7 v11 v15 : IVec S128x1 1) (v22 v29 : FVec F S128x1 .f32) (v33 : IVec S128x1 1) (v34 v35 : FVec F S128x1 .f32) (x : Rows F) : Rows F :=
  sweep_t4 v3 v7 v11 v15 (sweep_t3 v7 v11 v15 v33 v34 v35 (sweep_t2 v7 v11 v29 (sweep_t1 v7 v22 x)))

/-- The part `k0_part60` returns its constants and takes the buffer to that. -/
theorem part60_returns (v3 : IVec S128x1 32) (v7 : IVec S128x1 1) (v11 : IVec S128x1 1) (v15 : IVec S128x1 1) (v22 : FVec F S128x1 .f32) (v29 : FVec F S128x1 .f32) (v33 : IVec S128x1 1) (v34 : FVec F S128x1 .f32) (v35 : FVec F S128x1 .f32) (x : Rows F) :
    Returns c arg3 (k0_part60 i arg1 harg1 arg2 harg2 arg3 harg3 arg4 v3 v7 v11 v15 v22 v29 v33 v34 v35) ⟨k0_pay279 (F := F) v3, k0_pay280 (F := F) v3, 0#32, 512#32⟩ x (sorted60 v3 v7 v11 v15 v22 v29 v33 v34 v35 x) := by
  rw [k0_part60_eq_skeleton]
  exact takes_returns (pass_t1 c i arg1 harg1 arg2 harg2 arg3 harg3 arg4 v3 v7 v11 v15 v22 v29 v33 v34 v35 _) (takes_returns (pass_t2 c i arg1 harg1 arg2 harg2 arg3 harg3 arg4 v3 v7 v11 v15 v22 v29 v33 v34 v35 _) (takes_returns (pass_t3 c i arg1 harg1 arg2 harg2 arg3 harg3 arg4 v3 v7 v11 v15 v22 v29 v33 v34 v35 _) (takes_returns (pass_t4 c i arg1 harg1 arg2 harg2 arg3 harg3 arg4 v3 v7 v11 v15 v22 v29 v33 v34 v35 _) (returns_pure _ _))))

/-- Levels 5 to 8 and the quad passes of level 9, as a function of the values of the buffer. -/
def sorted61 (v7 v11 v15 : IVec S128x1 1) (v50 v57 : FVec F S128x1 .f32) (x : Rows F) : Rows F :=
  sweep_t14 (sweep_t13 (sweep_t12 v7 v11 v15 (sweep_t11 v7 v11 v15 (sweep_t10 (sweep_t9 (sweep_t8 v7 v11 v15 (sweep_t7 v7 v11 v15 (sweep_t6 v7 v11 v15 v57 (sweep_t5 v7 v11 v15 v50 x)))))))))

/-- The part `k0_part61` returns its constants and takes the buffer to that. -/
theorem part61_returns (v7 : IVec S128x1 1) (v11 : IVec S128x1 1) (v15 : IVec S128x1 1) (v50 : FVec F S128x1 .f32) (v57 : FVec F S128x1 .f32) (c0_i32_38 : BitVec 32) (c512_i32_39 : BitVec 32) (x : Rows F) :
    Returns c arg3 (k0_part61 i arg1 harg1 arg2 harg2 arg3 harg3 arg4 v7 v11 v15 v50 v57 c0_i32_38 c512_i32_39) ⟨0#32, 256#32⟩ x (sorted61 v7 v11 v15 v50 v57 x) := by
  rw [k0_part61_eq_skeleton]
  exact takes_returns (pass_t5 c i arg1 harg1 arg2 harg2 arg3 harg3 arg4 v7 v11 v15 v50 v57 c0_i32_38 c512_i32_39 _) (takes_returns (pass_t6 c i arg1 harg1 arg2 harg2 arg3 harg3 arg4 v7 v11 v15 v50 v57 c0_i32_38 c512_i32_39 _) (takes_returns (pass_t7 c i arg1 harg1 arg2 harg2 arg3 harg3 arg4 v7 v11 v15 v50 v57 c0_i32_38 c512_i32_39 _) (takes_returns (pass_t8 c i arg1 harg1 arg2 harg2 arg3 harg3 arg4 v7 v11 v15 v50 v57 c0_i32_38 c512_i32_39 _) (takes_returns (pass_t9 c i arg1 harg1 arg2 harg2 arg3 harg3 arg4 v7 v11 v15 v50 v57 c0_i32_38 c512_i32_39 _) (takes_returns (pass_t10 c i arg1 harg1 arg2 harg2 arg3 harg3 arg4 v7 v11 v15 v50 v57 c0_i32_38 c512_i32_39 _) (takes_returns (pass_t11 c i arg1 harg1 arg2 harg2 arg3 harg3 arg4 v7 v11 v15 v50 v57 c0_i32_38 c512_i32_39 _) (takes_returns (pass_t12 c i arg1 harg1 arg2 harg2 arg3 harg3 arg4 v7 v11 v15 v50 v57 c0_i32_38 c512_i32_39 _) (takes_returns (pass_t13 c i arg1 harg1 arg2 harg2 arg3 harg3 arg4 v7 v11 v15 v50 v57 c0_i32_38 c512_i32_39 _) (takes_returns (pass_t14 c i arg1 harg1 arg2 harg2 arg3 harg3 arg4 v7 v11 v15 v50 v57 c0_i32_38 c512_i32_39 _) (returns_pure _ _))))))))))

/-- The rest of level 9 and level 10, and the first quad passes of level 11, as a function of the values of the buffer. -/
def sorted62 (v7 v11 v15 : IVec S128x1 1) (x : Rows F) : Rows F :=
  sweep_t24 (sweep_t23 (sweep_t22 v7 v11 v15 (sweep_t21 v7 v11 v15 (sweep_t20 (sweep_t19 (sweep_t18 (sweep_t17 (sweep_t16 v7 v11 v15 (sweep_t15 v7 v11 v15 x)))))))))

/-- The part `k0_part62` returns its constants and takes the buffer to that. -/
theorem part62_returns (v7 : IVec S128x1 1) (v11 : IVec S128x1 1) (v15 : IVec S128x1 1) (c0_i32_77 : BitVec 32) (c256_i32_78 : BitVec 32) (x : Rows F) :
    Returns c arg3 (k0_part62 i arg1 harg1 arg2 harg2 arg3 harg3 arg4 v7 v11 v15 c0_i32_77 c256_i32_78) ⟨0#32, 128#32⟩ x (sorted62 v7 v11 v15 x) := by
  rw [k0_part62_eq_skeleton]
  exact takes_returns (pass_t15 c i arg1 harg1 arg2 harg2 arg3 harg3 arg4 v7 v11 v15 c0_i32_77 c256_i32_78 _) (takes_returns (pass_t16 c i arg1 harg1 arg2 harg2 arg3 harg3 arg4 v7 v11 v15 c0_i32_77 c256_i32_78 _) (takes_returns (pass_t17 c i arg1 harg1 arg2 harg2 arg3 harg3 arg4 v7 v11 v15 c0_i32_77 c256_i32_78 _) (takes_returns (pass_t18 c i arg1 harg1 arg2 harg2 arg3 harg3 arg4 v7 v11 v15 c0_i32_77 c256_i32_78 _) (takes_returns (pass_t19 c i arg1 harg1 arg2 harg2 arg3 harg3 arg4 v7 v11 v15 c0_i32_77 c256_i32_78 _) (takes_returns (pass_t20 c i arg1 harg1 arg2 harg2 arg3 harg3 arg4 v7 v11 v15 c0_i32_77 c256_i32_78 _) (takes_returns (pass_t21 c i arg1 harg1 arg2 harg2 arg3 harg3 arg4 v7 v11 v15 c0_i32_77 c256_i32_78 _) (takes_returns (pass_t22 c i arg1 harg1 arg2 harg2 arg3 harg3 arg4 v7 v11 v15 c0_i32_77 c256_i32_78 _) (takes_returns (pass_t23 c i arg1 harg1 arg2 harg2 arg3 harg3 arg4 v7 v11 v15 c0_i32_77 c256_i32_78 _) (takes_returns (pass_t24 c i arg1 harg1 arg2 harg2 arg3 harg3 arg4 v7 v11 v15 c0_i32_77 c256_i32_78 _) (returns_pure _ _))))))))))

/-- The rest of level 11 and level 12 but its chunk passes, as a function of the values of the buffer. -/
def sorted63 (v7 v11 v15 : IVec S128x1 1) (x : Rows F) : Rows F :=
  sweep_t34 (sweep_t33 (sweep_t32 (sweep_t31 (sweep_t30 (sweep_t29 (sweep_t28 v7 v11 v15 (sweep_t27 v7 v11 v15 (sweep_t26 (sweep_t25 x)))))))))

/-- The part `k0_part63` returns its constants and takes the buffer to that. -/
theorem part63_returns (v7 : IVec S128x1 1) (v11 : IVec S128x1 1) (v15 : IVec S128x1 1) (c0_i32_117 : BitVec 32) (c128_i32_118 : BitVec 32) (x : Rows F) :
    Returns c arg3 (k0_part63 i arg1 harg1 arg2 harg2 arg3 harg3 arg4 v7 v11 v15 c0_i32_117 c128_i32_118) ⟨0#32, 256#32⟩ x (sorted63 v7 v11 v15 x) := by
  rw [k0_part63_eq_skeleton]
  exact takes_returns (pass_t25 c i arg1 harg1 arg2 harg2 arg3 harg3 arg4 v7 v11 v15 c0_i32_117 c128_i32_118 _) (takes_returns (pass_t26 c i arg1 harg1 arg2 harg2 arg3 harg3 arg4 v7 v11 v15 c0_i32_117 c128_i32_118 _) (takes_returns (pass_t27 c i arg1 harg1 arg2 harg2 arg3 harg3 arg4 v7 v11 v15 c0_i32_117 c128_i32_118 _) (takes_returns (pass_t28 c i arg1 harg1 arg2 harg2 arg3 harg3 arg4 v7 v11 v15 c0_i32_117 c128_i32_118 _) (takes_returns (pass_t29 c i arg1 harg1 arg2 harg2 arg3 harg3 arg4 v7 v11 v15 c0_i32_117 c128_i32_118 _) (takes_returns (pass_t30 c i arg1 harg1 arg2 harg2 arg3 harg3 arg4 v7 v11 v15 c0_i32_117 c128_i32_118 _) (takes_returns (pass_t31 c i arg1 harg1 arg2 harg2 arg3 harg3 arg4 v7 v11 v15 c0_i32_117 c128_i32_118 _) (takes_returns (pass_t32 c i arg1 harg1 arg2 harg2 arg3 harg3 arg4 v7 v11 v15 c0_i32_117 c128_i32_118 _) (takes_returns (pass_t33 c i arg1 harg1 arg2 harg2 arg3 harg3 arg4 v7 v11 v15 c0_i32_117 c128_i32_118 _) (takes_returns (pass_t34 c i arg1 harg1 arg2 harg2 arg3 harg3 arg4 v7 v11 v15 c0_i32_117 c128_i32_118 _) (returns_pure _ _))))))))))

/-- The rest of level 12 and level 13, as a function of the values of the buffer. -/
def sorted64 (v7 v11 v15 : IVec S128x1 1) (x : Rows F) : Rows F :=
  sweep_t44 v7 v11 v15 (sweep_t43 v7 v11 v15 (sweep_t42 (sweep_t41 (sweep_t40 (sweep_t39 (sweep_t38 (sweep_t37 (sweep_t36 v7 v11 v15 (sweep_t35 v7 v11 v15 x)))))))))

/-- The part `k0_part64` returns its constants and takes the buffer to that. -/
theorem part64_returns (v7 : IVec S128x1 1) (v11 : IVec S128x1 1) (v15 : IVec S128x1 1) (c0_i32_157 : BitVec 32) (c256_i32_158 : BitVec 32) (x : Rows F) :
    Returns c arg3 (k0_part64 i arg1 harg1 arg2 harg2 arg3 harg3 arg4 v7 v11 v15 c0_i32_157 c256_i32_158) ⟨0#32, 128#32⟩ x (sorted64 v7 v11 v15 x) := by
  rw [k0_part64_eq_skeleton]
  exact takes_returns (pass_t35 c i arg1 harg1 arg2 harg2 arg3 harg3 arg4 v7 v11 v15 c0_i32_157 c256_i32_158 _) (takes_returns (pass_t36 c i arg1 harg1 arg2 harg2 arg3 harg3 arg4 v7 v11 v15 c0_i32_157 c256_i32_158 _) (takes_returns (pass_t37 c i arg1 harg1 arg2 harg2 arg3 harg3 arg4 v7 v11 v15 c0_i32_157 c256_i32_158 _) (takes_returns (pass_t38 c i arg1 harg1 arg2 harg2 arg3 harg3 arg4 v7 v11 v15 c0_i32_157 c256_i32_158 _) (takes_returns (pass_t39 c i arg1 harg1 arg2 harg2 arg3 harg3 arg4 v7 v11 v15 c0_i32_157 c256_i32_158 _) (takes_returns (pass_t40 c i arg1 harg1 arg2 harg2 arg3 harg3 arg4 v7 v11 v15 c0_i32_157 c256_i32_158 _) (takes_returns (pass_t41 c i arg1 harg1 arg2 harg2 arg3 harg3 arg4 v7 v11 v15 c0_i32_157 c256_i32_158 _) (takes_returns (pass_t42 c i arg1 harg1 arg2 harg2 arg3 harg3 arg4 v7 v11 v15 c0_i32_157 c256_i32_158 _) (takes_returns (pass_t43 c i arg1 harg1 arg2 harg2 arg3 harg3 arg4 v7 v11 v15 c0_i32_157 c256_i32_158 _) (takes_returns (pass_t44 c i arg1 harg1 arg2 harg2 arg3 harg3 arg4 v7 v11 v15 c0_i32_157 c256_i32_158 _) (returns_pure _ _))))))))))

/-- Level 14, as a function of the values of the buffer. -/
def sorted65 (v7 v11 v15 : IVec S128x1 1) (x : Rows F) : Rows F :=
  sweep_t54 v7 v11 v15 (sweep_t53 v7 v11 v15 (sweep_t52 (sweep_t51 (sweep_t50 (sweep_t49 (sweep_t48 (sweep_t47 (sweep_t46 (sweep_t45 x)))))))))

/-- The part `k0_part65` returns its constants and takes the buffer to that. -/
theorem part65_returns (v7 : IVec S128x1 1) (v11 : IVec S128x1 1) (v15 : IVec S128x1 1) (c0_i32_197 : BitVec 32) (c128_i32_198 : BitVec 32) (x : Rows F) :
    Returns c arg3 (k0_part65 i arg1 harg1 arg2 harg2 arg3 harg3 arg4 v7 v11 v15 c0_i32_197 c128_i32_198) ⟨0#32, 128#32⟩ x (sorted65 v7 v11 v15 x) := by
  rw [k0_part65_eq_skeleton]
  exact takes_returns (pass_t45 c i arg1 harg1 arg2 harg2 arg3 harg3 arg4 v7 v11 v15 c0_i32_197 c128_i32_198 _) (takes_returns (pass_t46 c i arg1 harg1 arg2 harg2 arg3 harg3 arg4 v7 v11 v15 c0_i32_197 c128_i32_198 _) (takes_returns (pass_t47 c i arg1 harg1 arg2 harg2 arg3 harg3 arg4 v7 v11 v15 c0_i32_197 c128_i32_198 _) (takes_returns (pass_t48 c i arg1 harg1 arg2 harg2 arg3 harg3 arg4 v7 v11 v15 c0_i32_197 c128_i32_198 _) (takes_returns (pass_t49 c i arg1 harg1 arg2 harg2 arg3 harg3 arg4 v7 v11 v15 c0_i32_197 c128_i32_198 _) (takes_returns (pass_t50 c i arg1 harg1 arg2 harg2 arg3 harg3 arg4 v7 v11 v15 c0_i32_197 c128_i32_198 _) (takes_returns (pass_t51 c i arg1 harg1 arg2 harg2 arg3 harg3 arg4 v7 v11 v15 c0_i32_197 c128_i32_198 _) (takes_returns (pass_t52 c i arg1 harg1 arg2 harg2 arg3 harg3 arg4 v7 v11 v15 c0_i32_197 c128_i32_198 _) (takes_returns (pass_t53 c i arg1 harg1 arg2 harg2 arg3 harg3 arg4 v7 v11 v15 c0_i32_197 c128_i32_198 _) (takes_returns (pass_t54 c i arg1 harg1 arg2 harg2 arg3 harg3 arg4 v7 v11 v15 c0_i32_197 c128_i32_198 _) (returns_pure _ _))))))))))

/-- Level 15, as a function of the values of the buffer. -/
def sorted66 (v7 v11 v15 : IVec S128x1 1) (x : Rows F) : Rows F :=
  sweep_t64 v7 v11 v15 (sweep_t63 v7 v11 v15 (sweep_t62 (sweep_t61 (sweep_t60 (sweep_t59 (sweep_t58 (sweep_t57 (sweep_t56 (sweep_t55 x)))))))))

/-- The part `k0_part66` returns its constants and takes the buffer to that. -/
theorem part66_returns (v7 : IVec S128x1 1) (v11 : IVec S128x1 1) (v15 : IVec S128x1 1) (c0_i32_237 : BitVec 32) (c128_i32_238 : BitVec 32) (x : Rows F) :
    Returns c arg3 (k0_part66 i arg1 harg1 arg2 harg2 arg3 harg3 arg4 v7 v11 v15 c0_i32_237 c128_i32_238) ⟨0#32, 256#32⟩ x (sorted66 v7 v11 v15 x) := by
  rw [k0_part66_eq_skeleton]
  exact takes_returns (pass_t55 c i arg1 harg1 arg2 harg2 arg3 harg3 arg4 v7 v11 v15 c0_i32_237 c128_i32_238 _) (takes_returns (pass_t56 c i arg1 harg1 arg2 harg2 arg3 harg3 arg4 v7 v11 v15 c0_i32_237 c128_i32_238 _) (takes_returns (pass_t57 c i arg1 harg1 arg2 harg2 arg3 harg3 arg4 v7 v11 v15 c0_i32_237 c128_i32_238 _) (takes_returns (pass_t58 c i arg1 harg1 arg2 harg2 arg3 harg3 arg4 v7 v11 v15 c0_i32_237 c128_i32_238 _) (takes_returns (pass_t59 c i arg1 harg1 arg2 harg2 arg3 harg3 arg4 v7 v11 v15 c0_i32_237 c128_i32_238 _) (takes_returns (pass_t60 c i arg1 harg1 arg2 harg2 arg3 harg3 arg4 v7 v11 v15 c0_i32_237 c128_i32_238 _) (takes_returns (pass_t61 c i arg1 harg1 arg2 harg2 arg3 harg3 arg4 v7 v11 v15 c0_i32_237 c128_i32_238 _) (takes_returns (pass_t62 c i arg1 harg1 arg2 harg2 arg3 harg3 arg4 v7 v11 v15 c0_i32_237 c128_i32_238 _) (takes_returns (pass_t63 c i arg1 harg1 arg2 harg2 arg3 harg3 arg4 v7 v11 v15 c0_i32_237 c128_i32_238 _) (takes_returns (pass_t64 c i arg1 harg1 arg2 harg2 arg3 harg3 arg4 v7 v11 v15 c0_i32_237 c128_i32_238 _) (returns_pure _ _))))))))))

/-- Level 16, as a function of the values of the buffer. -/
def sorted67 (v7 v11 v15 : IVec S128x1 1) (x : Rows F) : Rows F :=
  sweep_t70 v7 v11 v15 (sweep_t69 (sweep_t68 (sweep_t67 (sweep_t66 (sweep_t65 x)))))

/-- The sum of the squared differences, accumulated over 32 windows of 2048 rows. -/
def squares (x : Rows F) : F .f32 :=
  sweep k0_t71_loop.trips (fun k a => k0_pay12 a (VecWindow.window x (k0_off153 k) S2048x128.size (k0_off153_inb k))) (Scalar.ofBits .f32 0x00000000#32)

/-- The last loop returns the sum and leaves the buffer. -/
theorem pass_t71 (x : Rows F) : Returns c arg3 (Scf.Loop.for k0_t71_loop k0_t71_ok (Scalar.ofBits .f32 0x00000000#32) (k0_t71_body i arg1 harg1 arg2 harg2 arg3 harg3 arg4))
    (squares x) x x := by
  have inv := Scf.wp_for (Q := fun r => iprop(⌜r = squares x⌝ ∗ heldAt c arg3 x)) frame (wpE (defs₀ (F := F)) Variants.none c none) Set.univ
    k0_t71_loop.lb k0_t71_loop.ub k0_t71_loop.st k0_t71_ok (Scalar.ofBits .f32 0x00000000#32) (k0_t71_body i arg1 harg1 arg2 harg2 arg3 harg3 arg4)
    (fun n acc => iprop(⌜acc = trips k0_t71_loop.trips (fun k a => k0_pay12 a (VecWindow.window x (k0_off153 k) S2048x128.size (k0_off153_inb k))) (Scalar.ofBits .f32 0x00000000#32) n⌝
      ∗ heldAt c arg3 x))
    (fun k acc => by
      rw [trips_succ]
      unfold k0_t71_body
      iintro ⟨%e, H⟩
      subst e
      sl_exec
      sl_step
      isplitr [H]
      · ipureintro
        exact congrArg _ (View.readAt_rep_unit arg3.view x (k0_off153_inb k) rfl (k0_off153_inb k))
      · iexact H)
  refine .trans ?_ inv
  iintro H
  isplitl [H]
  · isplitr [H]
    · ipureintro; rfl
    · iexact H
  · iintro %r ⟨%e, H⟩
    isplitr [H]
    · ipureintro; exact e
    · iexact H

end Cert.KernelIdeal.Gen
end
-- ==== Proof.Body.lean ====
/-
  The body of the kernel at a grid point: the point's block of columns brought into the scratch buffer, its columns sorted level by level, the squared
  differences summed, and the sum stored over the point's output block.
-/
module

public import proofs.«01_k».proof.Proof.Parts
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- The buffer of memref `M` on core `c`, as a type of contents. -/
abbrev Contents0 (c : Dev nD) {sp : Space} {S : Shape} {e : EltTy} (M : Memref sig .tc sp S e) : Type := Buf (Elt F) (M.view.loc (c : Thread nD τ))
/-- That buffer held in full at the contents `f`. -/
abbrev holds0 (c : Dev nD) {sp : Space} {S : Shape} {e : EltTy} (M : Memref sig .tc sp S e) (f : Contents0 (F := F) c M) : sProp 𝕄 :=
  M.view.loc (c : Thread nD τ) ↦{fullShare} f

/-- All sixteen levels, as a function of the values of the buffer. -/
def sortedAll (x : Rows F) : Rows F :=
  sorted67 k0_pay270 k0_pay271 k0_pay272 (sorted66 k0_pay270 k0_pay271 k0_pay272 (sorted65 k0_pay270 k0_pay271 k0_pay272
    (sorted64 k0_pay270 k0_pay271 k0_pay272 (sorted63 k0_pay270 k0_pay271 k0_pay272 (sorted62 k0_pay270 k0_pay271 k0_pay272
    (sorted61 k0_pay270 k0_pay271 k0_pay272 (k0_pay279 (iota .tc S128x1 32 [0] iota_S128x1_d0_w32)) (k0_pay280 (iota .tc S128x1 32 [0] iota_S128x1_d0_w32))
      (sorted60 (iota .tc S128x1 32 [0] iota_S128x1_d0_w32) k0_pay270 k0_pay271 k0_pay272 k0_pay273 k0_pay274 k0_pay275 k0_pay276 k0_pay277 x)))))))

/-- The block of columns the point with coordinates `i` brings in, off the contents of the array. -/
def block0 (c : Dev nD) (i : grid0.Coords) (fh0 : Contents0 (F := F) c (Memref.whole main_v3)) : Rows F :=
  ((Memref.whole main_v3).slice (Rect.unit (s := S65536x512) (k0_off1 i) S65536x128.size (k0_off1_inb i)) (fun _ => rfl)).view.read (Elt F) fh0

section
variable {c : Dev nD} {arg3 : Memref sig .tc .vmem S65536x128 .f32}

/-- A program that returns a value, alone. -/
theorem returns_wp {α : Type} {p : Prog (TpuEff nD τ sig (Elt F) Λ₀ .tc) α} {v : α} {x y : Rows F} (h : Returns c arg3 p v x y) (Q : α → sProp 𝕄) :
    iprop(heldAt c arg3 x ∗ (heldAt c arg3 y -∗ Q v)) ⊢ wp frame (wpE (defs₀ (F := F)) Variants.none c none) Set.univ p Q := by
  iintro ⟨HP, HK⟩
  iapply (wp_wand_r frame (wpE (defs₀ (F := F)) Variants.none c none) Set.univ)
  isplitl [HP]
  · iapply h; iexact HP
  · iintro %r ⟨%e, HPost⟩
    subst e
    iapply HK; iexact HPost

/-- The whole buffer written with `x` reads `x`. -/
theorem whole_left (f : arg3.view.ty.Contents (Elt F)) {w x : Rows F} (e : w = x) :
    (arg3.view.loc (c : Thread nD τ) ↦[arg3.view.set]{fullShare} arg3.view.writes (Elt F) f [⟨Rect.whole S65536x128, w⟩] : sProp 𝕄) ⊢ heldAt c arg3 x := by
  refine (pointsTo_rep_of_read (c : Thread nD τ) arg3 _ fullShare x ?_)
  subst e
  exact View.read_writes_full arg3.view f (off := fun _ => 0) (fun a => by simp) w []

end

set_option maxHeartbeats 2000000 in
/-- The body on whole memrefs: the output's and the scratch's at anything, the array copied from at `fh0`, the transfer's cell at zero. It runs to the
    continuation holding the output's with the sum of squares of the sorted block broadcast over it, the array and the cell as they were. -/
theorem body_runs (c : Dev nD) (i : grid0.Coords) (arg2 : Memref sig .tc .vmem S1x8x128 .f32) (harg2 : arg2.IsWhole) (arg3 : Memref sig .tc .vmem S65536x128 .f32) (harg3 : arg3.IsWhole)
    (fh0 : Contents0 (F := F) c (Memref.whole main_v3)) (W : Waits sig Unit) (K : PUnit → sProp 𝕄) :
    iprop((∃ d, owns (c : Thread nD τ) arg2 fullShare d) ∗ (∃ d, owns (c : Thread nD τ) arg3 fullShare d) ∗ semVal ((c : Thread nD τ), SemLoc.dma 2) 0
        ∗ holds0 c (Memref.whole main_v3) fh0 ∗ owes (c : Thread nD τ) 0 W
        ∗ (iprop((∃ f, arg2.view.loc (c : Thread nD τ) ↦[arg2.view.set]{fullShare} arg2.view.writes (Elt F) f
              [⟨Rect.unit (s := S1x8x128) ![0, 0, 0] S1x8x128.size inb_S1x8x128_S1x8x128_0_0_0, k0_pay13 (squares (sortedAll (block0 c i fh0)))⟩])
            ∗ (∃ f, arg3.view.loc (c : Thread nD τ) ↦[arg3.view.set]{fullShare} f) ∗ semVal ((c : Thread nD τ), SemLoc.dma 2) 0
            ∗ holds0 c (Memref.whole main_v3) fh0 ∗ (∃ W', owes (c : Thread nD τ) 0 W')) -∗ K ⟨⟩))
      ⊢ wp frame (wpE (defs₀ (F := F)) Variants.none c none) Set.univ (cc0__sort_mse_body i (Memref.whole main_v3) (Memref.isWhole_whole _) arg2 harg2 arg3 harg3 cc0_scratch1) K := by
  simp only [cc0__sort_mse_body_eq_skeleton]; unfold cc0__sort_mse_body_skel
  unfold owns
  iintro ⟨⟨%d0, %f0, -, H0⟩, ⟨%ds0, %fs0, -, HS0⟩, Hq0, Hh0, HW, Hk⟩
  sl_exec
  ihave HS0 := (whole_left (c := c) (arg3 := arg3) _ (show body_runs.sl.dma0 c i fh0 = block0 c i fh0 from rfl)) $$ HS0
  iapply (returns_wp (part60_returns c i (Memref.whole main_v3) (Memref.isWhole_whole _) arg2 harg2 arg3 harg3 cc0_scratch1 (iota .tc S128x1 32 [0] iota_S128x1_d0_w32) _ _ _ _ _ _ _ _ _))
  isplitl [HS0]; · iexact HS0
  iintro HS0
  dsimp only
  iapply (returns_bind (part61_returns c i (Memref.whole main_v3) (Memref.isWhole_whole _) arg2 harg2 arg3 harg3 cc0_scratch1 _ _ _ _ _ _ _ _))
  isplitl [HS0]; · iexact HS0
  iintro HS0
  dsimp only
  iapply (returns_bind (part62_returns c i (Memref.whole main_v3) (Memref.isWhole_whole _) arg2 harg2 arg3 harg3 cc0_scratch1 _ _ _ _ _ _))
  isplitl [HS0]; · iexact HS0
  iintro HS0
  dsimp only
  iapply (returns_bind (part63_returns c i (Memref.whole main_v3) (Memref.isWhole_whole _) arg2 harg2 arg3 harg3 cc0_scratch1 _ _ _ _ _ _))
  isplitl [HS0]; · iexact HS0
  iintro HS0
  dsimp only
  iapply (returns_bind (part64_returns c i (Memref.whole main_v3) (Memref.isWhole_whole _) arg2 harg2 arg3 harg3 cc0_scratch1 _ _ _ _ _ _))
  isplitl [HS0]; · iexact HS0
  iintro HS0
  dsimp only
  iapply (returns_bind (part65_returns c i (Memref.whole main_v3) (Memref.isWhole_whole _) arg2 harg2 arg3 harg3 cc0_scratch1 _ _ _ _ _ _))
  isplitl [HS0]; · iexact HS0
  iintro HS0
  dsimp only
  iapply (returns_bind (part66_returns c i (Memref.whole main_v3) (Memref.isWhole_whole _) arg2 harg2 arg3 harg3 cc0_scratch1 _ _ _ _ _ _))
  isplitl [HS0]; · iexact HS0
  iintro HS0
  dsimp only
  iapply (takes_bind (pass_t65 c i (Memref.whole main_v3) (Memref.isWhole_whole _) arg2 harg2 arg3 harg3 cc0_scratch1 _ _ ))
  isplitl [HS0]; · iexact HS0
  iintro HS0
  iapply (takes_bind (pass_t66 c i (Memref.whole main_v3) (Memref.isWhole_whole _) arg2 harg2 arg3 harg3 cc0_scratch1 _ ))
  isplitl [HS0]; · iexact HS0
  iintro HS0
  iapply (takes_bind (pass_t67 c i (Memref.whole main_v3) (Memref.isWhole_whole _) arg2 harg2 arg3 harg3 cc0_scratch1 _ ))
  isplitl [HS0]; · iexact HS0
  iintro HS0
  iapply (takes_bind (pass_t68 c i (Memref.whole main_v3) (Memref.isWhole_whole _) arg2 harg2 arg3 harg3 cc0_scratch1 _ ))
  isplitl [HS0]; · iexact HS0
  iintro HS0
  iapply (takes_bind (pass_t69 c i (Memref.whole main_v3) (Memref.isWhole_whole _) arg2 harg2 arg3 harg3 cc0_scratch1 _ ))
  isplitl [HS0]; · iexact HS0
  iintro HS0
  iapply (takes_bind (pass_t70 c i (Memref.whole main_v3) (Memref.isWhole_whole _) arg2 harg2 arg3 harg3 cc0_scratch1 _ _ _ _ ))
  isplitl [HS0]; · iexact HS0
  iintro HS0
  iapply (returns_bind (pass_t71 c i (Memref.whole main_v3) (Memref.isWhole_whole _) arg2 harg2 arg3 harg3 cc0_scratch1 _))
  isplitl [HS0]; · iexact HS0
  iintro HS0
  sl_exec
  sl_step
  iapply Hk
  isplitl [H0]; · iexists _; iexact H0
  isplitl [HS0]; · iexists _; iexact HS0
  isplitl [Hq0]; · iexact Hq0
  isplitl [Hh0]; · iexact Hh0
  iexists _; iexact HW

end Cert.KernelIdeal.Gen
end
-- ==== Proof.Run.lean ====
/-
  The launch of the kernel around its body: the host lines before and after, the proof data of the pipeline (what each point leaves in the output's
  staging buffer), the body obligation, the run of the whole program and what it leaves in every buffer.
-/
module

public import proofs.«01_k».proof.Proof.Body
public import Idealize.ShloMosaic.Lib.Ring
public import Idealize.ShloMosaic.Lib.WordCmp
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers when the kernel is launched: the launch memory after the host lines before the kernel. -/
abbrev V0 (c : Dev nD) : Valuation τ sig (Elt F) := StableHlo.after (List.flatten [hostOps0]) (fun b => m (c, b))
/-- One of them, by reference. -/
abbrev V (c : Dev nD) (b : Ref sig .tc) : Buf (Elt F) ((c : Thread nD τ).loc b) := V0 m c (Proc.devRef .tc b)

/-- The host lines before the kernel allocate nothing. -/
theorem before_fresh : (hostOps0 : List (HloOp τ sig (Elt F))).Forall fun op => op.fresh = ∅ := by
  simp only [List.Forall]; repeat' constructor

/-- Nor do those after it. -/
theorem after_fresh : (hostOps1 : List (HloOp τ sig (Elt F))).Forall fun op => op.fresh = ∅ := by
  simp only [List.Forall]; repeat' constructor

set_option maxHeartbeats 800000 in
/-- The program is the host lines before, the kernel, and the host lines after. -/
theorem around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact before_fresh) main_chain

/-- The lines after the kernel allocate nothing, member by member. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_fresh) op hop

/-- The lines after the kernel write no array of the pipeline. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.reshape_writes, Finset.mem_singleton] <;> exact StableHlo.devRef_ne_of_ne (by decide)

/-- No host line before the kernel writes `b`, when `b` is none of their results. -/
theorem V_of_ne (c : Dev nD) (b : Ref sig .tc)
    (h : ∀ op ∈ (hostOps0 : List (HloOp τ sig (Elt F))), Proc.devRef .tc b ∉ op.writes) : V m c b = m ((c : Thread nD τ).loc b) :=
  StableHlo.after_of_forall_not_mem (b := Proc.devRef .tc b) _ _ fun op hop => h op (by simpa using hop)

/-- Nor after the kernel. -/
theorem W_of_ne (dats : (p : Fin _) → (c : Dev nD) → Dat τ (Elt F) Unit ℕ (Pipeline.UD sig nD τ) ℕ (cfgs p) c) (c : Dev nD) (b : Ref sig .tc)
    (h : ∀ op ∈ (hostOps0 : List (HloOp τ sig (Elt F))), Proc.devRef .tc b ∉ op.writes)
    (h' : ∀ op ∈ (hostOps1 : List (HloOp τ sig (Elt F))), Proc.devRef .tc b ∉ op.writes) (hb : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (fun op hop => h' op (by simpa using hop)),
    Pipeline.withArrays_of_ne _ c (V0 m c) _ b hb]
  exact V_of_ne m c b h

/-- The first argument is no result of the lines before, -/
theorem arg0_before : ∀ op ∈ (hostOps0 : List (HloOp τ sig (Elt F))), Proc.devRef .tc main_arg0 ∉ op.writes :=
  List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide))
/-- nor of those after, -/
theorem arg0_after : ∀ op ∈ (hostOps1 : List (HloOp τ sig (Elt F))), Proc.devRef .tc main_arg0 ∉ op.writes :=
  List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide))
/-- and the second argument neither. -/
theorem arg1_before : ∀ op ∈ (hostOps0 : List (HloOp τ sig (Elt F))), Proc.devRef .tc main_arg1 ∉ op.writes :=
  List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide))
/-- The same after the kernel. -/
theorem arg1_after : ∀ op ∈ (hostOps1 : List (HloOp τ sig (Elt F))), Proc.devRef .tc main_arg1 ∉ op.writes :=
  List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide))

/-- The output's staging memref at point `t`, as the pipeline passes it. -/
abbrev outM (t : Fin cfg0.N) : Memref sig .tc .vmem S1x8x128 .f32 := win0_0.stage (cfg0.slots t 0)
/-- The scratch buffer. -/
abbrev scratchM : Memref sig .tc .vmem S65536x128 .f32 := Memref.whole cc0_scratch0
/-- The array the body copies from. -/
abbrev inM : Memref sig .tc .hbm S65536x512 .f32 := Memref.whole main_v3

/-- The semaphore of the body's own transfer. -/
abbrev ownSem : Fin 1 → SemLoc sig := fun j => (![SemLoc.dma 2] : Fin 1 → SemLoc sig) j
/-- It is none of the pipeline's. -/
theorem ownSem_facts : Pipeline.OwnSemFacts spec0 ownSem := by decide
/-- Its cell at zero. -/
theorem ownSems_eq (c : Dev nD) :
    (Pipeline.ownSems0 (Ix := Unit) (Name := ℕ) (U := Pipeline.UD sig nD τ) (Lvl := ℕ) (Val := Elt F) (τ := τ) ownSem c : sProp 𝕄)
      = iprop(semVal ((c : Thread nD τ), SemLoc.dma 2) 0) := by
  rw [Pipeline.ownSems0_eq_of_list c ownSem [0] (by decide) (by decide)]; rfl

/-- The array the body moves, as a reference. -/
def moved : Finset (Ref sig .tc) := {main_v3}
/-- It is unscoped and no window's array. -/
theorem moved_sub : moved ⊆ Pipeline.restRefs sig spec0 := by decide

/-- The lines after the kernel do not touch it. -/
theorem tail_but : ∀ ops ∈ ([hostOps1] : List (List (HloOp τ sig (Elt F)))), ∀ op ∈ ops,
    op.bufs ⊆ Pipeline.tailRefsBut sig Pipeline.Prefetch.none spec0 moved := by
  intro ops hops op hop
  simp only [List.mem_cons, List.mem_nil_iff, or_false] at hops
  rcases hops with rfl
  · refine Pipeline.sub_tailRefsBut Pipeline.Prefetch.none spec0 moved op ((List.forall_iff_forall_mem.mp hostOps1_sub) op hop) (fun j => j.elim0) ?_
    simp only [hostOps1, List.mem_cons, List.mem_nil_iff, or_false] at hop
    rcases hop with rfl | rfl | rfl | rfl | rfl | rfl
    all_goals intro b hb; simp only [moved, Finset.mem_singleton] at hb
    all_goals rcases hb with rfl <;>
      simp only [StableHlo.nullary_bufs, StableHlo.unary_bufs, StableHlo.binary_bufs, StableHlo.reshape_bufs, Finset.mem_insert, Finset.mem_singleton, not_or] <;> and_intros <;> exact StableHlo.devRef_ne_of_ne (by decide)

/-- It is held at its contents when the kernel is launched. -/
theorem moved_eq (c : Dev nD) :
    (bigSep moved (fun b => ((c : Thread nD τ).loc b) ↦{fullShare} V m c b) : sProp 𝕄) = iprop(holds0 c inM (V m c main_v3)) := by
  rw [BI.bigSep_eq_bigSepL_of_eq [main_v3] (by decide) (by decide)]; rfl

/-- What the body finds and leaves at every point: the scratch buffer at some contents, the generator's register, the cell at zero, the array. -/
theorem rest_eq (c : Dev nD) :
    (Pipeline.ΦD ownSem spec0 moved (V m) c : sProp 𝕄)
      = iprop(iprop((∃ d, owns (c : Thread nD τ) scratchM fullShare d)) ∗ (∃ r, prngReg c r) ∗ iprop(semVal ((c : Thread nD τ), SemLoc.dma 2) 0) ∗ iprop(holds0 c inM (V m c main_v3))) := by
  rw [Pipeline.ΦD_eq, scopedRest0_eq, ownSems_eq, moved_eq]; simp only [scratchM, owns_whole]; try rfl

/-- What the output's staging buffer holds after point `t`: the sum of squares of the point's sorted block of columns, everywhere. -/
def outAt (c : Dev nD) (t : Fin cfg0.N) : Vec F S1x8x128 .f32 :=
  k0_pay13 (squares (sortedAll (block0 c (grid0.coords t) (V m c main_v3))))

/-- The proof data of the pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => (outAt m c t)
  Φ _ := Pipeline.ΦD ownSem spec0 moved (V m) c
  q _ := fullShare
  owed _ := 0

/-- Its arrays are as the kernel finds them. -/
theorem A_eq (c : Dev nD) (w : Fin cfg0.W) : (dats m 0 c).A w = V m c (Pipeline.arrRef spec0 w) := by
  dsimp only [dats]

/-- The output window after point `t`. -/
theorem after_out (c : Dev nD) (t : Fin cfg0.N) : (dats m 0 c).after 0 t = (outAt m c t) := by dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (outM t) fullShare ((dats m 0 c).before 0 t d)))

/-- and what it returns. -/
def bodyPost (c : Dev nD) (t : Fin cfg0.N) : sProp 𝕄 :=
  iprop((dats m 0 c).Φ t.succ ∗ (dats m 0 c).owesAt () t.succ
    ∗ owns (c : Thread nD τ) (outM t) fullShare ((dats m 0 c).after 0 t))

/-- The body at any point. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after_out]
  rw [show (dats m 0 c).Φ t.castSucc = Pipeline.ΦD ownSem spec0 moved (V m) c from rfl, rest_eq]
  unfold Dat.owesAt Pipeline.owesWithin
  rw [show (dats m 0 c).owed t.castSucc = 0 from rfl, show (dats m 0 c).owed t.succ = 0 from rfl]
  iintro ⟨⟨HS0, Hg, Hq0, Hh0⟩, ⟨%W, -, HW⟩, ⟨%d0, H0⟩⟩
  iapply (body_runs c (grid0.coords t) _ _ _ _ (V m c main_v3) W _)
  isplitl [H0]; · iexists _; iexact H0
  isplitl [HS0]; · iexact HS0
  isplitl [Hq0]; · iexact Hq0
  isplitl [Hh0]; · iexact Hh0
  isplitl [HW]; · iexact HW
  iintro ⟨⟨%e0, H0⟩, ⟨%fT0, HS0⟩, Hq0, Hh0, ⟨%W', HW'⟩⟩
  isplitl [HS0 Hg Hq0 Hh0]
  · isplitl [HS0]
    · iexists _; unfold owns; iexists _; isplitr
      swap; · iexact HS0
      ipureintro; rfl
    isplitl [Hg]
    · iexact Hg
    isplitl [Hq0]
    · iexact Hq0
    iexact Hh0
  isplitl [HW']
  · iexists W'; isplitr; · ipureintro; exact fun _ _ => Or.inl trivial
    iexact HW'
  unfold owns; iexists _; isplitr
  swap; · iexact H0
  ipureintro; exact View.read_writes_full _ _ _ _ []

/-- The body table's row at point `t`. -/
theorem row_at (t : Fin cfg0.N) :
    defs₀ (F := F) .tc cfg0.body (cfg0.bodyArgs t (cfg0.slots t)) = bodyAt0 t := by
  unfold defs₀; rw [Defs.onTc_tc]

/-- The body obligation at every point. -/
theorem obligation (c : Dev nD) : BodyObligation (dats (F := F) m 0 c) (defs₀ (F := F)) Variants.none () Set.univ := fun t => by
  rw [bigSep_W0, bigSep_W0, row_at]
  exact triple_restated (body_at m c t) rfl .rfl fun _ => .rfl

set_option backward.isDefEq.respectTransparency.types false in
set_option maxHeartbeats 800000 in
/-- The whole program, from any memory with counters at zero: it ends, with the buffers as the proof data say and every counter at zero. -/
theorem run_all : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 ownSem defs₀ Variants.none ownSem_facts moved moved_sub m ρ main
    (hbody := fun c => (obligation m c).loose) (hshare := fun c => (dats m 0 c).share_full fun _ => rfl)
    (howed := fun _ _ => rfl) (V₀ := V0 m) (opss := [hostOps1]) (hsub := tail_but) (hfresh := tail_fresh) (hkeep := tail_keeps)
    (hmain := around m Variants.none) (hA := A_eq m) (hin := fun _ => .rfl) (hout := fun _ => .rfl)

/-- The argument arrays end as they began, and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (Pipeline.mem_restRefs_of main_arg0 (by decide) (by decide))).trans (W_of_ne m (dats m) c main_arg0 arg0_before arg0_after (by decide)),
     ((h.1 c).2 main_arg1 (Pipeline.mem_restRefs_of main_arg1 (by decide) (by decide))).trans (W_of_ne m (dats m) c main_arg1 arg1_before arg1_after (by decide))⟩, h.2⟩)
    (run_all m ρ)

end Cert.KernelIdeal.Run
end
-- ==== Proof.Same.lean ====
/-
  The kernel and its idealization are the same program, no operation being rewritten: what is shown of the one, at any float values, is so of the other.
-/
module

public import proofs.«01_k».proof.Proof.Run
public import proofs.«01_k».proof.Proof.Gen.Kernel

@[expose] public section

set_option maxRecDepth 65536

noncomputable section

namespace Cert.Kernel.Same

open Idealize.ShloMosaic Idealize.ShloMosaic.TcCoe Idealize.SL.Sem
open Cert.Kernel

variable {F : FTy → Type} [FloatOps F]

/-- The two kernel bodies are one function. -/
theorem body_same : Cert.Kernel.cc0__sort_mse_body (F := F) = Cert.KernelIdeal.cc0__sort_mse_body (F := F) := rfl

/-- So are the two tables of bodies, row by row, -/
theorem defs0_same : Cert.Kernel.defs₀ (F := F) = Cert.KernelIdeal.defs₀ (F := F) := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀)) ?_
  funext l a
  match l, a with
  | ⟨0, _⟩, (t, s) => rfl
  | ⟨_ + 1, h⟩, _ => exact absurd h (Nat.not_lt.2 (Nat.le_add_left _ _))

/-- and the tables with the pipelines in them. -/
theorem defs_same : Cert.Kernel.defs (F := F) = Cert.KernelIdeal.defs (F := F) := by
  unfold Cert.Kernel.defs Cert.KernelIdeal.defs
  exact congrArg (Pipeline.defs Cert.Kernel.pcfgs) defs0_same

/-- The argument arrays of the kernel end as they began, and every counter at zero. -/
theorem quiescent (m : (ℓ : Loc nD τ sig) → Buf (Elt F) ℓ) (ρ : Dev nD → PrngReg) :
  θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_same]
  exact Cert.KernelIdeal.Run.quiescent m ρ

end Cert.Kernel.Same
end
-- ==== Proof.Nets.lean ====
/-
  Compare-exchange networks on the rows of an array of extended reals with 128 columns: the exchange at stride `2 ^ s`, a list of strides run one after
  the other, and what such a run depends on.
-/
module

public import Idealize.ShloMosaic.Lib.ValueIdx
public import Idealize.ShloMosaic.Lib.SortNet.Bitonic

@[expose] public section

noncomputable section

namespace Cert.Nets

open Idealize.ShloMosaic Idealize.ShloMosaic.ValueIdx Idealize.ShloMosaic.SortNet

/-- The shape of `n` rows of 128 columns. -/
abbrev Grid (n : ℕ) : Shape := ⟨2, ![n, 128]⟩

/-- Two places of one array agree when their rows and their columns do. -/
theorem place_ext {n : ℕ} {i j : (Grid n).Idx} (h0 : (i 0).val = (j 0).val) (h1 : (i 1).val = (j 1).val) : i = j := by
  funext a
  match a with
  | ⟨0, _⟩ => exact Fin.ext h0
  | ⟨1, _⟩ => exact Fin.ext h1

/-- The place whose row differs in bit `s` (the place itself when there is no such row). -/
def flip {n : ℕ} (s : ℕ) (i : (Grid n).Idx) : (Grid n).Idx :=
  if h : (i 0).val ^^^ 2 ^ s < n then ix2 (n0 := n) (n1 := 128) ⟨(i 0).val ^^^ 2 ^ s, h⟩ (i 1) else i

/-- The column is kept. -/
theorem flip_col {n : ℕ} (s : ℕ) (i : (Grid n).Idx) : (flip s i 1) = i 1 := by
  unfold flip; split <;> rfl

/-- The row, where there is one. -/
theorem flip_row {n : ℕ} (s : ℕ) (i : (Grid n).Idx) (h : (i 0).val ^^^ 2 ^ s < n) : (flip s i 0).val = (i 0).val ^^^ 2 ^ s := by
  unfold flip; rw [dif_pos h]; rfl

/-- With `2 ^ p` rows there is always one. -/
theorem flip_row_pow {n : ℕ} {p s : ℕ} (hn : n = 2 ^ p) (hs : s < p) (i : (Grid n).Idx) : (flip s i 0).val = (i 0).val ^^^ 2 ^ s := by
  subst hn
  exact flip_row s i (Nat.xor_lt_two_pow (i 0).isLt (Nat.pow_lt_pow_right (by decide) hs))

/-- Another bit of the row is kept. -/
theorem flip_bit {n : ℕ} (s t : ℕ) (hst : s ≠ t) (i : (Grid n).Idx) : (flip s i 0).val.testBit t = (i 0).val.testBit t := by
  unfold flip
  split
  · show ((i 0).val ^^^ 2 ^ s).testBit t = _
    rw [Nat.testBit_xor, Nat.testBit_two_pow]
    simp [hst]
  · rfl

/-- What goes to the earlier place of a compared pair. -/
def lo (d : Bool) (a b : EReal) : EReal := if d then max a b else min a b
/-- What goes to the later place of a compared pair. -/
def up (d : Bool) (a b : EReal) : EReal := if d then min a b else max a b

/-- The exchange at stride `2 ^ s`; where `w` holds of a row the larger entry goes to the earlier place. -/
def exch {n : ℕ} (s : ℕ) (w : ℕ → Bool) (x : (Grid n).Idx → EReal) : (Grid n).Idx → EReal := fun i =>
  if (i 0).val.testBit s then up (w (i 0).val) (x (flip s i)) (x i) else lo (w (i 0).val) (x i) (x (flip s i))

/-- The exchanges at the strides of a list, first to last. -/
def net {n : ℕ} : List ℕ → (ℕ → Bool) → ((Grid n).Idx → EReal) → (Grid n).Idx → EReal
  | [], _, x => x
  | s :: L, w, x => net L w (exch s w x)

/-- Two lists in a row. -/
theorem net_append {n : ℕ} (L M : List ℕ) (w : ℕ → Bool) (x : (Grid n).Idx → EReal) : net (L ++ M) w x = net M w (net L w x) := by
  induction L generalizing x with
  | nil => rfl
  | cons s L ih => exact ih _

/-- On a set of rows closed under the strides of the list, the result depends only on the entries and the directions there. -/
theorem net_congr {n : ℕ} (D : ℕ → Prop) (w w' : ℕ → Bool) (hw : ∀ r, D r → w r = w' r) (L : List ℕ)
    (hD : ∀ s ∈ L, ∀ i : (Grid n).Idx, D (i 0).val → D (flip s i 0).val) (x y : (Grid n).Idx → EReal)
    (hx : ∀ i, D (i 0).val → x i = y i) (i : (Grid n).Idx) (hi : D (i 0).val) : net L w x i = net L w' y i := by
  induction L generalizing x y with
  | nil => exact hx i hi
  | cons s L ih =>
    refine ih (fun t ht => hD t (List.mem_cons_of_mem s ht)) _ _ fun j hj => ?_
    unfold exch
    rw [hw _ hj, hx j hj, hx _ (hD s List.mem_cons_self j hj)]

/-- A function of the array that runs the exchanges of `L` in direction `d` on the rows whose bit `b` is `d`, and leaves the others. -/
def Half {n : ℕ} (f : ((Grid n).Idx → EReal) → (Grid n).Idx → EReal) (L : List ℕ) (b : ℕ) (d : Bool) : Prop :=
  ∀ x i, f x i = if (i 0).val.testBit b = d then net L (fun _ => d) x i else x i

/-- Both halves, one after the other, are the exchanges in the direction of the bit. -/
theorem half_half {n : ℕ} {f g : ((Grid n).Idx → EReal) → (Grid n).Idx → EReal} {L : List ℕ} {b : ℕ} (hf : Half f L b false) (hg : Half g L b true)
    (hb : ∀ s ∈ L, s ≠ b) (x : (Grid n).Idx → EReal) : g (f x) = net L (fun r => r.testBit b) x := by
  have closed : ∀ d : Bool, ∀ s ∈ L, ∀ i : (Grid n).Idx, (i 0).val.testBit b = d → (flip s i 0).val.testBit b = d :=
    fun d s hs i hi => (flip_bit s b (hb s hs) i).trans hi
  funext i
  rw [hg]
  by_cases h : (i 0).val.testBit b = true
  · rw [if_pos h]
    refine net_congr (fun r => r.testBit b = true) _ _ (fun r hr => hr.symm) L (closed true) _ _ (fun j hj => ?_) i h
    rw [hf, if_neg (by rw [hj]; decide)]
  · rw [if_neg h, hf, if_pos (by simpa using h)]
    exact net_congr (fun r => r.testBit b = false) _ _ (fun r hr => hr.symm) L (closed false) _ _ (fun j _ => rfl) i (by simpa using h)

/-- A half whose bit is beyond the rows is the whole. -/
theorem half_all {n p : ℕ} (hn : n = 2 ^ p) {f : ((Grid n).Idx → EReal) → (Grid n).Idx → EReal} {L : List ℕ} (hf : Half f L p false)
    (hb : ∀ s ∈ L, s ≠ p) (x : (Grid n).Idx → EReal) : f x = net L (fun r => r.testBit p) x := by
  subst hn
  have e : ∀ i : (Grid (2 ^ p)).Idx, (i 0).val.testBit p = false := fun i => Nat.testBit_lt_two_pow (i 0).isLt
  funext i
  rw [hf, if_pos (e i)]
  exact net_congr (fun r => r.testBit p = false) _ _ (fun r hr => hr.symm) L
    (fun s hs i hi => (flip_bit s p (hb s hs) i).trans hi) _ _ (fun j _ => rfl) i (e i)

/-- Flipping a clear bit adds the stride. -/
theorem xor_clear (r s : ℕ) (h : r.testBit s = false) : r ^^^ 2 ^ s = r + 2 ^ s :=
  xor_two_pow_of_clear r s ((and_two_pow_eq_zero_iff_testBit r s).2 h)

/-- Flipping a set bit takes the stride away. -/
theorem xor_set (r s : ℕ) (h : r.testBit s = true) : 2 ^ s ≤ r ∧ r ^^^ 2 ^ s = r - 2 ^ s := by
  have h' : (r ^^^ 2 ^ s).testBit s = false := by rw [Nat.testBit_xor, h, Nat.testBit_two_pow]; simp
  have e := xor_clear _ s h'
  rw [Nat.xor_assoc, Nat.xor_self, Nat.xor_zero] at e
  omega

/-- A column of the array. -/
def col {p : ℕ} (x : (Grid (2 ^ p)).Idx → EReal) (l : Fin 128) : Fin (2 ^ p) → EReal := fun r => x (ix2 (n0 := 2 ^ p) (n1 := 128) r l)

/-- A column of the exchanged array is the stage applied to the column. -/
theorem col_exch {p s : ℕ} (hs : s < p) (w : ℕ → Bool) (hw : ∀ r, w (r ^^^ 2 ^ s) = w r) (x : (Grid (2 ^ p)).Idx → EReal) (l : Fin 128) :
    col (exch s w x) l = Network.apply (stage p s fun r => w r.val) (col x l) := by
  have fl : ∀ r : Fin (2 ^ p), flip s (ix2 (n0 := 2 ^ p) (n1 := 128) r l) = ix2 (n0 := 2 ^ p) (n1 := 128) (partner p s r) l := fun r =>
    place_ext (by rw [flip_row_pow rfl hs]; exact (partner_val hs r).symm) (by rw [flip_col]; rfl)
  funext r
  show (if r.val.testBit s then _ else _) = _
  by_cases h : r.val.testBit s = true
  · have h0 : (partner p s r).val &&& 2 ^ s = 0 := partner_and_of_set hs r (fun e => by
      rw [and_two_pow_eq_zero_iff_testBit, h] at e; exact absurd e (by decide))
    have e := (apply_stage hs (fun r => w r.val) (col x l) (partner p s r) h0).2
    rw [partner_partner hs] at e
    rw [if_pos h, e, fl, partner_val hs, hw]
    rfl
  · have h0 : r.val &&& 2 ^ s = 0 := (and_two_pow_eq_zero_iff_testBit _ _).2 (by simpa using h)
    rw [if_neg h, (apply_stage hs (fun r => w r.val) (col x l) r h0).1, fl]
    rfl

/-- A column of the array after a list of strides is the stages applied to the column. -/
theorem col_net {p : ℕ} (w : ℕ → Bool) (L : List ℕ) (hL : ∀ s ∈ L, s < p ∧ ∀ r, w (r ^^^ 2 ^ s) = w r) (x : (Grid (2 ^ p)).Idx → EReal) (l : Fin 128) :
    col (net L w x) l = Network.apply (L.flatMap fun s => stage p s fun r => w r.val) (col x l) := by
  induction L generalizing x with
  | nil => rfl
  | cons s L ih =>
    have h := hL s List.mem_cons_self
    rw [List.flatMap_cons, Network.apply_append, ← col_exch h.1 w h.2]
    exact ih (fun t ht => hL t (List.mem_cons_of_mem s ht)) _

/-- The first `m` levels of the bitonic sort. -/
def levels {n : ℕ} (x : (Grid n).Idx → EReal) : ℕ → (Grid n).Idx → EReal
  | 0 => x
  | m + 1 => net (List.range (m + 1)).reverse (fun r => r.testBit (m + 1)) (levels x m)

/-- After as many levels as the rows have bits every column is sorted by the network. -/
theorem col_levels {p : ℕ} (x : (Grid (2 ^ p)).Idx → EReal) (l : Fin 128) (m : ℕ) (hm : m ≤ p) :
    col (levels x m) l = Network.apply ((List.range m).flatMap fun k => (List.range (k + 1)).reverse.flatMap fun s =>
      stage p s fun i => (decide (i.val &&& 2 ^ (k + 1) = 0)) == false) (col x l) := by
  induction m with
  | zero => rfl
  | succ m ih =>
    rw [List.range_succ, List.flatMap_append, Network.apply_append, ← ih (by omega), List.flatMap_cons, List.flatMap_nil, List.append_nil]
    show col (net _ _ _) l = _
    rw [col_net _ _ (fun s hs => by
      have hs' : s < m + 1 := List.mem_range.mp (List.mem_reverse.mp hs)
      refine ⟨by omega, fun r => ?_⟩
      rw [Nat.testBit_xor, Nat.testBit_two_pow]
      have : s ≠ m + 1 := by omega
      simp [this])]
    have e : ∀ i : Fin (2 ^ p), i.val.testBit (m + 1) = (decide (i.val &&& 2 ^ (m + 1) = 0) == false) := fun i => by
      have h := and_two_pow_eq_zero_iff_testBit i.val (m + 1)
      cases hb : i.val.testBit (m + 1) <;> simp [h, hb]
    simp only [e]

end Cert.Nets
end
-- ==== Proof.Exchange.lean ====
/-
  The compare-exchanges inside a chunk of 128 rows, in both of the ways the program writes them (halves of a reshaped array; rotations under a mask), and a
  network between two multiplications by a column of signs.
-/
module

public import proofs.«01_k».proof.Proof.Steps
public import proofs.«01_k».proof.Proof.Nets
public import Idealize.ShloMosaic.Lib.Pipeline.Value
public import Idealize.ShloMosaic.Lib.Pointwise.ShapeOpsCore
public import Idealize.ShloMosaic.Lib.IdealHost

@[expose] public section

noncomputable section

namespace Cert.Nets

open Idealize.ShloMosaic Idealize.ShloMosaic.ValueIdx Cert.KernelIdeal Cert.KernelIdeal.Gen

/-- The smaller or larger of two entries of two arrays. -/
theorem lower_apply {s : Shape} (d : Bool) (a b : FVec Ideal s .f32) (j : s.Idx) : lower d a b j = lo d (a j) (b j) := by cases d <;> rfl
/-- The larger or smaller of two entries of two arrays. -/
theorem upper_apply {s : Shape} (d : Bool) (a b : FVec Ideal s .f32) (j : s.Idx) : upper d a b j = up d (a j) (b j) := by cases d <;> rfl

/-- The row `r` of a chunk. -/
abbrev row128 (r : ℕ) (h : r < 128) (l : Fin 128) : (Grid 128).Idx := ValueIdx.ix2 (n0 := 128) (n1 := 128) ⟨r, h⟩ l

/-- The rows of `a` groups of twice `b` rows: half `B` of group `A`. -/
theorem half_apply {a b : ℕ} (c : (Grid 128).Idx → EReal) (o : ℕ) (h1 : (Grid 128).ShapeCasts ⟨4, ![a, 2, b, 128]⟩)
    (h2 : (⟨4, ![a, 2, b, 128]⟩ : Shape).Slices ![0, o, 0, 0] ⟨4, ![a, 1, b, 128]⟩) (h3 : (⟨4, ![a, 1, b, 128]⟩ : Shape).ShapeCasts ⟨3, ![a, b, 128]⟩)
    (ho : o < 2) (A : Fin a) (C : Fin b) (l : Fin 128) (r : ℕ) (hr : r < 128) (e : (A.val * 2 + o) * b + C.val = r) :
    shapeCast ⟨3, ![a, b, 128]⟩ (extractStridedSlice ⟨4, ![a, 1, b, 128]⟩ ![0, o, 0, 0] (shapeCast ⟨4, ![a, 2, b, 128]⟩ c h1) h2) h3 (ValueIdx.ix3 A C l)
      = c (row128 r hr l) := by
  rw [shapeCast_apply _ h3 (ValueIdx.ix3 A C l) (ValueIdx.ix4 (n0 := a) (n1 := 1) (n2 := b) (n3 := 128) A 0 C l) ?_,
    extractStridedSlice_apply _ _ h2 _ (ValueIdx.ix4 (n0 := a) (n1 := 2) (n2 := b) (n3 := 128) A ⟨o, ho⟩ C l) ?_,
    shapeCast_apply _ h1 _ (row128 r hr l) ?_]
  · rw [Shape.rowMajor_val_two, Shape.rowMajor_val_four]
    show r * 128 + l.val = ((A.val * 2 + o) * b + C.val) * 128 + l.val
    rw [e]
  · intro x
    match x with
    | ⟨0, _⟩ => exact (Nat.zero_add _).symm
    | ⟨1, _⟩ => rfl
    | ⟨2, _⟩ => exact (Nat.zero_add _).symm
    | ⟨3, _⟩ => exact (Nat.zero_add _).symm
  · rw [Shape.rowMajor_val_four, Shape.rowMajor_val_three]
    show ((A.val * 1 + 0) * b + C.val) * 128 + l.val = (A.val * b + C.val) * 128 + l.val
    rw [Nat.mul_one, Nat.add_zero]

/-- The halves of the groups compared and exchanged: the exchange at stride `b = 2 ^ s`. -/
theorem split_exch {a b s : ℕ} (hb : b = 2 ^ s) (hab : a * 2 * b = 128) (d : Bool) (c : (Grid 128).Idx → EReal)
    (h1 : (Grid 128).ShapeCasts ⟨4, ![a, 2, b, 128]⟩) (h2 : (⟨4, ![a, 2, b, 128]⟩ : Shape).Slices ![0, 0, 0, 0] ⟨4, ![a, 1, b, 128]⟩)
    (h2' : (⟨4, ![a, 2, b, 128]⟩ : Shape).Slices ![0, 1, 0, 0] ⟨4, ![a, 1, b, 128]⟩) (h3 : (⟨4, ![a, 1, b, 128]⟩ : Shape).ShapeCasts ⟨3, ![a, b, 128]⟩)
    (h4 : (⟨3, ![a, b, 128]⟩ : Shape).ShapeCasts ⟨4, ![a, 1, b, 128]⟩)
    (h5 : Shape.Concatenates [⟨4, ![a, 1, b, 128]⟩, ⟨4, ![a, 1, b, 128]⟩] ⟨4, ![a, 2, b, 128]⟩ 1) (h6 : (⟨4, ![a, 2, b, 128]⟩ : Shape).ShapeCasts (Grid 128)) :
    shapeCast (Grid 128) (concatenate ⟨4, ![a, 2, b, 128]⟩ 1
      [⟨⟨4, ![a, 1, b, 128]⟩, shapeCast ⟨4, ![a, 1, b, 128]⟩ (lower (F := Ideal) d
        (shapeCast ⟨3, ![a, b, 128]⟩ (extractStridedSlice ⟨4, ![a, 1, b, 128]⟩ ![0, 0, 0, 0] (shapeCast ⟨4, ![a, 2, b, 128]⟩ c h1) h2) h3)
        (shapeCast ⟨3, ![a, b, 128]⟩ (extractStridedSlice ⟨4, ![a, 1, b, 128]⟩ ![0, 1, 0, 0] (shapeCast ⟨4, ![a, 2, b, 128]⟩ c h1) h2') h3)) h4⟩,
       ⟨⟨4, ![a, 1, b, 128]⟩, shapeCast ⟨4, ![a, 1, b, 128]⟩ (upper (F := Ideal) d
        (shapeCast ⟨3, ![a, b, 128]⟩ (extractStridedSlice ⟨4, ![a, 1, b, 128]⟩ ![0, 0, 0, 0] (shapeCast ⟨4, ![a, 2, b, 128]⟩ c h1) h2) h3)
        (shapeCast ⟨3, ![a, b, 128]⟩ (extractStridedSlice ⟨4, ![a, 1, b, 128]⟩ ![0, 1, 0, 0] (shapeCast ⟨4, ![a, 2, b, 128]⟩ c h1) h2') h3)) h4⟩] h5) h6
      = exch s (fun _ => d) c := by
  funext j
  have hj : (j 0).val < 128 := ValueIdx.idx2_lt0 j
  have hbp : 0 < b := hb ▸ Nat.two_pow_pos s
  have hA : (j 0).val / b / 2 < a := by
    rw [Nat.div_div_eq_div_mul]
    exact Nat.div_lt_of_lt_mul (by rw [Nat.mul_comm (b * 2), Nat.mul_comm b, ← Nat.mul_assoc, hab]; exact hj)
  have hC : (j 0).val % b < b := Nat.mod_lt _ hbp
  have hrow : ((j 0).val / b / 2 * 2 + (j 0).val / b % 2) * b + (j 0).val % b = (j 0).val := by
    rw [Nat.div_add_mod', Nat.div_add_mod']
  have hB : (j 0).val / b % 2 < 2 := Nat.mod_lt _ (by decide)
  have mk : ∀ (f : (⟨3, ![a, b, 128]⟩ : Shape).Idx → EReal), shapeCast ⟨4, ![a, 1, b, 128]⟩ f h4 (ValueIdx.ix4 (n0 := a) (n1 := 1) (n2 := b) (n3 := 128) ⟨_, hA⟩ 0 ⟨_, hC⟩ (j 1))
      = f (ValueIdx.ix3 (n0 := a) (n1 := b) (n2 := 128) ⟨_, hA⟩ ⟨_, hC⟩ (j 1)) := fun f => by
    refine shapeCast_apply _ h4 _ _ ?_
    rw [Shape.rowMajor_val_four, Shape.rowMajor_val_three]
    show ((j 0).val / b / 2 * b + (j 0).val % b) * 128 + (j 1).val = (((j 0).val / b / 2 * 1 + 0) * b + (j 0).val % b) * 128 + (j 1).val
    rw [Nat.mul_one, Nat.add_zero]
  have hbit : (j 0).val.testBit s = decide ((j 0).val / b % 2 = 1) := by rw [hb]; exact Nat.testBit_eq_decide_div_mod_eq
  rw [shapeCast_apply _ h6 j (ValueIdx.ix4 (n0 := a) (n1 := 2) (n2 := b) (n3 := 128) ⟨_, hA⟩ ⟨_, hB⟩ ⟨_, hC⟩ (j 1)) (by
    rw [Shape.rowMajor_val_two, Shape.rowMajor_val_four]
    show (((j 0).val / b / 2 * 2 + (j 0).val / b % 2) * b + (j 0).val % b) * 128 + (j 1).val = (j 0).val * 128 + (j 1).val
    rw [hrow])]
  unfold exch
  rw [hbit]
  have self : j = row128 (j 0).val hj (j 1) := place_ext rfl rfl
  rcases Nat.lt_or_ge ((j 0).val / b % 2) 1 with h | h
  · have h0 : (j 0).val / b % 2 = 0 := by omega
    rw [if_neg (by rw [h0]; decide)]
    rw [h0] at hrow
    have hx : (j 0).val ^^^ 2 ^ s = (j 0).val + b := by rw [hb]; exact xor_clear _ _ (by rw [hbit, h0]; rfl)
    have hlt : (j 0).val + b < 128 := by
      have t0 : ((j 0).val / b / 2 + 1) * (2 * b) ≤ a * (2 * b) := Nat.mul_le_mul_right _ hA
      have t1 := hrow
      rw [Nat.add_zero, Nat.mul_assoc] at t1
      rw [Nat.add_one_mul, ← Nat.mul_assoc a, hab] at t0
      generalize (j 0).val / b / 2 * (2 * b) = u at t0 t1
      omega
    have hf : flip s j = row128 ((j 0).val + b) hlt (j 1) := place_ext (by rw [flip_row _ _ (by rw [hx]; exact hlt), hx]) (by rw [flip_col])
    rw [concatenate_pair_apply_left 1 _ _ h5 _ rfl (ValueIdx.ix4 (n0 := a) (n1 := 1) (n2 := b) (n3 := 128) ⟨_, hA⟩ 0 ⟨_, hC⟩ (j 1)) (fun x => by
      match x with
      | ⟨0, _⟩ => rfl
      | ⟨1, _⟩ => exact h0.symm
      | ⟨2, _⟩ => rfl
      | ⟨3, _⟩ => rfl), mk, lower_apply]
    refine congrArg₂ (lo d) ((half_apply c 0 h1 h2 h3 (by decide) ⟨_, hA⟩ ⟨_, hC⟩ (j 1) (j 0).val hj hrow).trans (congrArg c self.symm))
      ((half_apply c 1 h1 h2' h3 (by decide) ⟨_, hA⟩ ⟨_, hC⟩ (j 1) ((j 0).val + b) hlt ?_).trans (congrArg c hf.symm))
    show ((j 0).val / b / 2 * 2 + 1) * b + (j 0).val % b = _
    rw [Nat.add_mul] at hrow ⊢
    omega
  · have h0 : (j 0).val / b % 2 = 1 := by omega
    rw [if_pos (by rw [h0]; decide)]
    rw [h0] at hrow
    obtain ⟨hle, hx⟩ := xor_set (j 0).val s (by rw [hbit, h0]; rfl)
    rw [← hb] at hle
    have hlt : (j 0).val - b < 128 := by omega
    have hf : flip s j = row128 ((j 0).val - b) hlt (j 1) := place_ext (by rw [flip_row _ _ (by rw [hx, ← hb]; exact hlt), hx, ← hb]) (by rw [flip_col])
    rw [concatenate_pair_apply_right 1 _ _ h5 _ rfl rfl (ValueIdx.ix4 (n0 := a) (n1 := 1) (n2 := b) (n3 := 128) ⟨_, hA⟩ 0 ⟨_, hC⟩ (j 1)) (fun x hne => by
      match x with
      | ⟨0, _⟩ => rfl
      | ⟨1, _⟩ => exact absurd rfl hne
      | ⟨2, _⟩ => rfl
      | ⟨3, _⟩ => rfl) (by
        show 0 + 1 = (j 0).val / b % 2
        omega), mk, upper_apply]
    refine congrArg₂ (up d) ((half_apply c 0 h1 h2 h3 (by decide) ⟨_, hA⟩ ⟨_, hC⟩ (j 1) ((j 0).val - b) hlt ?_).trans (congrArg c hf.symm))
      ((half_apply c 1 h1 h2' h3 (by decide) ⟨_, hA⟩ ⟨_, hC⟩ (j 1) (j 0).val hj hrow).trans (congrArg c self.symm))
    show ((j 0).val / b / 2 * 2 + 0) * b + (j 0).val % b = _
    rw [Nat.add_mul] at hrow ⊢
    omega

/-- The exchange at stride 64, as the program writes it. -/
theorem ex64_eq (d : Bool) (c : FVec Ideal S128x128 .f32) : ex64 d c = exch (n := 128) 6 (fun _ => d) c :=
  split_exch (a := 1) (b := 64) rfl rfl d c _ _ _ _ _ _ _
/-- The exchange at stride 32, as the program writes it. -/
theorem ex32_eq (d : Bool) (c : FVec Ideal S128x128 .f32) : ex32 d c = exch (n := 128) 5 (fun _ => d) c :=
  split_exch (a := 2) (b := 32) rfl rfl d c _ _ _ _ _ _ _
/-- The exchange at stride 16, as the program writes it. -/
theorem ex16_eq (d : Bool) (c : FVec Ideal S128x128 .f32) : ex16 d c = exch (n := 128) 4 (fun _ => d) c :=
  split_exch (a := 4) (b := 16) rfl rfl d c _ _ _ _ _ _ _
/-- The exchange at stride 8, as the program writes it. -/
theorem ex8_eq (d : Bool) (c : FVec Ideal S128x128 .f32) : ex8 d c = exch (n := 128) 3 (fun _ => d) c :=
  split_exch (a := 8) (b := 8) rfl rfl d c _ _ _ _ _ _ _

/-! ## Rotations under a mask -/

/-- A column spread over the columns. -/
theorem spread_apply {α : Type} (m : S128x1.Idx → α) (h : S128x1.Broadcasts S128x128) (j : S128x128.Idx) :
    broadcastTo S128x128 m h j = m (ValueIdx.ix2 (n0 := 128) (n1 := 1) (j 0) 0) :=
  broadcastTo_apply m h j _ fun a => by
    match a with
    | ⟨0, _⟩ => rfl
    | ⟨1, _⟩ => rfl

/-- The mask holds of the rows whose bit `s` is clear. -/
def Marks (s : ℕ) (m : IVec S128x1 1) : Prop := ∀ r : Fin 128, m (ValueIdx.ix2 (n0 := 128) (n1 := 1) r 0) = if r.val.testBit s then 0#1 else 1#1

/-- Rows rotated by `h = 2 ^ s` both ways and selected under the mask of bit `s`: the exchange at stride `2 ^ s`. -/
theorem turn_exch {h g s : ℕ} (hs : s < 7) (hh : h = 2 ^ s) (hg : h + g = 128) (d : Bool) (m : IVec S128x1 1) (hm : Marks s m) (c : (Grid 128).Idx → EReal)
    (a1 : (Grid 128).Slices ![h, 0] (Grid g)) (a2 : (Grid 128).Slices ![0, 0] (Grid h)) (a3 : Shape.Concatenates [Grid g, Grid h] (Grid 128) 0)
    (b1 : (Grid 128).Slices ![g, 0] (Grid h)) (b2 : (Grid 128).Slices ![0, 0] (Grid g)) (b3 : Shape.Concatenates [Grid h, Grid g] (Grid 128) 0)
    (c1 : S128x1.ShapeCasts S128x1) (c2 : S128x1.Broadcasts S128x128) :
    select (broadcastTo S128x128 (shapeCast S128x1 m c1) c2)
      (lower (F := Ideal) d c (concatenate (Grid 128) 0 [⟨Grid g, extractStridedSlice (Grid g) ![h, 0] c a1⟩, ⟨Grid h, extractStridedSlice (Grid h) ![0, 0] c a2⟩] a3))
      (upper (F := Ideal) d c (concatenate (Grid 128) 0 [⟨Grid h, extractStridedSlice (Grid h) ![g, 0] c b1⟩, ⟨Grid g, extractStridedSlice (Grid g) ![0, 0] c b2⟩] b3))
      = exch s (fun _ => d) c := by
  funext j
  have hj : (j 0).val < 128 := ValueIdx.idx2_lt0 j
  rw [select_apply, spread_apply, shapeCast_self, lower_apply, upper_apply, show m (ValueIdx.ix2 (n0 := 128) (n1 := 1) (j 0) 0) = _ from hm (j 0)]
  unfold exch
  cases hb : (j 0).val.testBit s with
  | false =>
    have hx : (j 0).val ^^^ 2 ^ s = (j 0).val + h := (xor_clear _ _ hb).trans (by rw [hh])
    have hlt : (j 0).val ^^^ 2 ^ s < 128 := Nat.xor_lt_two_pow (n := 7) hj (Nat.pow_lt_pow_right (by decide) hs)
    have hlt' : (j 0).val + h < 128 := hx ▸ hlt
    rw [if_neg (by decide), select_one]
    refine congrArg (lo d (c j)) ?_
    rw [concatenate_pair_apply_left 0 _ _ a3 j rfl (ValueIdx.ix2 (n0 := g) (n1 := 128) ⟨(j 0).val, by omega⟩ (j 1)) (fun x => by
      match x with
      | ⟨0, _⟩ => rfl
      | ⟨1, _⟩ => rfl)]
    refine extractStridedSlice_apply _ _ a1 _ _ fun x => ?_
    match x with
    | ⟨0, _⟩ =>
      show (flip s j 0).val = h + (j 0).val
      rw [flip_row _ _ hlt, hx, Nat.add_comm]
    | ⟨1, _⟩ =>
      show (flip s j 1).val = 0 + (j 1).val
      rw [flip_col, Nat.zero_add]
  | true =>
    obtain ⟨hle, hx⟩ := xor_set _ _ hb
    rw [← hh] at hle
    replace hx : (j 0).val ^^^ 2 ^ s = (j 0).val - h := hx.trans (by rw [hh])
    have hlt : (j 0).val ^^^ 2 ^ s < 128 := by rw [hx]; omega
    rw [if_pos rfl, if_pos rfl, select_zero]
    have sym : ∀ a b, up d a b = up d b a := fun a b => by unfold up; rw [min_comm, max_comm]
    rw [sym]
    refine congrArg (fun z => up d z (c j)) ?_
    rw [concatenate_pair_apply_right 0 _ _ b3 j rfl rfl (ValueIdx.ix2 (n0 := g) (n1 := 128) ⟨(j 0).val - h, by omega⟩ (j 1)) (fun x hne => by
      match x with
      | ⟨0, _⟩ => exact absurd rfl hne
      | ⟨1, _⟩ => rfl) (by show (j 0).val - h + h = (j 0).val; omega)]
    refine extractStridedSlice_apply _ _ b2 _ _ fun x => ?_
    match x with
    | ⟨0, _⟩ =>
      show (flip s j 0).val = 0 + ((j 0).val - h)
      rw [flip_row _ _ hlt, hx, Nat.zero_add]
    | ⟨1, _⟩ =>
      show (flip s j 1).val = 0 + (j 1).val
      rw [flip_col, Nat.zero_add]

/-- The exchange at stride 4, as the program writes it. -/
theorem ex4_eq (d : Bool) (m : IVec S128x1 1) (hm : Marks 2 m) (c : FVec Ideal S128x128 .f32) : ex4 d m c = exch (n := 128) 2 (fun _ => d) c :=
  turn_exch (h := 4) (g := 124) (by decide) rfl rfl d m hm c _ _ _ _ _ _ _ _
/-- The exchange at stride 2, as the program writes it. -/
theorem ex2_eq (d : Bool) (m : IVec S128x1 1) (hm : Marks 1 m) (c : FVec Ideal S128x128 .f32) : ex2 d m c = exch (n := 128) 1 (fun _ => d) c :=
  turn_exch (h := 2) (g := 126) (by decide) rfl rfl d m hm c _ _ _ _ _ _ _ _
/-- The exchange at stride 1, as the program writes it. -/
theorem ex1_eq (d : Bool) (m : IVec S128x1 1) (hm : Marks 0 m) (c : FVec Ideal S128x128 .f32) : ex1 d m c = exch (n := 128) 0 (fun _ => d) c :=
  turn_exch (h := 1) (g := 127) (by decide) rfl rfl d m hm c _ _ _ _ _ _ _ _

end Cert.Nets
end
-- ==== Proof.Chunks.lean ====
/-
  The networks inside a chunk with their masks and their columns of signs filled in, as lists of exchanges.
-/
module

public import proofs.«01_k».proof.Proof.Exchange

@[expose] public section

noncomputable section

namespace Cert.Nets

open Idealize.ShloMosaic Cert.KernelIdeal Cert.KernelIdeal.Gen

/-! ## The masks -/

/-- The column of the comparisons of the row numbers' bits under `w` with zero, at a row. -/
theorem mark_apply (w : BitVec 32) (r : Fin 128) :
    (cmpi .eq (andi (iota .tc S128x1 32 [0] iota_S128x1_d0_w32) (broadcast S128x1 w)) (broadcast S128x1 0#32) : IVec S128x1 1)
        (ValueIdx.ix2 (n0 := 128) (n1 := 1) r 0)
      = Scalar.cmpi .eq (Scalar.andi (BitVec.ofNat 32 (0 * 128 + r.val)) w) 0#32 := rfl

/-- Bit 0. -/
theorem marks0 : Marks 0 k0_pay270 := fun r => (mark_apply 1#32 r).trans (by revert r; decide +kernel)
/-- Bit 1. -/
theorem marks1 : Marks 1 k0_pay271 := fun r => (mark_apply 2#32 r).trans (by revert r; decide +kernel)
/-- Bit 2. -/
theorem marks2 : Marks 2 k0_pay272 := fun r => (mark_apply 4#32 r).trans (by revert r; decide +kernel)
/-- Bit 3. -/
theorem marks3 : Marks 3 k0_pay275 := fun r => (mark_apply 8#32 r).trans (by revert r; decide +kernel)

/-! ## The networks -/

/-- Stride 1. -/
theorem net1_eq (d : Bool) (c : FVec Ideal S128x128 .f32) : net1 d k0_pay270 c = net (n := 128) [0] (fun _ => d) c := ex1_eq d _ marks0 c
/-- Strides 2, 1. -/
theorem net2_eq (d : Bool) (c : FVec Ideal S128x128 .f32) : net2 d k0_pay270 k0_pay271 c = net (n := 128) [1, 0] (fun _ => d) c :=
  (net1_eq d _).trans (congrArg _ (ex2_eq d _ marks1 c))
/-- Strides 4, 2, 1. -/
theorem net3_eq (d : Bool) (c : FVec Ideal S128x128 .f32) : net3 d k0_pay270 k0_pay271 k0_pay272 c = net (n := 128) [2, 1, 0] (fun _ => d) c :=
  (net2_eq d _).trans (congrArg _ (ex4_eq d _ marks2 c))
/-- Strides 8, 4, 2, 1. -/
theorem net4_eq (d : Bool) (c : FVec Ideal S128x128 .f32) : net4 d k0_pay270 k0_pay271 k0_pay272 c = net (n := 128) [3, 2, 1, 0] (fun _ => d) c :=
  (net3_eq d _).trans (congrArg _ (ex8_eq d c))
/-- Strides 16, 8, 4, 2, 1. -/
theorem net5_eq (d : Bool) (c : FVec Ideal S128x128 .f32) : net5 d k0_pay270 k0_pay271 k0_pay272 c = net (n := 128) [4, 3, 2, 1, 0] (fun _ => d) c :=
  (net4_eq d _).trans (congrArg _ (ex16_eq d c))
/-- Strides 32, 16, 8, 4, 2, 1. -/
theorem net6_eq (d : Bool) (c : FVec Ideal S128x128 .f32) : net6 d k0_pay270 k0_pay271 k0_pay272 c = net (n := 128) [5, 4, 3, 2, 1, 0] (fun _ => d) c :=
  (net5_eq d _).trans (congrArg _ (ex32_eq d c))
/-- Strides 64, 32, 16, 8, 4, 2, 1. -/
theorem net7_eq (d : Bool) (c : FVec Ideal S128x128 .f32) : net7 d k0_pay270 k0_pay271 k0_pay272 c = net (n := 128) [6, 5, 4, 3, 2, 1, 0] (fun _ => d) c :=
  (net6_eq d _).trans (congrArg _ (ex64_eq d c))

/-! ## The signs -/

/-- The entries of the rows where `w` holds, negated. -/
def signed {n : ℕ} (w : ℕ → Bool) (x : (Grid n).Idx → EReal) : (Grid n).Idx → EReal := fun i => if w (i 0).val then -x i else x i

/-- An ascending exchange of the signed entries is the exchange of the entries in the direction of the sign, where a pair has one sign. -/
theorem exch_signed {n : ℕ} (s : ℕ) (w : ℕ → Bool) (hw : ∀ i : (Grid n).Idx, w (flip s i 0).val = w (i 0).val) (x : (Grid n).Idx → EReal) :
    exch s (fun _ => false) (signed w x) = signed w (exch s w x) := by
  funext i
  unfold exch signed
  rw [hw i]
  cases hc : w (i 0).val <;> by_cases hb : (i 0).val.testBit s = true <;> simp only [hb, lo, up, EReal.min_neg_neg, EReal.max_neg_neg, if_true, if_false, Bool.false_eq_true] <;> rw [hc] <;> rfl

/-- The same of a list of exchanges. -/
theorem net_signed {n : ℕ} (L : List ℕ) (w : ℕ → Bool) (hw : ∀ s ∈ L, ∀ i : (Grid n).Idx, w (flip s i 0).val = w (i 0).val) (x : (Grid n).Idx → EReal) :
    net L (fun _ => false) (signed w x) = signed w (net L w x) := by
  induction L generalizing x with
  | nil => rfl
  | cons s L ih =>
    show net L _ (exch s _ (signed w x)) = signed w (net L w (exch s w x))
    rw [exch_signed s w (hw s List.mem_cons_self), ih fun t ht => hw t (List.mem_cons_of_mem s ht)]

/-- The column is minus one on the rows whose bit `m` is set and one on the others. -/
def Signs (m : ℕ) (v : FVec Ideal S128x1 .f32) : Prop :=
  ∀ r : Fin 128, v (ValueIdx.ix2 (n0 := 128) (n1 := 1) r 0) = if r.val.testBit m then (-1 : EReal) else 1

/-- A product with the column. -/
theorem mul_signs (m : ℕ) (v : FVec Ideal S128x1 .f32) (hv : Signs m v) (x : FVec Ideal S128x128 .f32) :
    mulf x (broadcastTo S128x128 v broadcasts_S128x1_S128x128) = signed (n := 128) (fun r => r.testBit m) x := by
  funext j
  show x j * broadcastTo S128x128 v broadcasts_S128x1_S128x128 j = _
  rw [spread_apply, show v (ValueIdx.ix2 (n0 := 128) (n1 := 1) (j 0) 0) = _ from hv (j 0)]
  unfold signed
  show x j * (if (j 0).val.testBit m then (-1 : EReal) else 1) = if (j 0).val.testBit m then -x j else x j
  split
  · rw [mul_neg, mul_one]
  · exact mul_one (M := EReal) _

/-- An ascending network between two multiplications by the signs of bit `m` is the network in the direction of bit `m`. -/
theorem flipped_eq (m : ℕ) (v : FVec Ideal S128x1 .f32) (hv : Signs m v) (n : FVec Ideal S128x128 .f32 → FVec Ideal S128x128 .f32) (L : List ℕ)
    (hL : ∀ s ∈ L, s ≠ m) (hn : ∀ c, n c = net (n := 128) L (fun _ => false) c) (c : FVec Ideal S128x128 .f32) :
    flipped v n c = net (n := 128) L (fun r => r.testBit m) c := by
  unfold flipped
  rw [mul_signs m v hv, mul_signs m v hv, hn, net_signed L _ fun s hs i => flip_bit s m (hL s hs) i]
  funext j
  unfold signed
  show (if (j 0).val.testBit m then -(if (j 0).val.testBit m then _ else _) else if (j 0).val.testBit m then _ else _) = _
  cases (j 0).val.testBit m
  · rfl
  · exact neg_neg _

/-- The pattern of minus one. -/
theorem ofBits_minus_one : Ideal.ofBits .f32 0xBF800000#32 = -1 := by
  rw [show (-1 : EReal) = ((-1 : ℝ) : EReal) by rw [EReal.coe_neg, EReal.coe_one]]
  simp [Ideal.ofBits, Ideal.ieee, -EReal.coe_mul, -EReal.coe_neg]; norm_num

/-- The signs under the mask of a bit. -/
theorem signs_of (m : ℕ) (w : IVec S128x1 1) (hw : Marks m w) :
    Signs m (select w (broadcast S128x1 (Scalar.ofBits (F := Ideal) .f32 0x3F800000#32)) (broadcast S128x1 (Scalar.ofBits (F := Ideal) .f32 0xBF800000#32))) := by
  intro r
  show Scalar.select (w (ValueIdx.ix2 (n0 := 128) (n1 := 1) r 0)) (Ideal.ofBits .f32 0x3F800000#32) (Ideal.ofBits .f32 0xBF800000#32) = _
  rw [hw r, Ideal.ofBits_one_f32, ofBits_minus_one]
  cases r.val.testBit m
  · exact ValueIdx.select_one _ _
  · exact ValueIdx.select_zero _ _

/-- The signs of bit 1. -/
theorem signs1 : Signs 1 k0_pay273 := signs_of 1 _ fun r => (mark_apply 2#32 r).trans (by revert r; decide +kernel)
/-- The signs of bit 2. -/
theorem signs2 : Signs 2 k0_pay274 := signs_of 2 _ fun r => (mark_apply 4#32 r).trans (by revert r; decide +kernel)
/-- The signs of bit 3. -/
theorem signs3 : Signs 3 (select k0_pay275 k0_pay276 k0_pay277) := signs_of 3 _ marks3
/-- The signs of bit 4. -/
theorem signs4 : Signs 4 (k0_pay278 (iota .tc S128x1 32 [0] iota_S128x1_d0_w32)) :=
  signs_of 4 _ fun r => (mark_apply 16#32 r).trans (by revert r; decide +kernel)
/-- The signs of bit 5. -/
theorem signs5 : Signs 5 (k0_pay279 (iota .tc S128x1 32 [0] iota_S128x1_d0_w32)) :=
  signs_of 5 _ fun r => (mark_apply 32#32 r).trans (by revert r; decide +kernel)
/-- The signs of bit 6. -/
theorem signs6 : Signs 6 (k0_pay280 (iota .tc S128x1 32 [0] iota_S128x1_d0_w32)) :=
  signs_of 6 _ fun r => (mark_apply 64#32 r).trans (by revert r; decide +kernel)

end Cert.Nets
end
-- ==== Proof.Sweeps.lean ====
/-
  A pass over the buffer, block by block, as one function of its rows: the chunk passes, the pair passes and the quad passes each run a list of
  exchanges on the rows whose bit `b` is the pass's direction, given where the trips' blocks lie.
-/
module

public import proofs.«01_k».proof.Proof.Chunks

@[expose] public section

noncomputable section

namespace Cert.Nets

open Idealize.ShloMosaic Idealize.ShloMosaic.ValueIdx Cert.KernelIdeal Cert.KernelIdeal.Gen

/-- Trips that each rewrite the places they own, from the owned places alone, together rewrite every owned place from the entries before all of them. -/
theorem sweep_own {ι α : Type} (T : ℕ) (step : Fin T → (ι → α) → ι → α) (P : (ι → α) → ι → α) (own : ι → ℕ)
    (hstep : ∀ (k : Fin T) x i, step k x i = if own i = k.val then P x i else x i)
    (hloc : ∀ x y i, own i < T → (∀ j, own j = own i → x j = y j) → P x i = P y i) (x : ι → α) (i : ι) :
    sweep T step x i = if own i < T then P x i else x i := by
  have key : ∀ n ≤ T, ∀ i, trips T step x n i = if own i < n then P x i else x i := by
    intro n
    induction n with
    | zero => intro _ i; rw [if_neg (Nat.not_lt_zero _)]; rfl
    | succ n ih =>
      intro hn i
      rw [trips_succ T step x ⟨n, hn⟩, hstep]
      by_cases h : own i = n
      · rw [if_pos h, if_pos (by omega)]
        refine hloc _ _ i (by omega) fun j hj => ?_
        rw [ih (by omega), if_neg (by omega)]
      · rw [if_neg h, ih (by omega)]
        by_cases h2 : own i < n
        · rw [if_pos h2, if_pos (by omega)]
        · rw [if_neg h2, if_neg (by omega)]
  exact key T (le_refl T) i

/-- The bit `p` taken out of a number. -/
def without (p b : ℕ) : ℕ := b % 2 ^ p + b / 2 ^ (p + 1) * 2 ^ p

/-- The rows of a window put at rows `o 0 …` are the payload's, the others are kept. -/
theorem put_rows {n h : ℕ} (x : (Grid n).Idx → EReal) (o : Fin 2 → ℕ) (ho : o 1 = 0) (w : (Grid h).Idx → EReal) (i : (Grid n).Idx) :
    VecWindow.put (s := Grid n) x o (Grid h).size w i
      = if hr : o 0 ≤ (i 0).val ∧ (i 0).val < o 0 + h then w (ValueIdx.ix2 (n0 := h) (n1 := 128) ⟨(i 0).val - o 0, by omega⟩ (i 1)) else x i := by
  unfold VecWindow.put
  by_cases hr : o 0 ≤ (i 0).val ∧ (i 0).val < o 0 + h
  · have hall : ∀ a, o a ≤ (i a).val ∧ (i a).val < o a + (Grid h).size a := fun a => by
      match a with
      | ⟨0, _⟩ => exact hr
      | ⟨1, _⟩ =>
        have h1 := ValueIdx.idx2_lt1 i
        have h2 : o ⟨1, by decide⟩ = 0 := ho
        show o ⟨1, _⟩ ≤ (i 1).val ∧ (i 1).val < o ⟨1, _⟩ + 128
        omega
    rw [dif_pos hall, dif_pos hr]
    refine congrArg w (place_ext (n := h) rfl ?_)
    show (i 1).val - o 1 = (i 1).val
    omega
  · rw [dif_neg hr, dif_neg fun hall => hr (hall 0)]

/-- A window at rows `o 0 …` read at a place. -/
theorem window_rows {n h : ℕ} (x : (Grid n).Idx → EReal) (o : Fin 2 → ℕ) (ho : o 1 = 0) (inb : ∀ a, o a + (Grid h).size a ≤ (Grid n).size a)
    (j : (Grid h).Idx) (i : (Grid n).Idx) (h0 : (i 0).val = o 0 + (j 0).val) (h1 : (i 1).val = (j 1).val) :
    VecWindow.window (s := Grid n) x o (Grid h).size inb j = x i := by
  unfold VecWindow.window
  refine congrArg x (place_ext ?_ ?_)
  · show o 0 + 1 * (j 0).val = _
    omega
  · show o 1 + 1 * (j 1).val = _
    omega

/-! ## Chunks of 128 rows -/

/-- The chunk `q` of the rows. -/
def chunk (q : ℕ) (x : (Grid 65536).Idx → EReal) : (Grid 128).Idx → EReal := fun j =>
  x (ValueIdx.ix2 (n0 := 65536) (n1 := 128) ⟨(128 * q + (j 0).val) % 65536, Nat.mod_lt _ (by decide)⟩ (j 1))

/-- The row `128 q + t` and its bits below 7. -/
theorem chunk_bit (q t s : ℕ) (ht : t < 128) (hs : s < 7) : (128 * q + t).testBit s = t.testBit s := by
  have : t = (128 * q + t) % 2 ^ 7 := by omega
  rw [this, Nat.testBit_mod_two_pow, ← this]; simp [hs]

/-- Flipping a bit below 7 stays in the chunk. -/
theorem chunk_xor (q t s : ℕ) (ht : t < 128) (hs : s < 7) : (128 * q + t) ^^^ 2 ^ s = 128 * q + (t ^^^ 2 ^ s) := by
  cases h : t.testBit s with
  | false => rw [xor_clear _ _ h, xor_clear _ _ ((chunk_bit q t s ht hs).trans h), Nat.add_assoc]
  | true =>
    have h1 := xor_set _ _ h
    have h2 := xor_set _ _ ((chunk_bit q t s ht hs).trans h)
    omega

/-- A chunk of the exchanged rows is the exchanged chunk. -/
theorem chunk_exch (q : ℕ) (hq : q < 512) (s : ℕ) (hs : s < 7) (w : ℕ → Bool) (x : (Grid 65536).Idx → EReal) :
    chunk q (exch s (fun r => w (r % 128)) x) = exch s w (chunk q x) := by
  funext j
  have hj : (j 0).val < 128 := ValueIdx.idx2_lt0 j
  have hf : (flip s j 0).val = (j 0).val ^^^ 2 ^ s := flip_row_pow (p := 7) rfl hs j
  have hfl : (j 0).val ^^^ 2 ^ s < 128 := hf ▸ ValueIdx.idx2_lt0 (flip s j)
  have e : flip s (ValueIdx.ix2 (n0 := 65536) (n1 := 128) ⟨(128 * q + (j 0).val) % 65536, Nat.mod_lt _ (by decide)⟩ (j 1))
      = ValueIdx.ix2 (n0 := 65536) (n1 := 128) ⟨(128 * q + (flip s j 0).val) % 65536, Nat.mod_lt _ (by decide)⟩ (flip s j 1) := by
    refine place_ext ?_ ?_
    · rw [flip_row_pow (p := 16) rfl (by omega)]
      show ((128 * q + (j 0).val) % 65536) ^^^ 2 ^ s = (128 * q + (flip s j 0).val) % 65536
      rw [hf, Nat.mod_eq_of_lt (by omega), Nat.mod_eq_of_lt (by omega), chunk_xor _ _ _ hj hs]
    · rw [flip_col, flip_col]
  unfold chunk exch
  show (if ((128 * q + (j 0).val) % 65536).testBit s then up (w ((128 * q + (j 0).val) % 65536 % 128)) _ _
    else lo (w ((128 * q + (j 0).val) % 65536 % 128)) _ _) = _
  rw [e, show ((128 * q + (j 0).val) % 65536).testBit s = (j 0).val.testBit s by
      rw [Nat.mod_eq_of_lt (by omega), chunk_bit _ _ _ hj hs], show (128 * q + (j 0).val) % 65536 % 128 = (j 0).val by omega]

/-- A chunk of the rows after a list of exchanges. -/
theorem chunk_net (q : ℕ) (hq : q < 512) (w : ℕ → Bool) (L : List ℕ) (hL : ∀ s ∈ L, s < 7) (x : (Grid 65536).Idx → EReal) :
    chunk q (net L (fun r => w (r % 128)) x) = net L w (chunk q x) := by
  induction L generalizing x with
  | nil => rfl
  | cons s L ih =>
    show chunk q (net L _ (exch s _ x)) = net L w (exch s w (chunk q x))
    rw [ih (fun t ht => hL t (List.mem_cons_of_mem s ht)), chunk_exch q hq s (hL s List.mem_cons_self)]

/-- The chunk that holds a row, at the row. -/
theorem chunk_at (x : (Grid 65536).Idx → EReal) (i : (Grid 65536).Idx) :
    chunk ((i 0).val / 128) x (ValueIdx.ix2 (n0 := 128) (n1 := 128) ⟨(i 0).val % 128, Nat.mod_lt _ (by decide)⟩ (i 1)) = x i := by
  have := ValueIdx.idx2_lt0 i
  refine congrArg x (place_ext ?_ rfl)
  show (128 * ((i 0).val / 128) + (i 0).val % 128) % 65536 = _
  omega

/-- The trips' chunks are exactly the chunks whose number has bit `e` equal to `d`, in order. -/
abbrev ChunkPlan (e : ℕ) (d : Bool) (T : ℕ) (o : Fin T → Fin 2 → ℕ) : Prop :=
  (∀ k : Fin T, o k 1 = 0 ∧ o k 0 = 128 * (o k 0 / 128) ∧ (o k 0 / 128).testBit e = d ∧ without e (o k 0 / 128) = k.val ∧ o k 0 / 128 < 512)
    ∧ ∀ q : Fin 512, q.val.testBit e = d → ∃ h : without e q.val < T, o ⟨without e q.val, h⟩ 0 = 128 * q.val

/-- A CHUNK PASS: the network of each chunk is run on the chunks of the plan. -/
theorem chunk_sweep (e : ℕ) (d : Bool) (T : ℕ) (o : Fin T → Fin 2 → ℕ) (plan : ChunkPlan e d T o) (inb : ∀ k a, o k a + S128x128.size a ≤ S65536x128.size a)
    (n : FVec Ideal S128x128 .f32 → FVec Ideal S128x128 .f32) (w : ℕ → Bool) (L : List ℕ) (hL : ∀ s ∈ L, s < 7)
    (hn : ∀ c, n c = net (n := 128) L w c) (x : Rows Ideal) (i : S65536x128.Idx) :
    sweep T (fun k => chunkStep n (o k) (inb k)) x i
      = if (i 0).val.testBit (e + 7) = d then net (n := 65536) L (fun r => w (r % 128)) x i else x i := by
  have bit : ∀ i : S65536x128.Idx, (i 0).val.testBit (e + 7) = ((i 0).val / 128).testBit e := fun i =>
    (Nat.testBit_div_two_pow (n := 7) (i 0).val e).symm
  have lt : ∀ i : S65536x128.Idx, (i 0).val / 128 < 512 := fun i => by have := ValueIdx.idx2_lt0 i; omega
  let own : S65536x128.Idx → ℕ := fun i => if ((i 0).val / 128).testBit e = d then without e ((i 0).val / 128) else T
  have red : ∀ (x : Rows Ideal) (i : S65536x128.Idx), net (n := 65536) L (fun r => w (r % 128)) x i
      = net (n := 128) L w (chunk ((i 0).val / 128) x) (ValueIdx.ix2 (n0 := 128) (n1 := 128) ⟨(i 0).val % 128, Nat.mod_lt _ (by decide)⟩ (i 1)) := fun x i => by
    rw [← chunk_net _ (lt i) w L hL]; exact (chunk_at _ i).symm
  have h := sweep_own T (fun k => chunkStep n (o k) (inb k)) (fun x i => net (n := 65536) L (fun r => w (r % 128)) x i) own ?_ ?_ x i
  · rw [h, bit]
    by_cases hb : ((i 0).val / 128).testBit e = d
    · obtain ⟨hk, -⟩ := plan.2 ⟨_, lt i⟩ hb
      rw [if_pos hb, if_pos (show own i < T by show (if _ then _ else _) < T; rw [if_pos hb]; exact hk)]
    · rw [if_neg hb, if_neg (show ¬own i < T by show ¬(if _ then _ else _) < T; rw [if_neg hb]; omega)]
  · intro k x i
    obtain ⟨ho, hm, hb, hw, hlt⟩ := plan.1 k
    unfold chunkStep
    rw [put_rows (n := 65536) (h := 128) x (o k) ho, shapeCast_self]
    by_cases hr : o k 0 ≤ (i 0).val ∧ (i 0).val < o k 0 + 128
    · have hq : (i 0).val / 128 = o k 0 / 128 := by omega
      rw [dif_pos hr, if_pos (show own i = k.val by show (if _ then _ else _) = _; rw [hq, if_pos hb, hw]), red, hn]
      have hc : VecWindow.window (s := S65536x128) x (o k) S128x128.size (inb k) = chunk ((i 0).val / 128) x := by
        funext j
        have hj : (j 0).val < 128 := ValueIdx.idx2_lt0 (n0 := 128) (n1 := 128) j
        refine window_rows (n := 65536) (h := 128) x (o k) ho (inb k) j _ ?_ rfl
        show (128 * ((i 0).val / 128) + (j 0).val) % 65536 = _
        have := lt i
        omega
      rw [hc]
      exact congrArg _ (place_ext (by show (i 0).val - o k 0 = (i 0).val % 128; omega) rfl)
    · rw [dif_neg hr, if_neg]
      intro hk
      apply hr
      have hk' : (if ((i 0).val / 128).testBit e = d then without e ((i 0).val / 128) else T) = k.val := hk
      by_cases hb' : ((i 0).val / 128).testBit e = d
      · rw [if_pos hb'] at hk'
        obtain ⟨hk2, hq⟩ := plan.2 ⟨_, lt i⟩ hb'
        have hkk : (⟨without e ((i 0).val / 128), hk2⟩ : Fin T) = k := Fin.ext hk'
        have hq' : o ⟨without e ((i 0).val / 128), hk2⟩ 0 = 128 * ((i 0).val / 128) := hq
        rw [hkk] at hq'
        omega
      · rw [if_neg hb'] at hk'
        have := k.isLt
        omega
  · intro x y i hi hxy
    show net (n := 65536) L (fun r => w (r % 128)) x i = net (n := 65536) L (fun r => w (r % 128)) y i
    rw [red, red]
    refine congrArg (fun c => net (n := 128) L w c _) (funext fun j => hxy _ ?_)
    have hj : (j 0).val < 128 := ValueIdx.idx2_lt0 (n0 := 128) (n1 := 128) j
    have := lt i
    have hq : ((128 * ((i 0).val / 128) + (j 0).val) % 65536) / 128 = (i 0).val / 128 := by omega
    show (if ((128 * ((i 0).val / 128) + (j 0).val) % 65536 / 128).testBit e = d then without e ((128 * ((i 0).val / 128) + (j 0).val) % 65536 / 128) else T) = _
    rw [hq]

/-! ## Blocks of 64 rows -/

/-- The exchange at one stride, at the two places of a compared pair. -/
theorem net_pair {n : ℕ} (s : ℕ) (d : Bool) (x : (Grid n).Idx → EReal) (a b : (Grid n).Idx) (ha : (a 0).val.testBit s = false)
    (hb : (b 0).val.testBit s = true) (fab : flip s a = b) (fba : flip s b = a) :
    exch s (fun _ => d) x a = lo d (x a) (x b) ∧ exch s (fun _ => d) x b = up d (x a) (x b) := by
  unfold exch
  rw [ha, hb, fab, fba]
  exact ⟨rfl, rfl⟩

/-- A place whose row is `2 ^ s` further, the bit `s` being clear. -/
theorem flip_pair (s : ℕ) (hs : s < 16) (a b : (Grid 65536).Idx) (ha : (a 0).val.testBit s = false) (hr : (b 0).val = (a 0).val + 2 ^ s)
    (hc : (b 1).val = (a 1).val) : flip s a = b ∧ flip s b = a := by
  have h1 : (a 0).val ^^^ 2 ^ s = (b 0).val := by rw [xor_clear _ _ ha, hr]
  constructor
  · refine place_ext ?_ ?_
    · rw [flip_row_pow (p := 16) rfl hs, h1]
    · rw [flip_col, hc]
  · refine place_ext ?_ ?_
    · rw [flip_row_pow (p := 16) rfl hs, ← h1, Nat.xor_assoc, Nat.xor_self, Nat.xor_zero]
    · rw [flip_col, hc]

/-- The trips' groups of `2 ^ M` blocks of 64 rows, `64 * 2 ^ v` rows apart, are exactly those of the blocks whose number has bit `e` equal to `d`; `wo`
    of a block number is its trip. -/
abbrev BlockPlan (M e v : ℕ) (d : Bool) (wo : ℕ → ℕ) (T : ℕ) (o : Fin T → Fin (2 ^ M) → Fin 2 → ℕ) : Prop :=
  (∀ (k : Fin T) (j : Fin (2 ^ M)), o k j 1 = 0 ∧ o k j 0 = 64 * (o k ⟨0, Nat.two_pow_pos M⟩ 0 / 64 + j.val * 2 ^ v) ∧ o k j 0 / 64 < 1024
      ∧ (o k j 0 / 64).testBit e = d ∧ wo (o k j 0 / 64) = k.val ∧ ∀ m : Fin M, (o k j 0 / 64).testBit (v + m.val) = j.val.testBit m.val)
    ∧ ∀ q : Fin 1024, q.val.testBit e = d → ∃ h : wo q.val < T, ∃ j : Fin (2 ^ M), o ⟨wo q.val, h⟩ j 0 / 64 = q.val

/-- Trips that each rewrite the blocks of their group, from the blocks of the group alone, together rewrite every block of the plan. -/
theorem block_sweep {M e v : ℕ} {d : Bool} {wo : ℕ → ℕ} {T : ℕ} {o : Fin T → Fin (2 ^ M) → Fin 2 → ℕ} (plan : BlockPlan M e v d wo T o)
    (step : Fin T → Rows Ideal → Rows Ideal) (P : Rows Ideal → Rows Ideal)
    (hin : ∀ k j x (i : S65536x128.Idx), (i 0).val / 64 = o k j 0 / 64 → step k x i = P x i)
    (hout : ∀ k x (i : S65536x128.Idx), (∀ j, (i 0).val / 64 ≠ o k j 0 / 64) → step k x i = x i)
    (hloc : ∀ k j x y (i : S65536x128.Idx), (i 0).val / 64 = o k j 0 / 64 →
      (∀ (j' : Fin (2 ^ M)) (i' : S65536x128.Idx), (i' 0).val / 64 = o k j' 0 / 64 → x i' = y i') → P x i = P y i)
    (x : Rows Ideal) (i : S65536x128.Idx) :
    sweep T step x i = if (i 0).val.testBit (e + 6) = d then P x i else x i := by
  have bit : ∀ i : S65536x128.Idx, (i 0).val.testBit (e + 6) = ((i 0).val / 64).testBit e := fun i =>
    (Nat.testBit_div_two_pow (n := 6) (i 0).val e).symm
  have lt : ∀ i : S65536x128.Idx, (i 0).val / 64 < 1024 := fun i => by have := ValueIdx.idx2_lt0 i; omega
  let own : S65536x128.Idx → ℕ := fun i => if ((i 0).val / 64).testBit e = d then wo ((i 0).val / 64) else T
  have own_in : ∀ (k : Fin T) j (i : S65536x128.Idx), (i 0).val / 64 = o k j 0 / 64 → own i = k.val := fun k j i hi => by
    obtain ⟨-, -, -, hd, hw, -⟩ := plan.1 k j
    show (if _ then _ else _) = _
    rw [hi, if_pos hd, hw]
  have own_out : ∀ (i : S65536x128.Idx), own i < T → ∃ k : Fin T, own i = k.val ∧ ∃ j, (i 0).val / 64 = o k j 0 / 64 := fun i hi => by
    have hi' : (if ((i 0).val / 64).testBit e = d then wo ((i 0).val / 64) else T) < T := hi
    by_cases hb : ((i 0).val / 64).testBit e = d
    · obtain ⟨h, j, hj⟩ := plan.2 ⟨_, lt i⟩ hb
      refine ⟨⟨_, h⟩, ?_, j, hj.symm⟩
      show (if _ then _ else _) = _
      rw [if_pos hb]
    · rw [if_neg hb] at hi'
      omega
  rw [sweep_own T step P own ?_ ?_ x i, bit]
  · by_cases hb : ((i 0).val / 64).testBit e = d
    · obtain ⟨h, -⟩ := plan.2 ⟨_, lt i⟩ hb
      rw [if_pos hb, if_pos (show own i < T by show (if _ then _ else _) < T; rw [if_pos hb]; exact h)]
    · rw [if_neg hb, if_neg (show ¬own i < T by show ¬(if _ then _ else _) < T; rw [if_neg hb]; omega)]
  · intro k x i
    by_cases hk : own i = k.val
    · obtain ⟨k', hk', j, hj⟩ := own_out i (by rw [hk]; exact k.isLt)
      obtain rfl : k' = k := Fin.ext (hk'.symm.trans hk)
      rw [if_pos hk, hin _ j x i hj]
    · rw [if_neg hk, hout k x i fun j hj => hk (own_in k j i hj)]
  · intro x y i hi hxy
    obtain ⟨k, hk, j, hj⟩ := own_out i hi
    exact hloc k j x y i hj fun j' i' hi' => hxy i' ((own_in k j' i' hi').trans hk.symm)

/-- The place at row `r`. -/
abbrev at64 (r : ℕ) (c : Fin 128) : S65536x128.Idx := ValueIdx.ix2 (n0 := 65536) (n1 := 128) ⟨r % 65536, Nat.mod_lt _ (by decide)⟩ c

/-- A bit of a row is a bit of its block's number. -/
theorem bit64 (b t v s : ℕ) (hs : s = v + 6) (c : Fin 128) (ht : t < 64) (hb : b < 1024) : ((at64 (64 * b + t) c) 0).val.testBit s = b.testBit v := by
  subst hs
  show ((64 * b + t) % 65536).testBit (v + 6) = b.testBit v
  have e : (64 * b + t) % 65536 / 2 ^ 6 = b := by omega
  rw [← Nat.testBit_div_two_pow, e]

/-- Rows of blocks `2 ^ v` blocks apart are exchanged with one another. -/
theorem flip64 (b b' t v s : ℕ) (hs : s = v + 6) (c : Fin 128) (ht : t < 64) (hb' : b' < 1024) (hv : v < 10) (hbit : b.testBit v = false) (h : b' = b + 2 ^ v) :
    flip s (at64 (64 * b + t) c) = at64 (64 * b' + t) c ∧ flip s (at64 (64 * b' + t) c) = at64 (64 * b + t) c := by
  have hbb := bit64 b t v s hs c ht (by have := Nat.two_pow_pos v; omega)
  subst hs
  have hpos := Nat.two_pow_pos v
  refine flip_pair (v + 6) (by omega) _ _ (hbb.trans hbit) ?_ rfl
  show (64 * b' + t) % 65536 = (64 * b + t) % 65536 + 2 ^ (v + 6)
  have : 2 ^ (v + 6) = 64 * 2 ^ v := by rw [Nat.pow_add]; omega
  omega

/-- A place in a block is the place at the block's row. -/
theorem eq_at64 (i : S65536x128.Idx) (b : ℕ) (h : (i 0).val / 64 = b) : i = at64 (64 * b + (i 0).val % 64) (i 1) := by
  have := ValueIdx.idx2_lt0 i
  refine place_ext (n := 65536) ?_ rfl
  show (i 0).val = (64 * b + (i 0).val % 64) % 65536
  omega

/-- A block put: its rows are the payload's. -/
theorem put64_in (x : Rows Ideal) (o : Fin 2 → ℕ) (ho : o 1 = 0) (hm : o 0 = 64 * (o 0 / 64)) (w : FVec Ideal S64x128 .f32) (i : S65536x128.Idx)
    (h : (i 0).val / 64 = o 0 / 64) :
    VecWindow.put (s := S65536x128) x o S64x128.size w i = w (ValueIdx.ix2 (n0 := 64) (n1 := 128) ⟨(i 0).val % 64, Nat.mod_lt _ (by decide)⟩ (i 1)) := by
  rw [put_rows (n := 65536) (h := 64) x o ho, dif_pos (by omega)]
  exact congrArg w (place_ext (n := 64) (by show (i 0).val - o 0 = (i 0).val % 64; omega) rfl)

/-- A block put: the other rows are kept. -/
theorem put64_out (x : Rows Ideal) (o : Fin 2 → ℕ) (ho : o 1 = 0) (hm : o 0 = 64 * (o 0 / 64)) (w : FVec Ideal S64x128 .f32) (i : S65536x128.Idx)
    (h : (i 0).val / 64 ≠ o 0 / 64) : VecWindow.put (s := S65536x128) x o S64x128.size w i = x i := by
  rw [put_rows (n := 65536) (h := 64) x o ho, dif_neg (by omega)]

/-- A block read. -/
theorem window64 (x : Rows Ideal) (o : Fin 2 → ℕ) (ho : o 1 = 0) (hm : o 0 = 64 * (o 0 / 64)) (hlt : o 0 / 64 < 1024)
    (inb : ∀ a, o a + S64x128.size a ≤ S65536x128.size a) (i : S65536x128.Idx) :
    VecWindow.window (s := S65536x128) x o S64x128.size inb (ValueIdx.ix2 (n0 := 64) (n1 := 128) ⟨(i 0).val % 64, Nat.mod_lt _ (by decide)⟩ (i 1))
      = x (at64 (64 * (o 0 / 64) + (i 0).val % 64) (i 1)) := by
  refine window_rows (n := 65536) (h := 64) x o ho inb _ _ ?_ rfl
  show (64 * (o 0 / 64) + (i 0).val % 64) % 65536 = o 0 + (i 0).val % 64
  omega

/-- A PAIR PASS: the exchange at stride 128 on the rows of the plan. -/
theorem pair_sweep (e : ℕ) (d : Bool) (wo : ℕ → ℕ) (T : ℕ) (o1 o2 : Fin T → Fin 2 → ℕ) (plan : BlockPlan 1 e 1 d wo T (fun k => ![o1 k, o2 k]))
    (h1 : ∀ k a, o1 k a + S64x128.size a ≤ S65536x128.size a) (h2 : ∀ k a, o2 k a + S64x128.size a ≤ S65536x128.size a) (x : Rows Ideal)
    (i : S65536x128.Idx) :
    sweep T (fun k => pairStep d (o1 k) (o2 k) (h1 k) (h2 k)) x i
      = if (i 0).val.testBit (e + 6) = d then net (n := 65536) [7] (fun _ => d) x i else x i := by
  have F : ∀ k : Fin T, (o1 k 1 = 0 ∧ o2 k 1 = 0) ∧ (o1 k 0 = 64 * (o1 k 0 / 64) ∧ o2 k 0 = 64 * (o2 k 0 / 64) ∧ o2 k 0 / 64 = o1 k 0 / 64 + 2 ^ 1)
      ∧ (o1 k 0 / 64 < 1024 ∧ o2 k 0 / 64 < 1024) ∧ (o1 k 0 / 64).testBit 1 = false ∧ (o2 k 0 / 64).testBit 1 = true := fun k => by
    obtain ⟨a1, a2, a3, -, -, a6⟩ := plan.1 k 0
    obtain ⟨b1, b2, b3, -, -, b6⟩ := plan.1 k 1
    have a2' : o1 k 0 = 64 * (o1 k 0 / 64 + 0 * 2 ^ 1) := a2
    have b2' : o2 k 0 = 64 * (o1 k 0 / 64 + 1 * 2 ^ 1) := b2
    exact ⟨⟨a1, b1⟩, ⟨by omega, by omega, by omega⟩, ⟨a3, b3⟩, a6 0, b6 0⟩
  have N : ∀ (k : Fin T) (x : Rows Ideal) (t : ℕ) (c : Fin 128), t < 64 →
      net (n := 65536) [7] (fun _ => d) x (at64 (64 * (o1 k 0 / 64) + t) c) = lo d (x (at64 (64 * (o1 k 0 / 64) + t) c)) (x (at64 (64 * (o2 k 0 / 64) + t) c))
      ∧ net (n := 65536) [7] (fun _ => d) x (at64 (64 * (o2 k 0 / 64) + t) c) = up d (x (at64 (64 * (o1 k 0 / 64) + t) c)) (x (at64 (64 * (o2 k 0 / 64) + t) c)) :=
    fun k x t c ht => by
      obtain ⟨-, ⟨-, -, e2⟩, ⟨l1, l2⟩, c1, c2⟩ := F k
      obtain ⟨f1, f2⟩ := flip64 _ _ t 1 7 rfl c ht l2 (by decide) c1 e2
      exact net_pair 7 d x (at64 (64 * (o1 k 0 / 64) + t) c) (at64 (64 * (o2 k 0 / 64) + t) c) ((bit64 _ t 1 7 rfl c ht l1).trans c1) ((bit64 _ t 1 7 rfl c ht l2).trans c2) f1 f2
  have W : ∀ (k : Fin T) (x : Rows Ideal) (i : S65536x128.Idx),
      ((i 0).val / 64 = o1 k 0 / 64 → pairStep d (o1 k) (o2 k) (h1 k) (h2 k) x i = net (n := 65536) [7] (fun _ => d) x i)
      ∧ ((i 0).val / 64 = o2 k 0 / 64 → pairStep d (o1 k) (o2 k) (h1 k) (h2 k) x i = net (n := 65536) [7] (fun _ => d) x i) := fun k x i => by
    obtain ⟨⟨z1, z2⟩, ⟨m1, m2, e2⟩, ⟨l1, l2⟩, -⟩ := F k
    have ht : (i 0).val % 64 < 64 := Nat.mod_lt _ (by decide)
    unfold pairStep
    constructor
    · intro hi
      rw [put64_out _ _ z2 m2 _ _ (by omega), put64_in _ _ z1 m1 _ _ hi, shapeCast_self, lower_apply, window64 _ _ z1 m1 l1, window64 _ _ z2 m2 l2]
      conv_rhs => rw [eq_at64 i _ hi]
      exact (N k x _ (i 1) ht).1.symm
    · intro hi
      rw [put64_in _ _ z2 m2 _ _ hi, shapeCast_self, upper_apply, window64 _ _ z1 m1 l1, window64 _ _ z2 m2 l2]
      conv_rhs => rw [eq_at64 i _ hi]
      exact (N k x _ (i 1) ht).2.symm
  refine block_sweep plan _ (net (n := 65536) [7] (fun _ => d)) ?_ ?_ ?_ x i
  · intro k j x i hi
    match j with
    | ⟨0, _⟩ => exact (W k x i).1 hi
    | ⟨1, _⟩ => exact (W k x i).2 hi
  · intro k x i hi
    obtain ⟨⟨z1, z2⟩, ⟨m1, m2, -⟩, -⟩ := F k
    show pairStep d (o1 k) (o2 k) (h1 k) (h2 k) x i = x i
    unfold pairStep
    rw [put64_out _ _ z2 m2 _ _ (hi 1), put64_out _ _ z1 m1 _ _ (hi 0)]
  · intro k j x y i hi hxy
    have ht : (i 0).val % 64 < 64 := Nat.mod_lt _ (by decide)
    obtain ⟨-, -, ⟨l1, l2⟩, -⟩ := F k
    have hr : ∀ b, b < 1024 → ((at64 (64 * b + (i 0).val % 64) (i 1)) 0).val / 64 = b := fun b hb => by
      show (64 * b + (i 0).val % 64) % 65536 / 64 = b
      omega
    have q1 := hxy 0 _ (hr _ l1)
    have q2 := hxy 1 _ (hr _ l2)
    match j with
    | ⟨0, _⟩ =>
      rw [eq_at64 i _ hi]
      exact ((N k x _ (i 1) ht).1.trans (congrArg₂ (lo d) q1 q2)).trans (N k y _ (i 1) ht).1.symm
    | ⟨1, _⟩ =>
      rw [eq_at64 i _ hi]
      exact ((N k x _ (i 1) ht).2.trans (congrArg₂ (up d) q1 q2)).trans (N k y _ (i 1) ht).2.symm

/-- Where the four blocks of a quad trip lie. -/
structure QuadAt (v : ℕ) (o1 o2 o3 o4 : Fin 2 → ℕ) : Prop where
  z1 : o1 1 = 0
  z2 : o2 1 = 0
  z3 : o3 1 = 0
  z4 : o4 1 = 0
  m1 : o1 0 = 64 * (o1 0 / 64)
  m2 : o2 0 = 64 * (o2 0 / 64)
  m3 : o3 0 = 64 * (o3 0 / 64)
  m4 : o4 0 = 64 * (o4 0 / 64)
  e2 : o2 0 / 64 = o1 0 / 64 + 2 ^ v
  e3 : o3 0 / 64 = o1 0 / 64 + 2 ^ (v + 1)
  e4 : o4 0 / 64 = o2 0 / 64 + 2 ^ (v + 1)
  e5 : o4 0 / 64 = o3 0 / 64 + 2 ^ v
  l1 : o1 0 / 64 < 1024
  l2 : o2 0 / 64 < 1024
  l3 : o3 0 / 64 < 1024
  l4 : o4 0 / 64 < 1024
  u1 : (o1 0 / 64).testBit v = false
  u2 : (o2 0 / 64).testBit v = true
  u3 : (o3 0 / 64).testBit v = false
  u4 : (o4 0 / 64).testBit v = true
  w1 : (o1 0 / 64).testBit (v + 1) = false
  w2 : (o2 0 / 64).testBit (v + 1) = false
  w3 : (o3 0 / 64).testBit (v + 1) = true
  w4 : (o4 0 / 64).testBit (v + 1) = true

/-- The four blocks of each trip of the plan. -/
theorem quad_of_plan {e v : ℕ} {d : Bool} {wo : ℕ → ℕ} {T : ℕ} {o1 o2 o3 o4 : Fin T → Fin 2 → ℕ}
    (plan : BlockPlan 2 e v d wo T (fun k => ![o1 k, o2 k, o3 k, o4 k])) (k : Fin T) : QuadAt v (o1 k) (o2 k) (o3 k) (o4 k) := by
  obtain ⟨a1, a2, a3, -, -, a6⟩ := plan.1 k ⟨0, by decide⟩
  obtain ⟨b1, b2, b3, -, -, b6⟩ := plan.1 k ⟨1, by decide⟩
  obtain ⟨c1, c2, c3, -, -, c6⟩ := plan.1 k ⟨2, by decide⟩
  obtain ⟨d1, d2, d3, -, -, d6⟩ := plan.1 k ⟨3, by decide⟩
  have hp : 2 ^ (v + 1) = 2 * 2 ^ v := by rw [Nat.pow_succ]; omega
  change o1 k 0 = 64 * (o1 k 0 / 64 + 0 * 2 ^ v) at a2
  change o2 k 0 = 64 * (o1 k 0 / 64 + 1 * 2 ^ v) at b2
  change o3 k 0 = 64 * (o1 k 0 / 64 + 2 * 2 ^ v) at c2
  change o4 k 0 = 64 * (o1 k 0 / 64 + 3 * 2 ^ v) at d2
  exact { z1 := a1, z2 := b1, z3 := c1, z4 := d1, m1 := by omega, m2 := by omega, m3 := by omega, m4 := by omega, e2 := by omega, e3 := by omega,
          e4 := by omega, e5 := by omega, l1 := a3, l2 := b3, l3 := c3, l4 := d3, u1 := (a6 ⟨0, by decide⟩).trans (by decide), u2 := (b6 ⟨0, by decide⟩).trans (by decide), u3 := (c6 ⟨0, by decide⟩).trans (by decide),
          u4 := (d6 ⟨0, by decide⟩).trans (by decide), w1 := (a6 ⟨1, by decide⟩).trans (by decide), w2 := (b6 ⟨1, by decide⟩).trans (by decide), w3 := (c6 ⟨1, by decide⟩).trans (by decide), w4 := (d6 ⟨1, by decide⟩).trans (by decide) }

/-- The two exchanges on the four blocks. -/
theorem quad_net {v : ℕ} (hv : v < 9) (d : Bool) {o1 o2 o3 o4 : Fin 2 → ℕ} (q : QuadAt v o1 o2 o3 o4) (x : Rows Ideal) (t : ℕ) (c : Fin 128) (ht : t < 64) :
    net (n := 65536) [v + 7, v + 6] (fun _ => d) x (at64 (64 * (o1 0 / 64) + t) c)
        = lo d (lo d (x (at64 (64 * (o1 0 / 64) + t) c)) (x (at64 (64 * (o3 0 / 64) + t) c))) (lo d (x (at64 (64 * (o2 0 / 64) + t) c)) (x (at64 (64 * (o4 0 / 64) + t) c)))
    ∧ net (n := 65536) [v + 7, v + 6] (fun _ => d) x (at64 (64 * (o2 0 / 64) + t) c)
        = up d (lo d (x (at64 (64 * (o1 0 / 64) + t) c)) (x (at64 (64 * (o3 0 / 64) + t) c))) (lo d (x (at64 (64 * (o2 0 / 64) + t) c)) (x (at64 (64 * (o4 0 / 64) + t) c)))
    ∧ net (n := 65536) [v + 7, v + 6] (fun _ => d) x (at64 (64 * (o3 0 / 64) + t) c)
        = lo d (up d (x (at64 (64 * (o1 0 / 64) + t) c)) (x (at64 (64 * (o3 0 / 64) + t) c))) (up d (x (at64 (64 * (o2 0 / 64) + t) c)) (x (at64 (64 * (o4 0 / 64) + t) c)))
    ∧ net (n := 65536) [v + 7, v + 6] (fun _ => d) x (at64 (64 * (o4 0 / 64) + t) c)
        = up d (up d (x (at64 (64 * (o1 0 / 64) + t) c)) (x (at64 (64 * (o3 0 / 64) + t) c))) (up d (x (at64 (64 * (o2 0 / 64) + t) c)) (x (at64 (64 * (o4 0 / 64) + t) c))) := by
  obtain ⟨f1, f2⟩ := flip64 _ _ t v (v + 6) rfl c ht q.l2 (by omega) q.u1 q.e2
  obtain ⟨f3, f4⟩ := flip64 _ _ t v (v + 6) rfl c ht q.l4 (by omega) q.u3 q.e5
  obtain ⟨f5, f6⟩ := flip64 _ _ t (v + 1) (v + 7) rfl c ht q.l3 (by omega) q.w1 q.e3
  obtain ⟨f7, f8⟩ := flip64 _ _ t (v + 1) (v + 7) rfl c ht q.l4 (by omega) q.w2 q.e4
  obtain ⟨p1, p3⟩ := net_pair (v + 7) d x (at64 (64 * (o1 0 / 64) + t) c) (at64 (64 * (o3 0 / 64) + t) c) ((bit64 _ t (v + 1) (v + 7) rfl c ht q.l1).trans q.w1) ((bit64 _ t (v + 1) (v + 7) rfl c ht q.l3).trans q.w3) f5 f6
  obtain ⟨p2, p4⟩ := net_pair (v + 7) d x (at64 (64 * (o2 0 / 64) + t) c) (at64 (64 * (o4 0 / 64) + t) c) ((bit64 _ t (v + 1) (v + 7) rfl c ht q.l2).trans q.w2) ((bit64 _ t (v + 1) (v + 7) rfl c ht q.l4).trans q.w4) f7 f8
  obtain ⟨r1, r2⟩ := net_pair (v + 6) d (exch (v + 7) (fun _ => d) x) (at64 (64 * (o1 0 / 64) + t) c) (at64 (64 * (o2 0 / 64) + t) c) ((bit64 _ t v (v + 6) rfl c ht q.l1).trans q.u1) ((bit64 _ t v (v + 6) rfl c ht q.l2).trans q.u2) f1 f2
  obtain ⟨r3, r4⟩ := net_pair (v + 6) d (exch (v + 7) (fun _ => d) x) (at64 (64 * (o3 0 / 64) + t) c) (at64 (64 * (o4 0 / 64) + t) c) ((bit64 _ t v (v + 6) rfl c ht q.l3).trans q.u3) ((bit64 _ t v (v + 6) rfl c ht q.l4).trans q.u4) f3 f4
  exact ⟨r1.trans (congrArg₂ (lo d) p1 p2), r2.trans (congrArg₂ (up d) p1 p2), r3.trans (congrArg₂ (lo d) p3 p4), r4.trans (congrArg₂ (up d) p3 p4)⟩

section
variable {v : ℕ} (hv : v < 9) (d : Bool) {o1 o2 o3 o4 : Fin 2 → ℕ} (q : QuadAt v o1 o2 o3 o4) (h1 : ∀ a, o1 a + S64x128.size a ≤ S65536x128.size a)
  (h2 : ∀ a, o2 a + S64x128.size a ≤ S65536x128.size a) (h3 : ∀ a, o3 a + S64x128.size a ≤ S65536x128.size a)
  (h4 : ∀ a, o4 a + S64x128.size a ≤ S65536x128.size a) (x : Rows Ideal) (i : S65536x128.Idx)
include hv q

/-- A quad trip at its first block. -/
theorem quad_in1 (hi : (i 0).val / 64 = o1 0 / 64) :
    quadStep d o1 o2 o3 o4 h1 h2 h3 h4 x i = net (n := 65536) [v + 7, v + 6] (fun _ => d) x i := by
  have ht : (i 0).val % 64 < 64 := Nat.mod_lt _ (by decide)
  have hpos := Nat.two_pow_pos v
  have hpos' := Nat.two_pow_pos (v + 1)
  have e2 := q.e2
  have e3 := q.e3
  have e4 := q.e4
  unfold quadStep
  rw [put64_out _ _ q.z4 q.m4 _ _ (by omega), put64_out _ _ q.z3 q.m3 _ _ (by omega), put64_out _ _ q.z2 q.m2 _ _ (by omega), put64_in _ _ q.z1 q.m1 _ _ hi,
    shapeCast_self, lower_apply, lower_apply, lower_apply, window64 _ _ q.z1 q.m1 q.l1, window64 _ _ q.z2 q.m2 q.l2, window64 _ _ q.z3 q.m3 q.l3,
    window64 _ _ q.z4 q.m4 q.l4]
  exact (quad_net hv d q x _ (i 1) ht).1.symm.trans (congrArg _ (eq_at64 i _ hi).symm)

/-- A quad trip at its second block. -/
theorem quad_in2 (hi : (i 0).val / 64 = o2 0 / 64) :
    quadStep d o1 o2 o3 o4 h1 h2 h3 h4 x i = net (n := 65536) [v + 7, v + 6] (fun _ => d) x i := by
  have ht : (i 0).val % 64 < 64 := Nat.mod_lt _ (by decide)
  have hp : 2 ^ (v + 1) = 2 * 2 ^ v := by rw [Nat.pow_succ]; omega
  have hpos := Nat.two_pow_pos v
  have e2 := q.e2
  have e3 := q.e3
  have e4 := q.e4
  unfold quadStep
  rw [put64_out _ _ q.z4 q.m4 _ _ (by omega), put64_out _ _ q.z3 q.m3 _ _ (by omega), put64_in _ _ q.z2 q.m2 _ _ hi,
    shapeCast_self, upper_apply, lower_apply, lower_apply, window64 _ _ q.z1 q.m1 q.l1, window64 _ _ q.z2 q.m2 q.l2, window64 _ _ q.z3 q.m3 q.l3,
    window64 _ _ q.z4 q.m4 q.l4]
  exact (quad_net hv d q x _ (i 1) ht).2.1.symm.trans (congrArg _ (eq_at64 i _ hi).symm)

/-- A quad trip at its third block. -/
theorem quad_in3 (hi : (i 0).val / 64 = o3 0 / 64) :
    quadStep d o1 o2 o3 o4 h1 h2 h3 h4 x i = net (n := 65536) [v + 7, v + 6] (fun _ => d) x i := by
  have ht : (i 0).val % 64 < 64 := Nat.mod_lt _ (by decide)
  have hpos := Nat.two_pow_pos v
  have e5 := q.e5
  unfold quadStep
  rw [put64_out _ _ q.z4 q.m4 _ _ (by omega), put64_in _ _ q.z3 q.m3 _ _ hi,
    shapeCast_self, lower_apply, upper_apply, upper_apply, window64 _ _ q.z1 q.m1 q.l1, window64 _ _ q.z2 q.m2 q.l2, window64 _ _ q.z3 q.m3 q.l3,
    window64 _ _ q.z4 q.m4 q.l4]
  exact (quad_net hv d q x _ (i 1) ht).2.2.1.symm.trans (congrArg _ (eq_at64 i _ hi).symm)

/-- A quad trip at its fourth block. -/
theorem quad_in4 (hi : (i 0).val / 64 = o4 0 / 64) :
    quadStep d o1 o2 o3 o4 h1 h2 h3 h4 x i = net (n := 65536) [v + 7, v + 6] (fun _ => d) x i := by
  have ht : (i 0).val % 64 < 64 := Nat.mod_lt _ (by decide)
  unfold quadStep
  rw [put64_in _ _ q.z4 q.m4 _ _ hi,
    shapeCast_self, upper_apply, upper_apply, upper_apply, window64 _ _ q.z1 q.m1 q.l1, window64 _ _ q.z2 q.m2 q.l2, window64 _ _ q.z3 q.m3 q.l3,
    window64 _ _ q.z4 q.m4 q.l4]
  exact (quad_net hv d q x _ (i 1) ht).2.2.2.symm.trans (congrArg _ (eq_at64 i _ hi).symm)

omit hv in
/-- A quad trip elsewhere. -/
theorem quad_out (n1 : (i 0).val / 64 ≠ o1 0 / 64) (n2 : (i 0).val / 64 ≠ o2 0 / 64) (n3 : (i 0).val / 64 ≠ o3 0 / 64) (n4 : (i 0).val / 64 ≠ o4 0 / 64) :
    quadStep d o1 o2 o3 o4 h1 h2 h3 h4 x i = x i := by
  unfold quadStep
  rw [put64_out _ _ q.z4 q.m4 _ _ n4, put64_out _ _ q.z3 q.m3 _ _ n3, put64_out _ _ q.z2 q.m2 _ _ n2, put64_out _ _ q.z1 q.m1 _ _ n1]

/-- Arrays that agree on the four blocks agree on them after the exchanges. -/
theorem quad_loc (y : Rows Ideal) (hi : (i 0).val / 64 = o1 0 / 64 ∨ (i 0).val / 64 = o2 0 / 64 ∨ (i 0).val / 64 = o3 0 / 64 ∨ (i 0).val / 64 = o4 0 / 64)
    (hxy : ∀ i' : S65536x128.Idx, (i' 0).val / 64 = o1 0 / 64 ∨ (i' 0).val / 64 = o2 0 / 64 ∨ (i' 0).val / 64 = o3 0 / 64 ∨ (i' 0).val / 64 = o4 0 / 64 → x i' = y i') :
    net (n := 65536) [v + 7, v + 6] (fun _ => d) x i = net (n := 65536) [v + 7, v + 6] (fun _ => d) y i := by
  have ht : (i 0).val % 64 < 64 := Nat.mod_lt _ (by decide)
  have hr : ∀ b, b < 1024 → ((at64 (64 * b + (i 0).val % 64) (i 1)) 0).val / 64 = b := fun b hb => by
    show (64 * b + (i 0).val % 64) % 65536 / 64 = b
    omega
  have q1 := hxy _ (.inl (hr _ q.l1))
  have q2 := hxy _ (.inr (.inl (hr _ q.l2)))
  have q3 := hxy _ (.inr (.inr (.inl (hr _ q.l3))))
  have q4 := hxy _ (.inr (.inr (.inr (hr _ q.l4))))
  have X := quad_net hv d q x _ (i 1) ht
  rw [q1, q2, q3, q4] at X
  have Y := quad_net hv d q y _ (i 1) ht
  rcases hi with h | h | h | h
  · exact ((congrArg _ (eq_at64 i _ h)).trans (X.1.trans Y.1.symm)).trans (congrArg _ (eq_at64 i _ h).symm)
  · exact ((congrArg _ (eq_at64 i _ h)).trans (X.2.1.trans Y.2.1.symm)).trans (congrArg _ (eq_at64 i _ h).symm)
  · exact ((congrArg _ (eq_at64 i _ h)).trans (X.2.2.1.trans Y.2.2.1.symm)).trans (congrArg _ (eq_at64 i _ h).symm)
  · exact ((congrArg _ (eq_at64 i _ h)).trans (X.2.2.2.trans Y.2.2.2.symm)).trans (congrArg _ (eq_at64 i _ h).symm)
end

/-- A QUAD PASS: the exchanges at strides `2 ^ (v + 7)` and `2 ^ (v + 6)` on the rows of the plan. -/
theorem quad_sweep (e v : ℕ) (hv : v < 9) (d : Bool) (wo : ℕ → ℕ) (T : ℕ) (o1 o2 o3 o4 : Fin T → Fin 2 → ℕ)
    (plan : BlockPlan 2 e v d wo T (fun k => ![o1 k, o2 k, o3 k, o4 k]))
    (h1 : ∀ k a, o1 k a + S64x128.size a ≤ S65536x128.size a) (h2 : ∀ k a, o2 k a + S64x128.size a ≤ S65536x128.size a)
    (h3 : ∀ k a, o3 k a + S64x128.size a ≤ S65536x128.size a) (h4 : ∀ k a, o4 k a + S64x128.size a ≤ S65536x128.size a) (x : Rows Ideal)
    (i : S65536x128.Idx) :
    sweep T (fun k => quadStep d (o1 k) (o2 k) (o3 k) (o4 k) (h1 k) (h2 k) (h3 k) (h4 k)) x i
      = if (i 0).val.testBit (e + 6) = d then net (n := 65536) [v + 7, v + 6] (fun _ => d) x i else x i := by
  have any : ∀ (k : Fin T) (i : S65536x128.Idx) (j : Fin (2 ^ 2)), (i 0).val / 64 = (![o1 k, o2 k, o3 k, o4 k] j) 0 / 64 →
      (i 0).val / 64 = o1 k 0 / 64 ∨ (i 0).val / 64 = o2 k 0 / 64 ∨ (i 0).val / 64 = o3 k 0 / 64 ∨ (i 0).val / 64 = o4 k 0 / 64 := fun k i j h => by
    match j with
    | ⟨0, _⟩ => exact .inl h
    | ⟨1, _⟩ => exact .inr (.inl h)
    | ⟨2, _⟩ => exact .inr (.inr (.inl h))
    | ⟨3, _⟩ => exact .inr (.inr (.inr h))
  refine block_sweep plan _ (net (n := 65536) [v + 7, v + 6] (fun _ => d)) ?_ ?_ ?_ x i
  · intro k j x i hi
    rcases any k i j hi with h | h | h | h
    · exact quad_in1 hv d (quad_of_plan plan k) _ _ _ _ x i h
    · exact quad_in2 hv d (quad_of_plan plan k) _ _ _ _ x i h
    · exact quad_in3 hv d (quad_of_plan plan k) _ _ _ _ x i h
    · exact quad_in4 hv d (quad_of_plan plan k) _ _ _ _ x i h
  · intro k x i hi
    exact quad_out d (quad_of_plan plan k) _ _ _ _ x i (hi (0 : Fin 4)) (hi (1 : Fin 4)) (hi (2 : Fin 4)) (hi (3 : Fin 4))
  · intro k j x y i hi hxy
    refine quad_loc hv d (quad_of_plan plan k) x i y (any k i j hi) fun i' hi' => ?_
    rcases hi' with h | h | h | h
    · exact hxy (0 : Fin 4) i' h
    · exact hxy (1 : Fin 4) i' h
    · exact hxy (2 : Fin 4) i' h
    · exact hxy (3 : Fin 4) i' h

/-! ## The passes as halves of a list of exchanges -/

/-- The chunk passes after the flips: strides 64 to 1. -/
theorem chunk_half {e : ℕ} {d : Bool} {T : ℕ} {o : Fin T → Fin 2 → ℕ} (plan : ChunkPlan e d T o) (inb : ∀ k a, o k a + S128x128.size a ≤ S65536x128.size a) :
    Half (n := 65536) (fun x => sweep T (fun k => chunkStep (net7 (F := Ideal) d k0_pay270 k0_pay271 k0_pay272) (o k) (inb k)) x)
      [6, 5, 4, 3, 2, 1, 0] (e + 7) d := fun x i =>
  chunk_sweep e d T o plan inb _ (fun _ => d) _ (by decide) (net7_eq d) x i

/-- The pair passes: stride 128. -/
theorem pair_half {e : ℕ} {d : Bool} {T : ℕ} {o1 o2 : Fin T → Fin 2 → ℕ}
    (plan : BlockPlan 1 e 1 d (fun b => without 1 (without e b)) T (fun k => ![o1 k, o2 k]))
    (h1 : ∀ k a, o1 k a + S64x128.size a ≤ S65536x128.size a) (h2 : ∀ k a, o2 k a + S64x128.size a ≤ S65536x128.size a) :
    Half (n := 65536) (fun x => sweep T (fun k => pairStep (F := Ideal) d (o1 k) (o2 k) (h1 k) (h2 k)) x) [7] (e + 6) d := fun x i =>
  pair_sweep e d _ T o1 o2 plan h1 h2 x i

/-- The quad passes: strides `2 ^ (v + 7)` and `2 ^ (v + 6)`. -/
theorem quad_half {e : ℕ} (v : ℕ) (hv : v < 9) {d : Bool} {T : ℕ} {o1 o2 o3 o4 : Fin T → Fin 2 → ℕ}
    (plan : BlockPlan 2 e v d (fun b => without v (without (v + 1) (without e b))) T (fun k => ![o1 k, o2 k, o3 k, o4 k]))
    (h1 : ∀ k a, o1 k a + S64x128.size a ≤ S65536x128.size a) (h2 : ∀ k a, o2 k a + S64x128.size a ≤ S65536x128.size a)
    (h3 : ∀ k a, o3 k a + S64x128.size a ≤ S65536x128.size a) (h4 : ∀ k a, o4 k a + S64x128.size a ≤ S65536x128.size a) :
    Half (n := 65536) (fun x => sweep T (fun k => quadStep (F := Ideal) d (o1 k) (o2 k) (o3 k) (o4 k) (h1 k) (h2 k) (h3 k) (h4 k)) x) [v + 7, v + 6] (e + 6) d :=
  fun x i => quad_sweep e v hv d _ T o1 o2 o3 o4 plan h1 h2 h3 h4 x i

/-- The flip passes: the network of the chunk in the direction of bit `m` of the rows. -/
theorem flip_pass (m : ℕ) (hm : m < 7) {T : ℕ} {o : Fin T → Fin 2 → ℕ} (plan : ChunkPlan 9 false T o)
    (inb : ∀ k a, o k a + S128x128.size a ≤ S65536x128.size a) (v : FVec Ideal S128x1 .f32) (hv : Signs m v)
    (n : FVec Ideal S128x128 .f32 → FVec Ideal S128x128 .f32) (L : List ℕ) (hL : ∀ s ∈ L, s < 7 ∧ s ≠ m)
    (hn : ∀ c, n c = net (n := 128) L (fun _ => false) c) (x : Rows Ideal) :
    sweep T (fun k => chunkStep (flipped v n) (o k) (inb k)) x = net (n := 65536) L (fun r => r.testBit m) x := by
  funext i
  have hi : (i 0).val.testBit 16 = false := Nat.testBit_lt_two_pow (ValueIdx.idx2_lt0 i)
  rw [chunk_sweep 9 false T o plan inb _ (fun r => r.testBit m) L (fun s hs => (hL s hs).1) (flipped_eq m v hv n L (fun s hs => (hL s hs).2) hn) x i,
    if_pos hi]
  refine net_congr (fun _ => True) _ _ (fun r _ => ?_) L (fun _ _ _ _ => trivial) _ _ (fun _ _ => rfl) i trivial
  show (r % 2 ^ 7).testBit m = _
  rw [Nat.testBit_mod_two_pow]
  simp [hm]

end Cert.Nets
end
-- ==== Proof.Halves1.lean ====
/-
  The passes of levels 7 to 12: each runs its list of exchanges on the rows whose bit of the level is its direction.
-/
module

public import proofs.«01_k».proof.Proof.Sweeps
public import proofs.«01_k».proof.Proof.Passes1
public import proofs.«01_k».proof.Proof.Passes2

@[expose] public section

set_option maxRecDepth 16384

noncomputable section

namespace Cert.Nets

open Idealize.ShloMosaic Cert.KernelIdeal Cert.KernelIdeal.Gen

/-- The chunk pass `k0_t7`. -/
theorem half_t7 : Half (n := 65536) (fun x => sweep_t7 (F := Ideal) k0_pay270 k0_pay271 k0_pay272 x) [6, 5, 4, 3, 2, 1, 0] 7 false :=
  chunk_half (e := 0) (by decide +kernel) _

/-- The chunk pass `k0_t8`. -/
theorem half_t8 : Half (n := 65536) (fun x => sweep_t8 (F := Ideal) k0_pay270 k0_pay271 k0_pay272 x) [6, 5, 4, 3, 2, 1, 0] 7 true :=
  chunk_half (e := 0) (by decide +kernel) _

/-- The pair pass `k0_t9`. -/
theorem half_t9 : Half (n := 65536) (fun x => sweep_t9 (F := Ideal) x) [7] 8 false :=
  pair_half (e := 2) (by decide +kernel) _ _

/-- The pair pass `k0_t10`. -/
theorem half_t10 : Half (n := 65536) (fun x => sweep_t10 (F := Ideal) x) [7] 8 true :=
  pair_half (e := 2) (by decide +kernel) _ _

/-- The chunk pass `k0_t11`. -/
theorem half_t11 : Half (n := 65536) (fun x => sweep_t11 (F := Ideal) k0_pay270 k0_pay271 k0_pay272 x) [6, 5, 4, 3, 2, 1, 0] 8 false :=
  chunk_half (e := 1) (by decide +kernel) _

/-- The chunk pass `k0_t12`. -/
theorem half_t12 : Half (n := 65536) (fun x => sweep_t12 (F := Ideal) k0_pay270 k0_pay271 k0_pay272 x) [6, 5, 4, 3, 2, 1, 0] 8 true :=
  chunk_half (e := 1) (by decide +kernel) _

/-- The quad pass `k0_t13`. -/
theorem half_t13 : Half (n := 65536) (fun x => sweep_t13 (F := Ideal) x) [8, 7] 9 false :=
  quad_half (e := 3) 1 (by decide) (by decide +kernel) _ _ _ _

/-- The quad pass `k0_t14`. -/
theorem half_t14 : Half (n := 65536) (fun x => sweep_t14 (F := Ideal) x) [8, 7] 9 true :=
  quad_half (e := 3) 1 (by decide) (by decide +kernel) _ _ _ _

/-- The chunk pass `k0_t15`. -/
theorem half_t15 : Half (n := 65536) (fun x => sweep_t15 (F := Ideal) k0_pay270 k0_pay271 k0_pay272 x) [6, 5, 4, 3, 2, 1, 0] 9 false :=
  chunk_half (e := 2) (by decide +kernel) _

/-- The chunk pass `k0_t16`. -/
theorem half_t16 : Half (n := 65536) (fun x => sweep_t16 (F := Ideal) k0_pay270 k0_pay271 k0_pay272 x) [6, 5, 4, 3, 2, 1, 0] 9 true :=
  chunk_half (e := 2) (by decide +kernel) _

/-- The quad pass `k0_t17`. -/
theorem half_t17 : Half (n := 65536) (fun x => sweep_t17 (F := Ideal) x) [9, 8] 10 false :=
  quad_half (e := 4) 2 (by decide) (by decide +kernel) _ _ _ _

/-- The quad pass `k0_t18`. -/
theorem half_t18 : Half (n := 65536) (fun x => sweep_t18 (F := Ideal) x) [9, 8] 10 true :=
  quad_half (e := 4) 2 (by decide) (by decide +kernel) _ _ _ _

/-- The pair pass `k0_t19`. -/
theorem half_t19 : Half (n := 65536) (fun x => sweep_t19 (F := Ideal) x) [7] 10 false :=
  pair_half (e := 4) (by decide +kernel) _ _

/-- The pair pass `k0_t20`. -/
theorem half_t20 : Half (n := 65536) (fun x => sweep_t20 (F := Ideal) x) [7] 10 true :=
  pair_half (e := 4) (by decide +kernel) _ _

/-- The chunk pass `k0_t21`. -/
theorem half_t21 : Half (n := 65536) (fun x => sweep_t21 (F := Ideal) k0_pay270 k0_pay271 k0_pay272 x) [6, 5, 4, 3, 2, 1, 0] 10 false :=
  chunk_half (e := 3) (by decide +kernel) _

/-- The chunk pass `k0_t22`. -/
theorem half_t22 : Half (n := 65536) (fun x => sweep_t22 (F := Ideal) k0_pay270 k0_pay271 k0_pay272 x) [6, 5, 4, 3, 2, 1, 0] 10 true :=
  chunk_half (e := 3) (by decide +kernel) _

/-- The quad pass `k0_t23`. -/
theorem half_t23 : Half (n := 65536) (fun x => sweep_t23 (F := Ideal) x) [10, 9] 11 false :=
  quad_half (e := 5) 3 (by decide) (by decide +kernel) _ _ _ _

/-- The quad pass `k0_t24`. -/
theorem half_t24 : Half (n := 65536) (fun x => sweep_t24 (F := Ideal) x) [10, 9] 11 true :=
  quad_half (e := 5) 3 (by decide) (by decide +kernel) _ _ _ _

/-- The quad pass `k0_t25`. -/
theorem half_t25 : Half (n := 65536) (fun x => sweep_t25 (F := Ideal) x) [8, 7] 11 false :=
  quad_half (e := 5) 1 (by decide) (by decide +kernel) _ _ _ _

/-- The quad pass `k0_t26`. -/
theorem half_t26 : Half (n := 65536) (fun x => sweep_t26 (F := Ideal) x) [8, 7] 11 true :=
  quad_half (e := 5) 1 (by decide) (by decide +kernel) _ _ _ _

/-- The chunk pass `k0_t27`. -/
theorem half_t27 : Half (n := 65536) (fun x => sweep_t27 (F := Ideal) k0_pay270 k0_pay271 k0_pay272 x) [6, 5, 4, 3, 2, 1, 0] 11 false :=
  chunk_half (e := 4) (by decide +kernel) _

/-- The chunk pass `k0_t28`. -/
theorem half_t28 : Half (n := 65536) (fun x => sweep_t28 (F := Ideal) k0_pay270 k0_pay271 k0_pay272 x) [6, 5, 4, 3, 2, 1, 0] 11 true :=
  chunk_half (e := 4) (by decide +kernel) _

/-- The quad pass `k0_t29`. -/
theorem half_t29 : Half (n := 65536) (fun x => sweep_t29 (F := Ideal) x) [11, 10] 12 false :=
  quad_half (e := 6) 4 (by decide) (by decide +kernel) _ _ _ _

/-- The quad pass `k0_t30`. -/
theorem half_t30 : Half (n := 65536) (fun x => sweep_t30 (F := Ideal) x) [11, 10] 12 true :=
  quad_half (e := 6) 4 (by decide) (by decide +kernel) _ _ _ _

/-- The quad pass `k0_t31`. -/
theorem half_t31 : Half (n := 65536) (fun x => sweep_t31 (F := Ideal) x) [9, 8] 12 false :=
  quad_half (e := 6) 2 (by decide) (by decide +kernel) _ _ _ _

/-- The quad pass `k0_t32`. -/
theorem half_t32 : Half (n := 65536) (fun x => sweep_t32 (F := Ideal) x) [9, 8] 12 true :=
  quad_half (e := 6) 2 (by decide) (by decide +kernel) _ _ _ _

/-- The pair pass `k0_t33`. -/
theorem half_t33 : Half (n := 65536) (fun x => sweep_t33 (F := Ideal) x) [7] 12 false :=
  pair_half (e := 6) (by decide +kernel) _ _

/-- The pair pass `k0_t34`. -/
theorem half_t34 : Half (n := 65536) (fun x => sweep_t34 (F := Ideal) x) [7] 12 true :=
  pair_half (e := 6) (by decide +kernel) _ _

/-- The chunk pass `k0_t35`. -/
theorem half_t35 : Half (n := 65536) (fun x => sweep_t35 (F := Ideal) k0_pay270 k0_pay271 k0_pay272 x) [6, 5, 4, 3, 2, 1, 0] 12 false :=
  chunk_half (e := 5) (by decide +kernel) _

/-- The chunk pass `k0_t36`. -/
theorem half_t36 : Half (n := 65536) (fun x => sweep_t36 (F := Ideal) k0_pay270 k0_pay271 k0_pay272 x) [6, 5, 4, 3, 2, 1, 0] 12 true :=
  chunk_half (e := 5) (by decide +kernel) _

end Cert.Nets
end
-- ==== Proof.Halves2.lean ====
/-
  The passes of levels 13 and 14: each runs its list of exchanges on the rows whose bit of the level is its direction.
-/
module

public import proofs.«01_k».proof.Proof.Sweeps
public import proofs.«01_k».proof.Proof.Passes2

@[expose] public section

set_option maxRecDepth 16384

noncomputable section

namespace Cert.Nets

open Idealize.ShloMosaic Cert.KernelIdeal Cert.KernelIdeal.Gen

/-- The quad pass `k0_t37`. -/
theorem half_t37 : Half (n := 65536) (fun x => sweep_t37 (F := Ideal) x) [12, 11] 13 false :=
  quad_half (e := 7) 5 (by decide) (by decide +kernel) _ _ _ _

/-- The quad pass `k0_t38`. -/
theorem half_t38 : Half (n := 65536) (fun x => sweep_t38 (F := Ideal) x) [12, 11] 13 true :=
  quad_half (e := 7) 5 (by decide) (by decide +kernel) _ _ _ _

/-- The quad pass `k0_t39`. -/
theorem half_t39 : Half (n := 65536) (fun x => sweep_t39 (F := Ideal) x) [10, 9] 13 false :=
  quad_half (e := 7) 3 (by decide) (by decide +kernel) _ _ _ _

/-- The quad pass `k0_t40`. -/
theorem half_t40 : Half (n := 65536) (fun x => sweep_t40 (F := Ideal) x) [10, 9] 13 true :=
  quad_half (e := 7) 3 (by decide) (by decide +kernel) _ _ _ _

/-- The quad pass `k0_t41`. -/
theorem half_t41 : Half (n := 65536) (fun x => sweep_t41 (F := Ideal) x) [8, 7] 13 false :=
  quad_half (e := 7) 1 (by decide) (by decide +kernel) _ _ _ _

/-- The quad pass `k0_t42`. -/
theorem half_t42 : Half (n := 65536) (fun x => sweep_t42 (F := Ideal) x) [8, 7] 13 true :=
  quad_half (e := 7) 1 (by decide) (by decide +kernel) _ _ _ _

/-- The chunk pass `k0_t43`. -/
theorem half_t43 : Half (n := 65536) (fun x => sweep_t43 (F := Ideal) k0_pay270 k0_pay271 k0_pay272 x) [6, 5, 4, 3, 2, 1, 0] 13 false :=
  chunk_half (e := 6) (by decide +kernel) _

/-- The chunk pass `k0_t44`. -/
theorem half_t44 : Half (n := 65536) (fun x => sweep_t44 (F := Ideal) k0_pay270 k0_pay271 k0_pay272 x) [6, 5, 4, 3, 2, 1, 0] 13 true :=
  chunk_half (e := 6) (by decide +kernel) _

/-- The quad pass `k0_t45`. -/
theorem half_t45 : Half (n := 65536) (fun x => sweep_t45 (F := Ideal) x) [13, 12] 14 false :=
  quad_half (e := 8) 6 (by decide) (by decide +kernel) _ _ _ _

/-- The quad pass `k0_t46`. -/
theorem half_t46 : Half (n := 65536) (fun x => sweep_t46 (F := Ideal) x) [13, 12] 14 true :=
  quad_half (e := 8) 6 (by decide) (by decide +kernel) _ _ _ _

/-- The quad pass `k0_t47`. -/
theorem half_t47 : Half (n := 65536) (fun x => sweep_t47 (F := Ideal) x) [11, 10] 14 false :=
  quad_half (e := 8) 4 (by decide) (by decide +kernel) _ _ _ _

/-- The quad pass `k0_t48`. -/
theorem half_t48 : Half (n := 65536) (fun x => sweep_t48 (F := Ideal) x) [11, 10] 14 true :=
  quad_half (e := 8) 4 (by decide) (by decide +kernel) _ _ _ _

/-- The quad pass `k0_t49`. -/
theorem half_t49 : Half (n := 65536) (fun x => sweep_t49 (F := Ideal) x) [9, 8] 14 false :=
  quad_half (e := 8) 2 (by decide) (by decide +kernel) _ _ _ _

/-- The quad pass `k0_t50`. -/
theorem half_t50 : Half (n := 65536) (fun x => sweep_t50 (F := Ideal) x) [9, 8] 14 true :=
  quad_half (e := 8) 2 (by decide) (by decide +kernel) _ _ _ _

/-- The pair pass `k0_t51`. -/
theorem half_t51 : Half (n := 65536) (fun x => sweep_t51 (F := Ideal) x) [7] 14 false :=
  pair_half (e := 8) (by decide +kernel) _ _

/-- The pair pass `k0_t52`. -/
theorem half_t52 : Half (n := 65536) (fun x => sweep_t52 (F := Ideal) x) [7] 14 true :=
  pair_half (e := 8) (by decide +kernel) _ _

/-- The chunk pass `k0_t53`. -/
theorem half_t53 : Half (n := 65536) (fun x => sweep_t53 (F := Ideal) k0_pay270 k0_pay271 k0_pay272 x) [6, 5, 4, 3, 2, 1, 0] 14 false :=
  chunk_half (e := 7) (by decide +kernel) _

/-- The chunk pass `k0_t54`. -/
theorem half_t54 : Half (n := 65536) (fun x => sweep_t54 (F := Ideal) k0_pay270 k0_pay271 k0_pay272 x) [6, 5, 4, 3, 2, 1, 0] 14 true :=
  chunk_half (e := 7) (by decide +kernel) _

end Cert.Nets
end
-- ==== Proof.Halves3.lean ====
/-
  The passes of levels 15 and 16: each runs its list of exchanges on the rows whose bit of the level is its direction.
-/
module

public import proofs.«01_k».proof.Proof.Sweeps
public import proofs.«01_k».proof.Proof.Passes2

@[expose] public section

set_option maxRecDepth 16384

noncomputable section

namespace Cert.Nets

open Idealize.ShloMosaic Cert.KernelIdeal Cert.KernelIdeal.Gen

/-- The quad pass `k0_t55`. -/
theorem half_t55 : Half (n := 65536) (fun x => sweep_t55 (F := Ideal) x) [14, 13] 15 false :=
  quad_half (e := 9) 7 (by decide) (by decide +kernel) _ _ _ _

/-- The quad pass `k0_t56`. -/
theorem half_t56 : Half (n := 65536) (fun x => sweep_t56 (F := Ideal) x) [14, 13] 15 true :=
  quad_half (e := 9) 7 (by decide) (by decide +kernel) _ _ _ _

/-- The quad pass `k0_t57`. -/
theorem half_t57 : Half (n := 65536) (fun x => sweep_t57 (F := Ideal) x) [12, 11] 15 false :=
  quad_half (e := 9) 5 (by decide) (by decide +kernel) _ _ _ _

/-- The quad pass `k0_t58`. -/
theorem half_t58 : Half (n := 65536) (fun x => sweep_t58 (F := Ideal) x) [12, 11] 15 true :=
  quad_half (e := 9) 5 (by decide) (by decide +kernel) _ _ _ _

/-- The quad pass `k0_t59`. -/
theorem half_t59 : Half (n := 65536) (fun x => sweep_t59 (F := Ideal) x) [10, 9] 15 false :=
  quad_half (e := 9) 3 (by decide) (by decide +kernel) _ _ _ _

/-- The quad pass `k0_t60`. -/
theorem half_t60 : Half (n := 65536) (fun x => sweep_t60 (F := Ideal) x) [10, 9] 15 true :=
  quad_half (e := 9) 3 (by decide) (by decide +kernel) _ _ _ _

/-- The quad pass `k0_t61`. -/
theorem half_t61 : Half (n := 65536) (fun x => sweep_t61 (F := Ideal) x) [8, 7] 15 false :=
  quad_half (e := 9) 1 (by decide) (by decide +kernel) _ _ _ _

/-- The quad pass `k0_t62`. -/
theorem half_t62 : Half (n := 65536) (fun x => sweep_t62 (F := Ideal) x) [8, 7] 15 true :=
  quad_half (e := 9) 1 (by decide) (by decide +kernel) _ _ _ _

/-- The chunk pass `k0_t63`. -/
theorem half_t63 : Half (n := 65536) (fun x => sweep_t63 (F := Ideal) k0_pay270 k0_pay271 k0_pay272 x) [6, 5, 4, 3, 2, 1, 0] 15 false :=
  chunk_half (e := 8) (by decide +kernel) _

/-- The chunk pass `k0_t64`. -/
theorem half_t64 : Half (n := 65536) (fun x => sweep_t64 (F := Ideal) k0_pay270 k0_pay271 k0_pay272 x) [6, 5, 4, 3, 2, 1, 0] 15 true :=
  chunk_half (e := 8) (by decide +kernel) _

/-- The quad pass `k0_t65`. -/
theorem half_t65 : Half (n := 65536) (fun x => sweep_t65 (F := Ideal) x) [15, 14] 16 false :=
  quad_half (e := 10) 8 (by decide) (by decide +kernel) _ _ _ _

/-- The quad pass `k0_t66`. -/
theorem half_t66 : Half (n := 65536) (fun x => sweep_t66 (F := Ideal) x) [13, 12] 16 false :=
  quad_half (e := 10) 6 (by decide) (by decide +kernel) _ _ _ _

/-- The quad pass `k0_t67`. -/
theorem half_t67 : Half (n := 65536) (fun x => sweep_t67 (F := Ideal) x) [11, 10] 16 false :=
  quad_half (e := 10) 4 (by decide) (by decide +kernel) _ _ _ _

/-- The quad pass `k0_t68`. -/
theorem half_t68 : Half (n := 65536) (fun x => sweep_t68 (F := Ideal) x) [9, 8] 16 false :=
  quad_half (e := 10) 2 (by decide) (by decide +kernel) _ _ _ _

/-- The pair pass `k0_t69`. -/
theorem half_t69 : Half (n := 65536) (fun x => sweep_t69 (F := Ideal) x) [7] 16 false :=
  pair_half (e := 10) (by decide +kernel) _ _

/-- The chunk pass `k0_t70`. -/
theorem half_t70 : Half (n := 65536) (fun x => sweep_t70 (F := Ideal) k0_pay270 k0_pay271 k0_pay272 x) [6, 5, 4, 3, 2, 1, 0] 16 false :=
  chunk_half (e := 9) (by decide +kernel) _

end Cert.Nets
end
-- ==== Proof.Sorting.lean ====
/-
  All the passes of the program one after the other: level by level the lists of exchanges of a bitonic sorting network, so that every column is sorted.
-/
module

public import proofs.«01_k».proof.Proof.Body
public import proofs.«01_k».proof.Proof.Halves1
public import proofs.«01_k».proof.Proof.Halves2
public import proofs.«01_k».proof.Proof.Halves3
public import Idealize.ShloMosaic.Lib.SortNet.Sorts

@[expose] public section

set_option maxRecDepth 16384

noncomputable section

namespace Cert.Nets

open Idealize.ShloMosaic Idealize.ShloMosaic.SortNet Cert.KernelIdeal Cert.KernelIdeal.Gen

/-- The list of exchanges of level `k`, in the direction of bit `k` of the rows. -/
def at16 (L : List ℕ) (k : ℕ) (x : Rows Ideal) : Rows Ideal := net (n := 65536) L (fun r => r.testBit k) x

/-- Two lists of one level in a row. -/
theorem at16_merge (L M : List ℕ) (k : ℕ) (x : Rows Ideal) : at16 M k (at16 L k x) = at16 (L ++ M) k x := (net_append L M _ x).symm

/-- One more level. -/
theorem levels_at16 (m : ℕ) (L : List ℕ) (h : (List.range (m + 1)).reverse = L) (x : Rows Ideal) :
    levels (n := 65536) x (m + 1) = at16 L (m + 1) (levels (n := 65536) x m) := by
  subst h; rfl

/-- Both halves of the rows are the list of the level. -/
theorem halves_at16 {f g : Rows Ideal → Rows Ideal} {L : List ℕ} {b : ℕ} (hf : Half (n := 65536) f L b false) (hg : Half (n := 65536) g L b true)
    (hb : ∀ s ∈ L, s ≠ b) (x : Rows Ideal) : g (f x) = at16 L b x := half_half hf hg hb x

/-- In the last level there is only one half. -/
theorem all_at16 {f : Rows Ideal → Rows Ideal} {L : List ℕ} (hf : Half (n := 65536) f L 16 false) (hb : ∀ s ∈ L, s ≠ 16) (x : Rows Ideal) :
    f x = at16 L 16 x := half_all (p := 16) rfl hf hb x

/-- Levels 1 to 4. -/
theorem levels_4 (x : Rows Ideal) :
    sorted60 (iota .tc S128x1 32 [0] iota_S128x1_d0_w32) k0_pay270 k0_pay271 k0_pay272 k0_pay273 k0_pay274 k0_pay275 k0_pay276 k0_pay277 x
      = at16 [3, 2, 1, 0] 4 (at16 [2, 1, 0] 3 (at16 [1, 0] 2 (at16 [0] 1 x))) := by
  have e1 : ∀ x, sweep_t1 (F := Ideal) k0_pay270 k0_pay273 x = at16 [0] 1 x := fun x =>
    flip_pass 1 (by decide) (by decide +kernel) _ _ signs1 _ _ (by decide) (net1_eq false) x
  have e2 : ∀ x, sweep_t2 (F := Ideal) k0_pay270 k0_pay271 k0_pay274 x = at16 [1, 0] 2 x := fun x =>
    flip_pass 2 (by decide) (by decide +kernel) _ _ signs2 _ _ (by decide) (net2_eq false) x
  have e3 : ∀ x, sweep_t3 (F := Ideal) k0_pay270 k0_pay271 k0_pay272 k0_pay275 k0_pay276 k0_pay277 x = at16 [2, 1, 0] 3 x := fun x =>
    flip_pass 3 (by decide) (by decide +kernel) _ _ signs3 _ _ (by decide) (net3_eq false) x
  have e4 : ∀ x, sweep_t4 (F := Ideal) (iota .tc S128x1 32 [0] iota_S128x1_d0_w32) k0_pay270 k0_pay271 k0_pay272 x = at16 [3, 2, 1, 0] 4 x := fun x =>
    flip_pass 4 (by decide) (by decide +kernel) _ _ signs4 _ _ (by decide) (net4_eq false) x
  unfold sorted60
  rw [e1, e2, e3, e4]

/-- Levels 5 to 8, and the first exchanges of level 9. -/
theorem levels_9 (x : Rows Ideal) :
    sorted61 k0_pay270 k0_pay271 k0_pay272 (k0_pay279 (iota .tc S128x1 32 [0] iota_S128x1_d0_w32)) (k0_pay280 (iota .tc S128x1 32 [0] iota_S128x1_d0_w32)) x
      = at16 [8, 7] 9 (at16 [6, 5, 4, 3, 2, 1, 0] 8 (at16 [7] 8 (at16 [6, 5, 4, 3, 2, 1, 0] 7 (at16 [5, 4, 3, 2, 1, 0] 6 (at16 [4, 3, 2, 1, 0] 5 x))))) := by
  have e5 : ∀ x, sweep_t5 (F := Ideal) k0_pay270 k0_pay271 k0_pay272 (k0_pay279 (iota .tc S128x1 32 [0] iota_S128x1_d0_w32)) x = at16 [4, 3, 2, 1, 0] 5 x :=
    fun x => flip_pass 5 (by decide) (by decide +kernel) _ _ signs5 _ _ (by decide) (net5_eq false) x
  have e6 : ∀ x, sweep_t6 (F := Ideal) k0_pay270 k0_pay271 k0_pay272 (k0_pay280 (iota .tc S128x1 32 [0] iota_S128x1_d0_w32)) x = at16 [5, 4, 3, 2, 1, 0] 6 x :=
    fun x => flip_pass 6 (by decide) (by decide +kernel) _ _ signs6 _ _ (by decide) (net6_eq false) x
  unfold sorted61
  rw [e5, e6, halves_at16 half_t7 half_t8 (by decide), halves_at16 half_t9 half_t10 (by decide), halves_at16 half_t11 half_t12 (by decide),
    halves_at16 half_t13 half_t14 (by decide)]

/-- The rest of level 9, level 10 and the first exchanges of level 11. -/
theorem levels_part62 (x : Rows Ideal) : sorted62 k0_pay270 k0_pay271 k0_pay272 x
      = at16 [10, 9] 11 (at16 [6, 5, 4, 3, 2, 1, 0] 10 (at16 [7] 10 (at16 [9, 8] 10 (at16 [6, 5, 4, 3, 2, 1, 0] 9 x)))) := by
  unfold sorted62
  rw [halves_at16 half_t15 half_t16 (by decide), halves_at16 half_t17 half_t18 (by decide), halves_at16 half_t19 half_t20 (by decide), halves_at16 half_t21 half_t22 (by decide), halves_at16 half_t23 half_t24 (by decide)]

/-- The rest of level 11 and level 12 but its last exchanges. -/
theorem levels_part63 (x : Rows Ideal) : sorted63 k0_pay270 k0_pay271 k0_pay272 x
      = at16 [7] 12 (at16 [9, 8] 12 (at16 [11, 10] 12 (at16 [6, 5, 4, 3, 2, 1, 0] 11 (at16 [8, 7] 11 x)))) := by
  unfold sorted63
  rw [halves_at16 half_t25 half_t26 (by decide), halves_at16 half_t27 half_t28 (by decide), halves_at16 half_t29 half_t30 (by decide), halves_at16 half_t31 half_t32 (by decide), halves_at16 half_t33 half_t34 (by decide)]

/-- The rest of level 12 and level 13. -/
theorem levels_part64 (x : Rows Ideal) : sorted64 k0_pay270 k0_pay271 k0_pay272 x
      = at16 [6, 5, 4, 3, 2, 1, 0] 13 (at16 [8, 7] 13 (at16 [10, 9] 13 (at16 [12, 11] 13 (at16 [6, 5, 4, 3, 2, 1, 0] 12 x)))) := by
  unfold sorted64
  rw [halves_at16 half_t35 half_t36 (by decide), halves_at16 half_t37 half_t38 (by decide), halves_at16 half_t39 half_t40 (by decide), halves_at16 half_t41 half_t42 (by decide), halves_at16 half_t43 half_t44 (by decide)]

/-- Level 14. -/
theorem levels_part65 (x : Rows Ideal) : sorted65 k0_pay270 k0_pay271 k0_pay272 x
      = at16 [6, 5, 4, 3, 2, 1, 0] 14 (at16 [7] 14 (at16 [9, 8] 14 (at16 [11, 10] 14 (at16 [13, 12] 14 x)))) := by
  unfold sorted65
  rw [halves_at16 half_t45 half_t46 (by decide), halves_at16 half_t47 half_t48 (by decide), halves_at16 half_t49 half_t50 (by decide), halves_at16 half_t51 half_t52 (by decide), halves_at16 half_t53 half_t54 (by decide)]

/-- Level 15. -/
theorem levels_part66 (x : Rows Ideal) : sorted66 k0_pay270 k0_pay271 k0_pay272 x
      = at16 [6, 5, 4, 3, 2, 1, 0] 15 (at16 [8, 7] 15 (at16 [10, 9] 15 (at16 [12, 11] 15 (at16 [14, 13] 15 x)))) := by
  unfold sorted66
  rw [halves_at16 half_t55 half_t56 (by decide), halves_at16 half_t57 half_t58 (by decide), halves_at16 half_t59 half_t60 (by decide), halves_at16 half_t61 half_t62 (by decide), halves_at16 half_t63 half_t64 (by decide)]

/-- Level 16. -/
theorem levels_part67 (x : Rows Ideal) : sorted67 k0_pay270 k0_pay271 k0_pay272 x
      = at16 [6, 5, 4, 3, 2, 1, 0] 16 (at16 [7] 16 (at16 [9, 8] 16 (at16 [11, 10] 16 (at16 [13, 12] 16 (at16 [15, 14] 16 x))))) := by
  unfold sorted67
  rw [all_at16 half_t65 (by decide), all_at16 half_t66 (by decide), all_at16 half_t67 (by decide), all_at16 half_t68 (by decide), all_at16 half_t69 (by decide), all_at16 half_t70 (by decide)]

/-- All the passes are the levels of the network. -/
theorem sortedAll_eq (x : Rows Ideal) : sortedAll x = levels (n := 65536) x 16 := by
  unfold sortedAll
  rw [levels_part67, levels_part66, levels_part65, levels_part64, levels_part63, levels_part62, levels_9, levels_4]
  simp only [at16_merge, List.cons_append, List.nil_append]
  rw [levels_at16 15 [15, 14, 13, 12, 11, 10, 9, 8, 7, 6, 5, 4, 3, 2, 1, 0] (by decide),
    levels_at16 14 [14, 13, 12, 11, 10, 9, 8, 7, 6, 5, 4, 3, 2, 1, 0] (by decide),
    levels_at16 13 [13, 12, 11, 10, 9, 8, 7, 6, 5, 4, 3, 2, 1, 0] (by decide),
    levels_at16 12 [12, 11, 10, 9, 8, 7, 6, 5, 4, 3, 2, 1, 0] (by decide),
    levels_at16 11 [11, 10, 9, 8, 7, 6, 5, 4, 3, 2, 1, 0] (by decide),
    levels_at16 10 [10, 9, 8, 7, 6, 5, 4, 3, 2, 1, 0] (by decide),
    levels_at16 9 [9, 8, 7, 6, 5, 4, 3, 2, 1, 0] (by decide),
    levels_at16 8 [8, 7, 6, 5, 4, 3, 2, 1, 0] (by decide),
    levels_at16 7 [7, 6, 5, 4, 3, 2, 1, 0] (by decide),
    levels_at16 6 [6, 5, 4, 3, 2, 1, 0] (by decide),
    levels_at16 5 [5, 4, 3, 2, 1, 0] (by decide),
    levels_at16 4 [4, 3, 2, 1, 0] (by decide),
    levels_at16 3 [3, 2, 1, 0] (by decide),
    levels_at16 2 [2, 1, 0] (by decide),
    levels_at16 1 [1, 0] (by decide),
    levels_at16 0 [0] (by decide)]
  rfl

/-- A column of the rows. -/
def column {n : ℕ} (x : (Grid n).Idx → EReal) (l : Fin 128) (r : Fin n) : EReal := x (ValueIdx.ix2 (n0 := n) (n1 := 128) r l)

/-- After the levels every column is in ascending order and has the entries it had. -/
theorem levels_sorted {n p : ℕ} (hn : n = 2 ^ p) (x : (Grid n).Idx → EReal) (l : Fin 128) :
    Monotone (column (levels x p) l) ∧ ∃ σ : Equiv.Perm (Fin n), ∀ r, column (levels x p) l r = column x l (σ r) := by
  subst hn
  have e : column (levels x p) l = Network.apply (sortNet p false) (column x l) := col_levels x l p (le_refl p)
  rw [e]
  refine ⟨sortNet_apply_monotone p _, ?_⟩
  obtain ⟨σ, hσ⟩ := Network.exists_perm (sortNet p false) (column x l)
  exact ⟨σ, fun r => congrFun hσ r⟩

/-- Every column of the sorted rows is in ascending order and has the entries it had. -/
theorem sortedAll_sorted (x : Rows Ideal) (l : Fin 128) :
    Monotone (column (n := 65536) (sortedAll x) l) ∧ ∃ σ : Equiv.Perm (Fin 65536), ∀ r, column (n := 65536) (sortedAll x) l r = column (n := 65536) x l (σ r) := by
  rw [sortedAll_eq]
  exact levels_sorted (p := 16) rfl x l

end Cert.Nets
end
-- ==== Proof.Squares.lean ====
/-
  The last loop of the kernel: what it adds up is the square of every difference between the two halves of the lanes.
-/
module

public import proofs.«01_k».proof.Proof.Sorting

@[expose] public section

set_option maxRecDepth 16384

noncomputable section

namespace Cert.Value

open Idealize.ShloMosaic Cert.KernelIdeal Cert.KernelIdeal.Gen

/-- A sum over `m` chunks of `n` places each is the sum over all places. -/
theorem sum_chunks {m n N : ℕ} (h : N = m * n) (f : Fin N → EReal) (g : Fin m → Fin n → EReal)
    (hg : ∀ k r (hlt : n * k.val + r.val < N), g k r = f ⟨n * k.val + r.val, hlt⟩) : ∑ k : Fin m, ∑ r : Fin n, g k r = ∑ i : Fin N, f i := by
  subst h
  rw [← Fintype.sum_prod_type']
  refine Fintype.sum_equiv finProdFinEquiv _ _ fun p => ?_
  have e : n * p.1.val + p.2.val = (finProdFinEquiv p).val := by simp [Nat.add_comm]
  exact (hg p.1 p.2 (e ▸ (finProdFinEquiv p).isLt)).trans (congrArg f (Fin.ext e))

/-- Trips that each add something add up the sum. -/
theorem sweep_sum (T : ℕ) (d : Fin T → EReal) : sweep T (fun k a => a + d k) 0 = ∑ k : Fin T, d k := by
  have key : ∀ n (hn : n ≤ T), trips T (fun k a => a + d k) 0 n = ∑ k : Fin n, d (Fin.castLE hn k) := by
    intro n
    induction n with
    | zero => intro _; simp [trips]
    | succ n ih =>
      intro hn
      rw [trips_succ T (fun k a => a + d k) 0 ⟨n, hn⟩, ih (Nat.le_of_succ_le hn), Fin.sum_univ_castSucc]
      rfl
  exact (key T le_rfl).trans rfl

/-- The square of the difference of two entries. -/
def gap (a b : EReal) : EReal := (a - b) * (a - b)

/-- A sum over a reshaped array is the sum over the array. -/
theorem sum_reshaped {s t : Shape} (x : s.Idx → EReal) (h : s.ShapeCasts t) : ∑ j : t.Idx, shapeCast t x h j = ∑ k : s.Idx, x k := by
  exact Equiv.sum_comp (Shape.reshapeEquiv h) x

/-- One trip of the last loop adds the squares of its window. -/
theorem pay12_eq (a : EReal) (v : S2048x128.Idx → EReal) :
    k0_pay12 (F := Ideal) a v = a + ∑ r : Fin 2048, ∑ l : Fin 64,
      gap (v (ValueIdx.ix2 (n0 := 2048) (n1 := 128) r ⟨l.val, by omega⟩)) (v (ValueIdx.ix2 (n0 := 2048) (n1 := 128) r ⟨64 + l.val, by omega⟩)) := by
  unfold k0_pay12
  refine congrArg (a + ·) ?_
  dsimp only
  refine (Ideal.multiReduction_add_total _ 0x00000000#32 reduces_S1x2048x64_S1 (by decide) (.inl rfl) rfl _).trans ?_
  refine (sum_reshaped _ _).trans ?_
  refine (ValueIdx.sum_idx2 _).trans ?_
  refine Finset.sum_congr rfl fun r _ => Finset.sum_congr rfl fun l _ => ?_
  refine congrArg₂ gap (extractStridedSlice_apply _ _ _ _ _ fun b => ?_) (extractStridedSlice_apply _ _ _ _ _ fun b => ?_)
  · match b with
    | ⟨0, _⟩ => exact (Nat.zero_add _).symm
    | ⟨1, _⟩ => exact (Nat.zero_add _).symm
  · match b with
    | ⟨0, _⟩ => exact (Nat.zero_add _).symm
    | ⟨1, _⟩ => rfl

/-- The window of trip `k` starts at row `2048 k`. -/
theorem off153_eq : ∀ k : Fin k0_t71_loop.trips, k0_off153 k = ![2048 * k.val, 0] := by decide +kernel

/-- The last loop adds up the square of every difference between the two halves of the lanes. -/
theorem squares_eq (x : Rows Ideal) : squares x = ∑ r : Fin 65536, ∑ l : Fin 64,
      gap (x (ValueIdx.ix2 (n0 := 65536) (n1 := 128) r ⟨l.val, by omega⟩)) (x (ValueIdx.ix2 (n0 := 65536) (n1 := 128) r ⟨64 + l.val, by omega⟩)) := by
  have hstep : (fun (k : Fin k0_t71_loop.trips) (a : EReal) => k0_pay12 (F := Ideal) a (VecWindow.window x (k0_off153 k) S2048x128.size (k0_off153_inb k)))
      = fun k a => a + ∑ r : Fin 2048, ∑ l : Fin 64,
        gap (VecWindow.window x (k0_off153 k) S2048x128.size (k0_off153_inb k) (ValueIdx.ix2 (n0 := 2048) (n1 := 128) r ⟨l.val, by omega⟩))
          (VecWindow.window x (k0_off153 k) S2048x128.size (k0_off153_inb k) (ValueIdx.ix2 (n0 := 2048) (n1 := 128) r ⟨64 + l.val, by omega⟩)) :=
    funext fun k => funext fun a => pay12_eq a _
  have h0 : (Scalar.ofBits (F := Ideal) .f32 0x00000000#32 : EReal) = 0 := Ideal.ofBits_zero_f32
  refine Eq.trans (b := sweep k0_t71_loop.trips _ (0 : EReal)) ((congrArg₂ (sweep k0_t71_loop.trips) hstep h0)) ?_
  refine (sweep_sum _ _).trans ?_
  refine sum_chunks (by decide) _ _ fun k r hlt => Finset.sum_congr rfl fun l _ => congrArg₂ gap ?_ ?_
  · exact Nets.window_rows (n := 65536) (h := 2048) x _ (by rw [off153_eq]; rfl) _ _ _ (by rw [off153_eq]; rfl) rfl
  · exact Nets.window_rows (n := 65536) (h := 2048) x _ (by rw [off153_eq]; rfl) _ _ _ (by rw [off153_eq]; rfl) rfl

end Cert.Value
end
-- ==== Proof.Rearrange.lean ====
/-
  The columns of the reference: its sort puts every column in order, and a column can be put in order in one way only.
-/
module

public import proofs.«01_k».proof.ReferenceIdeal
public import Idealize.ShloMosaic.Lib.ValueIdx
public import Idealize.ShloMosaic.Lib.SortFacts

@[expose] public section

noncomputable section

namespace Cert.Value

open Idealize.ShloMosaic

/-- The tuple `g` is the tuple `f` put in increasing order. -/
structure Arranged {n : ℕ} (f g : Fin n → EReal) : Prop where
  mono : Monotone g
  perm : ∃ σ : Equiv.Perm (Fin n), ∀ r, g r = f (σ r)

/-- If two tuples in order differ by a permutation, the one is nowhere above the other: of the places up to `i` of the one, some is not before `i` in the other. -/
theorem le_of_perm {n : ℕ} {g g' : Fin n → EReal} (hg : Monotone g) (hg' : Monotone g') (π : Equiv.Perm (Fin n)) (h : ∀ r, g' (π r) = g r) (i : Fin n) :
    g' i ≤ g i := by
  by_contra hlt
  have hall : ∀ j ∈ Finset.Iic i, π j ∈ Finset.Iio i := by
    intro j hj
    rw [Finset.mem_Iio]
    by_contra hge
    exact hlt (((hg' (not_lt.mp hge)).trans (h j).le).trans (hg (Finset.mem_Iic.mp hj)))
  have hcard := Finset.card_le_card_of_injOn π hall π.injective.injOn
  rw [Fin.card_Iic, Fin.card_Iio] at hcard
  omega

/-- There is one way only of putting a tuple in order. -/
theorem Arranged.unique {n : ℕ} {f g g' : Fin n → EReal} (h : Arranged f g) (h' : Arranged f g') : g = g' := by
  obtain ⟨σ, hσ⟩ := h.perm
  obtain ⟨τ, hτ⟩ := h'.perm
  funext i
  refine le_antisymm (le_of_perm h'.mono h.mono (τ.trans σ.symm) (fun r => ?_) i) (le_of_perm h.mono h'.mono (σ.trans τ.symm) (fun r => ?_) i)
  · rw [hσ, hτ]; simp
  · rw [hσ, hτ]; simp

/-- Over the extended reals, the comparison of the reference's sort is `<`. -/
theorem compare_eq (x y : EReal) : (Cert.ReferenceIdeal.comparator_f32_d0 (F := Ideal) x y == 1#1) = decide (x < y) := by
  have key : ∀ z : EReal, Scalar.select (Ideal.cmp .une z z) (Ideal.ofBits .f32 0x7FC00000#32 : EReal)
      (Scalar.select (Ideal.cmp .oeq z (Ideal.ofBits .f32 0x00000000#32)) (Ideal.ofBits .f32 0x00000000#32 : EReal) z) = z := by
    intro z
    have h1 : Ideal.cmp .une z z = 0#1 := by simp [Ideal.cmp]
    rw [h1, ValueIdx.select_zero]
    by_cases hz : z = Ideal.ofBits .f32 0x00000000#32
    · have h2 : Ideal.cmp .oeq z (Ideal.ofBits .f32 0x00000000#32) = 1#1 := by simp [Ideal.cmp, hz]
      rw [h2, ValueIdx.select_one]; exact hz.symm
    · have h2 : Ideal.cmp .oeq z (Ideal.ofBits .f32 0x00000000#32) = 0#1 := by simp [Ideal.cmp, hz]
      rw [h2, ValueIdx.select_zero]
  have e : Cert.ReferenceIdeal.comparator_f32_d0 (F := Ideal) x y = Ideal.cmp .olt x y := by
    refine Eq.trans ?_ (congrArg₂ (Ideal.cmp .olt) (key x) (key y))
    rfl
  rw [e]
  by_cases h : x < y <;> simp [Ideal.cmp, h]

/-- The positions a stable sort by `<` reads put a tuple in order. -/
theorem sorted_arranged {n : ℕ} (f : Fin n → EReal) : Arranged f (fun r => f (sortedFrom (fun k k' => decide (f k < f k')) r)) := by
  refine ⟨fun i j hij => ?_, Equiv.ofBijective _ ⟨sortedFrom_injective _, sortedFrom_surjective _⟩, fun r => rfl⟩
  rcases hij.eq_or_lt with rfl | hlt
  · exact le_rfl
  · have := sortedFrom_noInversion (fun k k' => decide (f k < f k')) (fun k k' => decide (f k < f k'))
      (fun a b h => by simp only [decide_eq_true_eq, decide_eq_false_iff_not] at h ⊢; exact not_lt.mpr h.le)
      (fun _ _ h => h) (fun a b c h h' => by simp only [decide_eq_false_iff_not, not_lt] at h h' ⊢; exact h'.trans h) i j hlt
    simp only [decide_eq_false_iff_not, not_lt] at this
    exact this

/-- A sort of the rows of an array by the reference's comparison puts column `l` in order. -/
theorem sort_arranged {n w : ℕ} (x : (⟨2, ![n, w]⟩ : Shape).Idx → EReal) (l : Fin w) :
    Arranged (fun r : Fin n => x (ValueIdx.ix2 (n0 := n) (n1 := w) r l))
      (fun r : Fin n => Host.sort ⟨2, ![n, w]⟩ 0 (Cert.ReferenceIdeal.comparator_f32_d0 (F := Ideal)) x (ValueIdx.ix2 (n0 := n) (n1 := w) r l)) := by
  have along : ∀ r k : Fin n, Shape.Idx.along (s := ⟨2, ![n, w]⟩) (ValueIdx.ix2 (n0 := n) (n1 := w) r l) 0 k
      = ValueIdx.ix2 (n0 := n) (n1 := w) k l := by
    intro r k; funext a
    match a with
    | ⟨0, _⟩ => rfl
    | ⟨1, _⟩ => rfl
  have value : (fun r : Fin n => Host.sort ⟨2, ![n, w]⟩ 0 (Cert.ReferenceIdeal.comparator_f32_d0 (F := Ideal)) x (ValueIdx.ix2 (n0 := n) (n1 := w) r l))
      = fun r => x (ValueIdx.ix2 (n0 := n) (n1 := w)
          (sortedFrom (fun k k' => decide (x (ValueIdx.ix2 (n0 := n) (n1 := w) k l) < x (ValueIdx.ix2 (n0 := n) (n1 := w) k' l))) r) l) := by
    funext r
    refine (congrArg x (along r _)).trans ?_
    refine congrArg (fun k => x (ValueIdx.ix2 (n0 := n) (n1 := w) k l)) ?_
    refine congrArg (fun B => sortedFrom B r) (funext fun k => funext fun k' => ?_)
    exact (compare_eq _ _).trans (congrArg₂ (fun a b => decide (x a < x b)) (along r k) (along r k'))
  rw [value]
  exact sorted_arranged _

end Cert.Value
end
-- ==== Proof.Layout.lean ====
/-
  Where the arguments lie in the array the kernel reads: blocks of 64 columns of the first argument beside the same columns of the second.
-/
module

public import proofs.«01_k».proof.Proof.Squares
public import proofs.«01_k».proof.Proof.Rearrange
public import proofs.«01_k».proof.Proof.Run

@[expose] public section

set_option maxRecDepth 16384

noncomputable section

namespace Cert.Value

open Idealize.ShloMosaic Idealize.ShloMosaic.TcCoe Cert.KernelIdeal Cert.KernelIdeal.Gen

/-- An argument: 65536 rows, 256 columns. -/
abbrev Arg : Type := (⟨2, ![65536, 256]⟩ : Shape).Idx → EReal

/-- Column `l` of block `t` of 64 columns. -/
abbrev lane (t : Fin 4) (l : Fin 64) : Fin 256 := ⟨64 * t.val + l.val, by omega⟩

/-- The array the kernel reads: in each of its four blocks of 128 columns, 64 columns of the one argument and then 64 of the other. -/
def stacked (a b : Arg) : S65536x512.Idx → EReal :=
  shapeCast S65536x512 (concatenate S65536x4x128 2 [⟨S65536x4x64, shapeCast S65536x4x64 (s := S65536x256) a shapeCasts_S65536x256_S65536x4x64⟩,
    ⟨S65536x4x64, shapeCast S65536x4x64 (s := S65536x256) b shapeCasts_S65536x256_S65536x4x64⟩] concatenates_S65536x4x64_S65536x4x64_S65536x4x128_d2)
    shapeCasts_S65536x4x128_S65536x512

/-- An argument split in blocks of 64 columns. -/
theorem split_apply (a : Arg) (r : Fin 65536) (t : Fin 4) (l : Fin 64) :
    shapeCast S65536x4x64 (s := S65536x256) a shapeCasts_S65536x256_S65536x4x64 (ValueIdx.ix3 (n0 := 65536) (n1 := 4) (n2 := 64) r t l)
      = a (ValueIdx.ix2 (n0 := 65536) (n1 := 256) r (lane t l)) := by
  refine shapeCast_apply _ _ _ _ ?_
  rw [Shape.rowMajor_val_two, Shape.rowMajor_val_three]
  show r.val * 256 + (64 * t.val + l.val) = (r.val * 4 + t.val) * 64 + l.val
  omega

/-- The columns of the array, block by block. -/
theorem joined_apply (x : S65536x4x128.Idx → EReal) (r : Fin 65536) (t : Fin 4) (l : Fin 128) (h : 128 * t.val + l.val < 512) :
    shapeCast S65536x512 x shapeCasts_S65536x4x128_S65536x512 (ValueIdx.ix2 (n0 := 65536) (n1 := 512) r ⟨128 * t.val + l.val, h⟩)
      = x (ValueIdx.ix3 (n0 := 65536) (n1 := 4) (n2 := 128) r t l) := by
  refine shapeCast_apply _ _ _ _ ?_
  rw [Shape.rowMajor_val_two, Shape.rowMajor_val_three]
  show (r.val * 4 + t.val) * 128 + l.val = r.val * 512 + (128 * t.val + l.val)
  omega

/-- The first 64 columns of block `t` are those of the first argument, -/
theorem stacked_left (a b : Arg) (r : Fin 65536) (t : Fin 4) (l : Fin 64) (h : 128 * t.val + l.val < 512) :
    stacked a b (ValueIdx.ix2 (n0 := 65536) (n1 := 512) r ⟨128 * t.val + l.val, h⟩) = a (ValueIdx.ix2 (n0 := 65536) (n1 := 256) r (lane t l)) := by
  refine (joined_apply _ r t ⟨l.val, by omega⟩ h).trans ?_
  refine Eq.trans ?_ (split_apply a r t l)
  refine concatenate_pair_apply_left (t := S65536x4x128) (s₁ := S65536x4x64) (s₂ := S65536x4x64) 2 _ _ _ _ rfl (ValueIdx.ix3 (n0 := 65536) (n1 := 4) (n2 := 64) r t l) ?_
  intro d; match d with
    | ⟨0, _⟩ => rfl
    | ⟨1, _⟩ => rfl
    | ⟨2, _⟩ => rfl

/-- and the other 64 those of the second. -/
theorem stacked_right (a b : Arg) (r : Fin 65536) (t : Fin 4) (l : Fin 64) (h : 128 * t.val + (64 + l.val) < 512) :
    stacked a b (ValueIdx.ix2 (n0 := 65536) (n1 := 512) r ⟨128 * t.val + (64 + l.val), h⟩) = b (ValueIdx.ix2 (n0 := 65536) (n1 := 256) r (lane t l)) := by
  refine (joined_apply _ r t ⟨64 + l.val, by omega⟩ h).trans ?_
  refine Eq.trans ?_ (split_apply b r t l)
  refine concatenate_pair_apply_right (t := S65536x4x128) (s₁ := S65536x4x64) (s₂ := S65536x4x64) 2 _ _ _ _ rfl rfl (ValueIdx.ix3 (n0 := 65536) (n1 := 4) (n2 := 64) r t l) ?_ ?_
  · intro d hd; match d with
    | ⟨0, _⟩ => rfl
    | ⟨1, _⟩ => rfl
    | ⟨2, _⟩ => exact absurd rfl hd
  · exact Nat.add_comm l.val 64

/-- The first column of the block of a point. -/
theorem off1_eq : ∀ t : Fin grid0.N, k0_off1 (grid0.coords t) = ![0, 128 * t.val] := by decide +kernel

/-- The block of columns a point brings in. -/
theorem block0_apply (c : Dev nD) (t : Fin grid0.N) (f : S65536x512.Idx → EReal) (r : Fin 65536) (l : Fin 128) (h : 128 * t.val + l.val < 512) :
    block0 (F := Ideal) c (grid0.coords t) f (ValueIdx.ix2 (n0 := 65536) (n1 := 128) r l)
      = f (ValueIdx.ix2 (n0 := 65536) (n1 := 512) r ⟨128 * t.val + l.val, h⟩) := by
  refine congrArg f (funext fun a => Fin.ext ?_)
  match a with
  | ⟨0, _⟩ =>
    show k0_off1 (grid0.coords t) 0 + 1 * r.val = r.val
    rw [off1_eq]; show 0 + 1 * r.val = r.val; omega
  | ⟨1, _⟩ =>
    show k0_off1 (grid0.coords t) 1 + 1 * l.val = 128 * t.val + l.val
    rw [off1_eq]; show 128 * t.val + 1 * l.val = _; omega

/-- The reference's sorted argument. -/
def inOrder (a : Arg) : Arg := Host.sort ⟨2, ![65536, 256]⟩ 0 (Cert.ReferenceIdeal.comparator_f32_d0 (F := Ideal)) a

/-- A column the kernel sorts ends as the reference's sorted column, if it began as that column. -/
theorem column_eq (x : Rows Ideal) (a : Arg) (k : Fin 128) (l : Fin 256)
    (h : ∀ r : Fin 65536, x (ValueIdx.ix2 (n0 := 65536) (n1 := 128) r k) = a (ValueIdx.ix2 (n0 := 65536) (n1 := 256) r l)) (r : Fin 65536) :
    sortedAll x (ValueIdx.ix2 (n0 := 65536) (n1 := 128) r k) = inOrder a (ValueIdx.ix2 (n0 := 65536) (n1 := 256) r l) := by
  obtain ⟨hm, σ, hσ⟩ := Nets.sortedAll_sorted x k
  have h1 : Arranged (fun r : Fin 65536 => a (ValueIdx.ix2 (n0 := 65536) (n1 := 256) r l))
      (fun r : Fin 65536 => sortedAll x (ValueIdx.ix2 (n0 := 65536) (n1 := 128) r k)) := ⟨hm, σ, fun r => (hσ r).trans (h (σ r))⟩
  exact congrFun (h1.unique (sort_arranged a l)) r

/-- What a point adds up: over its 64 columns, the square of every difference of the two sorted arguments. -/
theorem point_eq (c : Dev nD) (t : Fin 4) (a b : Arg) :
    squares (sortedAll (block0 (F := Ideal) c (grid0.coords t) (stacked a b))) = ∑ r : Fin 65536, ∑ l : Fin 64,
      gap (inOrder a (ValueIdx.ix2 (n0 := 65536) (n1 := 256) r (lane t l))) (inOrder b (ValueIdx.ix2 (n0 := 65536) (n1 := 256) r (lane t l))) := by
  refine (squares_eq _).trans (Finset.sum_congr rfl fun r _ => Finset.sum_congr rfl fun l _ => congrArg₂ gap ?_ ?_)
  · exact column_eq _ a _ _ (fun r => (block0_apply c t _ r _ (by show 128 * t.val + l.val < 512; omega)).trans (stacked_left a b r t l _)) r
  · exact column_eq _ b _ _ (fun r => (block0_apply c t _ r _ (by show 128 * t.val + (64 + l.val) < 512; omega)).trans (stacked_right a b r t l _)) r

/-- All four points together add up the square of every difference. -/
theorem points_eq (c : Dev nD) (a b : Arg) :
    ∑ t : Fin 4, squares (sortedAll (block0 (F := Ideal) c (grid0.coords t) (stacked a b)))
      = ∑ r : Fin 65536, ∑ l : Fin 256, gap (inOrder a (ValueIdx.ix2 (n0 := 65536) (n1 := 256) r l)) (inOrder b (ValueIdx.ix2 (n0 := 65536) (n1 := 256) r l)) := by
  refine (Finset.sum_congr rfl fun t _ => point_eq c t a b).trans ?_
  refine Finset.sum_comm.trans (Finset.sum_congr rfl fun r _ => ?_)
  exact sum_chunks (m := 4) (n := 64) rfl (fun l => gap (inOrder a (ValueIdx.ix2 (n0 := 65536) (n1 := 256) r l)) (inOrder b (ValueIdx.ix2 (n0 := 65536) (n1 := 256) r l)))
    _ fun t l _ => rfl

end Cert.Value
end
-- ==== Proof.Total.lean ====
/-
  The result of the program and the result of the reference: the same sum, divided by the same number.
-/
module

public import proofs.«01_k».proof.Proof.Layout
public import Idealize.ShloMosaic.Lib.Pipeline.ValueKit.Geometry

@[expose] public section

set_option maxRecDepth 16384

noncomputable section

namespace Cert.Value

open Idealize.ShloMosaic Idealize.ShloMosaic.TcCoe Cert.KernelIdeal Cert.KernelIdeal.Gen Cert.KernelIdeal.Run Idealize.SL.Sem

variable (m : (ℓ : Loc nD τ sig) → Buf (Elt Ideal) ℓ) (c : Dev nD)

/-- The array the kernel reads is made of the two arguments. -/
theorem read_eq : V m c main_v3 = stacked (m ((c : Thread nD τ).loc main_arg0)) (m ((c : Thread nD τ).loc main_arg1)) := by
  show StableHlo.after [_, _, _, _] _ _ = _
  after_results
  rfl

/-- What point `t` adds up. -/
abbrev total (t : Fin 4) : EReal :=
  squares (sortedAll (block0 (F := Ideal) c (grid0.coords t) (stacked (m ((c : Thread nD τ).loc main_arg0)) (m ((c : Thread nD τ).loc main_arg1)))))

/-- The array the kernel writes: in block `t`, everywhere what point `t` adds up. -/
def written : S4x8x128.Idx → EReal := fun i => total m c (i 0)

/-- The block a point writes. -/
theorem index_eq : ∀ t : Fin cfg0.N, win0_0.index t = ![t.val, 0, 0] := by decide +kernel

/-- Every point writes its block back. -/
theorem flush_eq : ∀ t : Fin cfg0.N, win0_0.flush t = true := by decide +kernel

/-- Every place of the array lies in the block of some point. -/
theorem covered (i : S4x8x128.Idx) : ∃ t : Fin cfg0.N, (cfg0.win 0).flush t = true ∧ i ∈ ((cfg0.win 0).blk t).view.set := by
  refine ⟨⟨(i 0).val, (i 0).isLt⟩, flush_eq _, ?_⟩
  mem_blk [index_eq]
  exact ⟨⟨le_rfl, Nat.lt_succ_self _⟩, ⟨Nat.zero_le _, (i 1).isLt⟩, Nat.zero_le _, (i 2).isLt⟩

/-- If every point leaves one value everywhere in its block, the array ends holding, in each block, the value of its point. -/
theorem array_eq (D : Pipeline.Dat τ (Elt Ideal) Unit ℕ (Pipeline.UD sig nD τ) ℕ cfg0 c) (X : Fin 4 → EReal) (h : ∀ (t : Fin cfg0.N) y, D.after 0 t y = X t) :
    D.arrAt 0 cfg0.N = (fun i => X (i 0) : S4x8x128.Idx → EReal) := by
  refine D.arrAt_eq_of_emb 0 _ (fun t hf y => ?_) covered
  blk_simp
  rw [h]
  refine congrArg X (Fin.ext ?_)
  blk_simp [index_eq]

/-- After the run the array holds, in each block, what its point adds up. -/
theorem written_eq : (dats m 0 c).arrAt 0 cfg0.N = written m c := by
  refine array_eq c _ (total m c) fun t y => ?_
  rw [after_out]
  unfold outAt k0_pay13
  rw [read_eq]
  rfl

/-- The sum of the four blocks' values, over the divisor, is the result of the program. -/
theorem result_eq : Pipeline.afterTail₀ cfgs (dats m) 0 (V0 m) [hostOps1] c main_v8
    = (Host.divf (F := Ideal) (fun _ => ∑ t : Fin 4, total m c t) (constant S_ .f32 0x4B800000#32) : FVec Ideal S_ .f32) := by
  unfold Pipeline.afterTail₀
  show StableHlo.after [_, _, _, _, _, _] _ _ = _
  after_results
  refine congrArg (fun x : FVec Ideal S_ .f32 => Host.divf (F := Ideal) x (constant S_ .f32 0x4B800000#32)) (funext fun j => ?_)
  refine (Ideal.hostReduceAdd_total _ (by decide) _ _ _).trans ?_
  refine (congrArg₂ (· + ·) Ideal.ofBits_zero_f32 (Fintype.sum_equiv ⟨fun i : S4.Idx => (i 0 : Fin 4), fun t => fun a => match a with | ⟨0, _⟩ => t, fun i => ?_, fun t => rfl⟩ _ (total m c) fun i => ?_)).trans (zero_add _)
  · funext a; match a with | ⟨0, _⟩ => rfl
  · refine Eq.trans (b := shapeCast S4 (extractStridedSlice S4x1x1 ![0, 0, 0] (written m c) slices_S4x8x128_S4x1x1_0_0_0) shapeCasts_S4x1x1_S4 i) ?_ ?_
    · refine congrArg (fun x : S4x8x128.Idx → EReal => shapeCast S4 (extractStridedSlice S4x1x1 ![0, 0, 0] x slices_S4x8x128_S4x1x1_0_0_0) shapeCasts_S4x1x1_S4 i) ?_
      exact (Pipeline.withArrays_arr spec0 (by decide) c (V0 m c) (fun w => (dats m 0 c).arrAt w cfg0.N) 0).trans (written_eq m c)
    · refine (shapeCast_apply _ _ _ (ValueIdx.ix3 (n0 := 4) (n1 := 1) (n2 := 1) (i 0) 0 0) ?_).trans ?_
      · rw [Shape.rowMajor_val_one, Shape.rowMajor_val_three]
        show ((i 0).val * 1 + 0) * 1 + 0 = (i 0).val
        omega
      · refine (extractStridedSlice_apply _ _ _ _ (ValueIdx.ix3 (n0 := 4) (n1 := 8) (n2 := 128) (i 0) 0 0) fun a => ?_).trans rfl
        match a with
        | ⟨0, _⟩ => exact (Nat.zero_add _).symm
        | ⟨1, _⟩ => rfl
        | ⟨2, _⟩ => rfl

/-- The result of the reference is the same sum over the same divisor. -/
theorem reference_eq (a b : FVec Ideal Cert.ReferenceIdeal.S65536x256 .f32) (h : Cert.ReferenceIdeal.S65536x256.ReducesTo [0, 1] Cert.ReferenceIdeal.S_)
    (hu : 0 < Cert.ReferenceIdeal.S_.numel) :
    Host.reduceAdd (F := Ideal) (mulf (subf (inOrder a) (inOrder b) : FVec Ideal Cert.ReferenceIdeal.S65536x256 .f32) (subf (inOrder a) (inOrder b)))
      (constant Cert.ReferenceIdeal.S_ .f32 0x00000000#32) h hu
      = fun _ => ∑ t : Fin 4, squares (sortedAll (block0 (F := Ideal) c (grid0.coords t) (stacked a b))) := by
  funext j
  refine (Ideal.hostReduceAdd_total h (fun b => b.elim0) _ _ _).trans ?_
  refine ((congrArg₂ (· + ·) Ideal.ofBits_zero_f32 (ValueIdx.sum_idx2 _)).trans (zero_add _)).trans ?_
  exact (points_eq c a b).symm

/-- The program ends with the sum of the four points over the divisor, its arguments unchanged. -/
theorem program_run (ρ : Dev nD → PrngReg) : θ_run (defs (F := Ideal)) (onTc (τ := τ) (main (F := Ideal))) ⟨m, fun _ => 0, ρ⟩ (fun r => ∀ c : Dev nD,
      r.2.mem ((c : Thread nD τ).loc main_v8) = (Host.divf (F := Ideal) (fun _ => ∑ t : Fin 4, total m c t) (constant S_ .f32 0x4B800000#32) : FVec Ideal S_ .f32)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c =>
    ⟨((h.1 c).2 main_v8 (Pipeline.mem_restRefs_of main_v8 (by decide) (by decide))).trans (result_eq m c),
     ((h.1 c).2 main_arg0 (Pipeline.mem_restRefs_of main_arg0 (by decide) (by decide))).trans (W_of_ne m (dats m) c main_arg0 arg0_before arg0_after (by decide)),
     ((h.1 c).2 main_arg1 (Pipeline.mem_restRefs_of main_arg1 (by decide) (by decide))).trans (W_of_ne m (dats m) c main_arg1 arg1_before arg1_after (by decide))⟩)
    (run_all m ρ)

end Cert.Value
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Same
public import proofs.«01_k».proof.Proof.Total
public import Idealize.ShloMosaic.Adequacy
public import Idealize.ShloMosaic.Init
public import Idealize.ShloMosaic.Lib.Claim

@[expose] public section

noncomputable section

namespace Cert.Proof

open Idealize.ShloMosaic Idealize.SL.Sem

/-- The reference ends with its arguments unchanged and every counter at zero. -/
theorem reference_quiescent : Cert.quiescent_ReferenceIdeal (hReferenceIdeal := Cert.ReferenceIdeal.Gen.facts) := by
  intro m g _
  exact (θ_run _ _ _).mono (fun r h => ⟨fun c => (h c).2, sem_eq_zero_of_no_sems (by decide) r.2⟩)
    (Cert.ReferenceIdeal.Value.run m g)

/-- Over the extended reals the program and the reference end with the same result: their arguments being the same, both sums are over the same sorted columns. -/
theorem same_result : Cert.algebraic_KernelIdeal_ReferenceIdeal (hKernelIdeal := Cert.KernelIdeal.Gen.facts) (hReferenceIdeal := Cert.ReferenceIdeal.Gen.facts) := by
  intro m g m' g' _ hargs
  refine ⟨_, Cert.Value.program_run m g, (θ_run _ _ _).mono (fun r h c => ⟨(h c).1.trans ?_, (h c).2⟩) (Cert.ReferenceIdeal.Value.run m' g')⟩
  rw [(hargs c).1, (hargs c).2]
  exact congrArg (fun x : FVec Ideal Cert.ReferenceIdeal.S_ .f32 => Host.divf (F := Ideal) x (constant Cert.ReferenceIdeal.S_ .f32 0x4B800000#32))
    (Cert.Value.reference_eq c _ _ _ _)

/-- The claim. -/
theorem claim : Cert.Claim :=
  ⟨Cert.Kernel.Gen.facts, Cert.KernelIdeal.Gen.facts, Cert.ReferenceIdeal.Gen.facts,
    fun m g _ => Cert.Kernel.Same.quiescent m g, fun m g _ => Cert.KernelIdeal.Run.quiescent m g, reference_quiescent, trivial, same_result⟩

end Cert.Proof
end
